-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))) = (fun _ => 1#1)

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_in_finite [hPre_in_finite : Cert.Pre_in_finite.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6))) = (fun _ => 1#1)

def Pre_InBwdRefIdeal (m : (ℓ : Loc Cert.InBwdRefIdeal.nD Cert.InBwdRefIdeal.τ Cert.InBwdRefIdeal.sig) → Buf (Elt Ideal) ℓ) : Prop :=
  True

def Pre_InBwdRefIdeal_in_finite [hPre_in_finite : Cert.Pre_in_finite.Facts] (m : (ℓ : Loc Cert.InBwdRefIdeal.nD Cert.InBwdRefIdeal.τ Cert.InBwdRefIdeal.sig) → Buf (Elt Ideal) ℓ) : Prop :=
  ∀ c : Dev Cert.InBwdRefIdeal.nD,
    (Cert.Pre_in_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6))) = (fun _ => 1#1)

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwFf (m : (ℓ : Loc Cert.DwFf.nD Cert.DwFf.τ Cert.DwFf.sig) → Buf (Elt Bits) ℓ) : Prop :=
  True

def Pre_DwFfIdeal (m : (ℓ : Loc Cert.DwFfIdeal.nD Cert.DwFfIdeal.τ Cert.DwFfIdeal.sig) → Buf (Elt Ideal) ℓ) : Prop :=
  True

def Pre_DwFfRefIdeal (m : (ℓ : Loc Cert.DwFfRefIdeal.nD Cert.DwFfRefIdeal.τ Cert.DwFfRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdIdeal_out_finite [hPre_out_finite : Cert.Pre_out_finite.Facts] (m : (ℓ : Loc Cert.OutBwdIdeal.nD Cert.OutBwdIdeal.τ Cert.OutBwdIdeal.sig) → Buf (Elt Ideal) ℓ) : Prop :=
  ∀ c : Dev Cert.OutBwdIdeal.nD,
    (Cert.Pre_out_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4))) = (fun _ => 1#1)

def Pre_OutBwdRefIdeal (m : (ℓ : Loc Cert.OutBwdRefIdeal.nD Cert.OutBwdRefIdeal.τ Cert.OutBwdRefIdeal.sig) → Buf (Elt Ideal) ℓ) : Prop :=
  True

def Pre_OutBwdRefIdeal_out_finite [hPre_out_finite : Cert.Pre_out_finite.Facts] (m : (ℓ : Loc Cert.OutBwdRefIdeal.nD Cert.OutBwdRefIdeal.τ Cert.OutBwdRefIdeal.sig) → Buf (Elt Ideal) ℓ) : Prop :=
  ∀ c : Dev Cert.OutBwdRefIdeal.nD,
    (Cert.Pre_out_finite.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4))) = (fun _ => 1#1)

def Pre_AdamIn [hPre_place_in : Cert.Pre_place_in.Facts] (m : (ℓ : Loc Cert.AdamIn.nD Cert.AdamIn.τ Cert.AdamIn.sig) → Buf (Elt Bits) ℓ) : Prop :=
  ∀ c : Dev Cert.AdamIn.nD,
    (Cert.Pre_place_in.fn (F := Bits) (m ((c.tc : Thread Cert.AdamIn.nD Cert.AdamIn.τ).loc Cert.AdamIn.main_arg0)) (m ((c.tc : Thread Cert.AdamIn.nD Cert.AdamIn.τ).loc Cert.AdamIn.main_arg1)) (m ((c.tc : Thread Cert.AdamIn.nD Cert.AdamIn.τ).loc Cert.AdamIn.main_arg2)) (m ((c.tc : Thread Cert.AdamIn.nD Cert.AdamIn.τ).loc Cert.AdamIn.main_arg3)) (m ((c.tc : Thread Cert.AdamIn.nD Cert.AdamIn.τ).loc Cert.AdamIn.main_arg4)) (m ((c.tc : Thread Cert.AdamIn.nD Cert.AdamIn.τ).loc Cert.AdamIn.main_arg5))) = (fun _ => 1#1)

def Pre_AdamInIdeal [hPre_place_in : Cert.Pre_place_in.Facts] (m : (ℓ : Loc Cert.AdamInIdeal.nD Cert.AdamInIdeal.τ Cert.AdamInIdeal.sig) → Buf (Elt Ideal) ℓ) : Prop :=
  ∀ c : Dev Cert.AdamInIdeal.nD,
    (Cert.Pre_place_in.fn (F := Ideal) (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)) (m ((c.tc : Thread Cert.AdamInIdeal.nD Cert.AdamInIdeal.τ).loc Cert.AdamInIdeal.main_arg3)) (m ((c.tc : Thread Cert.AdamInIdeal.nD Cert.AdamInIdeal.τ).loc Cert.AdamInIdeal.main_arg4)) (m ((c.tc : Thread Cert.AdamInIdeal.nD Cert.AdamInIdeal.τ).loc Cert.AdamInIdeal.main_arg5))) = (fun _ => 1#1)

def Pre_AdamInRefIdeal (m : (ℓ : Loc Cert.AdamInRefIdeal.nD Cert.AdamInRefIdeal.τ Cert.AdamInRefIdeal.sig) → Buf (Elt Ideal) ℓ) : Prop :=
  True

def Pre_AdamInRefIdeal_place_in [hPre_place_in : Cert.Pre_place_in.Facts] (m : (ℓ : Loc Cert.AdamInRefIdeal.nD Cert.AdamInRefIdeal.τ Cert.AdamInRefIdeal.sig) → Buf (Elt Ideal) ℓ) : Prop :=
  ∀ c : Dev Cert.AdamInRefIdeal.nD,
    (Cert.Pre_place_in.fn (F := Ideal) (m ((c.tc : Thread Cert.AdamInRefIdeal.nD Cert.AdamInRefIdeal.τ).loc Cert.AdamInRefIdeal.main_arg0)) (m ((c.tc : Thread Cert.AdamInRefIdeal.nD Cert.AdamInRefIdeal.τ).loc Cert.AdamInRefIdeal.main_arg1)) (m ((c.tc : Thread Cert.AdamInRefIdeal.nD Cert.AdamInRefIdeal.τ).loc Cert.AdamInRefIdeal.main_arg2)) (m ((c.tc : Thread Cert.AdamInRefIdeal.nD Cert.AdamInRefIdeal.τ).loc Cert.AdamInRefIdeal.main_arg3)) (m ((c.tc : Thread Cert.AdamInRefIdeal.nD Cert.AdamInRefIdeal.τ).loc Cert.AdamInRefIdeal.main_arg4)) (m ((c.tc : Thread Cert.AdamInRefIdeal.nD Cert.AdamInRefIdeal.τ).loc Cert.AdamInRefIdeal.main_arg5))) = (fun _ => 1#1)

def Pre_AdamOut [hPre_place_out : Cert.Pre_place_out.Facts] (m : (ℓ : Loc Cert.AdamOut.nD Cert.AdamOut.τ Cert.AdamOut.sig) → Buf (Elt Bits) ℓ) : Prop :=
  ∀ c : Dev Cert.AdamOut.nD,
    (Cert.Pre_place_out.fn (F := Bits) (m ((c.tc : Thread Cert.AdamOut.nD Cert.AdamOut.τ).loc Cert.AdamOut.main_arg0)) (m ((c.tc : Thread Cert.AdamOut.nD Cert.AdamOut.τ).loc Cert.AdamOut.main_arg1)) (m ((c.tc : Thread Cert.AdamOut.nD Cert.AdamOut.τ).loc Cert.AdamOut.main_arg2)) (m ((c.tc : Thread Cert.AdamOut.nD Cert.AdamOut.τ).loc Cert.AdamOut.main_arg3)) (m ((c.tc : Thread Cert.AdamOut.nD Cert.AdamOut.τ).loc Cert.AdamOut.main_arg4)) (m ((c.tc : Thread Cert.AdamOut.nD Cert.AdamOut.τ).loc Cert.AdamOut.main_arg5))) = (fun _ => 1#1)

def Pre_AdamOutIdeal [hPre_place_out : Cert.Pre_place_out.Facts] (m : (ℓ : Loc Cert.AdamOutIdeal.nD Cert.AdamOutIdeal.τ Cert.AdamOutIdeal.sig) → Buf (Elt Ideal) ℓ) : Prop :=
  ∀ c : Dev Cert.AdamOutIdeal.nD,
    (Cert.Pre_place_out.fn (F := Ideal) (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)) (m ((c.tc : Thread Cert.AdamOutIdeal.nD Cert.AdamOutIdeal.τ).loc Cert.AdamOutIdeal.main_arg3)) (m ((c.tc : Thread Cert.AdamOutIdeal.nD Cert.AdamOutIdeal.τ).loc Cert.AdamOutIdeal.main_arg4)) (m ((c.tc : Thread Cert.AdamOutIdeal.nD Cert.AdamOutIdeal.τ).loc Cert.AdamOutIdeal.main_arg5))) = (fun _ => 1#1)

def Pre_AdamOutRefIdeal (m : (ℓ : Loc Cert.AdamOutRefIdeal.nD Cert.AdamOutRefIdeal.τ Cert.AdamOutRefIdeal.sig) → Buf (Elt Ideal) ℓ) : Prop :=
  True

def Pre_AdamOutRefIdeal_place_out [hPre_place_out : Cert.Pre_place_out.Facts] (m : (ℓ : Loc Cert.AdamOutRefIdeal.nD Cert.AdamOutRefIdeal.τ Cert.AdamOutRefIdeal.sig) → Buf (Elt Ideal) ℓ) : Prop :=
  ∀ c : Dev Cert.AdamOutRefIdeal.nD,
    (Cert.Pre_place_out.fn (F := Ideal) (m ((c.tc : Thread Cert.AdamOutRefIdeal.nD Cert.AdamOutRefIdeal.τ).loc Cert.AdamOutRefIdeal.main_arg0)) (m ((c.tc : Thread Cert.AdamOutRefIdeal.nD Cert.AdamOutRefIdeal.τ).loc Cert.AdamOutRefIdeal.main_arg1)) (m ((c.tc : Thread Cert.AdamOutRefIdeal.nD Cert.AdamOutRefIdeal.τ).loc Cert.AdamOutRefIdeal.main_arg2)) (m ((c.tc : Thread Cert.AdamOutRefIdeal.nD Cert.AdamOutRefIdeal.τ).loc Cert.AdamOutRefIdeal.main_arg3)) (m ((c.tc : Thread Cert.AdamOutRefIdeal.nD Cert.AdamOutRefIdeal.τ).loc Cert.AdamOutRefIdeal.main_arg4)) (m ((c.tc : Thread Cert.AdamOutRefIdeal.nD Cert.AdamOutRefIdeal.τ).loc Cert.AdamOutRefIdeal.main_arg5))) = (fun _ => 1#1)

def Pre_AdamFf [hPre_place_ff : Cert.Pre_place_ff.Facts] (m : (ℓ : Loc Cert.AdamFf.nD Cert.AdamFf.τ Cert.AdamFf.sig) → Buf (Elt Bits) ℓ) : Prop :=
  ∀ c : Dev Cert.AdamFf.nD,
    (Cert.Pre_place_ff.fn (F := Bits) (m ((c.tc : Thread Cert.AdamFf.nD Cert.AdamFf.τ).loc Cert.AdamFf.main_arg0)) (m ((c.tc : Thread Cert.AdamFf.nD Cert.AdamFf.τ).loc Cert.AdamFf.main_arg1)) (m ((c.tc : Thread Cert.AdamFf.nD Cert.AdamFf.τ).loc Cert.AdamFf.main_arg2)) (m ((c.tc : Thread Cert.AdamFf.nD Cert.AdamFf.τ).loc Cert.AdamFf.main_arg3)) (m ((c.tc : Thread Cert.AdamFf.nD Cert.AdamFf.τ).loc Cert.AdamFf.main_arg4)) (m ((c.tc : Thread Cert.AdamFf.nD Cert.AdamFf.τ).loc Cert.AdamFf.main_arg5))) = (fun _ => 1#1)

def Pre_AdamFfIdeal [hPre_place_ff : Cert.Pre_place_ff.Facts] (m : (ℓ : Loc Cert.AdamFfIdeal.nD Cert.AdamFfIdeal.τ Cert.AdamFfIdeal.sig) → Buf (Elt Ideal) ℓ) : Prop :=
  ∀ c : Dev Cert.AdamFfIdeal.nD,
    (Cert.Pre_place_ff.fn (F := Ideal) (m ((c.tc : Thread Cert.AdamFfIdeal.nD Cert.AdamFfIdeal.τ).loc Cert.AdamFfIdeal.main_arg0)) (m ((c.tc : Thread Cert.AdamFfIdeal.nD Cert.AdamFfIdeal.τ).loc Cert.AdamFfIdeal.main_arg1)) (m ((c.tc : Thread Cert.AdamFfIdeal.nD Cert.AdamFfIdeal.τ).loc Cert.AdamFfIdeal.main_arg2)) (m ((c.tc : Thread Cert.AdamFfIdeal.nD Cert.AdamFfIdeal.τ).loc Cert.AdamFfIdeal.main_arg3)) (m ((c.tc : Thread Cert.AdamFfIdeal.nD Cert.AdamFfIdeal.τ).loc Cert.AdamFfIdeal.main_arg4)) (m ((c.tc : Thread Cert.AdamFfIdeal.nD Cert.AdamFfIdeal.τ).loc Cert.AdamFfIdeal.main_arg5))) = (fun _ => 1#1)

def Pre_AdamFfRefIdeal (m : (ℓ : Loc Cert.AdamFfRefIdeal.nD Cert.AdamFfRefIdeal.τ Cert.AdamFfRefIdeal.sig) → Buf (Elt Ideal) ℓ) : Prop :=
  True

def Pre_AdamFfRefIdeal_place_ff [hPre_place_ff : Cert.Pre_place_ff.Facts] (m : (ℓ : Loc Cert.AdamFfRefIdeal.nD Cert.AdamFfRefIdeal.τ Cert.AdamFfRefIdeal.sig) → Buf (Elt Ideal) ℓ) : Prop :=
  ∀ c : Dev Cert.AdamFfRefIdeal.nD,
    (Cert.Pre_place_ff.fn (F := Ideal) (m ((c.tc : Thread Cert.AdamFfRefIdeal.nD Cert.AdamFfRefIdeal.τ).loc Cert.AdamFfRefIdeal.main_arg0)) (m ((c.tc : Thread Cert.AdamFfRefIdeal.nD Cert.AdamFfRefIdeal.τ).loc Cert.AdamFfRefIdeal.main_arg1)) (m ((c.tc : Thread Cert.AdamFfRefIdeal.nD Cert.AdamFfRefIdeal.τ).loc Cert.AdamFfRefIdeal.main_arg2)) (m ((c.tc : Thread Cert.AdamFfRefIdeal.nD Cert.AdamFfRefIdeal.τ).loc Cert.AdamFfRefIdeal.main_arg3)) (m ((c.tc : Thread Cert.AdamFfRefIdeal.nD Cert.AdamFfRefIdeal.τ).loc Cert.AdamFfRefIdeal.main_arg4)) (m ((c.tc : Thread Cert.AdamFfRefIdeal.nD Cert.AdamFfRefIdeal.τ).loc Cert.AdamFfRefIdeal.main_arg5))) = (fun _ => 1#1)

def Pre_AdamDown [hPre_place_down : Cert.Pre_place_down.Facts] (m : (ℓ : Loc Cert.AdamDown.nD Cert.AdamDown.τ Cert.AdamDown.sig) → Buf (Elt Bits) ℓ) : Prop :=
  ∀ c : Dev Cert.AdamDown.nD,
    (Cert.Pre_place_down.fn (F := Bits) (m ((c.tc : Thread Cert.AdamDown.nD Cert.AdamDown.τ).loc Cert.AdamDown.main_arg0)) (m ((c.tc : Thread Cert.AdamDown.nD Cert.AdamDown.τ).loc Cert.AdamDown.main_arg1)) (m ((c.tc : Thread Cert.AdamDown.nD Cert.AdamDown.τ).loc Cert.AdamDown.main_arg2)) (m ((c.tc : Thread Cert.AdamDown.nD Cert.AdamDown.τ).loc Cert.AdamDown.main_arg3)) (m ((c.tc : Thread Cert.AdamDown.nD Cert.AdamDown.τ).loc Cert.AdamDown.main_arg4)) (m ((c.tc : Thread Cert.AdamDown.nD Cert.AdamDown.τ).loc Cert.AdamDown.main_arg5))) = (fun _ => 1#1)

def Pre_AdamDownIdeal [hPre_place_down : Cert.Pre_place_down.Facts] (m : (ℓ : Loc Cert.AdamDownIdeal.nD Cert.AdamDownIdeal.τ Cert.AdamDownIdeal.sig) → Buf (Elt Ideal) ℓ) : Prop :=
  ∀ c : Dev Cert.AdamDownIdeal.nD,
    (Cert.Pre_place_down.fn (F := Ideal) (m ((c.tc : Thread Cert.AdamDownIdeal.nD Cert.AdamDownIdeal.τ).loc Cert.AdamDownIdeal.main_arg0)) (m ((c.tc : Thread Cert.AdamDownIdeal.nD Cert.AdamDownIdeal.τ).loc Cert.AdamDownIdeal.main_arg1)) (m ((c.tc : Thread Cert.AdamDownIdeal.nD Cert.AdamDownIdeal.τ).loc Cert.AdamDownIdeal.main_arg2)) (m ((c.tc : Thread Cert.AdamDownIdeal.nD Cert.AdamDownIdeal.τ).loc Cert.AdamDownIdeal.main_arg3)) (m ((c.tc : Thread Cert.AdamDownIdeal.nD Cert.AdamDownIdeal.τ).loc Cert.AdamDownIdeal.main_arg4)) (m ((c.tc : Thread Cert.AdamDownIdeal.nD Cert.AdamDownIdeal.τ).loc Cert.AdamDownIdeal.main_arg5))) = (fun _ => 1#1)

def Pre_AdamDownRefIdeal (m : (ℓ : Loc Cert.AdamDownRefIdeal.nD Cert.AdamDownRefIdeal.τ Cert.AdamDownRefIdeal.sig) → Buf (Elt Ideal) ℓ) : Prop :=
  True

def Pre_AdamDownRefIdeal_place_down [hPre_place_down : Cert.Pre_place_down.Facts] (m : (ℓ : Loc Cert.AdamDownRefIdeal.nD Cert.AdamDownRefIdeal.τ Cert.AdamDownRefIdeal.sig) → Buf (Elt Ideal) ℓ) : Prop :=
  ∀ c : Dev Cert.AdamDownRefIdeal.nD,
    (Cert.Pre_place_down.fn (F := Ideal) (m ((c.tc : Thread Cert.AdamDownRefIdeal.nD Cert.AdamDownRefIdeal.τ).loc Cert.AdamDownRefIdeal.main_arg0)) (m ((c.tc : Thread Cert.AdamDownRefIdeal.nD Cert.AdamDownRefIdeal.τ).loc Cert.AdamDownRefIdeal.main_arg1)) (m ((c.tc : Thread Cert.AdamDownRefIdeal.nD Cert.AdamDownRefIdeal.τ).loc Cert.AdamDownRefIdeal.main_arg2)) (m ((c.tc : Thread Cert.AdamDownRefIdeal.nD Cert.AdamDownRefIdeal.τ).loc Cert.AdamDownRefIdeal.main_arg3)) (m ((c.tc : Thread Cert.AdamDownRefIdeal.nD Cert.AdamDownRefIdeal.τ).loc Cert.AdamDownRefIdeal.main_arg4)) (m ((c.tc : Thread Cert.AdamDownRefIdeal.nD Cert.AdamDownRefIdeal.τ).loc Cert.AdamDownRefIdeal.main_arg5))) = (fun _ => 1#1)

def Pre_ConvAdam (m : (ℓ : Loc Cert.ConvAdam.nD Cert.ConvAdam.τ Cert.ConvAdam.sig) → Buf (Elt Bits) ℓ) : Prop :=
  True

def Pre_ConvAdamIdeal (m : (ℓ : Loc Cert.ConvAdamIdeal.nD Cert.ConvAdamIdeal.τ Cert.ConvAdamIdeal.sig) → Buf (Elt Ideal) ℓ) : Prop :=
  True

def Pre_ConvAdamRefIdeal (m : (ℓ : Loc Cert.ConvAdamRefIdeal.nD Cert.ConvAdamRefIdeal.τ Cert.ConvAdamRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6))
      ∧ r.2.sem = fun _ => 0)

def quiescent_InBwdIdeal_pre_in_finite [hInBwdIdeal : Cert.InBwdIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_in_finite m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6))
      ∧ r.2.sem = fun _ => 0)

def quiescent_InBwdRefIdeal_pre_in_finite [hInBwdRefIdeal : Cert.InBwdRefIdeal.Facts] [hPre_in_finite : Cert.Pre_in_finite.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal_in_finite m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2)
      ∧ r.2.mem ((c.tc : Thread Cert.DwInRefIdeal.nD Cert.DwInRefIdeal.τ).loc Cert.DwInRefIdeal.main_arg3) = m ((c.tc : Thread Cert.DwInRefIdeal.nD Cert.DwInRefIdeal.τ).loc Cert.DwInRefIdeal.main_arg3))
      ∧ r.2.sem = fun _ => 0)

def quiescent_DwFf [hDwFf : Cert.DwFf.Facts] : Prop :=
  ∀ (m : (ℓ : Loc Cert.DwFf.nD Cert.DwFf.τ Cert.DwFf.sig) → Buf (Elt Bits) ℓ) (g : Dev Cert.DwFf.nD → PrngReg), Pre_DwFf m →
    θ_run (Cert.DwFf.defs (F := Bits)) (onTc (τ := Cert.DwFf.τ) (Cert.DwFf.main (F := Bits))) ⟨m, fun _ => 0, g⟩ (fun r => (∀ c : Dev Cert.DwFf.nD,
      r.2.mem ((c.tc : Thread Cert.DwFf.nD Cert.DwFf.τ).loc Cert.DwFf.main_arg0) = m ((c.tc : Thread Cert.DwFf.nD Cert.DwFf.τ).loc Cert.DwFf.main_arg0)
      ∧ r.2.mem ((c.tc : Thread Cert.DwFf.nD Cert.DwFf.τ).loc Cert.DwFf.main_arg1) = m ((c.tc : Thread Cert.DwFf.nD Cert.DwFf.τ).loc Cert.DwFf.main_arg1))
      ∧ r.2.sem = fun _ => 0)

def quiescent_DwFfIdeal [hDwFfIdeal : Cert.DwFfIdeal.Facts] : Prop :=
  ∀ (m : (ℓ : Loc Cert.DwFfIdeal.nD Cert.DwFfIdeal.τ Cert.DwFfIdeal.sig) → Buf (Elt Ideal) ℓ) (g : Dev Cert.DwFfIdeal.nD → PrngReg), Pre_DwFfIdeal m →
    θ_run (Cert.DwFfIdeal.defs (F := Ideal)) (onTc (τ := Cert.DwFfIdeal.τ) (Cert.DwFfIdeal.main (F := Ideal))) ⟨m, fun _ => 0, g⟩ (fun r => (∀ c : Dev Cert.DwFfIdeal.nD,
      r.2.mem ((c.tc : Thread Cert.DwFfIdeal.nD Cert.DwFfIdeal.τ).loc Cert.DwFfIdeal.main_arg0) = m ((c.tc : Thread Cert.DwFfIdeal.nD Cert.DwFfIdeal.τ).loc Cert.DwFfIdeal.main_arg0)
      ∧ r.2.mem ((c.tc : Thread Cert.DwFfIdeal.nD Cert.DwFfIdeal.τ).loc Cert.DwFfIdeal.main_arg1) = m ((c.tc : Thread Cert.DwFfIdeal.nD Cert.DwFfIdeal.τ).loc Cert.DwFfIdeal.main_arg1))
      ∧ r.2.sem = fun _ => 0)

def quiescent_DwFfRefIdeal [hDwFfRefIdeal : Cert.DwFfRefIdeal.Facts] : Prop :=
  ∀ (m : (ℓ : Loc Cert.DwFfRefIdeal.nD Cert.DwFfRefIdeal.τ Cert.DwFfRefIdeal.sig) → Buf (Elt Ideal) ℓ) (g : Dev Cert.DwFfRefIdeal.nD → PrngReg), Pre_DwFfRefIdeal m →
    θ_run (Cert.DwFfRefIdeal.defs (F := Ideal)) (onTc (τ := Cert.DwFfRefIdeal.τ) (Cert.DwFfRefIdeal.main (F := Ideal))) ⟨m, fun _ => 0, g⟩ (fun r => (∀ c : Dev Cert.DwFfRefIdeal.nD,
      r.2.mem ((c.tc : Thread Cert.DwFfRefIdeal.nD Cert.DwFfRefIdeal.τ).loc Cert.DwFfRefIdeal.main_arg0) = m ((c.tc : Thread Cert.DwFfRefIdeal.nD Cert.DwFfRefIdeal.τ).loc Cert.DwFfRefIdeal.main_arg0)
      ∧ r.2.mem ((c.tc : Thread Cert.DwFfRefIdeal.nD Cert.DwFfRefIdeal.τ).loc Cert.DwFfRefIdeal.main_arg1) = m ((c.tc : Thread Cert.DwFfRefIdeal.nD Cert.DwFfRefIdeal.τ).loc Cert.DwFfRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4)
      ∧ r.2.mem ((c.tc : Thread Cert.OutFwd.nD Cert.OutFwd.τ).loc Cert.OutFwd.main_arg5) = m ((c.tc : Thread Cert.OutFwd.nD Cert.OutFwd.τ).loc Cert.OutFwd.main_arg5))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4)
      ∧ r.2.mem ((c.tc : Thread Cert.OutFwdRefIdeal.nD Cert.OutFwdRefIdeal.τ).loc Cert.OutFwdRefIdeal.main_arg5) = m ((c.tc : Thread Cert.OutFwdRefIdeal.nD Cert.OutFwdRefIdeal.τ).loc Cert.OutFwdRefIdeal.main_arg5))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4))
      ∧ r.2.sem = fun _ => 0)

def quiescent_OutBwdIdeal_pre_out_finite [hOutBwdIdeal : Cert.OutBwdIdeal.Facts] [hPre_out_finite : Cert.Pre_out_finite.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal_out_finite m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4))
      ∧ r.2.sem = fun _ => 0)

def quiescent_OutBwdRefIdeal_pre_out_finite [hOutBwdRefIdeal : Cert.OutBwdRefIdeal.Facts] [hPre_out_finite : Cert.Pre_out_finite.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal_out_finite m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4))
      ∧ r.2.sem = fun _ => 0)

def quiescent_AdamIn [hAdamIn : Cert.AdamIn.Facts] [hPre_place_in : Cert.Pre_place_in.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5))
      ∧ r.2.sem = fun _ => 0)

def quiescent_AdamInIdeal [hAdamInIdeal : Cert.AdamInIdeal.Facts] [hPre_place_in : Cert.Pre_place_in.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5))
      ∧ r.2.sem = fun _ => 0)

def quiescent_AdamInRefIdeal_pre_place_in [hAdamInRefIdeal : Cert.AdamInRefIdeal.Facts] [hPre_place_in : Cert.Pre_place_in.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal_place_in m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5))
      ∧ r.2.sem = fun _ => 0)

def quiescent_AdamOut [hAdamOut : Cert.AdamOut.Facts] [hPre_place_out : Cert.Pre_place_out.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] [hPre_place_out : Cert.Pre_place_out.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def quiescent_AdamOutRefIdeal_pre_place_out [hAdamOutRefIdeal : Cert.AdamOutRefIdeal.Facts] [hPre_place_out : Cert.Pre_place_out.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal_place_out m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def quiescent_AdamFf [hAdamFf : Cert.AdamFf.Facts] [hPre_place_ff : Cert.Pre_place_ff.Facts] : Prop :=
  ∀ (m : (ℓ : Loc Cert.AdamFf.nD Cert.AdamFf.τ Cert.AdamFf.sig) → Buf (Elt Bits) ℓ) (g : Dev Cert.AdamFf.nD → PrngReg), Pre_AdamFf m →
    θ_run (Cert.AdamFf.defs (F := Bits)) (onTc (τ := Cert.AdamFf.τ) (Cert.AdamFf.main (F := Bits))) ⟨m, fun _ => 0, g⟩ (fun r => (∀ c : Dev Cert.AdamFf.nD,
      r.2.mem ((c.tc : Thread Cert.AdamFf.nD Cert.AdamFf.τ).loc Cert.AdamFf.main_arg0) = m ((c.tc : Thread Cert.AdamFf.nD Cert.AdamFf.τ).loc Cert.AdamFf.main_arg0)
      ∧ r.2.mem ((c.tc : Thread Cert.AdamFf.nD Cert.AdamFf.τ).loc Cert.AdamFf.main_arg1) = m ((c.tc : Thread Cert.AdamFf.nD Cert.AdamFf.τ).loc Cert.AdamFf.main_arg1)
      ∧ r.2.mem ((c.tc : Thread Cert.AdamFf.nD Cert.AdamFf.τ).loc Cert.AdamFf.main_arg2) = m ((c.tc : Thread Cert.AdamFf.nD Cert.AdamFf.τ).loc Cert.AdamFf.main_arg2)
      ∧ r.2.mem ((c.tc : Thread Cert.AdamFf.nD Cert.AdamFf.τ).loc Cert.AdamFf.main_arg3) = m ((c.tc : Thread Cert.AdamFf.nD Cert.AdamFf.τ).loc Cert.AdamFf.main_arg3)
      ∧ r.2.mem ((c.tc : Thread Cert.AdamFf.nD Cert.AdamFf.τ).loc Cert.AdamFf.main_arg4) = m ((c.tc : Thread Cert.AdamFf.nD Cert.AdamFf.τ).loc Cert.AdamFf.main_arg4)
      ∧ r.2.mem ((c.tc : Thread Cert.AdamFf.nD Cert.AdamFf.τ).loc Cert.AdamFf.main_arg5) = m ((c.tc : Thread Cert.AdamFf.nD Cert.AdamFf.τ).loc Cert.AdamFf.main_arg5))
      ∧ r.2.sem = fun _ => 0)

def quiescent_AdamFfIdeal [hAdamFfIdeal : Cert.AdamFfIdeal.Facts] [hPre_place_ff : Cert.Pre_place_ff.Facts] : Prop :=
  ∀ (m : (ℓ : Loc Cert.AdamFfIdeal.nD Cert.AdamFfIdeal.τ Cert.AdamFfIdeal.sig) → Buf (Elt Ideal) ℓ) (g : Dev Cert.AdamFfIdeal.nD → PrngReg), Pre_AdamFfIdeal m →
    θ_run (Cert.AdamFfIdeal.defs (F := Ideal)) (onTc (τ := Cert.AdamFfIdeal.τ) (Cert.AdamFfIdeal.main (F := Ideal))) ⟨m, fun _ => 0, g⟩ (fun r => (∀ c : Dev Cert.AdamFfIdeal.nD,
      r.2.mem ((c.tc : Thread Cert.AdamFfIdeal.nD Cert.AdamFfIdeal.τ).loc Cert.AdamFfIdeal.main_arg0) = m ((c.tc : Thread Cert.AdamFfIdeal.nD Cert.AdamFfIdeal.τ).loc Cert.AdamFfIdeal.main_arg0)
      ∧ r.2.mem ((c.tc : Thread Cert.AdamFfIdeal.nD Cert.AdamFfIdeal.τ).loc Cert.AdamFfIdeal.main_arg1) = m ((c.tc : Thread Cert.AdamFfIdeal.nD Cert.AdamFfIdeal.τ).loc Cert.AdamFfIdeal.main_arg1)
      ∧ r.2.mem ((c.tc : Thread Cert.AdamFfIdeal.nD Cert.AdamFfIdeal.τ).loc Cert.AdamFfIdeal.main_arg2) = m ((c.tc : Thread Cert.AdamFfIdeal.nD Cert.AdamFfIdeal.τ).loc Cert.AdamFfIdeal.main_arg2)
      ∧ r.2.mem ((c.tc : Thread Cert.AdamFfIdeal.nD Cert.AdamFfIdeal.τ).loc Cert.AdamFfIdeal.main_arg3) = m ((c.tc : Thread Cert.AdamFfIdeal.nD Cert.AdamFfIdeal.τ).loc Cert.AdamFfIdeal.main_arg3)
      ∧ r.2.mem ((c.tc : Thread Cert.AdamFfIdeal.nD Cert.AdamFfIdeal.τ).loc Cert.AdamFfIdeal.main_arg4) = m ((c.tc : Thread Cert.AdamFfIdeal.nD Cert.AdamFfIdeal.τ).loc Cert.AdamFfIdeal.main_arg4)
      ∧ r.2.mem ((c.tc : Thread Cert.AdamFfIdeal.nD Cert.AdamFfIdeal.τ).loc Cert.AdamFfIdeal.main_arg5) = m ((c.tc : Thread Cert.AdamFfIdeal.nD Cert.AdamFfIdeal.τ).loc Cert.AdamFfIdeal.main_arg5))
      ∧ r.2.sem = fun _ => 0)

def quiescent_AdamFfRefIdeal [hAdamFfRefIdeal : Cert.AdamFfRefIdeal.Facts] : Prop :=
  ∀ (m : (ℓ : Loc Cert.AdamFfRefIdeal.nD Cert.AdamFfRefIdeal.τ Cert.AdamFfRefIdeal.sig) → Buf (Elt Ideal) ℓ) (g : Dev Cert.AdamFfRefIdeal.nD → PrngReg), Pre_AdamFfRefIdeal m →
    θ_run (Cert.AdamFfRefIdeal.defs (F := Ideal)) (onTc (τ := Cert.AdamFfRefIdeal.τ) (Cert.AdamFfRefIdeal.main (F := Ideal))) ⟨m, fun _ => 0, g⟩ (fun r => (∀ c : Dev Cert.AdamFfRefIdeal.nD,
      r.2.mem ((c.tc : Thread Cert.AdamFfRefIdeal.nD Cert.AdamFfRefIdeal.τ).loc Cert.AdamFfRefIdeal.main_arg0) = m ((c.tc : Thread Cert.AdamFfRefIdeal.nD Cert.AdamFfRefIdeal.τ).loc Cert.AdamFfRefIdeal.main_arg0)
      ∧ r.2.mem ((c.tc : Thread Cert.AdamFfRefIdeal.nD Cert.AdamFfRefIdeal.τ).loc Cert.AdamFfRefIdeal.main_arg1) = m ((c.tc : Thread Cert.AdamFfRefIdeal.nD Cert.AdamFfRefIdeal.τ).loc Cert.AdamFfRefIdeal.main_arg1)
      ∧ r.2.mem ((c.tc : Thread Cert.AdamFfRefIdeal.nD Cert.AdamFfRefIdeal.τ).loc Cert.AdamFfRefIdeal.main_arg2) = m ((c.tc : Thread Cert.AdamFfRefIdeal.nD Cert.AdamFfRefIdeal.τ).loc Cert.AdamFfRefIdeal.main_arg2)
      ∧ r.2.mem ((c.tc : Thread Cert.AdamFfRefIdeal.nD Cert.AdamFfRefIdeal.τ).loc Cert.AdamFfRefIdeal.main_arg3) = m ((c.tc : Thread Cert.AdamFfRefIdeal.nD Cert.AdamFfRefIdeal.τ).loc Cert.AdamFfRefIdeal.main_arg3)
      ∧ r.2.mem ((c.tc : Thread Cert.AdamFfRefIdeal.nD Cert.AdamFfRefIdeal.τ).loc Cert.AdamFfRefIdeal.main_arg4) = m ((c.tc : Thread Cert.AdamFfRefIdeal.nD Cert.AdamFfRefIdeal.τ).loc Cert.AdamFfRefIdeal.main_arg4)
      ∧ r.2.mem ((c.tc : Thread Cert.AdamFfRefIdeal.nD Cert.AdamFfRefIdeal.τ).loc Cert.AdamFfRefIdeal.main_arg5) = m ((c.tc : Thread Cert.AdamFfRefIdeal.nD Cert.AdamFfRefIdeal.τ).loc Cert.AdamFfRefIdeal.main_arg5))
      ∧ r.2.sem = fun _ => 0)

def quiescent_AdamFfRefIdeal_pre_place_ff [hAdamFfRefIdeal : Cert.AdamFfRefIdeal.Facts] [hPre_place_ff : Cert.Pre_place_ff.Facts] : Prop :=
  ∀ (m : (ℓ : Loc Cert.AdamFfRefIdeal.nD Cert.AdamFfRefIdeal.τ Cert.AdamFfRefIdeal.sig) → Buf (Elt Ideal) ℓ) (g : Dev Cert.AdamFfRefIdeal.nD → PrngReg), Pre_AdamFfRefIdeal_place_ff m →
    θ_run (Cert.AdamFfRefIdeal.defs (F := Ideal)) (onTc (τ := Cert.AdamFfRefIdeal.τ) (Cert.AdamFfRefIdeal.main (F := Ideal))) ⟨m, fun _ => 0, g⟩ (fun r => (∀ c : Dev Cert.AdamFfRefIdeal.nD,
      r.2.mem ((c.tc : Thread Cert.AdamFfRefIdeal.nD Cert.AdamFfRefIdeal.τ).loc Cert.AdamFfRefIdeal.main_arg0) = m ((c.tc : Thread Cert.AdamFfRefIdeal.nD Cert.AdamFfRefIdeal.τ).loc Cert.AdamFfRefIdeal.main_arg0)
      ∧ r.2.mem ((c.tc : Thread Cert.AdamFfRefIdeal.nD Cert.AdamFfRefIdeal.τ).loc Cert.AdamFfRefIdeal.main_arg1) = m ((c.tc : Thread Cert.AdamFfRefIdeal.nD Cert.AdamFfRefIdeal.τ).loc Cert.AdamFfRefIdeal.main_arg1)
      ∧ r.2.mem ((c.tc : Thread Cert.AdamFfRefIdeal.nD Cert.AdamFfRefIdeal.τ).loc Cert.AdamFfRefIdeal.main_arg2) = m ((c.tc : Thread Cert.AdamFfRefIdeal.nD Cert.AdamFfRefIdeal.τ).loc Cert.AdamFfRefIdeal.main_arg2)
      ∧ r.2.mem ((c.tc : Thread Cert.AdamFfRefIdeal.nD Cert.AdamFfRefIdeal.τ).loc Cert.AdamFfRefIdeal.main_arg3) = m ((c.tc : Thread Cert.AdamFfRefIdeal.nD Cert.AdamFfRefIdeal.τ).loc Cert.AdamFfRefIdeal.main_arg3)
      ∧ r.2.mem ((c.tc : Thread Cert.AdamFfRefIdeal.nD Cert.AdamFfRefIdeal.τ).loc Cert.AdamFfRefIdeal.main_arg4) = m ((c.tc : Thread Cert.AdamFfRefIdeal.nD Cert.AdamFfRefIdeal.τ).loc Cert.AdamFfRefIdeal.main_arg4)
      ∧ r.2.mem ((c.tc : Thread Cert.AdamFfRefIdeal.nD Cert.AdamFfRefIdeal.τ).loc Cert.AdamFfRefIdeal.main_arg5) = m ((c.tc : Thread Cert.AdamFfRefIdeal.nD Cert.AdamFfRefIdeal.τ).loc Cert.AdamFfRefIdeal.main_arg5))
      ∧ r.2.sem = fun _ => 0)

def quiescent_AdamDown [hAdamDown : Cert.AdamDown.Facts] [hPre_place_down : Cert.Pre_place_down.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5))
      ∧ r.2.sem = fun _ => 0)

def quiescent_AdamDownIdeal [hAdamDownIdeal : Cert.AdamDownIdeal.Facts] [hPre_place_down : Cert.Pre_place_down.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5))
      ∧ r.2.sem = fun _ => 0)

def quiescent_AdamDownRefIdeal_pre_place_down [hAdamDownRefIdeal : Cert.AdamDownRefIdeal.Facts] [hPre_place_down : Cert.Pre_place_down.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal_place_down m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5))
      ∧ r.2.sem = fun _ => 0)

def quiescent_ConvAdam [hConvAdam : Cert.ConvAdam.Facts] : Prop :=
  ∀ (m : (ℓ : Loc Cert.ConvAdam.nD Cert.ConvAdam.τ Cert.ConvAdam.sig) → Buf (Elt Bits) ℓ) (g : Dev Cert.ConvAdam.nD → PrngReg), Pre_ConvAdam m →
    θ_run (Cert.ConvAdam.defs (F := Bits)) (onTc (τ := Cert.ConvAdam.τ) (Cert.ConvAdam.main (F := Bits))) ⟨m, fun _ => 0, g⟩ (fun r => (∀ c : Dev Cert.ConvAdam.nD,
      r.2.mem ((c.tc : Thread Cert.ConvAdam.nD Cert.ConvAdam.τ).loc Cert.ConvAdam.main_arg0) = m ((c.tc : Thread Cert.ConvAdam.nD Cert.ConvAdam.τ).loc Cert.ConvAdam.main_arg0)
      ∧ r.2.mem ((c.tc : Thread Cert.ConvAdam.nD Cert.ConvAdam.τ).loc Cert.ConvAdam.main_arg1) = m ((c.tc : Thread Cert.ConvAdam.nD Cert.ConvAdam.τ).loc Cert.ConvAdam.main_arg1)
      ∧ r.2.mem ((c.tc : Thread Cert.ConvAdam.nD Cert.ConvAdam.τ).loc Cert.ConvAdam.main_arg2) = m ((c.tc : Thread Cert.ConvAdam.nD Cert.ConvAdam.τ).loc Cert.ConvAdam.main_arg2)
      ∧ r.2.mem ((c.tc : Thread Cert.ConvAdam.nD Cert.ConvAdam.τ).loc Cert.ConvAdam.main_arg3) = m ((c.tc : Thread Cert.ConvAdam.nD Cert.ConvAdam.τ).loc Cert.ConvAdam.main_arg3)
      ∧ r.2.mem ((c.tc : Thread Cert.ConvAdam.nD Cert.ConvAdam.τ).loc Cert.ConvAdam.main_arg4) = m ((c.tc : Thread Cert.ConvAdam.nD Cert.ConvAdam.τ).loc Cert.ConvAdam.main_arg4)
      ∧ r.2.mem ((c.tc : Thread Cert.ConvAdam.nD Cert.ConvAdam.τ).loc Cert.ConvAdam.main_arg5) = m ((c.tc : Thread Cert.ConvAdam.nD Cert.ConvAdam.τ).loc Cert.ConvAdam.main_arg5)
      ∧ r.2.mem ((c.tc : Thread Cert.ConvAdam.nD Cert.ConvAdam.τ).loc Cert.ConvAdam.main_arg6) = m ((c.tc : Thread Cert.ConvAdam.nD Cert.ConvAdam.τ).loc Cert.ConvAdam.main_arg6)
      ∧ r.2.mem ((c.tc : Thread Cert.ConvAdam.nD Cert.ConvAdam.τ).loc Cert.ConvAdam.main_arg7) = m ((c.tc : Thread Cert.ConvAdam.nD Cert.ConvAdam.τ).loc Cert.ConvAdam.main_arg7))
      ∧ r.2.sem = fun _ => 0)

def quiescent_ConvAdamIdeal [hConvAdamIdeal : Cert.ConvAdamIdeal.Facts] : Prop :=
  ∀ (m : (ℓ : Loc Cert.ConvAdamIdeal.nD Cert.ConvAdamIdeal.τ Cert.ConvAdamIdeal.sig) → Buf (Elt Ideal) ℓ) (g : Dev Cert.ConvAdamIdeal.nD → PrngReg), Pre_ConvAdamIdeal m →
    θ_run (Cert.ConvAdamIdeal.defs (F := Ideal)) (onTc (τ := Cert.ConvAdamIdeal.τ) (Cert.ConvAdamIdeal.main (F := Ideal))) ⟨m, fun _ => 0, g⟩ (fun r => (∀ c : Dev Cert.ConvAdamIdeal.nD,
      r.2.mem ((c.tc : Thread Cert.ConvAdamIdeal.nD Cert.ConvAdamIdeal.τ).loc Cert.ConvAdamIdeal.main_arg0) = m ((c.tc : Thread Cert.ConvAdamIdeal.nD Cert.ConvAdamIdeal.τ).loc Cert.ConvAdamIdeal.main_arg0)
      ∧ r.2.mem ((c.tc : Thread Cert.ConvAdamIdeal.nD Cert.ConvAdamIdeal.τ).loc Cert.ConvAdamIdeal.main_arg1) = m ((c.tc : Thread Cert.ConvAdamIdeal.nD Cert.ConvAdamIdeal.τ).loc Cert.ConvAdamIdeal.main_arg1)
      ∧ r.2.mem ((c.tc : Thread Cert.ConvAdamIdeal.nD Cert.ConvAdamIdeal.τ).loc Cert.ConvAdamIdeal.main_arg2) = m ((c.tc : Thread Cert.ConvAdamIdeal.nD Cert.ConvAdamIdeal.τ).loc Cert.ConvAdamIdeal.main_arg2)
      ∧ r.2.mem ((c.tc : Thread Cert.ConvAdamIdeal.nD Cert.ConvAdamIdeal.τ).loc Cert.ConvAdamIdeal.main_arg3) = m ((c.tc : Thread Cert.ConvAdamIdeal.nD Cert.ConvAdamIdeal.τ).loc Cert.ConvAdamIdeal.main_arg3)
      ∧ r.2.mem ((c.tc : Thread Cert.ConvAdamIdeal.nD Cert.ConvAdamIdeal.τ).loc Cert.ConvAdamIdeal.main_arg4) = m ((c.tc : Thread Cert.ConvAdamIdeal.nD Cert.ConvAdamIdeal.τ).loc Cert.ConvAdamIdeal.main_arg4)
      ∧ r.2.mem ((c.tc : Thread Cert.ConvAdamIdeal.nD Cert.ConvAdamIdeal.τ).loc Cert.ConvAdamIdeal.main_arg5) = m ((c.tc : Thread Cert.ConvAdamIdeal.nD Cert.ConvAdamIdeal.τ).loc Cert.ConvAdamIdeal.main_arg5)
      ∧ r.2.mem ((c.tc : Thread Cert.ConvAdamIdeal.nD Cert.ConvAdamIdeal.τ).loc Cert.ConvAdamIdeal.main_arg6) = m ((c.tc : Thread Cert.ConvAdamIdeal.nD Cert.ConvAdamIdeal.τ).loc Cert.ConvAdamIdeal.main_arg6)
      ∧ r.2.mem ((c.tc : Thread Cert.ConvAdamIdeal.nD Cert.ConvAdamIdeal.τ).loc Cert.ConvAdamIdeal.main_arg7) = m ((c.tc : Thread Cert.ConvAdamIdeal.nD Cert.ConvAdamIdeal.τ).loc Cert.ConvAdamIdeal.main_arg7))
      ∧ r.2.sem = fun _ => 0)

def quiescent_ConvAdamRefIdeal [hConvAdamRefIdeal : Cert.ConvAdamRefIdeal.Facts] : Prop :=
  ∀ (m : (ℓ : Loc Cert.ConvAdamRefIdeal.nD Cert.ConvAdamRefIdeal.τ Cert.ConvAdamRefIdeal.sig) → Buf (Elt Ideal) ℓ) (g : Dev Cert.ConvAdamRefIdeal.nD → PrngReg), Pre_ConvAdamRefIdeal m →
    θ_run (Cert.ConvAdamRefIdeal.defs (F := Ideal)) (onTc (τ := Cert.ConvAdamRefIdeal.τ) (Cert.ConvAdamRefIdeal.main (F := Ideal))) ⟨m, fun _ => 0, g⟩ (fun r => (∀ c : Dev Cert.ConvAdamRefIdeal.nD,
      r.2.mem ((c.tc : Thread Cert.ConvAdamRefIdeal.nD Cert.ConvAdamRefIdeal.τ).loc Cert.ConvAdamRefIdeal.main_arg0) = m ((c.tc : Thread Cert.ConvAdamRefIdeal.nD Cert.ConvAdamRefIdeal.τ).loc Cert.ConvAdamRefIdeal.main_arg0)
      ∧ r.2.mem ((c.tc : Thread Cert.ConvAdamRefIdeal.nD Cert.ConvAdamRefIdeal.τ).loc Cert.ConvAdamRefIdeal.main_arg1) = m ((c.tc : Thread Cert.ConvAdamRefIdeal.nD Cert.ConvAdamRefIdeal.τ).loc Cert.ConvAdamRefIdeal.main_arg1)
      ∧ r.2.mem ((c.tc : Thread Cert.ConvAdamRefIdeal.nD Cert.ConvAdamRefIdeal.τ).loc Cert.ConvAdamRefIdeal.main_arg2) = m ((c.tc : Thread Cert.ConvAdamRefIdeal.nD Cert.ConvAdamRefIdeal.τ).loc Cert.ConvAdamRefIdeal.main_arg2)
      ∧ r.2.mem ((c.tc : Thread Cert.ConvAdamRefIdeal.nD Cert.ConvAdamRefIdeal.τ).loc Cert.ConvAdamRefIdeal.main_arg3) = m ((c.tc : Thread Cert.ConvAdamRefIdeal.nD Cert.ConvAdamRefIdeal.τ).loc Cert.ConvAdamRefIdeal.main_arg3)
      ∧ r.2.mem ((c.tc : Thread Cert.ConvAdamRefIdeal.nD Cert.ConvAdamRefIdeal.τ).loc Cert.ConvAdamRefIdeal.main_arg4) = m ((c.tc : Thread Cert.ConvAdamRefIdeal.nD Cert.ConvAdamRefIdeal.τ).loc Cert.ConvAdamRefIdeal.main_arg4)
      ∧ r.2.mem ((c.tc : Thread Cert.ConvAdamRefIdeal.nD Cert.ConvAdamRefIdeal.τ).loc Cert.ConvAdamRefIdeal.main_arg5) = m ((c.tc : Thread Cert.ConvAdamRefIdeal.nD Cert.ConvAdamRefIdeal.τ).loc Cert.ConvAdamRefIdeal.main_arg5)
      ∧ r.2.mem ((c.tc : Thread Cert.ConvAdamRefIdeal.nD Cert.ConvAdamRefIdeal.τ).loc Cert.ConvAdamRefIdeal.main_arg6) = m ((c.tc : Thread Cert.ConvAdamRefIdeal.nD Cert.ConvAdamRefIdeal.τ).loc Cert.ConvAdamRefIdeal.main_arg6)
      ∧ r.2.mem ((c.tc : Thread Cert.ConvAdamRefIdeal.nD Cert.ConvAdamRefIdeal.τ).loc Cert.ConvAdamRefIdeal.main_arg7) = m ((c.tc : Thread Cert.ConvAdamRefIdeal.nD Cert.ConvAdamRefIdeal.τ).loc Cert.ConvAdamRefIdeal.main_arg7))
      ∧ r.2.sem = fun _ => 0)

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v19_0)) (v1 : (c : Dev Cert.FfnIdeal.nD) → Buf (Elt Ideal) ((c.tc : Thread Cert.FfnIdeal.nD Cert.FfnIdeal.τ).loc Cert.FfnIdeal.main_v19_1)) (v2 : (c : Dev Cert.FfnIdeal.nD) → Buf (Elt Ideal) ((c.tc : Thread Cert.FfnIdeal.nD Cert.FfnIdeal.τ).loc Cert.FfnIdeal.main_v19_2)) (v3 : (c : Dev Cert.FfnIdeal.nD) → Buf (Elt Ideal) ((c.tc : Thread Cert.FfnIdeal.nD Cert.FfnIdeal.τ).loc Cert.FfnIdeal.main_v19_3)) (v4 : (c : Dev Cert.FfnIdeal.nD) → Buf (Elt Ideal) ((c.tc : Thread Cert.FfnIdeal.nD Cert.FfnIdeal.τ).loc Cert.FfnIdeal.main_v19_4)) (v5 : (c : Dev Cert.FfnIdeal.nD) → Buf (Elt Ideal) ((c.tc : Thread Cert.FfnIdeal.nD Cert.FfnIdeal.τ).loc Cert.FfnIdeal.main_v19_5)) (v6 : (c : Dev Cert.FfnIdeal.nD) → Buf (Elt Ideal) ((c.tc : Thread Cert.FfnIdeal.nD Cert.FfnIdeal.τ).loc Cert.FfnIdeal.main_v19_6)) (v7 : (c : Dev Cert.FfnIdeal.nD) → Buf (Elt Ideal) ((c.tc : Thread Cert.FfnIdeal.nD Cert.FfnIdeal.τ).loc Cert.FfnIdeal.main_v19_7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v19_0) = v0 c
          ∧ r.2.mem ((c.tc : Thread Cert.FfnIdeal.nD Cert.FfnIdeal.τ).loc Cert.FfnIdeal.main_v19_1) = v1 c
          ∧ r.2.mem ((c.tc : Thread Cert.FfnIdeal.nD Cert.FfnIdeal.τ).loc Cert.FfnIdeal.main_v19_2) = v2 c
          ∧ r.2.mem ((c.tc : Thread Cert.FfnIdeal.nD Cert.FfnIdeal.τ).loc Cert.FfnIdeal.main_v19_3) = v3 c
          ∧ r.2.mem ((c.tc : Thread Cert.FfnIdeal.nD Cert.FfnIdeal.τ).loc Cert.FfnIdeal.main_v19_4) = v4 c
          ∧ r.2.mem ((c.tc : Thread Cert.FfnIdeal.nD Cert.FfnIdeal.τ).loc Cert.FfnIdeal.main_v19_5) = v5 c
          ∧ r.2.mem ((c.tc : Thread Cert.FfnIdeal.nD Cert.FfnIdeal.τ).loc Cert.FfnIdeal.main_v19_6) = v6 c
          ∧ r.2.mem ((c.tc : Thread Cert.FfnIdeal.nD Cert.FfnIdeal.τ).loc Cert.FfnIdeal.main_v19_7) = v7 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v105) = v0 c
          ∧ r.2.mem ((c.tc : Thread Cert.FfnRefIdeal.nD Cert.FfnRefIdeal.τ).loc Cert.FfnRefIdeal.main_v106) = v1 c
          ∧ r.2.mem ((c.tc : Thread Cert.FfnRefIdeal.nD Cert.FfnRefIdeal.τ).loc Cert.FfnRefIdeal.main_v107) = v2 c
          ∧ r.2.mem ((c.tc : Thread Cert.FfnRefIdeal.nD Cert.FfnRefIdeal.τ).loc Cert.FfnRefIdeal.main_v108) = v3 c
          ∧ r.2.mem ((c.tc : Thread Cert.FfnRefIdeal.nD Cert.FfnRefIdeal.τ).loc Cert.FfnRefIdeal.main_v109) = v4 c
          ∧ r.2.mem ((c.tc : Thread Cert.FfnRefIdeal.nD Cert.FfnRefIdeal.τ).loc Cert.FfnRefIdeal.main_v110) = v5 c
          ∧ r.2.mem ((c.tc : Thread Cert.FfnRefIdeal.nD Cert.FfnRefIdeal.τ).loc Cert.FfnRefIdeal.main_v111) = v6 c
          ∧ r.2.mem ((c.tc : Thread Cert.FfnRefIdeal.nD Cert.FfnRefIdeal.τ).loc Cert.FfnRefIdeal.main_v114) = v7 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_InBwd_InBwdIdeal : Prop :=
  True

def algebraic_InBwdIdeal_InBwdRefIdeal_pre_in_finite [hInBwdIdeal : Cert.InBwdIdeal.Facts] [hInBwdRefIdeal : Cert.InBwdRefIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal_in_finite m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)
      ∧ m' ((c.tc : Thread Cert.InBwdRefIdeal.nD Cert.InBwdRefIdeal.τ).loc Cert.InBwdRefIdeal.main_arg6) = m ((c.tc : Thread Cert.InBwdIdeal.nD Cert.InBwdIdeal.τ).loc Cert.InBwdIdeal.main_arg6)) →
    ∃ (v0 : (c : Dev Cert.InBwdIdeal.nD) → Buf (Elt Ideal) ((c.tc : Thread Cert.InBwdIdeal.nD Cert.InBwdIdeal.τ).loc Cert.InBwdIdeal.main_v9_0)) (v1 : (c : Dev Cert.InBwdIdeal.nD) → Buf (Elt Ideal) ((c.tc : Thread Cert.InBwdIdeal.nD Cert.InBwdIdeal.τ).loc Cert.InBwdIdeal.main_v9_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v9_0) = v0 c
          ∧ r.2.mem ((c.tc : Thread Cert.InBwdIdeal.nD Cert.InBwdIdeal.τ).loc Cert.InBwdIdeal.main_v9_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v39) = v0 c
          ∧ r.2.mem ((c.tc : Thread Cert.InBwdRefIdeal.nD Cert.InBwdRefIdeal.τ).loc Cert.InBwdRefIdeal.main_v40) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5)
          ∧ r.2.mem ((c.tc : Thread Cert.InBwdRefIdeal.nD Cert.InBwdRefIdeal.τ).loc Cert.InBwdRefIdeal.main_arg6) = m' ((c.tc : Thread Cert.InBwdRefIdeal.nD Cert.InBwdRefIdeal.τ).loc Cert.InBwdRefIdeal.main_arg6))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)
      ∧ m' ((c.tc : Thread Cert.DwInRefIdeal.nD Cert.DwInRefIdeal.τ).loc Cert.DwInRefIdeal.main_arg3) = m ((c.tc : Thread Cert.DwInIdeal.nD Cert.DwInIdeal.τ).loc Cert.DwInIdeal.main_arg3)) →
    ∃ (v0 : (c : Dev Cert.DwInIdeal.nD) → Buf (Elt Ideal) ((c.tc : Thread Cert.DwInIdeal.nD Cert.DwInIdeal.τ).loc Cert.DwInIdeal.main_v5)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v5) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v7) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2)
          ∧ r.2.mem ((c.tc : Thread Cert.DwInRefIdeal.nD Cert.DwInRefIdeal.τ).loc Cert.DwInRefIdeal.main_arg3) = m' ((c.tc : Thread Cert.DwInRefIdeal.nD Cert.DwInRefIdeal.τ).loc Cert.DwInRefIdeal.main_arg3))

def preserves_DwFf_DwFfIdeal : Prop :=
  True

def algebraic_DwFfIdeal_DwFfRefIdeal [hDwFfIdeal : Cert.DwFfIdeal.Facts] [hDwFfRefIdeal : Cert.DwFfRefIdeal.Facts] : Prop :=
  ∀ (m : (ℓ : Loc Cert.DwFfIdeal.nD Cert.DwFfIdeal.τ Cert.DwFfIdeal.sig) → Buf (Elt Ideal) ℓ) (g : Dev Cert.DwFfIdeal.nD → PrngReg)
    (m' : (ℓ : Loc Cert.DwFfRefIdeal.nD Cert.DwFfRefIdeal.τ Cert.DwFfRefIdeal.sig) → Buf (Elt Ideal) ℓ) (g' : Dev Cert.DwFfRefIdeal.nD → PrngReg), Pre_DwFfIdeal m →
    (∀ c : Dev Cert.DwFfIdeal.nD,
      m' ((c.tc : Thread Cert.DwFfRefIdeal.nD Cert.DwFfRefIdeal.τ).loc Cert.DwFfRefIdeal.main_arg0) = m ((c.tc : Thread Cert.DwFfIdeal.nD Cert.DwFfIdeal.τ).loc Cert.DwFfIdeal.main_arg0)
      ∧ m' ((c.tc : Thread Cert.DwFfRefIdeal.nD Cert.DwFfRefIdeal.τ).loc Cert.DwFfRefIdeal.main_arg1) = m ((c.tc : Thread Cert.DwFfIdeal.nD Cert.DwFfIdeal.τ).loc Cert.DwFfIdeal.main_arg1)) →
    ∃ (v0 : (c : Dev Cert.DwFfIdeal.nD) → Buf (Elt Ideal) ((c.tc : Thread Cert.DwFfIdeal.nD Cert.DwFfIdeal.τ).loc Cert.DwFfIdeal.main_v2)),
      θ_run (Cert.DwFfIdeal.defs (F := Ideal)) (onTc (τ := Cert.DwFfIdeal.τ) (Cert.DwFfIdeal.main (F := Ideal))) ⟨m, fun _ => 0, g⟩ (fun r => ∀ c : Dev Cert.DwFfIdeal.nD,
          r.2.mem ((c.tc : Thread Cert.DwFfIdeal.nD Cert.DwFfIdeal.τ).loc Cert.DwFfIdeal.main_v2) = v0 c
          ∧ r.2.mem ((c.tc : Thread Cert.DwFfIdeal.nD Cert.DwFfIdeal.τ).loc Cert.DwFfIdeal.main_arg0) = m ((c.tc : Thread Cert.DwFfIdeal.nD Cert.DwFfIdeal.τ).loc Cert.DwFfIdeal.main_arg0)
          ∧ r.2.mem ((c.tc : Thread Cert.DwFfIdeal.nD Cert.DwFfIdeal.τ).loc Cert.DwFfIdeal.main_arg1) = m ((c.tc : Thread Cert.DwFfIdeal.nD Cert.DwFfIdeal.τ).loc Cert.DwFfIdeal.main_arg1))
      ∧ θ_run (Cert.DwFfRefIdeal.defs (F := Ideal)) (onTc (τ := Cert.DwFfRefIdeal.τ) (Cert.DwFfRefIdeal.main (F := Ideal))) ⟨m', fun _ => 0, g'⟩ (fun r => ∀ c : Dev Cert.DwFfRefIdeal.nD,
          r.2.mem ((c.tc : Thread Cert.DwFfRefIdeal.nD Cert.DwFfRefIdeal.τ).loc Cert.DwFfRefIdeal.main_v6) = v0 c
          ∧ r.2.mem ((c.tc : Thread Cert.DwFfRefIdeal.nD Cert.DwFfRefIdeal.τ).loc Cert.DwFfRefIdeal.main_arg0) = m' ((c.tc : Thread Cert.DwFfRefIdeal.nD Cert.DwFfRefIdeal.τ).loc Cert.DwFfRefIdeal.main_arg0)
          ∧ r.2.mem ((c.tc : Thread Cert.DwFfRefIdeal.nD Cert.DwFfRefIdeal.τ).loc Cert.DwFfRefIdeal.main_arg1) = m' ((c.tc : Thread Cert.DwFfRefIdeal.nD Cert.DwFfRefIdeal.τ).loc Cert.DwFfRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v2)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v2) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v4) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v2) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v4) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v5_0)) (v1 : (c : Dev Cert.InFwdIdeal.nD) → Buf (Elt Ideal) ((c.tc : Thread Cert.InFwdIdeal.nD Cert.InFwdIdeal.τ).loc Cert.InFwdIdeal.main_v5_1)) (v2 : (c : Dev Cert.InFwdIdeal.nD) → Buf (Elt Ideal) ((c.tc : Thread Cert.InFwdIdeal.nD Cert.InFwdIdeal.τ).loc Cert.InFwdIdeal.main_v5_2)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v5_0) = v0 c
          ∧ r.2.mem ((c.tc : Thread Cert.InFwdIdeal.nD Cert.InFwdIdeal.τ).loc Cert.InFwdIdeal.main_v5_1) = v1 c
          ∧ r.2.mem ((c.tc : Thread Cert.InFwdIdeal.nD Cert.InFwdIdeal.τ).loc Cert.InFwdIdeal.main_v5_2) = v2 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v17) = v0 c
          ∧ r.2.mem ((c.tc : Thread Cert.InFwdRefIdeal.nD Cert.InFwdRefIdeal.τ).loc Cert.InFwdRefIdeal.main_v18) = v1 c
          ∧ r.2.mem ((c.tc : Thread Cert.InFwdRefIdeal.nD Cert.InFwdRefIdeal.τ).loc Cert.InFwdRefIdeal.main_v16) = v2 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
      ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)
      ∧ m' ((c.tc : Thread Cert.OutFwdRefIdeal.nD Cert.OutFwdRefIdeal.τ).loc Cert.OutFwdRefIdeal.main_arg5) = m ((c.tc : Thread Cert.OutFwdIdeal.nD Cert.OutFwdIdeal.τ).loc Cert.OutFwdIdeal.main_arg5)) →
    ∃ (v0 : (c : Dev Cert.OutFwdIdeal.nD) → Buf (Elt Ideal) ((c.tc : Thread Cert.OutFwdIdeal.nD Cert.OutFwdIdeal.τ).loc Cert.OutFwdIdeal.main_v5_0)) (v1 : (c : Dev Cert.OutFwdIdeal.nD) → Buf (Elt Ideal) ((c.tc : Thread Cert.OutFwdIdeal.nD Cert.OutFwdIdeal.τ).loc Cert.OutFwdIdeal.main_v5_1)) (v2 : (c : Dev Cert.OutFwdIdeal.nD) → Buf (Elt Ideal) ((c.tc : Thread Cert.OutFwdIdeal.nD Cert.OutFwdIdeal.τ).loc Cert.OutFwdIdeal.main_v5_2)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v5_0) = v0 c
          ∧ r.2.mem ((c.tc : Thread Cert.OutFwdIdeal.nD Cert.OutFwdIdeal.τ).loc Cert.OutFwdIdeal.main_v5_1) = v1 c
          ∧ r.2.mem ((c.tc : Thread Cert.OutFwdIdeal.nD Cert.OutFwdIdeal.τ).loc Cert.OutFwdIdeal.main_v5_2) = v2 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
          ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v1) = v0 c
          ∧ r.2.mem ((c.tc : Thread Cert.OutFwdRefIdeal.nD Cert.OutFwdRefIdeal.τ).loc Cert.OutFwdRefIdeal.main_v15) = v1 c
          ∧ r.2.mem ((c.tc : Thread Cert.OutFwdRefIdeal.nD Cert.OutFwdRefIdeal.τ).loc Cert.OutFwdRefIdeal.main_v29) = v2 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3)
          ∧ r.2.mem ((c.tc : Thread Cert.OutFwdRefIdeal.nD Cert.OutFwdRefIdeal.τ).loc Cert.OutFwdRefIdeal.main_arg4) = m' ((c.tc : Thread Cert.OutFwdRefIdeal.nD Cert.OutFwdRefIdeal.τ).loc Cert.OutFwdRefIdeal.main_arg4)
          ∧ r.2.mem ((c.tc : Thread Cert.OutFwdRefIdeal.nD Cert.OutFwdRefIdeal.τ).loc Cert.OutFwdRefIdeal.main_arg5) = m' ((c.tc : Thread Cert.OutFwdRefIdeal.nD Cert.OutFwdRefIdeal.τ).loc Cert.OutFwdRefIdeal.main_arg5))

def preserves_OutBwd_OutBwdIdeal : Prop :=
  True

def algebraic_OutBwdIdeal_OutBwdRefIdeal_pre_out_finite [hOutBwdIdeal : Cert.OutBwdIdeal.Facts] [hOutBwdRefIdeal : Cert.OutBwdRefIdeal.Facts] [hPre_out_finite : Cert.Pre_out_finite.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal_out_finite m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)
      ∧ m' ((c.tc : Thread Cert.OutBwdRefIdeal.nD Cert.OutBwdRefIdeal.τ).loc Cert.OutBwdRefIdeal.main_arg4) = m ((c.tc : Thread Cert.OutBwdIdeal.nD Cert.OutBwdIdeal.τ).loc Cert.OutBwdIdeal.main_arg4)) →
    ∃ (v0 : (c : Dev Cert.OutBwdIdeal.nD) → Buf (Elt Ideal) ((c.tc : Thread Cert.OutBwdIdeal.nD Cert.OutBwdIdeal.τ).loc Cert.OutBwdIdeal.main_v4_0)) (v1 : (c : Dev Cert.OutBwdIdeal.nD) → Buf (Elt Ideal) ((c.tc : Thread Cert.OutBwdIdeal.nD Cert.OutBwdIdeal.τ).loc Cert.OutBwdIdeal.main_v4_1)) (v2 : (c : Dev Cert.OutBwdIdeal.nD) → Buf (Elt Ideal) ((c.tc : Thread Cert.OutBwdIdeal.nD Cert.OutBwdIdeal.τ).loc Cert.OutBwdIdeal.main_v4_2)) (v3 : (c : Dev Cert.OutBwdIdeal.nD) → Buf (Elt Ideal) ((c.tc : Thread Cert.OutBwdIdeal.nD Cert.OutBwdIdeal.τ).loc Cert.OutBwdIdeal.main_v4_3)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v4_0) = v0 c
          ∧ r.2.mem ((c.tc : Thread Cert.OutBwdIdeal.nD Cert.OutBwdIdeal.τ).loc Cert.OutBwdIdeal.main_v4_1) = v1 c
          ∧ r.2.mem ((c.tc : Thread Cert.OutBwdIdeal.nD Cert.OutBwdIdeal.τ).loc Cert.OutBwdIdeal.main_v4_2) = v2 c
          ∧ r.2.mem ((c.tc : Thread Cert.OutBwdIdeal.nD Cert.OutBwdIdeal.τ).loc Cert.OutBwdIdeal.main_v4_3) = v3 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v41) = v0 c
          ∧ r.2.mem ((c.tc : Thread Cert.OutBwdRefIdeal.nD Cert.OutBwdRefIdeal.τ).loc Cert.OutBwdRefIdeal.main_v42) = v1 c
          ∧ r.2.mem ((c.tc : Thread Cert.OutBwdRefIdeal.nD Cert.OutBwdRefIdeal.τ).loc Cert.OutBwdRefIdeal.main_v43) = v2 c
          ∧ r.2.mem ((c.tc : Thread Cert.OutBwdRefIdeal.nD Cert.OutBwdRefIdeal.τ).loc Cert.OutBwdRefIdeal.main_v44) = v3 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3)
          ∧ r.2.mem ((c.tc : Thread Cert.OutBwdRefIdeal.nD Cert.OutBwdRefIdeal.τ).loc Cert.OutBwdRefIdeal.main_arg4) = m' ((c.tc : Thread Cert.OutBwdRefIdeal.nD Cert.OutBwdRefIdeal.τ).loc Cert.OutBwdRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] [hPre_place_in : Cert.Pre_place_in.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)) →
    ∃ (v0 : (c : Dev Cert.AdamInIdeal.nD) → Buf (Elt Ideal) ((c.tc : Thread Cert.AdamInIdeal.nD Cert.AdamInIdeal.τ).loc Cert.AdamInIdeal.main_v2_0)) (v1 : (c : Dev Cert.AdamInIdeal.nD) → Buf (Elt Ideal) ((c.tc : Thread Cert.AdamInIdeal.nD Cert.AdamInIdeal.τ).loc Cert.AdamInIdeal.main_v2_1)) (v2 : (c : Dev Cert.AdamInIdeal.nD) → Buf (Elt Ideal) ((c.tc : Thread Cert.AdamInIdeal.nD Cert.AdamInIdeal.τ).loc Cert.AdamInIdeal.main_v2_2)) (v3 : (c : Dev Cert.AdamInIdeal.nD) → Buf (Elt Ideal) ((c.tc : Thread Cert.AdamInIdeal.nD Cert.AdamInIdeal.τ).loc Cert.AdamInIdeal.main_v2_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v2_0) = v0 c
          ∧ r.2.mem ((c.tc : Thread Cert.AdamInIdeal.nD Cert.AdamInIdeal.τ).loc Cert.AdamInIdeal.main_v2_1) = v1 c
          ∧ r.2.mem ((c.tc : Thread Cert.AdamInIdeal.nD Cert.AdamInIdeal.τ).loc Cert.AdamInIdeal.main_v2_2) = v2 c
          ∧ r.2.mem ((c.tc : Thread Cert.AdamInIdeal.nD Cert.AdamInIdeal.τ).loc Cert.AdamInIdeal.main_v2_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v6) = v0 c
          ∧ r.2.mem ((c.tc : Thread Cert.AdamInRefIdeal.nD Cert.AdamInRefIdeal.τ).loc Cert.AdamInRefIdeal.main_v30) = v1 c
          ∧ r.2.mem ((c.tc : Thread Cert.AdamInRefIdeal.nD Cert.AdamInRefIdeal.τ).loc Cert.AdamInRefIdeal.main_v11) = v2 c
          ∧ r.2.mem ((c.tc : Thread Cert.AdamInRefIdeal.nD Cert.AdamInRefIdeal.τ).loc Cert.AdamInRefIdeal.main_v17) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5))

def preserves_AdamOut_AdamOutIdeal : Prop :=
  True

def algebraic_AdamOutIdeal_AdamOutRefIdeal [hAdamOutIdeal : Cert.AdamOutIdeal.Facts] [hAdamOutRefIdeal : Cert.AdamOutRefIdeal.Facts] [hPre_place_out : Cert.Pre_place_out.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v2_0)) (v1 : (c : Dev Cert.AdamOutIdeal.nD) → Buf (Elt Ideal) ((c.tc : Thread Cert.AdamOutIdeal.nD Cert.AdamOutIdeal.τ).loc Cert.AdamOutIdeal.main_v2_1)) (v2 : (c : Dev Cert.AdamOutIdeal.nD) → Buf (Elt Ideal) ((c.tc : Thread Cert.AdamOutIdeal.nD Cert.AdamOutIdeal.τ).loc Cert.AdamOutIdeal.main_v2_2)) (v3 : (c : Dev Cert.AdamOutIdeal.nD) → Buf (Elt Ideal) ((c.tc : Thread Cert.AdamOutIdeal.nD Cert.AdamOutIdeal.τ).loc Cert.AdamOutIdeal.main_v2_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v2_0) = v0 c
          ∧ r.2.mem ((c.tc : Thread Cert.AdamOutIdeal.nD Cert.AdamOutIdeal.τ).loc Cert.AdamOutIdeal.main_v2_1) = v1 c
          ∧ r.2.mem ((c.tc : Thread Cert.AdamOutIdeal.nD Cert.AdamOutIdeal.τ).loc Cert.AdamOutIdeal.main_v2_2) = v2 c
          ∧ r.2.mem ((c.tc : Thread Cert.AdamOutIdeal.nD Cert.AdamOutIdeal.τ).loc Cert.AdamOutIdeal.main_v2_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v6) = v0 c
          ∧ r.2.mem ((c.tc : Thread Cert.AdamOutRefIdeal.nD Cert.AdamOutRefIdeal.τ).loc Cert.AdamOutRefIdeal.main_v30) = v1 c
          ∧ r.2.mem ((c.tc : Thread Cert.AdamOutRefIdeal.nD Cert.AdamOutRefIdeal.τ).loc Cert.AdamOutRefIdeal.main_v11) = v2 c
          ∧ r.2.mem ((c.tc : Thread Cert.AdamOutRefIdeal.nD Cert.AdamOutRefIdeal.τ).loc Cert.AdamOutRefIdeal.main_v17) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5))

def preserves_AdamFf_AdamFfIdeal : Prop :=
  True

def algebraic_AdamFfIdeal_AdamFfRefIdeal [hAdamFfIdeal : Cert.AdamFfIdeal.Facts] [hAdamFfRefIdeal : Cert.AdamFfRefIdeal.Facts] [hPre_place_ff : Cert.Pre_place_ff.Facts] : Prop :=
  ∀ (m : (ℓ : Loc Cert.AdamFfIdeal.nD Cert.AdamFfIdeal.τ Cert.AdamFfIdeal.sig) → Buf (Elt Ideal) ℓ) (g : Dev Cert.AdamFfIdeal.nD → PrngReg)
    (m' : (ℓ : Loc Cert.AdamFfRefIdeal.nD Cert.AdamFfRefIdeal.τ Cert.AdamFfRefIdeal.sig) → Buf (Elt Ideal) ℓ) (g' : Dev Cert.AdamFfRefIdeal.nD → PrngReg), Pre_AdamFfIdeal m →
    (∀ c : Dev Cert.AdamFfIdeal.nD,
      m' ((c.tc : Thread Cert.AdamFfRefIdeal.nD Cert.AdamFfRefIdeal.τ).loc Cert.AdamFfRefIdeal.main_arg0) = m ((c.tc : Thread Cert.AdamFfIdeal.nD Cert.AdamFfIdeal.τ).loc Cert.AdamFfIdeal.main_arg0)
      ∧ m' ((c.tc : Thread Cert.AdamFfRefIdeal.nD Cert.AdamFfRefIdeal.τ).loc Cert.AdamFfRefIdeal.main_arg1) = m ((c.tc : Thread Cert.AdamFfIdeal.nD Cert.AdamFfIdeal.τ).loc Cert.AdamFfIdeal.main_arg1)
      ∧ m' ((c.tc : Thread Cert.AdamFfRefIdeal.nD Cert.AdamFfRefIdeal.τ).loc Cert.AdamFfRefIdeal.main_arg2) = m ((c.tc : Thread Cert.AdamFfIdeal.nD Cert.AdamFfIdeal.τ).loc Cert.AdamFfIdeal.main_arg2)
      ∧ m' ((c.tc : Thread Cert.AdamFfRefIdeal.nD Cert.AdamFfRefIdeal.τ).loc Cert.AdamFfRefIdeal.main_arg3) = m ((c.tc : Thread Cert.AdamFfIdeal.nD Cert.AdamFfIdeal.τ).loc Cert.AdamFfIdeal.main_arg3)
      ∧ m' ((c.tc : Thread Cert.AdamFfRefIdeal.nD Cert.AdamFfRefIdeal.τ).loc Cert.AdamFfRefIdeal.main_arg4) = m ((c.tc : Thread Cert.AdamFfIdeal.nD Cert.AdamFfIdeal.τ).loc Cert.AdamFfIdeal.main_arg4)
      ∧ m' ((c.tc : Thread Cert.AdamFfRefIdeal.nD Cert.AdamFfRefIdeal.τ).loc Cert.AdamFfRefIdeal.main_arg5) = m ((c.tc : Thread Cert.AdamFfIdeal.nD Cert.AdamFfIdeal.τ).loc Cert.AdamFfIdeal.main_arg5)) →
    ∃ (v0 : (c : Dev Cert.AdamFfIdeal.nD) → Buf (Elt Ideal) ((c.tc : Thread Cert.AdamFfIdeal.nD Cert.AdamFfIdeal.τ).loc Cert.AdamFfIdeal.main_v2_0)) (v1 : (c : Dev Cert.AdamFfIdeal.nD) → Buf (Elt Ideal) ((c.tc : Thread Cert.AdamFfIdeal.nD Cert.AdamFfIdeal.τ).loc Cert.AdamFfIdeal.main_v2_1)) (v2 : (c : Dev Cert.AdamFfIdeal.nD) → Buf (Elt Ideal) ((c.tc : Thread Cert.AdamFfIdeal.nD Cert.AdamFfIdeal.τ).loc Cert.AdamFfIdeal.main_v2_2)) (v3 : (c : Dev Cert.AdamFfIdeal.nD) → Buf (Elt Ideal) ((c.tc : Thread Cert.AdamFfIdeal.nD Cert.AdamFfIdeal.τ).loc Cert.AdamFfIdeal.main_v2_3)),
      θ_run (Cert.AdamFfIdeal.defs (F := Ideal)) (onTc (τ := Cert.AdamFfIdeal.τ) (Cert.AdamFfIdeal.main (F := Ideal))) ⟨m, fun _ => 0, g⟩ (fun r => ∀ c : Dev Cert.AdamFfIdeal.nD,
          r.2.mem ((c.tc : Thread Cert.AdamFfIdeal.nD Cert.AdamFfIdeal.τ).loc Cert.AdamFfIdeal.main_v2_0) = v0 c
          ∧ r.2.mem ((c.tc : Thread Cert.AdamFfIdeal.nD Cert.AdamFfIdeal.τ).loc Cert.AdamFfIdeal.main_v2_1) = v1 c
          ∧ r.2.mem ((c.tc : Thread Cert.AdamFfIdeal.nD Cert.AdamFfIdeal.τ).loc Cert.AdamFfIdeal.main_v2_2) = v2 c
          ∧ r.2.mem ((c.tc : Thread Cert.AdamFfIdeal.nD Cert.AdamFfIdeal.τ).loc Cert.AdamFfIdeal.main_v2_3) = v3 c
          ∧ r.2.mem ((c.tc : Thread Cert.AdamFfIdeal.nD Cert.AdamFfIdeal.τ).loc Cert.AdamFfIdeal.main_arg0) = m ((c.tc : Thread Cert.AdamFfIdeal.nD Cert.AdamFfIdeal.τ).loc Cert.AdamFfIdeal.main_arg0)
          ∧ r.2.mem ((c.tc : Thread Cert.AdamFfIdeal.nD Cert.AdamFfIdeal.τ).loc Cert.AdamFfIdeal.main_arg1) = m ((c.tc : Thread Cert.AdamFfIdeal.nD Cert.AdamFfIdeal.τ).loc Cert.AdamFfIdeal.main_arg1)
          ∧ r.2.mem ((c.tc : Thread Cert.AdamFfIdeal.nD Cert.AdamFfIdeal.τ).loc Cert.AdamFfIdeal.main_arg2) = m ((c.tc : Thread Cert.AdamFfIdeal.nD Cert.AdamFfIdeal.τ).loc Cert.AdamFfIdeal.main_arg2)
          ∧ r.2.mem ((c.tc : Thread Cert.AdamFfIdeal.nD Cert.AdamFfIdeal.τ).loc Cert.AdamFfIdeal.main_arg3) = m ((c.tc : Thread Cert.AdamFfIdeal.nD Cert.AdamFfIdeal.τ).loc Cert.AdamFfIdeal.main_arg3)
          ∧ r.2.mem ((c.tc : Thread Cert.AdamFfIdeal.nD Cert.AdamFfIdeal.τ).loc Cert.AdamFfIdeal.main_arg4) = m ((c.tc : Thread Cert.AdamFfIdeal.nD Cert.AdamFfIdeal.τ).loc Cert.AdamFfIdeal.main_arg4)
          ∧ r.2.mem ((c.tc : Thread Cert.AdamFfIdeal.nD Cert.AdamFfIdeal.τ).loc Cert.AdamFfIdeal.main_arg5) = m ((c.tc : Thread Cert.AdamFfIdeal.nD Cert.AdamFfIdeal.τ).loc Cert.AdamFfIdeal.main_arg5))
      ∧ θ_run (Cert.AdamFfRefIdeal.defs (F := Ideal)) (onTc (τ := Cert.AdamFfRefIdeal.τ) (Cert.AdamFfRefIdeal.main (F := Ideal))) ⟨m', fun _ => 0, g'⟩ (fun r => ∀ c : Dev Cert.AdamFfRefIdeal.nD,
          r.2.mem ((c.tc : Thread Cert.AdamFfRefIdeal.nD Cert.AdamFfRefIdeal.τ).loc Cert.AdamFfRefIdeal.main_v6) = v0 c
          ∧ r.2.mem ((c.tc : Thread Cert.AdamFfRefIdeal.nD Cert.AdamFfRefIdeal.τ).loc Cert.AdamFfRefIdeal.main_v30) = v1 c
          ∧ r.2.mem ((c.tc : Thread Cert.AdamFfRefIdeal.nD Cert.AdamFfRefIdeal.τ).loc Cert.AdamFfRefIdeal.main_v11) = v2 c
          ∧ r.2.mem ((c.tc : Thread Cert.AdamFfRefIdeal.nD Cert.AdamFfRefIdeal.τ).loc Cert.AdamFfRefIdeal.main_v17) = v3 c
          ∧ r.2.mem ((c.tc : Thread Cert.AdamFfRefIdeal.nD Cert.AdamFfRefIdeal.τ).loc Cert.AdamFfRefIdeal.main_arg0) = m' ((c.tc : Thread Cert.AdamFfRefIdeal.nD Cert.AdamFfRefIdeal.τ).loc Cert.AdamFfRefIdeal.main_arg0)
          ∧ r.2.mem ((c.tc : Thread Cert.AdamFfRefIdeal.nD Cert.AdamFfRefIdeal.τ).loc Cert.AdamFfRefIdeal.main_arg1) = m' ((c.tc : Thread Cert.AdamFfRefIdeal.nD Cert.AdamFfRefIdeal.τ).loc Cert.AdamFfRefIdeal.main_arg1)
          ∧ r.2.mem ((c.tc : Thread Cert.AdamFfRefIdeal.nD Cert.AdamFfRefIdeal.τ).loc Cert.AdamFfRefIdeal.main_arg2) = m' ((c.tc : Thread Cert.AdamFfRefIdeal.nD Cert.AdamFfRefIdeal.τ).loc Cert.AdamFfRefIdeal.main_arg2)
          ∧ r.2.mem ((c.tc : Thread Cert.AdamFfRefIdeal.nD Cert.AdamFfRefIdeal.τ).loc Cert.AdamFfRefIdeal.main_arg3) = m' ((c.tc : Thread Cert.AdamFfRefIdeal.nD Cert.AdamFfRefIdeal.τ).loc Cert.AdamFfRefIdeal.main_arg3)
          ∧ r.2.mem ((c.tc : Thread Cert.AdamFfRefIdeal.nD Cert.AdamFfRefIdeal.τ).loc Cert.AdamFfRefIdeal.main_arg4) = m' ((c.tc : Thread Cert.AdamFfRefIdeal.nD Cert.AdamFfRefIdeal.τ).loc Cert.AdamFfRefIdeal.main_arg4)
          ∧ r.2.mem ((c.tc : Thread Cert.AdamFfRefIdeal.nD Cert.AdamFfRefIdeal.τ).loc Cert.AdamFfRefIdeal.main_arg5) = m' ((c.tc : Thread Cert.AdamFfRefIdeal.nD Cert.AdamFfRefIdeal.τ).loc Cert.AdamFfRefIdeal.main_arg5))

def preserves_AdamDown_AdamDownIdeal : Prop :=
  True

def algebraic_AdamDownIdeal_AdamDownRefIdeal [hAdamDownIdeal : Cert.AdamDownIdeal.Facts] [hAdamDownRefIdeal : Cert.AdamDownRefIdeal.Facts] [hPre_place_down : Cert.Pre_place_down.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)
      ∧ m' ((c.tc : Thread Cert.AdamDownRefIdeal.nD Cert.AdamDownRefIdeal.τ).loc Cert.AdamDownRefIdeal.main_arg5) = m ((c.tc : Thread Cert.AdamDownIdeal.nD Cert.AdamDownIdeal.τ).loc Cert.AdamDownIdeal.main_arg5)) →
    ∃ (v0 : (c : Dev Cert.AdamDownIdeal.nD) → Buf (Elt Ideal) ((c.tc : Thread Cert.AdamDownIdeal.nD Cert.AdamDownIdeal.τ).loc Cert.AdamDownIdeal.main_v2_0)) (v1 : (c : Dev Cert.AdamDownIdeal.nD) → Buf (Elt Ideal) ((c.tc : Thread Cert.AdamDownIdeal.nD Cert.AdamDownIdeal.τ).loc Cert.AdamDownIdeal.main_v2_1)) (v2 : (c : Dev Cert.AdamDownIdeal.nD) → Buf (Elt Ideal) ((c.tc : Thread Cert.AdamDownIdeal.nD Cert.AdamDownIdeal.τ).loc Cert.AdamDownIdeal.main_v2_2)) (v3 : (c : Dev Cert.AdamDownIdeal.nD) → Buf (Elt Ideal) ((c.tc : Thread Cert.AdamDownIdeal.nD Cert.AdamDownIdeal.τ).loc Cert.AdamDownIdeal.main_v2_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v2_0) = v0 c
          ∧ r.2.mem ((c.tc : Thread Cert.AdamDownIdeal.nD Cert.AdamDownIdeal.τ).loc Cert.AdamDownIdeal.main_v2_1) = v1 c
          ∧ r.2.mem ((c.tc : Thread Cert.AdamDownIdeal.nD Cert.AdamDownIdeal.τ).loc Cert.AdamDownIdeal.main_v2_2) = v2 c
          ∧ r.2.mem ((c.tc : Thread Cert.AdamDownIdeal.nD Cert.AdamDownIdeal.τ).loc Cert.AdamDownIdeal.main_v2_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v6) = v0 c
          ∧ r.2.mem ((c.tc : Thread Cert.AdamDownRefIdeal.nD Cert.AdamDownRefIdeal.τ).loc Cert.AdamDownRefIdeal.main_v30) = v1 c
          ∧ r.2.mem ((c.tc : Thread Cert.AdamDownRefIdeal.nD Cert.AdamDownRefIdeal.τ).loc Cert.AdamDownRefIdeal.main_v11) = v2 c
          ∧ r.2.mem ((c.tc : Thread Cert.AdamDownRefIdeal.nD Cert.AdamDownRefIdeal.τ).loc Cert.AdamDownRefIdeal.main_v17) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4)
          ∧ r.2.mem ((c.tc : Thread Cert.AdamDownRefIdeal.nD Cert.AdamDownRefIdeal.τ).loc Cert.AdamDownRefIdeal.main_arg5) = m' ((c.tc : Thread Cert.AdamDownRefIdeal.nD Cert.AdamDownRefIdeal.τ).loc Cert.AdamDownRefIdeal.main_arg5))

def preserves_ConvAdam_ConvAdamIdeal : Prop :=
  True

def algebraic_ConvAdamIdeal_ConvAdamRefIdeal [hConvAdamIdeal : Cert.ConvAdamIdeal.Facts] [hConvAdamRefIdeal : Cert.ConvAdamRefIdeal.Facts] : Prop :=
  ∀ (m : (ℓ : Loc Cert.ConvAdamIdeal.nD Cert.ConvAdamIdeal.τ Cert.ConvAdamIdeal.sig) → Buf (Elt Ideal) ℓ) (g : Dev Cert.ConvAdamIdeal.nD → PrngReg)
    (m' : (ℓ : Loc Cert.ConvAdamRefIdeal.nD Cert.ConvAdamRefIdeal.τ Cert.ConvAdamRefIdeal.sig) → Buf (Elt Ideal) ℓ) (g' : Dev Cert.ConvAdamRefIdeal.nD → PrngReg), Pre_ConvAdamIdeal m →
    (∀ c : Dev Cert.ConvAdamIdeal.nD,
      m' ((c.tc : Thread Cert.ConvAdamRefIdeal.nD Cert.ConvAdamRefIdeal.τ).loc Cert.ConvAdamRefIdeal.main_arg0) = m ((c.tc : Thread Cert.ConvAdamIdeal.nD Cert.ConvAdamIdeal.τ).loc Cert.ConvAdamIdeal.main_arg0)
      ∧ m' ((c.tc : Thread Cert.ConvAdamRefIdeal.nD Cert.ConvAdamRefIdeal.τ).loc Cert.ConvAdamRefIdeal.main_arg1) = m ((c.tc : Thread Cert.ConvAdamIdeal.nD Cert.ConvAdamIdeal.τ).loc Cert.ConvAdamIdeal.main_arg1)
      ∧ m' ((c.tc : Thread Cert.ConvAdamRefIdeal.nD Cert.ConvAdamRefIdeal.τ).loc Cert.ConvAdamRefIdeal.main_arg2) = m ((c.tc : Thread Cert.ConvAdamIdeal.nD Cert.ConvAdamIdeal.τ).loc Cert.ConvAdamIdeal.main_arg2)
      ∧ m' ((c.tc : Thread Cert.ConvAdamRefIdeal.nD Cert.ConvAdamRefIdeal.τ).loc Cert.ConvAdamRefIdeal.main_arg3) = m ((c.tc : Thread Cert.ConvAdamIdeal.nD Cert.ConvAdamIdeal.τ).loc Cert.ConvAdamIdeal.main_arg3)
      ∧ m' ((c.tc : Thread Cert.ConvAdamRefIdeal.nD Cert.ConvAdamRefIdeal.τ).loc Cert.ConvAdamRefIdeal.main_arg4) = m ((c.tc : Thread Cert.ConvAdamIdeal.nD Cert.ConvAdamIdeal.τ).loc Cert.ConvAdamIdeal.main_arg4)
      ∧ m' ((c.tc : Thread Cert.ConvAdamRefIdeal.nD Cert.ConvAdamRefIdeal.τ).loc Cert.ConvAdamRefIdeal.main_arg5) = m ((c.tc : Thread Cert.ConvAdamIdeal.nD Cert.ConvAdamIdeal.τ).loc Cert.ConvAdamIdeal.main_arg5)
      ∧ m' ((c.tc : Thread Cert.ConvAdamRefIdeal.nD Cert.ConvAdamRefIdeal.τ).loc Cert.ConvAdamRefIdeal.main_arg6) = m ((c.tc : Thread Cert.ConvAdamIdeal.nD Cert.ConvAdamIdeal.τ).loc Cert.ConvAdamIdeal.main_arg6)
      ∧ m' ((c.tc : Thread Cert.ConvAdamRefIdeal.nD Cert.ConvAdamRefIdeal.τ).loc Cert.ConvAdamRefIdeal.main_arg7) = m ((c.tc : Thread Cert.ConvAdamIdeal.nD Cert.ConvAdamIdeal.τ).loc Cert.ConvAdamIdeal.main_arg7)) →
    ∃ (v0 : (c : Dev Cert.ConvAdamIdeal.nD) → Buf (Elt Ideal) ((c.tc : Thread Cert.ConvAdamIdeal.nD Cert.ConvAdamIdeal.τ).loc Cert.ConvAdamIdeal.main_v10)) (v1 : (c : Dev Cert.ConvAdamIdeal.nD) → Buf (Elt Ideal) ((c.tc : Thread Cert.ConvAdamIdeal.nD Cert.ConvAdamIdeal.τ).loc Cert.ConvAdamIdeal.main_v11)) (v2 : (c : Dev Cert.ConvAdamIdeal.nD) → Buf (Elt Ideal) ((c.tc : Thread Cert.ConvAdamIdeal.nD Cert.ConvAdamIdeal.τ).loc Cert.ConvAdamIdeal.main_v12)) (v3 : (c : Dev Cert.ConvAdamIdeal.nD) → Buf (Elt Ideal) ((c.tc : Thread Cert.ConvAdamIdeal.nD Cert.ConvAdamIdeal.τ).loc Cert.ConvAdamIdeal.main_v13)) (v4 : (c : Dev Cert.ConvAdamIdeal.nD) → Buf (Elt Ideal) ((c.tc : Thread Cert.ConvAdamIdeal.nD Cert.ConvAdamIdeal.τ).loc Cert.ConvAdamIdeal.main_v14)) (v5 : (c : Dev Cert.ConvAdamIdeal.nD) → Buf (Elt Ideal) ((c.tc : Thread Cert.ConvAdamIdeal.nD Cert.ConvAdamIdeal.τ).loc Cert.ConvAdamIdeal.main_v15)) (v6 : (c : Dev Cert.ConvAdamIdeal.nD) → Buf (Elt Ideal) ((c.tc : Thread Cert.ConvAdamIdeal.nD Cert.ConvAdamIdeal.τ).loc Cert.ConvAdamIdeal.main_v16)) (v7 : (c : Dev Cert.ConvAdamIdeal.nD) → Buf (Elt Ideal) ((c.tc : Thread Cert.ConvAdamIdeal.nD Cert.ConvAdamIdeal.τ).loc Cert.ConvAdamIdeal.main_v17)),
      θ_run (Cert.ConvAdamIdeal.defs (F := Ideal)) (onTc (τ := Cert.ConvAdamIdeal.τ) (Cert.ConvAdamIdeal.main (F := Ideal))) ⟨m, fun _ => 0, g⟩ (fun r => ∀ c : Dev Cert.ConvAdamIdeal.nD,
          r.2.mem ((c.tc : Thread Cert.ConvAdamIdeal.nD Cert.ConvAdamIdeal.τ).loc Cert.ConvAdamIdeal.main_v10) = v0 c
          ∧ r.2.mem ((c.tc : Thread Cert.ConvAdamIdeal.nD Cert.ConvAdamIdeal.τ).loc Cert.ConvAdamIdeal.main_v11) = v1 c
          ∧ r.2.mem ((c.tc : Thread Cert.ConvAdamIdeal.nD Cert.ConvAdamIdeal.τ).loc Cert.ConvAdamIdeal.main_v12) = v2 c
          ∧ r.2.mem ((c.tc : Thread Cert.ConvAdamIdeal.nD Cert.ConvAdamIdeal.τ).loc Cert.ConvAdamIdeal.main_v13) = v3 c
          ∧ r.2.mem ((c.tc : Thread Cert.ConvAdamIdeal.nD Cert.ConvAdamIdeal.τ).loc Cert.ConvAdamIdeal.main_v14) = v4 c
          ∧ r.2.mem ((c.tc : Thread Cert.ConvAdamIdeal.nD Cert.ConvAdamIdeal.τ).loc Cert.ConvAdamIdeal.main_v15) = v5 c
          ∧ r.2.mem ((c.tc : Thread Cert.ConvAdamIdeal.nD Cert.ConvAdamIdeal.τ).loc Cert.ConvAdamIdeal.main_v16) = v6 c
          ∧ r.2.mem ((c.tc : Thread Cert.ConvAdamIdeal.nD Cert.ConvAdamIdeal.τ).loc Cert.ConvAdamIdeal.main_v17) = v7 c
          ∧ r.2.mem ((c.tc : Thread Cert.ConvAdamIdeal.nD Cert.ConvAdamIdeal.τ).loc Cert.ConvAdamIdeal.main_arg0) = m ((c.tc : Thread Cert.ConvAdamIdeal.nD Cert.ConvAdamIdeal.τ).loc Cert.ConvAdamIdeal.main_arg0)
          ∧ r.2.mem ((c.tc : Thread Cert.ConvAdamIdeal.nD Cert.ConvAdamIdeal.τ).loc Cert.ConvAdamIdeal.main_arg1) = m ((c.tc : Thread Cert.ConvAdamIdeal.nD Cert.ConvAdamIdeal.τ).loc Cert.ConvAdamIdeal.main_arg1)
          ∧ r.2.mem ((c.tc : Thread Cert.ConvAdamIdeal.nD Cert.ConvAdamIdeal.τ).loc Cert.ConvAdamIdeal.main_arg2) = m ((c.tc : Thread Cert.ConvAdamIdeal.nD Cert.ConvAdamIdeal.τ).loc Cert.ConvAdamIdeal.main_arg2)
          ∧ r.2.mem ((c.tc : Thread Cert.ConvAdamIdeal.nD Cert.ConvAdamIdeal.τ).loc Cert.ConvAdamIdeal.main_arg3) = m ((c.tc : Thread Cert.ConvAdamIdeal.nD Cert.ConvAdamIdeal.τ).loc Cert.ConvAdamIdeal.main_arg3)
          ∧ r.2.mem ((c.tc : Thread Cert.ConvAdamIdeal.nD Cert.ConvAdamIdeal.τ).loc Cert.ConvAdamIdeal.main_arg4) = m ((c.tc : Thread Cert.ConvAdamIdeal.nD Cert.ConvAdamIdeal.τ).loc Cert.ConvAdamIdeal.main_arg4)
          ∧ r.2.mem ((c.tc : Thread Cert.ConvAdamIdeal.nD Cert.ConvAdamIdeal.τ).loc Cert.ConvAdamIdeal.main_arg5) = m ((c.tc : Thread Cert.ConvAdamIdeal.nD Cert.ConvAdamIdeal.τ).loc Cert.ConvAdamIdeal.main_arg5)
          ∧ r.2.mem ((c.tc : Thread Cert.ConvAdamIdeal.nD Cert.ConvAdamIdeal.τ).loc Cert.ConvAdamIdeal.main_arg6) = m ((c.tc : Thread Cert.ConvAdamIdeal.nD Cert.ConvAdamIdeal.τ).loc Cert.ConvAdamIdeal.main_arg6)
          ∧ r.2.mem ((c.tc : Thread Cert.ConvAdamIdeal.nD Cert.ConvAdamIdeal.τ).loc Cert.ConvAdamIdeal.main_arg7) = m ((c.tc : Thread Cert.ConvAdamIdeal.nD Cert.ConvAdamIdeal.τ).loc Cert.ConvAdamIdeal.main_arg7))
      ∧ θ_run (Cert.ConvAdamRefIdeal.defs (F := Ideal)) (onTc (τ := Cert.ConvAdamRefIdeal.τ) (Cert.ConvAdamRefIdeal.main (F := Ideal))) ⟨m', fun _ => 0, g'⟩ (fun r => ∀ c : Dev Cert.ConvAdamRefIdeal.nD,
          r.2.mem ((c.tc : Thread Cert.ConvAdamRefIdeal.nD Cert.ConvAdamRefIdeal.τ).loc Cert.ConvAdamRefIdeal.main_arg0) = v0 c
          ∧ r.2.mem ((c.tc : Thread Cert.ConvAdamRefIdeal.nD Cert.ConvAdamRefIdeal.τ).loc Cert.ConvAdamRefIdeal.main_v23) = v1 c
          ∧ r.2.mem ((c.tc : Thread Cert.ConvAdamRefIdeal.nD Cert.ConvAdamRefIdeal.τ).loc Cert.ConvAdamRefIdeal.main_v4) = v2 c
          ∧ r.2.mem ((c.tc : Thread Cert.ConvAdamRefIdeal.nD Cert.ConvAdamRefIdeal.τ).loc Cert.ConvAdamRefIdeal.main_v10) = v3 c
          ∧ r.2.mem ((c.tc : Thread Cert.ConvAdamRefIdeal.nD Cert.ConvAdamRefIdeal.τ).loc Cert.ConvAdamRefIdeal.main_arg1) = v4 c
          ∧ r.2.mem ((c.tc : Thread Cert.ConvAdamRefIdeal.nD Cert.ConvAdamRefIdeal.τ).loc Cert.ConvAdamRefIdeal.main_v47) = v5 c
          ∧ r.2.mem ((c.tc : Thread Cert.ConvAdamRefIdeal.nD Cert.ConvAdamRefIdeal.τ).loc Cert.ConvAdamRefIdeal.main_v28) = v6 c
          ∧ r.2.mem ((c.tc : Thread Cert.ConvAdamRefIdeal.nD Cert.ConvAdamRefIdeal.τ).loc Cert.ConvAdamRefIdeal.main_v34) = v7 c
          ∧ r.2.mem ((c.tc : Thread Cert.ConvAdamRefIdeal.nD Cert.ConvAdamRefIdeal.τ).loc Cert.ConvAdamRefIdeal.main_arg0) = m' ((c.tc : Thread Cert.ConvAdamRefIdeal.nD Cert.ConvAdamRefIdeal.τ).loc Cert.ConvAdamRefIdeal.main_arg0)
          ∧ r.2.mem ((c.tc : Thread Cert.ConvAdamRefIdeal.nD Cert.ConvAdamRefIdeal.τ).loc Cert.ConvAdamRefIdeal.main_arg1) = m' ((c.tc : Thread Cert.ConvAdamRefIdeal.nD Cert.ConvAdamRefIdeal.τ).loc Cert.ConvAdamRefIdeal.main_arg1)
          ∧ r.2.mem ((c.tc : Thread Cert.ConvAdamRefIdeal.nD Cert.ConvAdamRefIdeal.τ).loc Cert.ConvAdamRefIdeal.main_arg2) = m' ((c.tc : Thread Cert.ConvAdamRefIdeal.nD Cert.ConvAdamRefIdeal.τ).loc Cert.ConvAdamRefIdeal.main_arg2)
          ∧ r.2.mem ((c.tc : Thread Cert.ConvAdamRefIdeal.nD Cert.ConvAdamRefIdeal.τ).loc Cert.ConvAdamRefIdeal.main_arg3) = m' ((c.tc : Thread Cert.ConvAdamRefIdeal.nD Cert.ConvAdamRefIdeal.τ).loc Cert.ConvAdamRefIdeal.main_arg3)
          ∧ r.2.mem ((c.tc : Thread Cert.ConvAdamRefIdeal.nD Cert.ConvAdamRefIdeal.τ).loc Cert.ConvAdamRefIdeal.main_arg4) = m' ((c.tc : Thread Cert.ConvAdamRefIdeal.nD Cert.ConvAdamRefIdeal.τ).loc Cert.ConvAdamRefIdeal.main_arg4)
          ∧ r.2.mem ((c.tc : Thread Cert.ConvAdamRefIdeal.nD Cert.ConvAdamRefIdeal.τ).loc Cert.ConvAdamRefIdeal.main_arg5) = m' ((c.tc : Thread Cert.ConvAdamRefIdeal.nD Cert.ConvAdamRefIdeal.τ).loc Cert.ConvAdamRefIdeal.main_arg5)
          ∧ r.2.mem ((c.tc : Thread Cert.ConvAdamRefIdeal.nD Cert.ConvAdamRefIdeal.τ).loc Cert.ConvAdamRefIdeal.main_arg6) = m' ((c.tc : Thread Cert.ConvAdamRefIdeal.nD Cert.ConvAdamRefIdeal.τ).loc Cert.ConvAdamRefIdeal.main_arg6)
          ∧ r.2.mem ((c.tc : Thread Cert.ConvAdamRefIdeal.nD Cert.ConvAdamRefIdeal.τ).loc Cert.ConvAdamRefIdeal.main_arg7) = m' ((c.tc : Thread Cert.ConvAdamRefIdeal.nD Cert.ConvAdamRefIdeal.τ).loc Cert.ConvAdamRefIdeal.main_arg7))

def Claim : Prop :=
  ∃ (hFfn : Cert.Ffn.Facts) (hFfnIdeal : Cert.FfnIdeal.Facts) (hFfnRefIdeal : Cert.FfnRefIdeal.Facts) (hInBwd : Cert.InBwd.Facts) (hInBwdIdeal : Cert.InBwdIdeal.Facts) (hInBwdRefIdeal : Cert.InBwdRefIdeal.Facts) (hDwIn : Cert.DwIn.Facts) (hDwInIdeal : Cert.DwInIdeal.Facts) (hDwInRefIdeal : Cert.DwInRefIdeal.Facts) (hDwFf : Cert.DwFf.Facts) (hDwFfIdeal : Cert.DwFfIdeal.Facts) (hDwFfRefIdeal : Cert.DwFfRefIdeal.Facts) (hDwDown : Cert.DwDown.Facts) (hDwDownIdeal : Cert.DwDownIdeal.Facts) (hDwDownRefIdeal : Cert.DwDownRefIdeal.Facts) (hDwOut : Cert.DwOut.Facts) (hDwOutIdeal : Cert.DwOutIdeal.Facts) (hDwOutRefIdeal : Cert.DwOutRefIdeal.Facts) (hInFwd : Cert.InFwd.Facts) (hInFwdIdeal : Cert.InFwdIdeal.Facts) (hInFwdRefIdeal : Cert.InFwdRefIdeal.Facts) (hOutFwd : Cert.OutFwd.Facts) (hOutFwdIdeal : Cert.OutFwdIdeal.Facts) (hOutFwdRefIdeal : Cert.OutFwdRefIdeal.Facts) (hOutBwd : Cert.OutBwd.Facts) (hOutBwdIdeal : Cert.OutBwdIdeal.Facts) (hOutBwdRefIdeal : Cert.OutBwdRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamFf : Cert.AdamFf.Facts) (hAdamFfIdeal : Cert.AdamFfIdeal.Facts) (hAdamFfRefIdeal : Cert.AdamFfRefIdeal.Facts) (hAdamDown : Cert.AdamDown.Facts) (hAdamDownIdeal : Cert.AdamDownIdeal.Facts) (hAdamDownRefIdeal : Cert.AdamDownRefIdeal.Facts) (hConvAdam : Cert.ConvAdam.Facts) (hConvAdamIdeal : Cert.ConvAdamIdeal.Facts) (hConvAdamRefIdeal : Cert.ConvAdamRefIdeal.Facts) (hPre_ffn_finite : Cert.Pre_ffn_finite.Facts) (hPre_in_finite : Cert.Pre_in_finite.Facts) (hPre_out_finite : Cert.Pre_out_finite.Facts) (hPre_place_in : Cert.Pre_place_in.Facts) (hPre_place_out : Cert.Pre_place_out.Facts) (hPre_place_ff : Cert.Pre_place_ff.Facts) (hPre_place_down : Cert.Pre_place_down.Facts),
    quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_InBwd (hInBwd := hInBwd)
    ∧ quiescent_InBwdIdeal (hInBwdIdeal := hInBwdIdeal)
    ∧ quiescent_InBwdIdeal_pre_in_finite (hInBwdIdeal := hInBwdIdeal) (hPre_in_finite := hPre_in_finite)
    ∧ quiescent_InBwdRefIdeal (hInBwdRefIdeal := hInBwdRefIdeal)
    ∧ quiescent_InBwdRefIdeal_pre_in_finite (hInBwdRefIdeal := hInBwdRefIdeal) (hPre_in_finite := hPre_in_finite)
    ∧ quiescent_DwIn (hDwIn := hDwIn)
    ∧ quiescent_DwInIdeal (hDwInIdeal := hDwInIdeal)
    ∧ quiescent_DwInRefIdeal (hDwInRefIdeal := hDwInRefIdeal)
    ∧ quiescent_DwFf (hDwFf := hDwFf)
    ∧ quiescent_DwFfIdeal (hDwFfIdeal := hDwFfIdeal)
    ∧ quiescent_DwFfRefIdeal (hDwFfRefIdeal := hDwFfRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_OutBwd (hOutBwd := hOutBwd)
    ∧ quiescent_OutBwdIdeal (hOutBwdIdeal := hOutBwdIdeal)
    ∧ quiescent_OutBwdIdeal_pre_out_finite (hOutBwdIdeal := hOutBwdIdeal) (hPre_out_finite := hPre_out_finite)
    ∧ quiescent_OutBwdRefIdeal (hOutBwdRefIdeal := hOutBwdRefIdeal)
    ∧ quiescent_OutBwdRefIdeal_pre_out_finite (hOutBwdRefIdeal := hOutBwdRefIdeal) (hPre_out_finite := hPre_out_finite)
    ∧ quiescent_AdamIn (hAdamIn := hAdamIn) (hPre_place_in := hPre_place_in)
    ∧ quiescent_AdamInIdeal (hAdamInIdeal := hAdamInIdeal) (hPre_place_in := hPre_place_in)
    ∧ quiescent_AdamInRefIdeal (hAdamInRefIdeal := hAdamInRefIdeal)
    ∧ quiescent_AdamInRefIdeal_pre_place_in (hAdamInRefIdeal := hAdamInRefIdeal) (hPre_place_in := hPre_place_in)
    ∧ quiescent_AdamOut (hAdamOut := hAdamOut) (hPre_place_out := hPre_place_out)
    ∧ quiescent_AdamOutIdeal (hAdamOutIdeal := hAdamOutIdeal) (hPre_place_out := hPre_place_out)
    ∧ quiescent_AdamOutRefIdeal (hAdamOutRefIdeal := hAdamOutRefIdeal)
    ∧ quiescent_AdamOutRefIdeal_pre_place_out (hAdamOutRefIdeal := hAdamOutRefIdeal) (hPre_place_out := hPre_place_out)
    ∧ quiescent_AdamFf (hAdamFf := hAdamFf) (hPre_place_ff := hPre_place_ff)
    ∧ quiescent_AdamFfIdeal (hAdamFfIdeal := hAdamFfIdeal) (hPre_place_ff := hPre_place_ff)
    ∧ quiescent_AdamFfRefIdeal (hAdamFfRefIdeal := hAdamFfRefIdeal)
    ∧ quiescent_AdamFfRefIdeal_pre_place_ff (hAdamFfRefIdeal := hAdamFfRefIdeal) (hPre_place_ff := hPre_place_ff)
    ∧ quiescent_AdamDown (hAdamDown := hAdamDown) (hPre_place_down := hPre_place_down)
    ∧ quiescent_AdamDownIdeal (hAdamDownIdeal := hAdamDownIdeal) (hPre_place_down := hPre_place_down)
    ∧ quiescent_AdamDownRefIdeal (hAdamDownRefIdeal := hAdamDownRefIdeal)
    ∧ quiescent_AdamDownRefIdeal_pre_place_down (hAdamDownRefIdeal := hAdamDownRefIdeal) (hPre_place_down := hPre_place_down)
    ∧ quiescent_ConvAdam (hConvAdam := hConvAdam)
    ∧ quiescent_ConvAdamIdeal (hConvAdamIdeal := hConvAdamIdeal)
    ∧ quiescent_ConvAdamRefIdeal (hConvAdamRefIdeal := hConvAdamRefIdeal)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_InBwd_InBwdIdeal
    ∧ algebraic_InBwdIdeal_InBwdRefIdeal_pre_in_finite (hInBwdIdeal := hInBwdIdeal) (hInBwdRefIdeal := hInBwdRefIdeal) (hPre_in_finite := hPre_in_finite)
    ∧ preserves_DwIn_DwInIdeal
    ∧ algebraic_DwInIdeal_DwInRefIdeal (hDwInIdeal := hDwInIdeal) (hDwInRefIdeal := hDwInRefIdeal)
    ∧ preserves_DwFf_DwFfIdeal
    ∧ algebraic_DwFfIdeal_DwFfRefIdeal (hDwFfIdeal := hDwFfIdeal) (hDwFfRefIdeal := hDwFfRefIdeal)
    ∧ preserves_DwDown_DwDownIdeal
    ∧ algebraic_DwDownIdeal_DwDownRefIdeal (hDwDownIdeal := hDwDownIdeal) (hDwDownRefIdeal := hDwDownRefIdeal)
    ∧ preserves_DwOut_DwOutIdeal
    ∧ algebraic_DwOutIdeal_DwOutRefIdeal (hDwOutIdeal := hDwOutIdeal) (hDwOutRefIdeal := hDwOutRefIdeal)
    ∧ preserves_InFwd_InFwdIdeal
    ∧ algebraic_InFwdIdeal_InFwdRefIdeal (hInFwdIdeal := hInFwdIdeal) (hInFwdRefIdeal := hInFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_OutBwd_OutBwdIdeal
    ∧ algebraic_OutBwdIdeal_OutBwdRefIdeal_pre_out_finite (hOutBwdIdeal := hOutBwdIdeal) (hOutBwdRefIdeal := hOutBwdRefIdeal) (hPre_out_finite := hPre_out_finite)
    ∧ preserves_AdamIn_AdamInIdeal
    ∧ algebraic_AdamInIdeal_AdamInRefIdeal (hAdamInIdeal := hAdamInIdeal) (hAdamInRefIdeal := hAdamInRefIdeal) (hPre_place_in := hPre_place_in)
    ∧ preserves_AdamOut_AdamOutIdeal
    ∧ algebraic_AdamOutIdeal_AdamOutRefIdeal (hAdamOutIdeal := hAdamOutIdeal) (hAdamOutRefIdeal := hAdamOutRefIdeal) (hPre_place_out := hPre_place_out)
    ∧ preserves_AdamFf_AdamFfIdeal
    ∧ algebraic_AdamFfIdeal_AdamFfRefIdeal (hAdamFfIdeal := hAdamFfIdeal) (hAdamFfRefIdeal := hAdamFfRefIdeal) (hPre_place_ff := hPre_place_ff)
    ∧ preserves_AdamDown_AdamDownIdeal
    ∧ algebraic_AdamDownIdeal_AdamDownRefIdeal (hAdamDownIdeal := hAdamDownIdeal) (hAdamDownRefIdeal := hAdamDownRefIdeal) (hPre_place_down := hPre_place_down)
    ∧ preserves_ConvAdam_ConvAdamIdeal
    ∧ algebraic_ConvAdamIdeal_ConvAdamRefIdeal (hConvAdamIdeal := hConvAdamIdeal) (hConvAdamRefIdeal := hConvAdamRefIdeal)
-- ==== Pre_ffn_finite.lean ====
abbrev S8192x1024 : Shape := ⟨2, ![8192, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2816x1024 .f32) (main_arg5 : FVec F S1024 .f32) (main_arg6 : FVec F S1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S1024x2816 .f32) (main_arg3 : FVec F S1024x2816 .f32) (main_arg4 : FVec F S2816x1024 .f32) (main_arg5 : FVec F S1024 .f32) (main_arg6 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_v13 main_v16
-- ==== Pre_in_finite.lean ====
abbrev S8192x1024 : Shape := ⟨2, ![8192, 1024]⟩
abbrev S8192x2048 : Shape := ⟨2, ![8192, 2048]⟩
abbrev S8192x2560 : Shape := ⟨2, ![8192, 2560]⟩
abbrev S8192x16 : Shape := ⟨2, ![8192, 16]⟩
abbrev S1024 : Shape := ⟨1, ![1024]⟩
abbrev S1024x4624 : Shape := ⟨2, ![1024, 4624]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192x2560 : S_.BroadcastsInDim S8192x2560 (![] : Fin 0 → Fin S8192x2560.rank)
  reducesTo_S8192x2560_S_d0_1 : S8192x2560.ReducesTo [0, 1] S_
  bcast_S_S8192x16 : S_.BroadcastsInDim S8192x16 (![] : Fin 0 → Fin S8192x16.rank)
  reducesTo_S8192x16_S_d0_1 : S8192x16.ReducesTo [0, 1] S_
  bcast_S_S1024 : S_.BroadcastsInDim S1024 (![] : Fin 0 → Fin S1024.rank)
  reducesTo_S1024_S_d0 : S1024.ReducesTo [0] S_
  bcast_S_S1024x4624 : S_.BroadcastsInDim S1024x4624 (![] : Fin 0 → Fin S1024x4624.rank)
  reducesTo_S1024x4624_S_d0_1 : S1024x4624.ReducesTo [0, 1] S_

variable [Facts]

def fn_part1 {F : FTy → Type} [FloatOps F] (main_arg4 : FVec F S8192x1024 .f32) (main_arg5 : FVec F S1024 .f32) (main_arg6 : FVec F S1024x4624 .f32) (main_v13 : IVec S_ 1) (main_v16 : IVec S8192x16 1) : IVec S_ 1 :=
  let main_c_5 : IVec S_ 1 := constantI S_ 1 1#1
  let main_v17 : IVec S_ 1 := (fun x v => Host.reduce IntOp.andi x v reducesTo_S8192x16_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x4624 .f32 := Host.absf main_arg6
  let main_cst_10 : FVec F S_ .f32 := constant S_ .f32 0x7F800000#32
  let main_v30 : FVec F S1024x4624 .f32 := broadcastInDim S1024x4624 ![] bcast_S_S1024x4624 main_cst_10
  let main_v31 : IVec S1024x4624 1 := cmpf .olt main_v29 main_v30
  let main_c_11 : IVec S_ 1 := constantI S_ 1 1#1
  let main_v32 : IVec S_ 1 := (fun x v => Host.reduce IntOp.andi x v reducesTo_S1024x4624_S_d0_1 h_S_) main_v31 main_c_11
  let main_v33 : IVec S_ 1 := andi main_v28 main_v32
  main_v33

def fn {F : FTy → Type} [FloatOps F] (main_arg0 : FVec F S8192x1024 .f32) (main_arg1 : FVec F S8192x2048 .f32) (main_arg2 : FVec F S8192x2560 .f32) (main_arg3 : FVec F S8192x16 .f32) (main_arg4 : FVec F S8192x1024 .f32) (main_arg5 : FVec F S1024 .f32) (main_arg6 : FVec F S1024x4624 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2560 .f32 := Host.absf main_arg2
  let main_cst_2 : FVec F S_ .f32 := constant S_ .f32 0x7F800000#32
  let main_v10 : FVec F S8192x2560 .f32 := broadcastInDim S8192x2560 ![] bcast_S_S8192x2560 main_cst_2
  let main_v11 : IVec S8192x2560 1 := cmpf .olt main_v9 main_v10
  let main_c_3 : IVec S_ 1 := constantI S_ 1 1#1
  let main_v12 : IVec S_ 1 := (fun x v => Host.reduce IntOp.andi x v reducesTo_S8192x2560_S_d0_1 h_S_) main_v11 main_c_3
  let main_v13 : IVec S_ 1 := andi main_v8 main_v12
  let main_v14 : FVec F S8192x16 .f32 := Host.absf main_arg3
  let main_cst_4 : FVec F S_ .f32 := constant S_ .f32 0x7F800000#32
  let main_v15 : FVec F S8192x16 .f32 := broadcastInDim S8192x16 ![] bcast_S_S8192x16 main_cst_4
  let main_v16 : IVec S8192x16 1 := cmpf .olt main_v14 main_v15
  fn_part1 (F := F) main_arg4 main_arg5 main_arg6 main_v13 main_v16
-- ==== Pre_out_finite.lean ====
abbrev S8192x1024 : Shape := ⟨2, ![8192, 1024]⟩
abbrev S2048x1024 : Shape := ⟨2, ![2048, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S8192x1024 .f32) (main_arg3 : FVec F S2048x1024 .f32) (main_arg4 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_v13 main_v16
-- ==== Pre_place_down.lean ====
abbrev S8x352x1024 : Shape := ⟨3, ![8, 352, 1024]⟩
abbrev S1 : Shape := ⟨1, ![1]⟩
abbrev S352x1024 : Shape := ⟨2, ![352, 1024]⟩
abbrev S_ : Shape := ⟨0, ![]⟩

class Facts : Prop where
  shapeCasts_S1_S_ : S1.ShapeCasts S_

variable [Facts]

def fn {F : FTy → Type} [FloatOps F] (main_arg0 : FVec F S8x352x1024 .f32) (main_arg1 : FVec F S8x352x1024 .f32) (main_arg2 : IVec S1 32) (main_arg3 : FVec F S352x1024 .f32) (main_arg4 : FVec F S352x1024 .f32) (main_arg5 : FVec F S352x1024 .f32) : IVec S_ 1 :=
  let main_v0 : IVec S_ 32 := shapeCast S_ main_arg2 shapeCasts_S1_S_
  let main_c : IVec S_ 32 := constantI S_ 32 0#32
  let main_v1 : IVec S_ 1 := cmpi .sge main_v0 main_c
  let main_v2 : IVec S_ 32 := shapeCast S_ main_arg2 shapeCasts_S1_S_
  let main_c_0 : IVec S_ 32 := constantI S_ 32 8#32
  let main_v3 : IVec S_ 1 := cmpi .slt main_v2 main_c_0
  let main_v4 : IVec S_ 1 := andi main_v1 main_v3
  main_v4
-- ==== Pre_place_ff.lean ====
abbrev S8x1024x352 : Shape := ⟨3, ![8, 1024, 352]⟩
abbrev S1 : Shape := ⟨1, ![1]⟩
abbrev S1024x352 : Shape := ⟨2, ![1024, 352]⟩
abbrev S_ : Shape := ⟨0, ![]⟩

class Facts : Prop where
  shapeCasts_S1_S_ : S1.ShapeCasts S_

variable [Facts]

def fn {F : FTy → Type} [FloatOps F] (main_arg0 : FVec F S8x1024x352 .f32) (main_arg1 : FVec F S8x1024x352 .f32) (main_arg2 : IVec S1 32) (main_arg3 : FVec F S1024x352 .f32) (main_arg4 : FVec F S1024x352 .f32) (main_arg5 : FVec F S1024x352 .f32) : IVec S_ 1 :=
  let main_v0 : IVec S_ 32 := shapeCast S_ main_arg2 shapeCasts_S1_S_
  let main_c : IVec S_ 32 := constantI S_ 32 0#32
  let main_v1 : IVec S_ 1 := cmpi .sge main_v0 main_c
  let main_v2 : IVec S_ 32 := shapeCast S_ main_arg2 shapeCasts_S1_S_
  let main_c_0 : IVec S_ 32 := constantI S_ 32 8#32
  let main_v3 : IVec S_ 1 := cmpi .slt main_v2 main_c_0
  let main_v4 : IVec S_ 1 := andi main_v1 main_v3
  main_v4
-- ==== Pre_place_in.lean ====
abbrev S8x1024x578 : Shape := ⟨3, ![8, 1024, 578]⟩
abbrev S1 : Shape := ⟨1, ![1]⟩
abbrev S1024x578 : Shape := ⟨2, ![1024, 578]⟩
abbrev S_ : Shape := ⟨0, ![]⟩

class Facts : Prop where
  shapeCasts_S1_S_ : S1.ShapeCasts S_

variable [Facts]

def fn {F : FTy → Type} [FloatOps F] (main_arg0 : FVec F S8x1024x578 .f32) (main_arg1 : FVec F S8x1024x578 .f32) (main_arg2 : IVec S1 32) (main_arg3 : FVec F S1024x578 .f32) (main_arg4 : FVec F S1024x578 .f32) (main_arg5 : FVec F S1024x578 .f32) : IVec S_ 1 :=
  let main_v0 : IVec S_ 32 := shapeCast S_ main_arg2 shapeCasts_S1_S_
  let main_c : IVec S_ 32 := constantI S_ 32 0#32
  let main_v1 : IVec S_ 1 := cmpi .sge main_v0 main_c
  let main_v2 : IVec S_ 32 := shapeCast S_ main_arg2 shapeCasts_S1_S_
  let main_c_0 : IVec S_ 32 := constantI S_ 32 8#32
  let main_v3 : IVec S_ 1 := cmpi .slt main_v2 main_c_0
  let main_v4 : IVec S_ 1 := andi main_v1 main_v3
  main_v4
-- ==== Pre_place_out.lean ====
abbrev S8x256x1024 : Shape := ⟨3, ![8, 256, 1024]⟩
abbrev S1 : Shape := ⟨1, ![1]⟩
abbrev S256x1024 : Shape := ⟨2, ![256, 1024]⟩
abbrev S_ : Shape := ⟨0, ![]⟩

class Facts : Prop where
  shapeCasts_S1_S_ : S1.ShapeCasts S_

variable [Facts]

def fn {F : FTy → Type} [FloatOps F] (main_arg0 : FVec F S8x256x1024 .f32) (main_arg1 : FVec F S8x256x1024 .f32) (main_arg2 : IVec S1 32) (main_arg3 : FVec F S256x1024 .f32) (main_arg4 : FVec F S256x1024 .f32) (main_arg5 : FVec F S256x1024 .f32) : IVec S_ 1 :=
  let main_v0 : IVec S_ 32 := shapeCast S_ main_arg2 shapeCasts_S1_S_
  let main_c : IVec S_ 32 := constantI S_ 32 0#32
  let main_v1 : IVec S_ 1 := cmpi .sge main_v0 main_c
  let main_v2 : IVec S_ 32 := shapeCast S_ main_arg2 shapeCasts_S1_S_
  let main_c_0 : IVec S_ 32 := constantI S_ 32 8#32
  let main_v3 : IVec S_ 1 := cmpi .slt main_v2 main_c_0
  let main_v4 : IVec S_ 1 := andi main_v1 main_v3
  main_v4
-- ==== Ffn.lean ====
abbrev S8192x1024 : Shape := ⟨2, ![8192, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S1x128 : Shape := ⟨2, ![1, 128]⟩
abbrev S256x1024 : Shape := ⟨2, ![256, 1024]⟩
abbrev S256x2816 : Shape := ⟨2, ![256, 2816]⟩
abbrev S3 : Shape := ⟨1, ![3]⟩
abbrev S1 : Shape := ⟨1, ![1]⟩
abbrev S256 : Shape := ⟨1, ![256]⟩
abbrev S256x1 : Shape := ⟨2, ![256, 1]⟩
abbrev S1x1 : Shape := ⟨2, ![1, 1]⟩

abbrev nBuf : Space → Nat
  | .hbm => 37
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S1024x2816, .bf16⟩
  | .hbm, ⟨25, _⟩ => ⟨S1024x2816, .bf16⟩
  | .hbm, ⟨26, _⟩ => ⟨S2816x1024, .bf16⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x2816, .bf16⟩
  | .hbm, ⟨31, _⟩ => ⟨S8192x1024, .bf16⟩
  | .hbm, ⟨32, _⟩ => ⟨S8192x2816, .bf16⟩
  | .hbm, ⟨33, _⟩ => ⟨S8192x2816, .bf16⟩
  | .hbm, ⟨34, _⟩ => ⟨S1x1024, .f32⟩
  | .hbm, ⟨35, _⟩ => ⟨S1x1024, .f32⟩
  | .hbm, ⟨36, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x2816, .bf16⟩
  | .local _ .vmem, ⟨11, _⟩ => ⟨S256x2816, .bf16⟩
  | .local _ .vmem, ⟨12, _⟩ => ⟨S256x1024, .bf16⟩
  | .local _ .vmem, ⟨13, _⟩ => ⟨S256x1024, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S1x1024, .f32⟩
  | .local _ .vmem, ⟨19, _⟩ => ⟨S1x1024, .f32⟩
  | .local _ .vmem, ⟨20, _⟩ => ⟨S1x128, .f32⟩
  | .local _ .vmem, ⟨21, _⟩ => ⟨S1024x2816, .bf16⟩
  | .local _ .vmem, ⟨22, _⟩ => ⟨S1024x2816, .bf16⟩
  | .local _ .vmem, ⟨23, _⟩ => ⟨S2816x1024, .bf16⟩
  | .local _ .vmem, ⟨24, _⟩ => ⟨S256x2816, .f32⟩
  | .local _ .vmem, ⟨25, _⟩ => ⟨S256x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev main_v19_3 : Ref sig .tc := ⟨.hbm, 32, rfl⟩
abbrev main_v19_4 : Ref sig .tc := ⟨.hbm, 33, rfl⟩
abbrev main_v19_5 : Ref sig .tc := ⟨.hbm, 34, rfl⟩
abbrev main_v19_6 : Ref sig .tc := ⟨.hbm, 35, rfl⟩
abbrev main_v19_7 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== FfnRefIdeal.lean ====
abbrev S8192x1024 : Shape := ⟨2, ![8192, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S8192x2816 : Shape := ⟨2, ![8192, 2816]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩
abbrev S1x127 : Shape := ⟨2, ![1, 127]⟩
abbrev S1x128 : Shape := ⟨2, ![1, 128]⟩

abbrev nBuf : Space → Nat
  | .hbm => 166
  | .vmem => 0
  | .smem => 0
  | _ => 0

abbrev hbmTy0_0 (i : Nat) : BufTy := match i % 128 with
  | 0 => ⟨S8192x1024, .f32⟩
  | 1 => ⟨S8192x1024, .f32⟩
  | 2 => ⟨S1024x2816, .f32⟩
  | 3 => ⟨S1024x2816, .f32⟩
  | 4 => ⟨S2816x1024, .f32⟩
  | 5 => ⟨S1024, .f32⟩
  | 6 => ⟨S1024, .f32⟩
  | 7 => ⟨S_, .f32⟩
  | 8 => ⟨S8192x2816, .f32⟩
  | 9 => ⟨S_, .f32⟩
  | 10 => ⟨S8192x1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S1x1024, .f32⟩
  | 29 => ⟨S8192x1024, .f32⟩
  | 30 => ⟨S8192x1024, .f32⟩
  | 31 => ⟨S8192x2816, .f32⟩
  | 32 => ⟨S8192x2816, .f32⟩
  | 33 => ⟨S8192x2816, .f32⟩
  | 34 => ⟨S8192x2816, .f32⟩
  | 35 => ⟨S_, .f32⟩
  | 36 => ⟨S8192x2816, .f32⟩
  | 37 => ⟨S8192x2816, .f32⟩
  | 38 => ⟨S_, .f32⟩
  | 39 => ⟨S8192x2816, .f32⟩
  | 40 => ⟨S8192x2816, .f32⟩
  | 41 => ⟨S_, .f32⟩
  | 42 => ⟨S8192x2816, .f32⟩
  | 43 => ⟨S8192x2816, .f32⟩
  | 44 => ⟨S8192x2816, .f32⟩
  | 45 => ⟨S8192x2816, .f32⟩
  | 46 => ⟨S8192x2816, .f32⟩
  | 47 => ⟨S8192x2816, .f32⟩
  | 48 => ⟨S8192x2816, .f32⟩
  | 49 => ⟨S8192x1024, .f32⟩
  | 50 => ⟨S8192x1024, .f32⟩
  | 51 => ⟨S8192x1024, .f32⟩
  | 52 => ⟨S_, .f32⟩
  | 53 => ⟨S8192, .f32⟩
  | 54 => ⟨S8192x1, .f32⟩
  | 55 => ⟨S_, .f32⟩
  | 56 => ⟨S8192x1, .f32⟩
  | 57 => ⟨S8192x1, .f32⟩
  | 58 => ⟨S_, .f32⟩
  | 59 => ⟨S8192x1, .f32⟩
  | 60 => ⟨S8192x1, .f32⟩
  | 61 => ⟨S8192x1, .f32⟩
  | 62 => ⟨S8192x1, .f32⟩
  | 63 => ⟨S_, .f32⟩
  | 64 => ⟨S8192x1, .f32⟩
  | 65 => ⟨S8192x1, .f32⟩
  | 66 => ⟨S8192x1024, .f32⟩
  | 67 => ⟨S8192x1024, .f32⟩
  | 68 => ⟨S1x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S_, .f32⟩
  | 75 => ⟨S8192x1024, .f32⟩
  | 76 => ⟨S8192x1024, .f32⟩
  | 77 => ⟨S_, .f32⟩
  | 78 => ⟨S8192, .f32⟩
  | 79 => ⟨S_, .f32⟩
  | 80 => ⟨S8192, .f32⟩
  | 81 => ⟨S8192, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S8192, .f32⟩
  | 90 => ⟨S_, .f32⟩
  | 91 => ⟨S8192, .f32⟩
  | 92 => ⟨S8192, .f32⟩
  | 93 => ⟨S8192x1024, .f32⟩
  | 94 => ⟨S8192x1024, .f32⟩
  | 95 => ⟨S8192x1024, .f32⟩
  | 96 => ⟨S_, .f32⟩
  | 97 => ⟨S1024, .f32⟩
  | 98 => ⟨S1x1024, .f32⟩
  | 99 => ⟨S8192x1024, .f32⟩
  | 100 => ⟨S8192x1024, .f32⟩
  | 101 => ⟨S_, .f32⟩
  | 102 => ⟨S1024, .f32⟩
  | 103 => ⟨S8192x1024, .f32⟩
  | 104 => ⟨S_, .f32⟩
  | 105 => ⟨S8192, .f32⟩
  | 106 => ⟨S8192x1, .f32⟩
  | 107 => ⟨S8192x1024, .f32⟩
  | 108 => ⟨S8192x1024, .f32⟩
  | 109 => ⟨S8192x1, .f32⟩
  | 110 => ⟨S_, .f32⟩
  | 111 => ⟨S8192x1, .f32⟩
  | 112 => ⟨S8192x1, .f32⟩
  | 113 => ⟨S_, .f32⟩
  | 114 => ⟨S8192, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S8192x2816, .f32⟩
  | 121 => ⟨S8192x2816, .f32⟩
  | 122 => ⟨S8192x2816, .f32⟩
  | 123 => ⟨S8192x1024, .f32⟩
  | 124 => ⟨S8192x2816, .f32⟩
  | 125 => ⟨S8192x2816, .f32⟩
  | 126 => ⟨S8192x2816, .f32⟩
  | 127 => ⟨S8192x2816, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S_, .f32⟩
  | 4 => ⟨S1024, .f32⟩
  | 5 => ⟨S1x1024, .f32⟩
  | 6 => ⟨S8192x1024, .f32⟩
  | 7 => ⟨S8192x1024, .f32⟩
  | 8 => ⟨S_, .f32⟩
  | 9 => ⟨S1024, .f32⟩
  | 10 => ⟨S8192x1024, .f32⟩
  | 11 => ⟨S_, .f32⟩
  | 12 => ⟨S8192, .f32⟩
  | 13 => ⟨S8192x1, .f32⟩
  | 14 => ⟨S8192x1024, .f32⟩
  | 15 => ⟨S8192x1024, .f32⟩
  | 16 => ⟨S8192x1024, .f32⟩
  | 17 => ⟨S8192x1, .f32⟩
  | 18 => ⟨S_, .f32⟩
  | 19 => ⟨S8192x1, .f32⟩
  | 20 => ⟨S8192x1, .f32⟩
  | 21 => ⟨S_, .f32⟩
  | 22 => ⟨S8192, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S8192x2816, .bf16⟩
  | 29 => ⟨S8192x1024, .bf16⟩
  | 30 => ⟨S8192x2816, .bf16⟩
  | 31 => ⟨S8192x2816, .bf16⟩
  | 32 => ⟨S1x1024, .f32⟩
  | 33 => ⟨S1x1024, .f32⟩
  | 34 => ⟨S1x1, .f32⟩
  | 35 => ⟨S_, .f32⟩
  | 36 => ⟨S1x127, .f32⟩
  | 37 => ⟨S1x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v20_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v20_1 : Ref sig .tc := ⟨.hbm, 44, rfl⟩
abbrev main_v20_0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_cst_10 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_v49 : Ref sig .tc := ⟨.hbm, 81, rfl⟩
abbrev main_cst_12 : Ref sig .tc := ⟨.hbm, 82, rfl⟩
abbrev main_v50 : Ref sig .tc := ⟨.hbm, 83, rfl⟩
abbrev main_cst_13 : Ref sig .tc := ⟨.hbm, 84, rfl⟩
abbrev main_v51 : Ref sig .tc := ⟨.hbm, 85, rfl⟩
abbrev main_cst_14 : Ref sig .tc := ⟨.hbm, 86, rfl⟩
abbrev main_cst_15 : Ref sig .tc := ⟨.hbm, 87, rfl⟩
abbrev main_v52 : Ref sig .tc := ⟨.hbm, 88, rfl⟩
abbrev main_v53 : Ref sig .tc := ⟨.hbm, 89, rfl⟩
abbrev main_cst_16 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_17 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_18 : Ref sig .tc := ⟨.hbm, 101, rfl⟩
abbrev main_v63 : Ref sig .tc := ⟨.hbm, 102, rfl⟩
abbrev main_v64 : Ref sig .tc := ⟨.hbm, 103, rfl⟩
abbrev main_cst_19 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_20 : Ref sig .tc := ⟨.hbm, 110, rfl⟩
abbrev main_v70 : Ref sig .tc := ⟨.hbm, 111, rfl⟩
abbrev main_v71 : Ref sig .tc := ⟨.hbm, 112, rfl⟩
abbrev main_cst_21 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_call1_v0 : Ref sig .tc := ⟨.hbm, 124, rfl⟩
abbrev main_call1_v1 : Ref sig .tc := ⟨.hbm, 125, rfl⟩
abbrev main_call1_v2 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_22 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_23 : Ref sig .tc := ⟨.hbm, 136, rfl⟩
abbrev main_v90 : Ref sig .tc := ⟨.hbm, 137, rfl⟩
abbrev main_v91 : Ref sig .tc := ⟨.hbm, 138, rfl⟩
abbrev main_cst_24 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_cst_25 : Ref sig .tc := ⟨.hbm, 146, rfl⟩
abbrev main_v98 : Ref sig .tc := ⟨.hbm, 147, rfl⟩
abbrev main_v99 : Ref sig .tc := ⟨.hbm, 148, rfl⟩
abbrev main_cst_26 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_27 : Ref sig .tc := ⟨.hbm, 163, rfl⟩
abbrev main_v113 : Ref sig .tc := ⟨.hbm, 164, rfl⟩
abbrev main_v114 : Ref sig .tc := ⟨.hbm, 165, rfl⟩

abbrev nD : Nat := 1
abbrev τ : Topo := Topo.v7x

variable {F : FTy → Type} [FloatOps F]
-- ==== InBwd.lean ====
abbrev S8192x1024 : Shape := ⟨2, ![8192, 1024]⟩
abbrev S8192x2048 : Shape := ⟨2, ![8192, 2048]⟩
abbrev S8192x2560 : Shape := ⟨2, ![8192, 2560]⟩
abbrev S8192x16 : Shape := ⟨2, ![8192, 16]⟩
abbrev S1024 : Shape := ⟨1, ![1024]⟩
abbrev S1024x4624 : Shape := ⟨2, ![1024, 4624]⟩
abbrev S1024x16 : Shape := ⟨2, ![1024, 16]⟩
abbrev S_ : Shape := ⟨0, ![]⟩
abbrev S1024x128 : Shape := ⟨2, ![1024, 128]⟩
abbrev S8192x128 : Shape := ⟨2, ![8192, 128]⟩
abbrev S1x1024 : Shape := ⟨2, ![1, 1024]⟩
abbrev S1024x4608 : Shape := ⟨2, ![1024, 4608]⟩
abbrev S512x2048 : Shape := ⟨2, ![512, 2048]⟩
abbrev S512x2560 : Shape := ⟨2, ![512, 2560]⟩
abbrev S512x128 : Shape := ⟨2, ![512, 128]⟩
abbrev S512x1024 : Shape := ⟨2, ![512, 1024]⟩
abbrev S2 : Shape := ⟨1, ![2]⟩
abbrev S1 : Shape := ⟨1, ![1]⟩
abbrev S1024x2048 : Shape := ⟨2, ![1024, 2048]⟩
abbrev S1024x2560 : Shape := ⟨2, ![1024, 2560]⟩
abbrev S512 : Shape := ⟨1, ![512]⟩
abbrev S512x1 : Shape := ⟨2, ![512, 1]⟩

abbrev nBuf : Space → Nat
  | .hbm => 22
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2560, .f32⟩
  | .hbm, ⟨3, _⟩ => ⟨S8192x16, .f32⟩
  | .hbm, ⟨4, _⟩ => ⟨S8192x1024, .f32⟩
  | .hbm, ⟨5, _⟩ => ⟨S1024, .f32⟩
  | .hbm, ⟨6, _⟩ => ⟨S1024x4624, .f32⟩
  | .hbm, ⟨7, _⟩ => ⟨S1024x4624, .bf16⟩
  | .hbm, ⟨8, _⟩ => ⟨S1024x16, .bf16⟩
  | .hbm, ⟨9, _⟩ => ⟨S_, .i32⟩
  | .hbm, ⟨10, _⟩ => ⟨S_, .bf16⟩
  | .hbm, ⟨11, _⟩ => ⟨S1024x128, .bf16⟩
  | .hbm, ⟨12, _⟩ => ⟨S8192x16, .bf16⟩
  | .hbm, ⟨13, _⟩ => ⟨S_, .i32⟩
  | .hbm, ⟨14, _⟩ => ⟨S_, .bf16⟩
  | .hbm, ⟨15, _⟩ => ⟨S8192x128, .bf16⟩
  | .hbm, ⟨16, _⟩ => ⟨S8192x2048, .bf16⟩
  | .hbm, ⟨17, _⟩ => ⟨S8192x2560, .bf16⟩
  | .hbm, ⟨18, _⟩ => ⟨S1x1024, .f32⟩
  | .hbm, ⟨19, _⟩ => ⟨S1024x4608, .bf16⟩
  | .hbm, ⟨20, _⟩ => ⟨S8192x1024, .f32⟩
  | .hbm, ⟨21, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x2560, .bf16⟩
  | .local _ .vmem, ⟨3, _⟩ => ⟨S512x2560, .bf16⟩
  | .local _ .vmem, ⟨4, _⟩ => ⟨S512x128, .bf16⟩
  | .local _ .vmem, ⟨5, _⟩ => ⟨S512x128, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1024x4608, .bf16⟩
  | .local _ .vmem, ⟨15, _⟩ => ⟨S1024x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InBwdRefIdeal.lean ====
abbrev S8192x1024 : Shape := ⟨2, ![8192, 1024]⟩
abbrev S8192x2048 : Shape := ⟨2, ![8192, 2048]⟩
abbrev S8192x2560 : Shape := ⟨2, ![8192, 2560]⟩
abbrev S8192x16 : Shape := ⟨2, ![8192, 16]⟩
abbrev S1024 : Shape := ⟨1, ![1024]⟩
abbrev S1024x4624 : Shape := ⟨2, ![1024, 4624]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4624 : Shape := ⟨2, ![8192, 4624]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2560, .f32⟩
  | .hbm, ⟨3, _⟩ => ⟨S8192x16, .f32⟩
  | .hbm, ⟨4, _⟩ => ⟨S8192x1024, .f32⟩
  | .hbm, ⟨5, _⟩ => ⟨S1024, .f32⟩
  | .hbm, ⟨6, _⟩ => ⟨S1024x4624, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x4624, .f32⟩
  | .hbm, ⟨28, _⟩ => ⟨S8192x4624, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== DwIn.lean ====
abbrev S8192x1024 : Shape := ⟨2, ![8192, 1024]⟩
abbrev S8192x2048 : Shape := ⟨2, ![8192, 2048]⟩
abbrev S8192x2560 : Shape := ⟨2, ![8192, 2560]⟩
abbrev S8192x16 : Shape := ⟨2, ![8192, 16]⟩
abbrev S_ : Shape := ⟨0, ![]⟩
abbrev S8192x128 : Shape := ⟨2, ![8192, 128]⟩
abbrev S8x1024x578 : Shape := ⟨3, ![8, 1024, 578]⟩
abbrev S512x1024 : Shape := ⟨2, ![512, 1024]⟩
abbrev S512x2048 : Shape := ⟨2, ![512, 2048]⟩
abbrev S512x2560 : Shape := ⟨2, ![512, 2560]⟩
abbrev S512x128 : Shape := ⟨2, ![512, 128]⟩
abbrev S1024x4736 : Shape := ⟨2, ![1024, 4736]⟩
abbrev S1024x2048 : Shape := ⟨2, ![1024, 2048]⟩
abbrev S1024x2560 : Shape := ⟨2, ![1024, 2560]⟩
abbrev S1024x128 : Shape := ⟨2, ![1024, 128]⟩
abbrev S1024x578 : Shape := ⟨2, ![1024, 578]⟩
abbrev S1x1024x578 : Shape := ⟨3, ![1, 1024, 578]⟩

abbrev nBuf : Space → Nat
  | .hbm => 12
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2560, .f32⟩
  | .hbm, ⟨3, _⟩ => ⟨S8192x16, .f32⟩
  | .hbm, ⟨4, _⟩ => ⟨S8192x16, .bf16⟩
  | .hbm, ⟨5, _⟩ => ⟨S_, .i32⟩
  | .hbm, ⟨6, _⟩ => ⟨S_, .bf16⟩
  | .hbm, ⟨7, _⟩ => ⟨S8192x128, .bf16⟩
  | .hbm, ⟨8, _⟩ => ⟨S8192x1024, .bf16⟩
  | .hbm, ⟨9, _⟩ => ⟨S8192x2048, .bf16⟩
  | .hbm, ⟨10, _⟩ => ⟨S8192x2560, .bf16⟩
  | .hbm, ⟨11, _⟩ => ⟨S8x1024x578, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x2560, .bf16⟩
  | .local _ .vmem, ⟨5, _⟩ => ⟨S512x2560, .bf16⟩
  | .local _ .vmem, ⟨6, _⟩ => ⟨S512x128, .bf16⟩
  | .local _ .vmem, ⟨7, _⟩ => ⟨S512x128, .bf16⟩
  | .local _ .vmem, ⟨8, _⟩ => ⟨S8x1024x578, .bf16⟩
  | .local _ .vmem, ⟨9, _⟩ => ⟨S1024x4736, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v29 : BitVec 1 := Scalar.cmpi .eq arg0 c15_i32
  let v30 : BitVec 32 := Scalar.extui v29
  let c0_i32_20 : BitVec 32 := 0#32
  let v31 : BitVec 1 := Scalar.cmpi .ne v30 c0_i32_20
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024x578 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DwInRefIdeal.lean ====
abbrev S8192x1024 : Shape := ⟨2, ![8192, 1024]⟩
abbrev S8192x2048 : Shape := ⟨2, ![8192, 2048]⟩
abbrev S8192x2560 : Shape := ⟨2, ![8192, 2560]⟩
abbrev S8192x16 : Shape := ⟨2, ![8192, 16]⟩
abbrev S8192x4624 : Shape := ⟨2, ![8192, 4624]⟩
abbrev S_ : Shape := ⟨0, ![]⟩
abbrev S1024x4624 : Shape := ⟨2, ![1024, 4624]⟩
abbrev S4624x1024 : Shape := ⟨2, ![4624, 1024]⟩
abbrev S1024x8x578 : Shape := ⟨3, ![1024, 8, 578]⟩
abbrev S8x1024x578 : Shape := ⟨3, ![8, 1024, 578]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2560, .f32⟩
  | .hbm, ⟨3, _⟩ => ⟨S8192x16, .f32⟩
  | .hbm, ⟨4, _⟩ => ⟨S8192x4624, .f32⟩
  | .hbm, ⟨5, _⟩ => ⟨S_, .f32⟩
  | .hbm, ⟨6, _⟩ => ⟨S1024x4624, .f32⟩
  | .hbm, ⟨7, _⟩ => ⟨S8192x4624, .f32⟩
  | .hbm, ⟨8, _⟩ => ⟨S4624x1024, .f32⟩
  | .hbm, ⟨9, _⟩ => ⟨S1024x4624, .f32⟩
  | .hbm, ⟨10, _⟩ => ⟨S1024x8x578, .f32⟩
  | .hbm, ⟨11, _⟩ => ⟨S8x1024x578, .f32⟩
  | .hbm, ⟨12, _⟩ => ⟨S8x1024x578, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== DwFf.lean ====
abbrev S8192x1024 : Shape := ⟨2, ![8192, 1024]⟩
abbrev S8192x2816 : Shape := ⟨2, ![8192, 2816]⟩
abbrev S8x1024x352 : Shape := ⟨3, ![8, 1024, 352]⟩
abbrev S1024x1024 : Shape := ⟨2, ![1024, 1024]⟩
abbrev S1024x2816 : Shape := ⟨2, ![1024, 2816]⟩
abbrev S1024x352 : Shape := ⟨2, ![1024, 352]⟩
abbrev S1x1024x352 : Shape := ⟨3, ![1, 1024, 352]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x1024, .bf16⟩
  | .hbm, ⟨3, _⟩ => ⟨S8192x2816, .bf16⟩
  | .hbm, ⟨4, _⟩ => ⟨S8x1024x352, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S8x1024x352, .bf16⟩
  | .local _ .vmem, ⟨5, _⟩ => ⟨S1024x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwFfRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S1024x8x352 : Shape := ⟨3, ![1024, 8, 352]⟩
abbrev S8x1024x352 : Shape := ⟨3, ![8, 1024, 352]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S1024x8x352, .f32⟩
  | .hbm, ⟨8, _⟩ => ⟨S8x1024x352, .f32⟩
  | .hbm, ⟨9, _⟩ => ⟨S8x1024x352, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwDown.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwOut.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwOutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InFwd.lean ====
abbrev S8192x1024 : Shape := ⟨2, ![8192, 1024]⟩
abbrev S1024 : Shape := ⟨1, ![1024]⟩
abbrev S1024x4624 : Shape := ⟨2, ![1024, 4624]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S1024x4608 : Shape := ⟨2, ![1024, 4608]⟩
abbrev S8192x4608 : Shape := ⟨2, ![8192, 4608]⟩
abbrev S8192x128 : Shape := ⟨2, ![8192, 128]⟩
abbrev S512x1024 : Shape := ⟨2, ![512, 1024]⟩
abbrev S512x4608 : Shape := ⟨2, ![512, 4608]⟩
abbrev S512x128 : Shape := ⟨2, ![512, 128]⟩
abbrev S2 : Shape := ⟨1, ![2]⟩
abbrev S1 : Shape := ⟨1, ![1]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4624, .f32⟩
  | .hbm, ⟨3, _⟩ => ⟨S1024x4624, .bf16⟩
  | .hbm, ⟨4, _⟩ => ⟨S1024x16, .bf16⟩
  | .hbm, ⟨5, _⟩ => ⟨S_, .i32⟩
  | .hbm, ⟨6, _⟩ => ⟨S_, .bf16⟩
  | .hbm, ⟨7, _⟩ => ⟨S1024x128, .bf16⟩
  | .hbm, ⟨8, _⟩ => ⟨S1x1024, .f32⟩
  | .hbm, ⟨9, _⟩ => ⟨S1024x4608, .bf16⟩
  | .hbm, ⟨10, _⟩ => ⟨S8192x1024, .bf16⟩
  | .hbm, ⟨11, _⟩ => ⟨S8192x4608, .f32⟩
  | .hbm, ⟨12, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x4608, .f32⟩
  | .local _ .vmem, ⟨6, _⟩ => ⟨S512x4608, .f32⟩
  | .local _ .vmem, ⟨7, _⟩ => ⟨S512x128, .f32⟩
  | .local _ .vmem, ⟨8, _⟩ => ⟨S512x128, .f32⟩
  | .local _ .vmem, ⟨9, _⟩ => ⟨S1024x4608, .bf16⟩
  | .local _ .vmem, ⟨10, _⟩ => ⟨S1024x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4608 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InFwdRefIdeal.lean ====
abbrev S8192x1024 : Shape := ⟨2, ![8192, 1024]⟩
abbrev S1024 : Shape := ⟨1, ![1024]⟩
abbrev S1024x4624 : Shape := ⟨2, ![1024, 4624]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4624 : Shape := ⟨2, ![8192, 4624]⟩
abbrev S8192x16 : Shape := ⟨2, ![8192, 16]⟩
abbrev S8192x112 : Shape := ⟨2, ![8192, 112]⟩
abbrev S8192x128 : Shape := ⟨2, ![8192, 128]⟩
abbrev S8192x4608 : Shape := ⟨2, ![8192, 4608]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4624, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x4624, .f32⟩
  | .hbm, ⟨20, _⟩ => ⟨S8192x16, .f32⟩
  | .hbm, ⟨21, _⟩ => ⟨S_, .f32⟩
  | .hbm, ⟨22, _⟩ => ⟨S8192x112, .f32⟩
  | .hbm, ⟨23, _⟩ => ⟨S8192x128, .f32⟩
  | .hbm, ⟨24, _⟩ => ⟨S8192x1024, .bf16⟩
  | .hbm, ⟨25, _⟩ => ⟨S8192x4608, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== OutFwd.lean ====
abbrev S8192x1024 : Shape := ⟨2, ![8192, 1024]⟩
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 14
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S8192x1024, .bf16⟩
  | .hbm, ⟨7, _⟩ => ⟨S8192x1024, .bf16⟩
  | .hbm, ⟨8, _⟩ => ⟨S2048x1024, .bf16⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutFwdRefIdeal.lean ====
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S8192x2048, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== OutBwd.lean ====
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 13
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S8192x2048, .f32⟩
  | .hbm, ⟨6, _⟩ => ⟨S8192x1024, .f32⟩
  | .hbm, ⟨7, _⟩ => ⟨S2048x1024, .bf16⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2048x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== OutBwdRefIdeal.lean ====
abbrev S8192x1024 : Shape := ⟨2, ![8192, 1024]⟩
abbrev S2048x1024 : Shape := ⟨2, ![2048, 1024]⟩
abbrev S1024 : Shape := ⟨1, ![1024]⟩
abbrev S_ : Shape := ⟨0, ![]⟩
abbrev S8192x2048 : Shape := ⟨2, ![8192, 2048]⟩
abbrev S8192 : Shape := ⟨1, ![8192]⟩
abbrev S8192x1 : Shape := ⟨2, ![8192, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x2048, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x2048, .f32⟩
  | .hbm, ⟨56, _⟩ => ⟨S8192x1024, .f32⟩
  | .hbm, ⟨57, _⟩ => ⟨S8192x1024, .f32⟩
  | .hbm, ⟨58, _⟩ => ⟨S8192x1024, .bf16⟩
  | .hbm, ⟨59, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== AdamIn.lean ====
abbrev S8x1024x578 : Shape := ⟨3, ![8, 1024, 578]⟩
abbrev S1 : Shape := ⟨1, ![1]⟩
abbrev S1024x578 : Shape := ⟨2, ![1024, 578]⟩
abbrev S8x256x578 : Shape := ⟨3, ![8, 256, 578]⟩
abbrev S1x256x578 : Shape := ⟨3, ![1, 256, 578]⟩
abbrev S256x578 : Shape := ⟨2, ![256, 578]⟩

abbrev nBuf : Space → Nat
  | .hbm => 11
  | .vmem => 18
  | .smem => 1
  | _ => 0

abbrev bufTy : (tb : Table) → Fin (tcTables nBuf tb) → BufTy
  | .hbm, ⟨0, _⟩ => ⟨S8x1024x578, .f32⟩
  | .hbm, ⟨1, _⟩ => ⟨S8x1024x578, .f32⟩
  | .hbm, ⟨2, _⟩ => ⟨S1024x578, .f32⟩
  | .hbm, ⟨3, _⟩ => ⟨S1024x578, .f32⟩
  | .hbm, ⟨4, _⟩ => ⟨S1024x578, .f32⟩
  | .hbm, ⟨5, _⟩ => ⟨S8x1024x578, .bf16⟩
  | .hbm, ⟨6, _⟩ => ⟨S8x1024x578, .bf16⟩
  | .hbm, ⟨7, _⟩ => ⟨S1024x578, .f32⟩
  | .hbm, ⟨8, _⟩ => ⟨S1024x578, .f32⟩
  | .hbm, ⟨9, _⟩ => ⟨S1024x578, .f32⟩
  | .hbm, ⟨10, _⟩ => ⟨S1024x578, .f32⟩
  | .local _ .vmem, ⟨0, _⟩ => ⟨S8x256x578, .bf16⟩
  | .local _ .vmem, ⟨1, _⟩ => ⟨S8x256x578, .bf16⟩
  | .local _ .vmem, ⟨2, _⟩ => ⟨S1x256x578, .bf16⟩
  | .local _ .vmem, ⟨3, _⟩ => ⟨S1x256x578, .bf16⟩
  | .local _ .vmem, ⟨4, _⟩ => ⟨S256x578, .f32⟩
  | .local _ .vmem, ⟨5, _⟩ => ⟨S256x578, .f32⟩
  | .local _ .vmem, ⟨6, _⟩ => ⟨S256x578, .f32⟩
  | .local _ .vmem, ⟨7, _⟩ => ⟨S256x578, .f32⟩
  | .local _ .vmem, ⟨8, _⟩ => ⟨S256x578, .f32⟩
  | .local _ .vmem, ⟨9, _⟩ => ⟨S256x578, .f32⟩
  | .local _ .vmem, ⟨10, _⟩ => ⟨S256x578, .f32⟩
  | .local _ .vmem, ⟨11, _⟩ => ⟨S256x578, .f32⟩
  | .local _ .vmem, ⟨12, _⟩ => ⟨S256x578, .f32⟩
  | .local _ .vmem, ⟨13, _⟩ => ⟨S256x578, .f32⟩
  | .local _ .vmem, ⟨14, _⟩ => ⟨S256x578, .f32⟩
  | .local _ .vmem, ⟨15, _⟩ => ⟨S256x578, .f32⟩
  | .local _ .vmem, ⟨16, _⟩ => ⟨S256x578, .f32⟩
  | .local _ .vmem, ⟨17, _⟩ => ⟨S256x578, .f32⟩
  | .local _ .smem, ⟨0, _⟩ => ⟨S1, .i32⟩
  | _, _ => ⟨S8x1024x578, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x578 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x578 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x578 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x578 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x578 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x578 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x578 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x578 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x578 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInIdeal.lean ====
abbrev S8x1024x578 : Shape := ⟨3, ![8, 1024, 578]⟩
abbrev S1 : Shape := ⟨1, ![1]⟩
abbrev S1024x578 : Shape := ⟨2, ![1024, 578]⟩
abbrev S8x256x578 : Shape := ⟨3, ![8, 256, 578]⟩
abbrev S1x256x578 : Shape := ⟨3, ![1, 256, 578]⟩
abbrev S256x578 : Shape := ⟨2, ![256, 578]⟩

abbrev nBuf : Space → Nat
  | .hbm => 11
  | .vmem => 18
  | .smem => 1
  | _ => 0

abbrev bufTy : (tb : Table) → Fin (tcTables nBuf tb) → BufTy
  | .hbm, ⟨0, _⟩ => ⟨S8x1024x578, .f32⟩
  | .hbm, ⟨1, _⟩ => ⟨S8x1024x578, .f32⟩
  | .hbm, ⟨2, _⟩ => ⟨S1024x578, .f32⟩
  | .hbm, ⟨3, _⟩ => ⟨S1024x578, .f32⟩
  | .hbm, ⟨4, _⟩ => ⟨S1024x578, .f32⟩
  | .hbm, ⟨5, _⟩ => ⟨S8x1024x578, .bf16⟩
  | .hbm, ⟨6, _⟩ => ⟨S8x1024x578, .bf16⟩
  | .hbm, ⟨7, _⟩ => ⟨S1024x578, .f32⟩
  | .hbm, ⟨8, _⟩ => ⟨S1024x578, .f32⟩
  | .hbm, ⟨9, _⟩ => ⟨S1024x578, .f32⟩
  | .hbm, ⟨10, _⟩ => ⟨S1024x578, .f32⟩
  | .local _ .vmem, ⟨0, _⟩ => ⟨S8x256x578, .bf16⟩
  | .local _ .vmem, ⟨1, _⟩ => ⟨S8x256x578, .bf16⟩
  | .local _ .vmem, ⟨2, _⟩ => ⟨S1x256x578, .bf16⟩
  | .local _ .vmem, ⟨3, _⟩ => ⟨S1x256x578, .bf16⟩
  | .local _ .vmem, ⟨4, _⟩ => ⟨S256x578, .f32⟩
  | .local _ .vmem, ⟨5, _⟩ => ⟨S256x578, .f32⟩
  | .local _ .vmem, ⟨6, _⟩ => ⟨S256x578, .f32⟩
  | .local _ .vmem, ⟨7, _⟩ => ⟨S256x578, .f32⟩
  | .local _ .vmem, ⟨8, _⟩ => ⟨S256x578, .f32⟩
  | .local _ .vmem, ⟨9, _⟩ => ⟨S256x578, .f32⟩
  | .local _ .vmem, ⟨10, _⟩ => ⟨S256x578, .f32⟩
  | .local _ .vmem, ⟨11, _⟩ => ⟨S256x578, .f32⟩
  | .local _ .vmem, ⟨12, _⟩ => ⟨S256x578, .f32⟩
  | .local _ .vmem, ⟨13, _⟩ => ⟨S256x578, .f32⟩
  | .local _ .vmem, ⟨14, _⟩ => ⟨S256x578, .f32⟩
  | .local _ .vmem, ⟨15, _⟩ => ⟨S256x578, .f32⟩
  | .local _ .vmem, ⟨16, _⟩ => ⟨S256x578, .f32⟩
  | .local _ .vmem, ⟨17, _⟩ => ⟨S256x578, .f32⟩
  | .local _ .smem, ⟨0, _⟩ => ⟨S1, .i32⟩
  | _, _ => ⟨S8x1024x578, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x578 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x578 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x578 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x578 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x578 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x578 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x578 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x578 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x578 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInRefIdeal.lean ====
abbrev S8x1024x578 : Shape := ⟨3, ![8, 1024, 578]⟩
abbrev S1 : Shape := ⟨1, ![1]⟩
abbrev S1024x578 : Shape := ⟨2, ![1024, 578]⟩
abbrev S8 : Shape := ⟨1, ![8]⟩
abbrev S8x1x1 : Shape := ⟨3, ![8, 1, 1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x1024x578, .f32⟩
  | .hbm, ⟨1, _⟩ => ⟨S8x1024x578, .f32⟩
  | .hbm, ⟨2, _⟩ => ⟨S1, .i32⟩
  | .hbm, ⟨3, _⟩ => ⟨S1024x578, .f32⟩
  | .hbm, ⟨4, _⟩ => ⟨S1024x578, .f32⟩
  | .hbm, ⟨5, _⟩ => ⟨S1024x578, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S8x1024x578, .i1⟩
  | .hbm, ⟨12, _⟩ => ⟨S8x1024x578, .f32⟩
  | .hbm, ⟨13, _⟩ => ⟨S_, .f32⟩
  | .hbm, ⟨14, _⟩ => ⟨S1024x578, .f32⟩
  | .hbm, ⟨15, _⟩ => ⟨S_, .f32⟩
  | .hbm, ⟨16, _⟩ => ⟨S1024x578, .f32⟩
  | .hbm, ⟨17, _⟩ => ⟨S1024x578, .f32⟩
  | .hbm, ⟨18, _⟩ => ⟨S_, .f32⟩
  | .hbm, ⟨19, _⟩ => ⟨S1024x578, .f32⟩
  | .hbm, ⟨20, _⟩ => ⟨S1024x578, .f32⟩
  | .hbm, ⟨21, _⟩ => ⟨S1024x578, .f32⟩
  | .hbm, ⟨22, _⟩ => ⟨S_, .f32⟩
  | .hbm, ⟨23, _⟩ => ⟨S1024x578, .f32⟩
  | .hbm, ⟨24, _⟩ => ⟨S1024x578, .f32⟩
  | .hbm, ⟨25, _⟩ => ⟨S1024x578, .f32⟩
  | .hbm, ⟨26, _⟩ => ⟨S_, .f32⟩
  | .hbm, ⟨27, _⟩ => ⟨S1024x578, .f32⟩
  | .hbm, ⟨28, _⟩ => ⟨S1024x578, .f32⟩
  | .hbm, ⟨29, _⟩ => ⟨S1024x578, .f32⟩
  | .hbm, ⟨30, _⟩ => ⟨S_, .f32⟩
  | .hbm, ⟨31, _⟩ => ⟨S1024x578, .f32⟩
  | .hbm, ⟨32, _⟩ => ⟨S1024x578, .f32⟩
  | .hbm, ⟨33, _⟩ => ⟨S_, .f32⟩
  | .hbm, ⟨34, _⟩ => ⟨S1024x578, .f32⟩
  | .hbm, ⟨35, _⟩ => ⟨S1024x578, .f32⟩
  | .hbm, ⟨36, _⟩ => ⟨S1024x578, .f32⟩
  | .hbm, ⟨37, _⟩ => ⟨S_, .f32⟩
  | .hbm, ⟨38, _⟩ => ⟨S1024x578, .f32⟩
  | .hbm, ⟨39, _⟩ => ⟨S1024x578, .f32⟩
  | .hbm, ⟨40, _⟩ => ⟨S1024x578, .f32⟩
  | .hbm, ⟨41, _⟩ => ⟨S_, .f32⟩
  | .hbm, ⟨42, _⟩ => ⟨S1024x578, .f32⟩
  | .hbm, ⟨43, _⟩ => ⟨S1024x578, .f32⟩
  | .hbm, ⟨44, _⟩ => ⟨S1024x578, .f32⟩
  | .hbm, ⟨45, _⟩ => ⟨S_, .f32⟩
  | .hbm, ⟨46, _⟩ => ⟨S1024x578, .f32⟩
  | .hbm, ⟨47, _⟩ => ⟨S1024x578, .f32⟩
  | _, _ => ⟨S8x1024x578, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamOut.lean ====
abbrev S8x256x1024 : Shape := ⟨3, ![8, 256, 1024]⟩
abbrev S1 : Shape := ⟨1, ![1]⟩
abbrev S256x1024 : Shape := ⟨2, ![256, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 11
  | .vmem => 18
  | .smem => 1
  | _ => 0

abbrev bufTy : (tb : Table) → Fin (tcTables nBuf tb) → BufTy
  | .hbm, ⟨0, _⟩ => ⟨S8x256x1024, .f32⟩
  | .hbm, ⟨1, _⟩ => ⟨S8x256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S8x256x1024, .bf16⟩
  | .hbm, ⟨6, _⟩ => ⟨S8x256x1024, .bf16⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .smem, ⟨0, _⟩ => ⟨S1, .i32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamOutIdeal.lean ====
abbrev S8x256x1024 : Shape := ⟨3, ![8, 256, 1024]⟩
abbrev S1 : Shape := ⟨1, ![1]⟩
abbrev S256x1024 : Shape := ⟨2, ![256, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 11
  | .vmem => 18
  | .smem => 1
  | _ => 0

abbrev bufTy : (tb : Table) → Fin (tcTables nBuf tb) → BufTy
  | .hbm, ⟨0, _⟩ => ⟨S8x256x1024, .f32⟩
  | .hbm, ⟨1, _⟩ => ⟨S8x256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S8x256x1024, .bf16⟩
  | .hbm, ⟨6, _⟩ => ⟨S8x256x1024, .bf16⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .smem, ⟨0, _⟩ => ⟨S1, .i32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamOutRefIdeal.lean ====
abbrev S8x256x1024 : Shape := ⟨3, ![8, 256, 1024]⟩
abbrev S1 : Shape := ⟨1, ![1]⟩
abbrev S256x1024 : Shape := ⟨2, ![256, 1024]⟩
abbrev S8 : Shape := ⟨1, ![8]⟩
abbrev S8x1x1 : Shape := ⟨3, ![8, 1, 1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x256x1024, .f32⟩
  | .hbm, ⟨2, _⟩ => ⟨S1, .i32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S8x256x1024, .i1⟩
  | .hbm, ⟨12, _⟩ => ⟨S8x256x1024, .f32⟩
  | .hbm, ⟨13, _⟩ => ⟨S_, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256x1024, .f32⟩
  | .hbm, ⟨47, _⟩ => ⟨S256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamFf.lean ====
abbrev S8x1024x352 : Shape := ⟨3, ![8, 1024, 352]⟩
abbrev S1 : Shape := ⟨1, ![1]⟩
abbrev S1024x352 : Shape := ⟨2, ![1024, 352]⟩
abbrev S8x256x352 : Shape := ⟨3, ![8, 256, 352]⟩
abbrev S1x256x352 : Shape := ⟨3, ![1, 256, 352]⟩
abbrev S256x352 : Shape := ⟨2, ![256, 352]⟩

abbrev nBuf : Space → Nat
  | .hbm => 11
  | .vmem => 18
  | .smem => 1
  | _ => 0

abbrev bufTy : (tb : Table) → Fin (tcTables nBuf tb) → BufTy
  | .hbm, ⟨0, _⟩ => ⟨S8x1024x352, .f32⟩
  | .hbm, ⟨1, _⟩ => ⟨S8x1024x352, .f32⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S8x1024x352, .bf16⟩
  | .hbm, ⟨6, _⟩ => ⟨S8x1024x352, .bf16⟩
  | .hbm, ⟨7, _⟩ => ⟨S1024x352, .f32⟩
  | .hbm, ⟨8, _⟩ => ⟨S1024x352, .f32⟩
  | .hbm, ⟨9, _⟩ => ⟨S1024x352, .f32⟩
  | .hbm, ⟨10, _⟩ => ⟨S1024x352, .f32⟩
  | .local _ .vmem, ⟨0, _⟩ => ⟨S8x256x352, .bf16⟩
  | .local _ .vmem, ⟨1, _⟩ => ⟨S8x256x352, .bf16⟩
  | .local _ .vmem, ⟨2, _⟩ => ⟨S1x256x352, .bf16⟩
  | .local _ .vmem, ⟨3, _⟩ => ⟨S1x256x352, .bf16⟩
  | .local _ .vmem, ⟨4, _⟩ => ⟨S256x352, .f32⟩
  | .local _ .vmem, ⟨5, _⟩ => ⟨S256x352, .f32⟩
  | .local _ .vmem, ⟨6, _⟩ => ⟨S256x352, .f32⟩
  | .local _ .vmem, ⟨7, _⟩ => ⟨S256x352, .f32⟩
  | .local _ .vmem, ⟨8, _⟩ => ⟨S256x352, .f32⟩
  | .local _ .vmem, ⟨9, _⟩ => ⟨S256x352, .f32⟩
  | .local _ .vmem, ⟨10, _⟩ => ⟨S256x352, .f32⟩
  | .local _ .vmem, ⟨11, _⟩ => ⟨S256x352, .f32⟩
  | .local _ .vmem, ⟨12, _⟩ => ⟨S256x352, .f32⟩
  | .local _ .vmem, ⟨13, _⟩ => ⟨S256x352, .f32⟩
  | .local _ .vmem, ⟨14, _⟩ => ⟨S256x352, .f32⟩
  | .local _ .vmem, ⟨15, _⟩ => ⟨S256x352, .f32⟩
  | .local _ .vmem, ⟨16, _⟩ => ⟨S256x352, .f32⟩
  | .local _ .vmem, ⟨17, _⟩ => ⟨S256x352, .f32⟩
  | .local _ .smem, ⟨0, _⟩ => ⟨S1, .i32⟩
  | _, _ => ⟨S8x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x352 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamFfIdeal.lean ====
abbrev S8x1024x352 : Shape := ⟨3, ![8, 1024, 352]⟩
abbrev S1 : Shape := ⟨1, ![1]⟩
abbrev S1024x352 : Shape := ⟨2, ![1024, 352]⟩
abbrev S8x256x352 : Shape := ⟨3, ![8, 256, 352]⟩
abbrev S1x256x352 : Shape := ⟨3, ![1, 256, 352]⟩
abbrev S256x352 : Shape := ⟨2, ![256, 352]⟩

abbrev nBuf : Space → Nat
  | .hbm => 11
  | .vmem => 18
  | .smem => 1
  | _ => 0

abbrev bufTy : (tb : Table) → Fin (tcTables nBuf tb) → BufTy
  | .hbm, ⟨0, _⟩ => ⟨S8x1024x352, .f32⟩
  | .hbm, ⟨1, _⟩ => ⟨S8x1024x352, .f32⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S8x1024x352, .bf16⟩
  | .hbm, ⟨6, _⟩ => ⟨S8x1024x352, .bf16⟩
  | .hbm, ⟨7, _⟩ => ⟨S1024x352, .f32⟩
  | .hbm, ⟨8, _⟩ => ⟨S1024x352, .f32⟩
  | .hbm, ⟨9, _⟩ => ⟨S1024x352, .f32⟩
  | .hbm, ⟨10, _⟩ => ⟨S1024x352, .f32⟩
  | .local _ .vmem, ⟨0, _⟩ => ⟨S8x256x352, .bf16⟩
  | .local _ .vmem, ⟨1, _⟩ => ⟨S8x256x352, .bf16⟩
  | .local _ .vmem, ⟨2, _⟩ => ⟨S1x256x352, .bf16⟩
  | .local _ .vmem, ⟨3, _⟩ => ⟨S1x256x352, .bf16⟩
  | .local _ .vmem, ⟨4, _⟩ => ⟨S256x352, .f32⟩
  | .local _ .vmem, ⟨5, _⟩ => ⟨S256x352, .f32⟩
  | .local _ .vmem, ⟨6, _⟩ => ⟨S256x352, .f32⟩
  | .local _ .vmem, ⟨7, _⟩ => ⟨S256x352, .f32⟩
  | .local _ .vmem, ⟨8, _⟩ => ⟨S256x352, .f32⟩
  | .local _ .vmem, ⟨9, _⟩ => ⟨S256x352, .f32⟩
  | .local _ .vmem, ⟨10, _⟩ => ⟨S256x352, .f32⟩
  | .local _ .vmem, ⟨11, _⟩ => ⟨S256x352, .f32⟩
  | .local _ .vmem, ⟨12, _⟩ => ⟨S256x352, .f32⟩
  | .local _ .vmem, ⟨13, _⟩ => ⟨S256x352, .f32⟩
  | .local _ .vmem, ⟨14, _⟩ => ⟨S256x352, .f32⟩
  | .local _ .vmem, ⟨15, _⟩ => ⟨S256x352, .f32⟩
  | .local _ .vmem, ⟨16, _⟩ => ⟨S256x352, .f32⟩
  | .local _ .vmem, ⟨17, _⟩ => ⟨S256x352, .f32⟩
  | .local _ .smem, ⟨0, _⟩ => ⟨S1, .i32⟩
  | _, _ => ⟨S8x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x352 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamFfRefIdeal.lean ====
abbrev S8x1024x352 : Shape := ⟨3, ![8, 1024, 352]⟩
abbrev S1 : Shape := ⟨1, ![1]⟩
abbrev S1024x352 : Shape := ⟨2, ![1024, 352]⟩
abbrev S8 : Shape := ⟨1, ![8]⟩
abbrev S8x1x1 : Shape := ⟨3, ![8, 1, 1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x1024x352, .f32⟩
  | .hbm, ⟨1, _⟩ => ⟨S8x1024x352, .f32⟩
  | .hbm, ⟨2, _⟩ => ⟨S1, .i32⟩
  | .hbm, ⟨3, _⟩ => ⟨S1024x352, .f32⟩
  | .hbm, ⟨4, _⟩ => ⟨S1024x352, .f32⟩
  | .hbm, ⟨5, _⟩ => ⟨S1024x352, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S8x1024x352, .i1⟩
  | .hbm, ⟨12, _⟩ => ⟨S8x1024x352, .f32⟩
  | .hbm, ⟨13, _⟩ => ⟨S_, .f32⟩
  | .hbm, ⟨14, _⟩ => ⟨S1024x352, .f32⟩
  | .hbm, ⟨15, _⟩ => ⟨S_, .f32⟩
  | .hbm, ⟨16, _⟩ => ⟨S1024x352, .f32⟩
  | .hbm, ⟨17, _⟩ => ⟨S1024x352, .f32⟩
  | .hbm, ⟨18, _⟩ => ⟨S_, .f32⟩
  | .hbm, ⟨19, _⟩ => ⟨S1024x352, .f32⟩
  | .hbm, ⟨20, _⟩ => ⟨S1024x352, .f32⟩
  | .hbm, ⟨21, _⟩ => ⟨S1024x352, .f32⟩
  | .hbm, ⟨22, _⟩ => ⟨S_, .f32⟩
  | .hbm, ⟨23, _⟩ => ⟨S1024x352, .f32⟩
  | .hbm, ⟨24, _⟩ => ⟨S1024x352, .f32⟩
  | .hbm, ⟨25, _⟩ => ⟨S1024x352, .f32⟩
  | .hbm, ⟨26, _⟩ => ⟨S_, .f32⟩
  | .hbm, ⟨27, _⟩ => ⟨S1024x352, .f32⟩
  | .hbm, ⟨28, _⟩ => ⟨S1024x352, .f32⟩
  | .hbm, ⟨29, _⟩ => ⟨S1024x352, .f32⟩
  | .hbm, ⟨30, _⟩ => ⟨S_, .f32⟩
  | .hbm, ⟨31, _⟩ => ⟨S1024x352, .f32⟩
  | .hbm, ⟨32, _⟩ => ⟨S1024x352, .f32⟩
  | .hbm, ⟨33, _⟩ => ⟨S_, .f32⟩
  | .hbm, ⟨34, _⟩ => ⟨S1024x352, .f32⟩
  | .hbm, ⟨35, _⟩ => ⟨S1024x352, .f32⟩
  | .hbm, ⟨36, _⟩ => ⟨S1024x352, .f32⟩
  | .hbm, ⟨37, _⟩ => ⟨S_, .f32⟩
  | .hbm, ⟨38, _⟩ => ⟨S1024x352, .f32⟩
  | .hbm, ⟨39, _⟩ => ⟨S1024x352, .f32⟩
  | .hbm, ⟨40, _⟩ => ⟨S1024x352, .f32⟩
  | .hbm, ⟨41, _⟩ => ⟨S_, .f32⟩
  | .hbm, ⟨42, _⟩ => ⟨S1024x352, .f32⟩
  | .hbm, ⟨43, _⟩ => ⟨S1024x352, .f32⟩
  | .hbm, ⟨44, _⟩ => ⟨S1024x352, .f32⟩
  | .hbm, ⟨45, _⟩ => ⟨S_, .f32⟩
  | .hbm, ⟨46, _⟩ => ⟨S1024x352, .f32⟩
  | .hbm, ⟨47, _⟩ => ⟨S1024x352, .f32⟩
  | _, _ => ⟨S8x1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamDown.lean ====
abbrev S8x352x1024 : Shape := ⟨3, ![8, 352, 1024]⟩
abbrev S1 : Shape := ⟨1, ![1]⟩
abbrev S352x1024 : Shape := ⟨2, ![352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 11
  | .vmem => 18
  | .smem => 1
  | _ => 0

abbrev bufTy : (tb : Table) → Fin (tcTables nBuf tb) → BufTy
  | .hbm, ⟨0, _⟩ => ⟨S8x352x1024, .f32⟩
  | .hbm, ⟨1, _⟩ => ⟨S8x352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S8x352x1024, .bf16⟩
  | .hbm, ⟨6, _⟩ => ⟨S8x352x1024, .bf16⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .bf16⟩
  | .local _ .vmem, ⟨3, _⟩ => ⟨S1x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .smem, ⟨0, _⟩ => ⟨S1, .i32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownRefIdeal.lean ====
abbrev S8x352x1024 : Shape := ⟨3, ![8, 352, 1024]⟩
abbrev S1 : Shape := ⟨1, ![1]⟩
abbrev S352x1024 : Shape := ⟨2, ![352, 1024]⟩
abbrev S8 : Shape := ⟨1, ![8]⟩
abbrev S8x1x1 : Shape := ⟨3, ![8, 1, 1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S8x352x1024, .f32⟩
  | .hbm, ⟨2, _⟩ => ⟨S1, .i32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S8x352x1024, .i1⟩
  | .hbm, ⟨12, _⟩ => ⟨S8x352x1024, .f32⟩
  | .hbm, ⟨13, _⟩ => ⟨S_, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | .hbm, ⟨40, _⟩ => ⟨S352x1024, .f32⟩
  | .hbm, ⟨41, _⟩ => ⟨S_, .f32⟩
  | .hbm, ⟨42, _⟩ => ⟨S352x1024, .f32⟩
  | .hbm, ⟨43, _⟩ => ⟨S352x1024, .f32⟩
  | .hbm, ⟨44, _⟩ => ⟨S352x1024, .f32⟩
  | .hbm, ⟨45, _⟩ => ⟨S_, .f32⟩
  | .hbm, ⟨46, _⟩ => ⟨S352x1024, .f32⟩
  | .hbm, ⟨47, _⟩ => ⟨S352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== ConvAdam.lean ====
abbrev S4x128 : Shape := ⟨2, ![4, 128]⟩
abbrev S4x192 : Shape := ⟨2, ![4, 192]⟩
abbrev S4x320 : Shape := ⟨2, ![4, 320]⟩
abbrev S_ : Shape := ⟨0, ![]⟩
abbrev S8x384 : Shape := ⟨2, ![8, 384]⟩
abbrev S1x8x384 : Shape := ⟨3, ![1, 8, 384]⟩

abbrev nBuf : Space → Nat
  | .hbm => 37
  | .vmem => 8
  | .smem => 0
  | _ => 0

abbrev bufTy : (tb : Table) → Fin (tcTables nBuf tb) → BufTy
  | .hbm, ⟨0, _⟩ => ⟨S4x128, .f32⟩
  | .hbm, ⟨1, _⟩ => ⟨S4x192, .f32⟩
  | .hbm, ⟨2, _⟩ => ⟨S4x128, .f32⟩
  | .hbm, ⟨3, _⟩ => ⟨S4x192, .f32⟩
  | .hbm, ⟨4, _⟩ => ⟨S4x128, .f32⟩
  | .hbm, ⟨5, _⟩ => ⟨S4x192, .f32⟩
  | .hbm, ⟨6, _⟩ => ⟨S4x128, .f32⟩
  | .hbm, ⟨7, _⟩ => ⟨S4x192, .f32⟩
  | .hbm, ⟨8, _⟩ => ⟨S4x320, .f32⟩
  | .hbm, ⟨9, _⟩ => ⟨S_, .i32⟩
  | .hbm, ⟨10, _⟩ => ⟨S_, .f32⟩
  | .hbm, ⟨11, _⟩ => ⟨S8x384, .f32⟩
  | .hbm, ⟨12, _⟩ => ⟨S1x8x384, .f32⟩
  | .hbm, ⟨13, _⟩ => ⟨S4x320, .f32⟩
  | .hbm, ⟨14, _⟩ => ⟨S_, .i32⟩
  | .hbm, ⟨15, _⟩ => ⟨S_, .f32⟩
  | .hbm, ⟨16, _⟩ => ⟨S8x384, .f32⟩
  | .hbm, ⟨17, _⟩ => ⟨S4x320, .f32⟩
  | .hbm, ⟨18, _⟩ => ⟨S_, .i32⟩
  | .hbm, ⟨19, _⟩ => ⟨S_, .f32⟩
  | .hbm, ⟨20, _⟩ => ⟨S8x384, .f32⟩
  | .hbm, ⟨21, _⟩ => ⟨S4x320, .f32⟩
  | .hbm, ⟨22, _⟩ => ⟨S_, .i32⟩
  | .hbm, ⟨23, _⟩ => ⟨S_, .f32⟩
  | .hbm, ⟨24, _⟩ => ⟨S8x384, .f32⟩
  | .hbm, ⟨25, _⟩ => ⟨S8x384, .f32⟩
  | .hbm, ⟨26, _⟩ => ⟨S8x384, .f32⟩
  | .hbm, ⟨27, _⟩ => ⟨S8x384, .f32⟩
  | .hbm, ⟨28, _⟩ => ⟨S8x384, .f32⟩
  | .hbm, ⟨29, _⟩ => ⟨S4x128, .f32⟩
  | .hbm, ⟨30, _⟩ => ⟨S4x128, .f32⟩
  | .hbm, ⟨31, _⟩ => ⟨S4x128, .f32⟩
  | .hbm, ⟨32, _⟩ => ⟨S4x128, .f32⟩
  | .hbm, ⟨33, _⟩ => ⟨S4x192, .f32⟩
  | .hbm, ⟨34, _⟩ => ⟨S4x192, .f32⟩
  | .hbm, ⟨35, _⟩ => ⟨S4x192, .f32⟩
  | .hbm, ⟨36, _⟩ => ⟨S4x192, .f32⟩
  | .local _ .vmem, ⟨0, _⟩ => ⟨S1x8x384, .f32⟩
  | .local _ .vmem, ⟨1, _⟩ => ⟨S8x384, .f32⟩
  | .local _ .vmem, ⟨2, _⟩ => ⟨S8x384, .f32⟩
  | .local _ .vmem, ⟨3, _⟩ => ⟨S8x384, .f32⟩
  | .local _ .vmem, ⟨4, _⟩ => ⟨S8x384, .f32⟩
  | .local _ .vmem, ⟨5, _⟩ => ⟨S8x384, .f32⟩
  | .local _ .vmem, ⟨6, _⟩ => ⟨S8x384, .f32⟩
  | .local _ .vmem, ⟨7, _⟩ => ⟨S8x384, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_call2_v0 : Ref sig .tc := ⟨.hbm, 19, rfl⟩
abbrev main_v6 : Ref sig .tc := ⟨.hbm, 20, rfl⟩
abbrev main_v7 : Ref sig .tc := ⟨.hbm, 21, rfl⟩
abbrev main_c_2 : Ref sig .tc := ⟨.hbm, 22, rfl⟩
abbrev main_call3_v0 : Ref sig .tc := ⟨.hbm, 23, rfl⟩
abbrev main_v8 : Ref sig .tc := ⟨.hbm, 24, rfl⟩
abbrev main_v9_0 : Ref sig .tc := ⟨.hbm, 25, rfl⟩
abbrev main_v9_1 : Ref sig .tc := ⟨.hbm, 26, rfl⟩
abbrev main_v9_2 : Ref sig .tc := ⟨.hbm, 27, rfl⟩
abbrev main_v9_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ConvAdamRefIdeal.lean ====
abbrev S4x128 : Shape := ⟨2, ![4, 128]⟩
abbrev S4x192 : Shape := ⟨2, ![4, 192]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x192, .f32⟩
  | .hbm, ⟨2, _⟩ => ⟨S4x128, .f32⟩
  | .hbm, ⟨3, _⟩ => ⟨S4x192, .f32⟩
  | .hbm, ⟨4, _⟩ => ⟨S4x128, .f32⟩
  | .hbm, ⟨5, _⟩ => ⟨S4x192, .f32⟩
  | .hbm, ⟨6, _⟩ => ⟨S4x128, .f32⟩
  | .hbm, ⟨7, _⟩ => ⟨S4x192, .f32⟩
  | .hbm, ⟨8, _⟩ => ⟨S_, .f32⟩
  | .hbm, ⟨9, _⟩ => ⟨S4x128, .f32⟩
  | .hbm, ⟨10, _⟩ => ⟨S4x128, .f32⟩
  | .hbm, ⟨11, _⟩ => ⟨S_, .f32⟩
  | .hbm, ⟨12, _⟩ => ⟨S4x128, .f32⟩
  | .hbm, ⟨13, _⟩ => ⟨S4x128, .f32⟩
  | .hbm, ⟨14, _⟩ => ⟨S4x128, .f32⟩
  | .hbm, ⟨15, _⟩ => ⟨S_, .f32⟩
  | .hbm, ⟨16, _⟩ => ⟨S4x128, .f32⟩
  | .hbm, ⟨17, _⟩ => ⟨S4x128, .f32⟩
  | .hbm, ⟨18, _⟩ => ⟨S4x128, .f32⟩
  | .hbm, ⟨19, _⟩ => ⟨S_, .f32⟩
  | .hbm, ⟨20, _⟩ => ⟨S4x128, .f32⟩
  | .hbm, ⟨21, _⟩ => ⟨S4x128, .f32⟩
  | .hbm, ⟨22, _⟩ => ⟨S4x128, .f32⟩
  | .hbm, ⟨23, _⟩ => ⟨S_, .f32⟩
  | .hbm, ⟨24, _⟩ => ⟨S4x128, .f32⟩
  | .hbm, ⟨25, _⟩ => ⟨S4x128, .f32⟩
  | .hbm, ⟨26, _⟩ => ⟨S_, .f32⟩
  | .hbm, ⟨27, _⟩ => ⟨S4x128, .f32⟩
  | .hbm, ⟨28, _⟩ => ⟨S4x128, .f32⟩
  | .hbm, ⟨29, _⟩ => ⟨S4x128, .f32⟩
  | .hbm, ⟨30, _⟩ => ⟨S_, .f32⟩
  | .hbm, ⟨31, _⟩ => ⟨S4x128, .f32⟩
  | .hbm, ⟨32, _⟩ => ⟨S4x128, .f32⟩
  | .hbm, ⟨33, _⟩ => ⟨S4x128, .f32⟩
  | .hbm, ⟨34, _⟩ => ⟨S_, .f32⟩
  | .hbm, ⟨35, _⟩ => ⟨S4x128, .f32⟩
  | .hbm, ⟨36, _⟩ => ⟨S4x128, .f32⟩
  | .hbm, ⟨37, _⟩ => ⟨S4x128, .f32⟩
  | .hbm, ⟨38, _⟩ => ⟨S_, .f32⟩
  | .hbm, ⟨39, _⟩ => ⟨S4x128, .f32⟩
  | .hbm, ⟨40, _⟩ => ⟨S4x128, .f32⟩
  | .hbm, ⟨41, _⟩ => ⟨S_, .f32⟩
  | .hbm, ⟨42, _⟩ => ⟨S4x192, .f32⟩
  | .hbm, ⟨43, _⟩ => ⟨S4x192, .f32⟩
  | .hbm, ⟨44, _⟩ => ⟨S_, .f32⟩
  | .hbm, ⟨45, _⟩ => ⟨S4x192, .f32⟩
  | .hbm, ⟨46, _⟩ => ⟨S4x192, .f32⟩
  | .hbm, ⟨47, _⟩ => ⟨S4x192, .f32⟩
  | .hbm, ⟨48, _⟩ => ⟨S_, .f32⟩
  | .hbm, ⟨49, _⟩ => ⟨S4x192, .f32⟩
  | .hbm, ⟨50, _⟩ => ⟨S4x192, .f32⟩
  | .hbm, ⟨51, _⟩ => ⟨S4x192, .f32⟩
  | .hbm, ⟨52, _⟩ => ⟨S_, .f32⟩
  | .hbm, ⟨53, _⟩ => ⟨S4x192, .f32⟩
  | .hbm, ⟨54, _⟩ => ⟨S4x192, .f32⟩
  | .hbm, ⟨55, _⟩ => ⟨S4x192, .f32⟩
  | .hbm, ⟨56, _⟩ => ⟨S_, .f32⟩
  | .hbm, ⟨57, _⟩ => ⟨S4x192, .f32⟩
  | .hbm, ⟨58, _⟩ => ⟨S4x192, .f32⟩
  | .hbm, ⟨59, _⟩ => ⟨S_, .f32⟩
  | .hbm, ⟨60, _⟩ => ⟨S4x192, .f32⟩
  | .hbm, ⟨61, _⟩ => ⟨S4x192, .f32⟩
  | .hbm, ⟨62, _⟩ => ⟨S4x192, .f32⟩
  | .hbm, ⟨63, _⟩ => ⟨S_, .f32⟩
  | .hbm, ⟨64, _⟩ => ⟨S4x192, .f32⟩
  | .hbm, ⟨65, _⟩ => ⟨S4x192, .f32⟩
  | .hbm, ⟨66, _⟩ => ⟨S4x192, .f32⟩
  | .hbm, ⟨67, _⟩ => ⟨S_, .f32⟩
  | .hbm, ⟨68, _⟩ => ⟨S4x192, .f32⟩
  | .hbm, ⟨69, _⟩ => ⟨S4x192, .f32⟩
  | .hbm, ⟨70, _⟩ => ⟨S4x192, .f32⟩
  | .hbm, ⟨71, _⟩ => ⟨S_, .f32⟩
  | .hbm, ⟨72, _⟩ => ⟨S4x192, .f32⟩
  | .hbm, ⟨73, _⟩ => ⟨S4x192, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Proof.Ffn.Frame.lean ====
/-
  The frame certificate of the feed-forward kernel, after the generated one, whose definition of what the buffers hold point
  by point is cut here into one definition for each component (the whole did not fit the elaborator's budget).
-/
module

public import proofs.«01_k».proof.Proof.Gen.FfnIdeal.Frame.RunB
public import Idealize.ShloMosaic.Lib.Claim

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
section CaseA

variable (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x2816 .bf16) (harg10 : arg10.IsWhole) (arg11 : Memref sig .tc .vmem S256x1024 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x128 .f32) (harg16 : arg16.IsWhole) (arg17 : Memref sig .tc .vmem S1024x2816 .bf16) (harg17 : arg17.IsWhole) (arg18 : Memref sig .tc .vmem S1024x2816 .bf16) (harg18 : arg18.IsWhole) (arg19 : Memref sig .tc .vmem S2816x1024 .bf16) (harg19 : arg19.IsWhole) (arg20 : Memref sig .tc .vmem S256x2816 .f32) (harg20 : arg20.IsWhole) (arg21 : Memref sig .tc .vmem S256x2816 .f32) (harg21 : arg21.IsWhole) (hc0 : cond0_0 i)
  (x0 : Vec F S256x1024 .f32) (x1 : Vec F S256x1024 .bf16) (x2 : Vec F S256x1024 .f32) (x3 : Vec F S1x1024 .f32) (x4 : Vec F S1x1024 .f32) (fh0 : HbBuf0 (F := F) c hbM0_0) (fh1 : HbBuf0 (F := F) c hbM0_1) (fh2 : HbBuf0 (F := F) c hbM0_2)

/-- The stores of this case fill the block. -/
theorem cover0_A_5 (y : S256x1024.Idx) :
    ∃ pc ∈ (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).1, y ∈ pc.1.set :=
  View.cover_of_tiledL (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).1 S256x1024.size (by sl_kernel_rfl) y

/-- What case A leaves in output 5's staging buffer: its pieces read back over junk. -/
def out0_A_5 : Vec F S256x1024 .f32 :=
  VO0_5.read (Elt F) (VO0_5.writes (Elt F) VO0_5.junk (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).1)

/-- The stores of this case fill the block. -/
theorem cover0_A_6 (y : S256x2816.Idx) :
    ∃ pc ∈ (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.1, y ∈ pc.1.set :=
  View.cover_of_tiledL (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.1 S256x2816.size (by sl_kernel_rfl) y

/-- What case A leaves in output 6's staging buffer: its pieces read back over junk. -/
def out0_A_6 : Vec F S256x2816 .bf16 :=
  VO0_6.read (Elt F) (VO0_6.writes (Elt F) VO0_6.junk (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.1)

/-- The stores of this case fill the block. -/
theorem cover0_A_7 (y : S256x1024.Idx) :
    ∃ pc ∈ (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.1, y ∈ pc.1.set :=
  View.cover_of_tiledL (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.1 S256x1024.size (by sl_kernel_rfl) y

/-- What case A leaves in output 7's staging buffer: its pieces read back over junk. -/
def out0_A_7 : Vec F S256x1024 .bf16 :=
  VO0_7.read (Elt F) (VO0_7.writes (Elt F) VO0_7.junk (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.1)

/-- The stores of this case fill the block. -/
theorem cover0_A_8 (y : S256x2816.Idx) :
    ∃ pc ∈ (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.2.1, y ∈ pc.1.set :=
  View.cover_of_tiledL (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.2.1 S256x2816.size (by sl_kernel_rfl) y

/-- What case A leaves in output 8's staging buffer: its pieces read back over junk. -/
def out0_A_8 : Vec F S256x2816 .bf16 :=
  VO0_8.read (Elt F) (VO0_8.writes (Elt F) VO0_8.junk (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.2.1)

/-- The stores of this case fill the block. -/
theorem cover0_A_9 (y : S256x2816.Idx) :
    ∃ pc ∈ (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.2.2.1, y ∈ pc.1.set :=
  View.cover_of_tiledL (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.2.2.1 S256x2816.size (by sl_kernel_rfl) y

/-- What case A leaves in output 9's staging buffer: its pieces read back over junk. -/
def out0_A_9 : Vec F S256x2816 .bf16 :=
  VO0_9.read (Elt F) (VO0_9.writes (Elt F) VO0_9.junk (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.2.2.1)

/-- The stores of this case fill the block. -/
theorem cover0_A_10 (y : S1x1024.Idx) :
    ∃ pc ∈ (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.2.2.2.1, y ∈ pc.1.set :=
  View.cover_of_tiledL (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.2.2.2.1 S1x1024.size (by sl_kernel_rfl) y

/-- What case A leaves in output 10's staging buffer: its pieces read back over junk. -/
def out0_A_10 : Vec F S1x1024 .f32 :=
  VO0_10.read (Elt F) (VO0_10.writes (Elt F) VO0_10.junk (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.2.2.2.1)

/-- The stores of this case fill the block. -/
theorem cover0_A_11 (y : S1x1024.Idx) :
    ∃ pc ∈ (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.2.2.2.2.1, y ∈ pc.1.set :=
  View.cover_of_tiledL (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.2.2.2.2.1 S1x1024.size (by sl_kernel_rfl) y

/-- What case A leaves in output 11's staging buffer: its pieces read back over junk. -/
def out0_A_11 : Vec F S1x1024 .f32 :=
  VO0_11.read (Elt F) (VO0_11.writes (Elt F) VO0_11.junk (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.2.2.2.2.1)

/-- The stores of this case fill the block. -/
theorem cover0_A_12 (y : S1x128.Idx) :
    ∃ pc ∈ (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.2.2.2.2.2.1, y ∈ pc.1.set :=
  View.cover_of_tiledL (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.2.2.2.2.2.1 S1x128.size (by sl_kernel_rfl) y

/-- What case A leaves in output 12's staging buffer: its pieces read back over junk. -/
def out0_A_12 : Vec F S1x128 .f32 :=
  VO0_12.read (Elt F) (VO0_12.writes (Elt F) VO0_12.junk (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.2.2.2.2.2.1)

/-- The stores of this case fill the block. -/
theorem scover0_A_0 (y : S1024x2816.Idx) :
    ∃ pc ∈ (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.2.2.2.2.2.2.1, y ∈ pc.1.set :=
  View.cover_of_tiledL (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.2.2.2.2.2.2.1 S1024x2816.size (by sl_kernel_rfl) y

/-- What case A leaves in scratch `arg17`: its pieces read back over junk. -/
def sout0_A_0 : Vec F S1024x2816 .bf16 :=
  VS0_0.read (Elt F) (VS0_0.writes (Elt F) VS0_0.junk (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.2.2.2.2.2.2.1)

/-- The stores of this case fill the block. -/
theorem scover0_A_1 (y : S1024x2816.Idx) :
    ∃ pc ∈ (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.2.2.2.2.2.2.2.1, y ∈ pc.1.set :=
  View.cover_of_tiledL (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.2.2.2.2.2.2.2.1 S1024x2816.size (by sl_kernel_rfl) y

/-- What case A leaves in scratch `arg18`: its pieces read back over junk. -/
def sout0_A_1 : Vec F S1024x2816 .bf16 :=
  VS0_1.read (Elt F) (VS0_1.writes (Elt F) VS0_1.junk (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.2.2.2.2.2.2.2.1)

/-- The stores of this case fill the block. -/
theorem scover0_A_2 (y : S2816x1024.Idx) :
    ∃ pc ∈ (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.2.2.2.2.2.2.2.2.1, y ∈ pc.1.set :=
  View.cover_of_tiledL (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.2.2.2.2.2.2.2.2.1 S2816x1024.size (by sl_kernel_rfl) y

/-- What case A leaves in scratch `arg19`: its pieces read back over junk. -/
def sout0_A_2 : Vec F S2816x1024 .bf16 :=
  VS0_2.read (Elt F) (VS0_2.writes (Elt F) VS0_2.junk (kernelRun0_A c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 fh0 fh1 fh2).2.2.2.2.2.2.2.2.2.2.1)

end CaseA

section CaseB

variable (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x2816 .bf16) (harg10 : arg10.IsWhole) (arg11 : Memref sig .tc .vmem S256x1024 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x128 .f32) (harg16 : arg16.IsWhole) (arg17 : Memref sig .tc .vmem S1024x2816 .bf16) (harg17 : arg17.IsWhole) (arg18 : Memref sig .tc .vmem S1024x2816 .bf16) (harg18 : arg18.IsWhole) (arg19 : Memref sig .tc .vmem S2816x1024 .bf16) (harg19 : arg19.IsWhole) (arg20 : Memref sig .tc .vmem S256x2816 .f32) (harg20 : arg20.IsWhole) (arg21 : Memref sig .tc .vmem S256x2816 .f32) (harg21 : arg21.IsWhole) (hc0 : ¬cond0_0 i)
  (x0 : Vec F S256x1024 .f32) (x1 : Vec F S256x1024 .bf16) (x2 : Vec F S256x1024 .f32) (x3 : Vec F S1x1024 .f32) (x4 : Vec F S1x1024 .f32) (xo10 : Vec F S1x1024 .f32) (xo11 : Vec F S1x1024 .f32) (xo12 : Vec F S1x128 .f32) (xs0 : Vec F S1024x2816 .bf16) (xs1 : Vec F S1024x2816 .bf16) (xs2 : Vec F S2816x1024 .bf16) (fh0 : HbBuf0 (F := F) c hbM0_0) (fh1 : HbBuf0 (F := F) c hbM0_1) (fh2 : HbBuf0 (F := F) c hbM0_2)

/-- The stores of this case fill the block. -/
theorem cover0_B_5 (y : S256x1024.Idx) :
    ∃ pc ∈ (kernelRun0_B c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 xo10 xo11 xo12 xs0 xs1 xs2 fh0 fh1 fh2).1, y ∈ pc.1.set :=
  View.cover_of_tiledL (kernelRun0_B c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 xo10 xo11 xo12 xs0 xs1 xs2 fh0 fh1 fh2).1 S256x1024.size (by sl_kernel_rfl) y

/-- What case B leaves in output 5's staging buffer: its pieces read back over junk. -/
def out0_B_5 : Vec F S256x1024 .f32 :=
  VO0_5.read (Elt F) (VO0_5.writes (Elt F) VO0_5.junk (kernelRun0_B c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 xo10 xo11 xo12 xs0 xs1 xs2 fh0 fh1 fh2).1)

/-- The stores of this case fill the block. -/
theorem cover0_B_6 (y : S256x2816.Idx) :
    ∃ pc ∈ (kernelRun0_B c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 xo10 xo11 xo12 xs0 xs1 xs2 fh0 fh1 fh2).2.1, y ∈ pc.1.set :=
  View.cover_of_tiledL (kernelRun0_B c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 xo10 xo11 xo12 xs0 xs1 xs2 fh0 fh1 fh2).2.1 S256x2816.size (by sl_kernel_rfl) y

/-- What case B leaves in output 6's staging buffer: its pieces read back over junk. -/
def out0_B_6 : Vec F S256x2816 .bf16 :=
  VO0_6.read (Elt F) (VO0_6.writes (Elt F) VO0_6.junk (kernelRun0_B c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 xo10 xo11 xo12 xs0 xs1 xs2 fh0 fh1 fh2).2.1)

/-- The stores of this case fill the block. -/
theorem cover0_B_7 (y : S256x1024.Idx) :
    ∃ pc ∈ (kernelRun0_B c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 xo10 xo11 xo12 xs0 xs1 xs2 fh0 fh1 fh2).2.2.1, y ∈ pc.1.set :=
  View.cover_of_tiledL (kernelRun0_B c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 xo10 xo11 xo12 xs0 xs1 xs2 fh0 fh1 fh2).2.2.1 S256x1024.size (by sl_kernel_rfl) y

/-- What case B leaves in output 7's staging buffer: its pieces read back over junk. -/
def out0_B_7 : Vec F S256x1024 .bf16 :=
  VO0_7.read (Elt F) (VO0_7.writes (Elt F) VO0_7.junk (kernelRun0_B c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 xo10 xo11 xo12 xs0 xs1 xs2 fh0 fh1 fh2).2.2.1)

/-- The stores of this case fill the block. -/
theorem cover0_B_8 (y : S256x2816.Idx) :
    ∃ pc ∈ (kernelRun0_B c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 xo10 xo11 xo12 xs0 xs1 xs2 fh0 fh1 fh2).2.2.2.1, y ∈ pc.1.set :=
  View.cover_of_tiledL (kernelRun0_B c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 xo10 xo11 xo12 xs0 xs1 xs2 fh0 fh1 fh2).2.2.2.1 S256x2816.size (by sl_kernel_rfl) y

/-- What case B leaves in output 8's staging buffer: its pieces read back over junk. -/
def out0_B_8 : Vec F S256x2816 .bf16 :=
  VO0_8.read (Elt F) (VO0_8.writes (Elt F) VO0_8.junk (kernelRun0_B c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 xo10 xo11 xo12 xs0 xs1 xs2 fh0 fh1 fh2).2.2.2.1)

/-- The stores of this case fill the block. -/
theorem cover0_B_9 (y : S256x2816.Idx) :
    ∃ pc ∈ (kernelRun0_B c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 xo10 xo11 xo12 xs0 xs1 xs2 fh0 fh1 fh2).2.2.2.2.1, y ∈ pc.1.set :=
  View.cover_of_tiledL (kernelRun0_B c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 xo10 xo11 xo12 xs0 xs1 xs2 fh0 fh1 fh2).2.2.2.2.1 S256x2816.size (by sl_kernel_rfl) y

/-- What case B leaves in output 9's staging buffer: its pieces read back over junk. -/
def out0_B_9 : Vec F S256x2816 .bf16 :=
  VO0_9.read (Elt F) (VO0_9.writes (Elt F) VO0_9.junk (kernelRun0_B c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 xo10 xo11 xo12 xs0 xs1 xs2 fh0 fh1 fh2).2.2.2.2.1)

/-- The stores of this case fill the block. -/
theorem cover0_B_10 (y : S1x1024.Idx) :
    ∃ pc ∈ (kernelRun0_B c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 xo10 xo11 xo12 xs0 xs1 xs2 fh0 fh1 fh2).2.2.2.2.2.1, y ∈ pc.1.set :=
  View.cover_of_tiledL (kernelRun0_B c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 xo10 xo11 xo12 xs0 xs1 xs2 fh0 fh1 fh2).2.2.2.2.2.1 S1x1024.size (by sl_kernel_rfl) y

/-- What case B leaves in output 10's staging buffer: its pieces read back over junk. -/
def out0_B_10 : Vec F S1x1024 .f32 :=
  VO0_10.read (Elt F) (VO0_10.writes (Elt F) VO0_10.junk (kernelRun0_B c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 xo10 xo11 xo12 xs0 xs1 xs2 fh0 fh1 fh2).2.2.2.2.2.1)

/-- The stores of this case fill the block. -/
theorem cover0_B_11 (y : S1x1024.Idx) :
    ∃ pc ∈ (kernelRun0_B c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 xo10 xo11 xo12 xs0 xs1 xs2 fh0 fh1 fh2).2.2.2.2.2.2.1, y ∈ pc.1.set :=
  View.cover_of_tiledL (kernelRun0_B c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 xo10 xo11 xo12 xs0 xs1 xs2 fh0 fh1 fh2).2.2.2.2.2.2.1 S1x1024.size (by sl_kernel_rfl) y

/-- What case B leaves in output 11's staging buffer: its pieces read back over junk. -/
def out0_B_11 : Vec F S1x1024 .f32 :=
  VO0_11.read (Elt F) (VO0_11.writes (Elt F) VO0_11.junk (kernelRun0_B c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 xo10 xo11 xo12 xs0 xs1 xs2 fh0 fh1 fh2).2.2.2.2.2.2.1)

/-- The stores of this case fill the block. -/
theorem cover0_B_12 (y : S1x128.Idx) :
    ∃ pc ∈ (kernelRun0_B c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 xo10 xo11 xo12 xs0 xs1 xs2 fh0 fh1 fh2).2.2.2.2.2.2.2.1, y ∈ pc.1.set :=
  View.cover_of_tiledL (kernelRun0_B c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 xo10 xo11 xo12 xs0 xs1 xs2 fh0 fh1 fh2).2.2.2.2.2.2.2.1 S1x128.size (by sl_kernel_rfl) y

/-- What case B leaves in output 12's staging buffer: its pieces read back over junk. -/
def out0_B_12 : Vec F S1x128 .f32 :=
  VO0_12.read (Elt F) (VO0_12.writes (Elt F) VO0_12.junk (kernelRun0_B c i arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 xo10 xo11 xo12 xs0 xs1 xs2 fh0 fh1 fh2).2.2.2.2.2.2.2.1)

end CaseB

/-- Case B stores nothing into scratch `arg17`: it holds what the point before left. -/
def sout0_B_0 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x2816 .bf16) (harg10 : arg10.IsWhole) (arg11 : Memref sig .tc .vmem S256x1024 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x128 .f32) (harg16 : arg16.IsWhole) (arg17 : Memref sig .tc .vmem S1024x2816 .bf16) (harg17 : arg17.IsWhole) (arg18 : Memref sig .tc .vmem S1024x2816 .bf16) (harg18 : arg18.IsWhole) (arg19 : Memref sig .tc .vmem S2816x1024 .bf16) (harg19 : arg19.IsWhole) (arg20 : Memref sig .tc .vmem S256x2816 .f32) (harg20 : arg20.IsWhole) (arg21 : Memref sig .tc .vmem S256x2816 .f32) (harg21 : arg21.IsWhole) (hc0 : ¬cond0_0 i)
    (x0 : Vec F S256x1024 .f32) (x1 : Vec F S256x1024 .bf16) (x2 : Vec F S256x1024 .f32) (x3 : Vec F S1x1024 .f32) (x4 : Vec F S1x1024 .f32) (xo10 : Vec F S1x1024 .f32) (xo11 : Vec F S1x1024 .f32) (xo12 : Vec F S1x128 .f32) (xs0 : Vec F S1024x2816 .bf16) (xs1 : Vec F S1024x2816 .bf16) (xs2 : Vec F S2816x1024 .bf16) (fh0 : HbBuf0 (F := F) c hbM0_0) (fh1 : HbBuf0 (F := F) c hbM0_1) (fh2 : HbBuf0 (F := F) c hbM0_2) : Vec F S1024x2816 .bf16 := xs0

/-- Case B stores nothing into scratch `arg18`: it holds what the point before left. -/
def sout0_B_1 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x2816 .bf16) (harg10 : arg10.IsWhole) (arg11 : Memref sig .tc .vmem S256x1024 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x128 .f32) (harg16 : arg16.IsWhole) (arg17 : Memref sig .tc .vmem S1024x2816 .bf16) (harg17 : arg17.IsWhole) (arg18 : Memref sig .tc .vmem S1024x2816 .bf16) (harg18 : arg18.IsWhole) (arg19 : Memref sig .tc .vmem S2816x1024 .bf16) (harg19 : arg19.IsWhole) (arg20 : Memref sig .tc .vmem S256x2816 .f32) (harg20 : arg20.IsWhole) (arg21 : Memref sig .tc .vmem S256x2816 .f32) (harg21 : arg21.IsWhole) (hc0 : ¬cond0_0 i)
    (x0 : Vec F S256x1024 .f32) (x1 : Vec F S256x1024 .bf16) (x2 : Vec F S256x1024 .f32) (x3 : Vec F S1x1024 .f32) (x4 : Vec F S1x1024 .f32) (xo10 : Vec F S1x1024 .f32) (xo11 : Vec F S1x1024 .f32) (xo12 : Vec F S1x128 .f32) (xs0 : Vec F S1024x2816 .bf16) (xs1 : Vec F S1024x2816 .bf16) (xs2 : Vec F S2816x1024 .bf16) (fh0 : HbBuf0 (F := F) c hbM0_0) (fh1 : HbBuf0 (F := F) c hbM0_1) (fh2 : HbBuf0 (F := F) c hbM0_2) : Vec F S1024x2816 .bf16 := xs1

/-- Case B stores nothing into scratch `arg19`: it holds what the point before left. -/
def sout0_B_2 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x2816 .bf16) (harg10 : arg10.IsWhole) (arg11 : Memref sig .tc .vmem S256x1024 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x128 .f32) (harg16 : arg16.IsWhole) (arg17 : Memref sig .tc .vmem S1024x2816 .bf16) (harg17 : arg17.IsWhole) (arg18 : Memref sig .tc .vmem S1024x2816 .bf16) (harg18 : arg18.IsWhole) (arg19 : Memref sig .tc .vmem S2816x1024 .bf16) (harg19 : arg19.IsWhole) (arg20 : Memref sig .tc .vmem S256x2816 .f32) (harg20 : arg20.IsWhole) (arg21 : Memref sig .tc .vmem S256x2816 .f32) (harg21 : arg21.IsWhole) (hc0 : ¬cond0_0 i)
    (x0 : Vec F S256x1024 .f32) (x1 : Vec F S256x1024 .bf16) (x2 : Vec F S256x1024 .f32) (x3 : Vec F S1x1024 .f32) (x4 : Vec F S1x1024 .f32) (xo10 : Vec F S1x1024 .f32) (xo11 : Vec F S1x1024 .f32) (xo12 : Vec F S1x128 .f32) (xs0 : Vec F S1024x2816 .bf16) (xs1 : Vec F S1024x2816 .bf16) (xs2 : Vec F S2816x1024 .bf16) (fh0 : HbBuf0 (F := F) c hbM0_0) (fh1 : HbBuf0 (F := F) c hbM0_1) (fh2 : HbBuf0 (F := F) c hbM0_2) : Vec F S2816x1024 .bf16 := xs2

/-! ## What the outputs hold after each point -/

/-- Component 1 of what the first point leaves. -/
def first0 (c : Dev nD) (t : Fin cfg0.N) (h0 : t.val % 32 = 0) : Vec F S256x1024 .f32 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (V m c main_v14) (V m c main_v15) (V m c main_v16)
/-- Component 2 of what the first point leaves. -/
def first1 (c : Dev nD) (t : Fin cfg0.N) (h0 : t.val % 32 = 0) : Vec F S256x2816 .bf16 :=
  out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (V m c main_v14) (V m c main_v15) (V m c main_v16)
/-- Component 3 of what the first point leaves. -/
def first2 (c : Dev nD) (t : Fin cfg0.N) (h0 : t.val % 32 = 0) : Vec F S256x1024 .bf16 :=
  out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (V m c main_v14) (V m c main_v15) (V m c main_v16)
/-- Component 4 of what the first point leaves. -/
def first3 (c : Dev nD) (t : Fin cfg0.N) (h0 : t.val % 32 = 0) : Vec F S256x2816 .bf16 :=
  out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (V m c main_v14) (V m c main_v15) (V m c main_v16)
/-- Component 5 of what the first point leaves. -/
def first4 (c : Dev nD) (t : Fin cfg0.N) (h0 : t.val % 32 = 0) : Vec F S256x2816 .bf16 :=
  out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (V m c main_v14) (V m c main_v15) (V m c main_v16)
/-- Component 6 of what the first point leaves. -/
def first5 (c : Dev nD) (t : Fin cfg0.N) (h0 : t.val % 32 = 0) : Vec F S1x1024 .f32 :=
  out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (V m c main_v14) (V m c main_v15) (V m c main_v16)
/-- Component 7 of what the first point leaves. -/
def first6 (c : Dev nD) (t : Fin cfg0.N) (h0 : t.val % 32 = 0) : Vec F S1x1024 .f32 :=
  out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (V m c main_v14) (V m c main_v15) (V m c main_v16)
/-- Component 8 of what the first point leaves. -/
def first7 (c : Dev nD) (t : Fin cfg0.N) (h0 : t.val % 32 = 0) : Vec F S1x128 .f32 :=
  out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (V m c main_v14) (V m c main_v15) (V m c main_v16)
/-- Component 9 of what the first point leaves. -/
def first8 (c : Dev nD) (t : Fin cfg0.N) (h0 : t.val % 32 = 0) : Vec F S1024x2816 .bf16 :=
  sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (V m c main_v14) (V m c main_v15) (V m c main_v16)
/-- Component 10 of what the first point leaves. -/
def first9 (c : Dev nD) (t : Fin cfg0.N) (h0 : t.val % 32 = 0) : Vec F S1024x2816 .bf16 :=
  sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (V m c main_v14) (V m c main_v15) (V m c main_v16)
/-- Component 11 of what the first point leaves. -/
def first10 (c : Dev nD) (t : Fin cfg0.N) (h0 : t.val % 32 = 0) : Vec F S2816x1024 .bf16 :=
  sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (V m c main_v14) (V m c main_v15) (V m c main_v16)
/-- Component 1 of what a later point leaves, over what the point before left. -/
def later0 (c : Dev nD) (t : Fin cfg0.N) (h0 : ¬t.val % 32 = 0) (prev : Vec F S256x1024 .f32 × Vec F S256x2816 .bf16 × Vec F S256x1024 .bf16 × Vec F S256x2816 .bf16 × Vec F S256x2816 .bf16 × Vec F S1x1024 .f32 × Vec F S1x1024 .f32 × Vec F S1x128 .f32 × Vec F S1024x2816 .bf16 × Vec F S1024x2816 .bf16 × Vec F S2816x1024 .bf16) : Vec F S256x1024 .f32 :=
  out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) prev.2.2.2.2.2.1 prev.2.2.2.2.2.2.1 prev.2.2.2.2.2.2.2.1 prev.2.2.2.2.2.2.2.2.1 prev.2.2.2.2.2.2.2.2.2.1 prev.2.2.2.2.2.2.2.2.2.2 (V m c main_v14) (V m c main_v15) (V m c main_v16)
/-- Component 2 of what a later point leaves, over what the point before left. -/
def later1 (c : Dev nD) (t : Fin cfg0.N) (h0 : ¬t.val % 32 = 0) (prev : Vec F S256x1024 .f32 × Vec F S256x2816 .bf16 × Vec F S256x1024 .bf16 × Vec F S256x2816 .bf16 × Vec F S256x2816 .bf16 × Vec F S1x1024 .f32 × Vec F S1x1024 .f32 × Vec F S1x128 .f32 × Vec F S1024x2816 .bf16 × Vec F S1024x2816 .bf16 × Vec F S2816x1024 .bf16) : Vec F S256x2816 .bf16 :=
  out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) prev.2.2.2.2.2.1 prev.2.2.2.2.2.2.1 prev.2.2.2.2.2.2.2.1 prev.2.2.2.2.2.2.2.2.1 prev.2.2.2.2.2.2.2.2.2.1 prev.2.2.2.2.2.2.2.2.2.2 (V m c main_v14) (V m c main_v15) (V m c main_v16)
/-- Component 3 of what a later point leaves, over what the point before left. -/
def later2 (c : Dev nD) (t : Fin cfg0.N) (h0 : ¬t.val % 32 = 0) (prev : Vec F S256x1024 .f32 × Vec F S256x2816 .bf16 × Vec F S256x1024 .bf16 × Vec F S256x2816 .bf16 × Vec F S256x2816 .bf16 × Vec F S1x1024 .f32 × Vec F S1x1024 .f32 × Vec F S1x128 .f32 × Vec F S1024x2816 .bf16 × Vec F S1024x2816 .bf16 × Vec F S2816x1024 .bf16) : Vec F S256x1024 .bf16 :=
  out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) prev.2.2.2.2.2.1 prev.2.2.2.2.2.2.1 prev.2.2.2.2.2.2.2.1 prev.2.2.2.2.2.2.2.2.1 prev.2.2.2.2.2.2.2.2.2.1 prev.2.2.2.2.2.2.2.2.2.2 (V m c main_v14) (V m c main_v15) (V m c main_v16)
/-- Component 4 of what a later point leaves, over what the point before left. -/
def later3 (c : Dev nD) (t : Fin cfg0.N) (h0 : ¬t.val % 32 = 0) (prev : Vec F S256x1024 .f32 × Vec F S256x2816 .bf16 × Vec F S256x1024 .bf16 × Vec F S256x2816 .bf16 × Vec F S256x2816 .bf16 × Vec F S1x1024 .f32 × Vec F S1x1024 .f32 × Vec F S1x128 .f32 × Vec F S1024x2816 .bf16 × Vec F S1024x2816 .bf16 × Vec F S2816x1024 .bf16) : Vec F S256x2816 .bf16 :=
  out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) prev.2.2.2.2.2.1 prev.2.2.2.2.2.2.1 prev.2.2.2.2.2.2.2.1 prev.2.2.2.2.2.2.2.2.1 prev.2.2.2.2.2.2.2.2.2.1 prev.2.2.2.2.2.2.2.2.2.2 (V m c main_v14) (V m c main_v15) (V m c main_v16)
/-- Component 5 of what a later point leaves, over what the point before left. -/
def later4 (c : Dev nD) (t : Fin cfg0.N) (h0 : ¬t.val % 32 = 0) (prev : Vec F S256x1024 .f32 × Vec F S256x2816 .bf16 × Vec F S256x1024 .bf16 × Vec F S256x2816 .bf16 × Vec F S256x2816 .bf16 × Vec F S1x1024 .f32 × Vec F S1x1024 .f32 × Vec F S1x128 .f32 × Vec F S1024x2816 .bf16 × Vec F S1024x2816 .bf16 × Vec F S2816x1024 .bf16) : Vec F S256x2816 .bf16 :=
  out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) prev.2.2.2.2.2.1 prev.2.2.2.2.2.2.1 prev.2.2.2.2.2.2.2.1 prev.2.2.2.2.2.2.2.2.1 prev.2.2.2.2.2.2.2.2.2.1 prev.2.2.2.2.2.2.2.2.2.2 (V m c main_v14) (V m c main_v15) (V m c main_v16)
/-- Component 6 of what a later point leaves, over what the point before left. -/
def later5 (c : Dev nD) (t : Fin cfg0.N) (h0 : ¬t.val % 32 = 0) (prev : Vec F S256x1024 .f32 × Vec F S256x2816 .bf16 × Vec F S256x1024 .bf16 × Vec F S256x2816 .bf16 × Vec F S256x2816 .bf16 × Vec F S1x1024 .f32 × Vec F S1x1024 .f32 × Vec F S1x128 .f32 × Vec F S1024x2816 .bf16 × Vec F S1024x2816 .bf16 × Vec F S2816x1024 .bf16) : Vec F S1x1024 .f32 :=
  out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) prev.2.2.2.2.2.1 prev.2.2.2.2.2.2.1 prev.2.2.2.2.2.2.2.1 prev.2.2.2.2.2.2.2.2.1 prev.2.2.2.2.2.2.2.2.2.1 prev.2.2.2.2.2.2.2.2.2.2 (V m c main_v14) (V m c main_v15) (V m c main_v16)
/-- Component 7 of what a later point leaves, over what the point before left. -/
def later6 (c : Dev nD) (t : Fin cfg0.N) (h0 : ¬t.val % 32 = 0) (prev : Vec F S256x1024 .f32 × Vec F S256x2816 .bf16 × Vec F S256x1024 .bf16 × Vec F S256x2816 .bf16 × Vec F S256x2816 .bf16 × Vec F S1x1024 .f32 × Vec F S1x1024 .f32 × Vec F S1x128 .f32 × Vec F S1024x2816 .bf16 × Vec F S1024x2816 .bf16 × Vec F S2816x1024 .bf16) : Vec F S1x1024 .f32 :=
  out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) prev.2.2.2.2.2.1 prev.2.2.2.2.2.2.1 prev.2.2.2.2.2.2.2.1 prev.2.2.2.2.2.2.2.2.1 prev.2.2.2.2.2.2.2.2.2.1 prev.2.2.2.2.2.2.2.2.2.2 (V m c main_v14) (V m c main_v15) (V m c main_v16)
/-- Component 8 of what a later point leaves, over what the point before left. -/
def later7 (c : Dev nD) (t : Fin cfg0.N) (h0 : ¬t.val % 32 = 0) (prev : Vec F S256x1024 .f32 × Vec F S256x2816 .bf16 × Vec F S256x1024 .bf16 × Vec F S256x2816 .bf16 × Vec F S256x2816 .bf16 × Vec F S1x1024 .f32 × Vec F S1x1024 .f32 × Vec F S1x128 .f32 × Vec F S1024x2816 .bf16 × Vec F S1024x2816 .bf16 × Vec F S2816x1024 .bf16) : Vec F S1x128 .f32 :=
  out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) prev.2.2.2.2.2.1 prev.2.2.2.2.2.2.1 prev.2.2.2.2.2.2.2.1 prev.2.2.2.2.2.2.2.2.1 prev.2.2.2.2.2.2.2.2.2.1 prev.2.2.2.2.2.2.2.2.2.2 (V m c main_v14) (V m c main_v15) (V m c main_v16)
/-- Component 9 of what a later point leaves, over what the point before left. -/
def later8 (c : Dev nD) (t : Fin cfg0.N) (h0 : ¬t.val % 32 = 0) (prev : Vec F S256x1024 .f32 × Vec F S256x2816 .bf16 × Vec F S256x1024 .bf16 × Vec F S256x2816 .bf16 × Vec F S256x2816 .bf16 × Vec F S1x1024 .f32 × Vec F S1x1024 .f32 × Vec F S1x128 .f32 × Vec F S1024x2816 .bf16 × Vec F S1024x2816 .bf16 × Vec F S2816x1024 .bf16) : Vec F S1024x2816 .bf16 :=
  sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) prev.2.2.2.2.2.1 prev.2.2.2.2.2.2.1 prev.2.2.2.2.2.2.2.1 prev.2.2.2.2.2.2.2.2.1 prev.2.2.2.2.2.2.2.2.2.1 prev.2.2.2.2.2.2.2.2.2.2 (V m c main_v14) (V m c main_v15) (V m c main_v16)
/-- Component 10 of what a later point leaves, over what the point before left. -/
def later9 (c : Dev nD) (t : Fin cfg0.N) (h0 : ¬t.val % 32 = 0) (prev : Vec F S256x1024 .f32 × Vec F S256x2816 .bf16 × Vec F S256x1024 .bf16 × Vec F S256x2816 .bf16 × Vec F S256x2816 .bf16 × Vec F S1x1024 .f32 × Vec F S1x1024 .f32 × Vec F S1x128 .f32 × Vec F S1024x2816 .bf16 × Vec F S1024x2816 .bf16 × Vec F S2816x1024 .bf16) : Vec F S1024x2816 .bf16 :=
  sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) prev.2.2.2.2.2.1 prev.2.2.2.2.2.2.1 prev.2.2.2.2.2.2.2.1 prev.2.2.2.2.2.2.2.2.1 prev.2.2.2.2.2.2.2.2.2.1 prev.2.2.2.2.2.2.2.2.2.2 (V m c main_v14) (V m c main_v15) (V m c main_v16)
/-- Component 11 of what a later point leaves, over what the point before left. -/
def later10 (c : Dev nD) (t : Fin cfg0.N) (h0 : ¬t.val % 32 = 0) (prev : Vec F S256x1024 .f32 × Vec F S256x2816 .bf16 × Vec F S256x1024 .bf16 × Vec F S256x2816 .bf16 × Vec F S256x2816 .bf16 × Vec F S1x1024 .f32 × Vec F S1x1024 .f32 × Vec F S1x128 .f32 × Vec F S1024x2816 .bf16 × Vec F S1024x2816 .bf16 × Vec F S2816x1024 .bf16) : Vec F S2816x1024 .bf16 :=
  sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) prev.2.2.2.2.2.1 prev.2.2.2.2.2.2.1 prev.2.2.2.2.2.2.2.1 prev.2.2.2.2.2.2.2.2.1 prev.2.2.2.2.2.2.2.2.2.1 prev.2.2.2.2.2.2.2.2.2.2 (V m c main_v14) (V m c main_v15) (V m c main_v16)
/-- What the outputs' buffers and the carried scratch hold after the body at position `n`: the outputs in window order, then
    the scratch. The first point fills the scratch and starts the sums; a later one goes on from the point before. -/
def outsAt0 (c : Dev nD) : (n : ℕ) → n < cfg0.N → Vec F S256x1024 .f32 × Vec F S256x2816 .bf16 × Vec F S256x1024 .bf16 × Vec F S256x2816 .bf16 × Vec F S256x2816 .bf16 × Vec F S1x1024 .f32 × Vec F S1x1024 .f32 × Vec F S1x128 .f32 × Vec F S1024x2816 .bf16 × Vec F S1024x2816 .bf16 × Vec F S2816x1024 .bf16
  | 0, hn => (first0 m c ⟨0, hn⟩ (Nat.zero_mod _), first1 m c ⟨0, hn⟩ (Nat.zero_mod _), first2 m c ⟨0, hn⟩ (Nat.zero_mod _), first3 m c ⟨0, hn⟩ (Nat.zero_mod _), first4 m c ⟨0, hn⟩ (Nat.zero_mod _), first5 m c ⟨0, hn⟩ (Nat.zero_mod _), first6 m c ⟨0, hn⟩ (Nat.zero_mod _), first7 m c ⟨0, hn⟩ (Nat.zero_mod _), first8 m c ⟨0, hn⟩ (Nat.zero_mod _), first9 m c ⟨0, hn⟩ (Nat.zero_mod _), first10 m c ⟨0, hn⟩ (Nat.zero_mod _))
  | n + 1, hn =>
    if h0 : (n + 1) % 32 = 0 then (first0 m c ⟨n + 1, hn⟩ h0, first1 m c ⟨n + 1, hn⟩ h0, first2 m c ⟨n + 1, hn⟩ h0, first3 m c ⟨n + 1, hn⟩ h0, first4 m c ⟨n + 1, hn⟩ h0, first5 m c ⟨n + 1, hn⟩ h0, first6 m c ⟨n + 1, hn⟩ h0, first7 m c ⟨n + 1, hn⟩ h0, first8 m c ⟨n + 1, hn⟩ h0, first9 m c ⟨n + 1, hn⟩ h0, first10 m c ⟨n + 1, hn⟩ h0)
    else (later0 m c ⟨n + 1, hn⟩ h0 (outsAt0 c n (Nat.lt_of_succ_lt hn)), later1 m c ⟨n + 1, hn⟩ h0 (outsAt0 c n (Nat.lt_of_succ_lt hn)), later2 m c ⟨n + 1, hn⟩ h0 (outsAt0 c n (Nat.lt_of_succ_lt hn)), later3 m c ⟨n + 1, hn⟩ h0 (outsAt0 c n (Nat.lt_of_succ_lt hn)), later4 m c ⟨n + 1, hn⟩ h0 (outsAt0 c n (Nat.lt_of_succ_lt hn)), later5 m c ⟨n + 1, hn⟩ h0 (outsAt0 c n (Nat.lt_of_succ_lt hn)), later6 m c ⟨n + 1, hn⟩ h0 (outsAt0 c n (Nat.lt_of_succ_lt hn)), later7 m c ⟨n + 1, hn⟩ h0 (outsAt0 c n (Nat.lt_of_succ_lt hn)), later8 m c ⟨n + 1, hn⟩ h0 (outsAt0 c n (Nat.lt_of_succ_lt hn)), later9 m c ⟨n + 1, hn⟩ h0 (outsAt0 c n (Nat.lt_of_succ_lt hn)), later10 m c ⟨n + 1, hn⟩ h0 (outsAt0 c n (Nat.lt_of_succ_lt hn)))

/-- `outsAt0` at the first point. -/
theorem outsAt0_A (c : Dev nD) (t : Fin cfg0.N) (h0 : t.val % 32 = 0) :
    outsAt0 m c t.val t.isLt = (first0 m c t h0, first1 m c t h0, first2 m c t h0, first3 m c t h0, first4 m c t h0, first5 m c t h0, first6 m c t h0, first7 m c t h0, first8 m c t h0, first9 m c t h0, first10 m c t h0) := by
  obtain ⟨n, hn⟩ := t
  cases n with
  | zero => exact rfl
  | succ n => exact (dif_pos h0).trans rfl

/-- `outsAt0` at a later point, over what the point before left. -/
theorem outsAt0_B (c : Dev nD) (t : Fin cfg0.N) (h0 : ¬t.val % 32 = 0) :
    outsAt0 m c t.val t.isLt = (later0 m c t h0 (outsAt0 m c (t.val - 1) (Nat.lt_of_le_of_lt (Nat.sub_le _ _) t.isLt)), later1 m c t h0 (outsAt0 m c (t.val - 1) (Nat.lt_of_le_of_lt (Nat.sub_le _ _) t.isLt)), later2 m c t h0 (outsAt0 m c (t.val - 1) (Nat.lt_of_le_of_lt (Nat.sub_le _ _) t.isLt)), later3 m c t h0 (outsAt0 m c (t.val - 1) (Nat.lt_of_le_of_lt (Nat.sub_le _ _) t.isLt)), later4 m c t h0 (outsAt0 m c (t.val - 1) (Nat.lt_of_le_of_lt (Nat.sub_le _ _) t.isLt)), later5 m c t h0 (outsAt0 m c (t.val - 1) (Nat.lt_of_le_of_lt (Nat.sub_le _ _) t.isLt)), later6 m c t h0 (outsAt0 m c (t.val - 1) (Nat.lt_of_le_of_lt (Nat.sub_le _ _) t.isLt)), later7 m c t h0 (outsAt0 m c (t.val - 1) (Nat.lt_of_le_of_lt (Nat.sub_le _ _) t.isLt)), later8 m c t h0 (outsAt0 m c (t.val - 1) (Nat.lt_of_le_of_lt (Nat.sub_le _ _) t.isLt)), later9 m c t h0 (outsAt0 m c (t.val - 1) (Nat.lt_of_le_of_lt (Nat.sub_le _ _) t.isLt)), later10 m c t h0 (outsAt0 m c (t.val - 1) (Nat.lt_of_le_of_lt (Nat.sub_le _ _) t.isLt))) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.2.2.2.1) ∗ owns (c : Thread nD τ) scM0_1 fullShare ((outsAt0 m c n hn).2.2.2.2.2.2.2.2.2.1) ∗ owns (c : Thread nD τ) scM0_2 fullShare ((outsAt0 m c n hn).2.2.2.2.2.2.2.2.2.2) ∗ (∃ d, owns (c : Thread nD τ) scM0_3 fullShare d) ∗ (∃ d, owns (c : Thread nD τ) scM0_4 fullShare d)) ∗ (∃ r, prngReg c r) ∗ iprop(semVal ((c : Thread nD τ), SemLoc.dma 21) 0 ∗ semVal ((c : Thread nD τ), SemLoc.dma 22) 0 ∗ semVal ((c : Thread nD τ), SemLoc.dma 23) 0) ∗ iprop(hbPt0 c hbM0_0 (V m c main_v14) ∗ hbPt0 c hbM0_1 (V m c main_v15) ∗ hbPt0 c hbM0_2 (V m c main_v16)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.1) ∗ owns (c : Thread nD τ) scM0_1 fullShare ((outsAt0 m c n hn).2.2.2.2.2.2.2.2.2.1) ∗ owns (c : Thread nD τ) scM0_2 fullShare ((outsAt0 m c n hn).2.2.2.2.2.2.2.2.2.2) ∗ (∃ d, owns (c : Thread nD τ) scM0_3 fullShare d) ∗ (∃ d, owns (c : Thread nD τ) scM0_4 fullShare d)) ∗ (∃ r, prngReg c r) ∗ iprop(semVal ((c : Thread nD τ), SemLoc.dma 21) 0 ∗ semVal ((c : Thread nD τ), SemLoc.dma 22) 0 ∗ semVal ((c : Thread nD τ), SemLoc.dma 23) 0) ∗ iprop(hbPt0 c hbM0_0 (V m c main_v14) ∗ hbPt0 c hbM0_1 (V m c main_v15) ∗ hbPt0 c hbM0_2 (V m c main_v16))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.1) ∗ owns (c : Thread nD τ) scM0_1 fullShare ((outsAt0 m c (n - 1) (by omega)).2.2.2.2.2.2.2.2.2.1) ∗ owns (c : Thread nD τ) scM0_2 fullShare ((outsAt0 m c (n - 1) (by omega)).2.2.2.2.2.2.2.2.2.2) ∗ (∃ d, owns (c : Thread nD τ) scM0_3 fullShare d) ∗ (∃ d, owns (c : Thread nD τ) scM0_4 fullShare d)) ∗ (∃ r, prngReg c r) ∗ iprop(semVal ((c : Thread nD τ), SemLoc.dma 21) 0 ∗ semVal ((c : Thread nD τ), SemLoc.dma 22) 0 ∗ semVal ((c : Thread nD τ), SemLoc.dma 23) 0) ∗ iprop(hbPt0 c hbM0_0 (V m c main_v14) ∗ hbPt0 c hbM0_1 (V m c main_v15) ∗ hbPt0 c hbM0_2 (V m c main_v16))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
    | ⟨9, _⟩ => (outsAt0 m c t.val t.isLt).2.2.2.2.1
    | ⟨10, _⟩ => (outsAt0 m c t.val t.isLt).2.2.2.2.2.1
    | ⟨11, _⟩ => (outsAt0 m c t.val t.isLt).2.2.2.2.2.2.1
    | ⟨12, _⟩ => (outsAt0 m c t.val t.isLt).2.2.2.2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]
theorem after0_9 (c : Dev nD) (t : Fin cfg0.N) : (dats m 0 c).after 9 t = (outsAt0 m c t.val t.isLt).2.2.2.2.1 := by dsimp only [dats]
theorem after0_10 (c : Dev nD) (t : Fin cfg0.N) : (dats m 0 c).after 10 t = (outsAt0 m c t.val t.isLt).2.2.2.2.2.1 := by dsimp only [dats]
theorem after0_11 (c : Dev nD) (t : Fin cfg0.N) : (dats m 0 c).after 11 t = (outsAt0 m c t.val t.isLt).2.2.2.2.2.2.1 := by dsimp only [dats]
theorem after0_12 (c : Dev nD) (t : Fin cfg0.N) : (dats m 0 c).after 12 t = (outsAt0 m c t.val t.isLt).2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- At a point of case B output 10's current staging buffer holds what the body left at the point before: the point is
    not the first, the buffer was not written back between (`flush0_10`), the window is live and uncut (Lib/Pipeline/Frame.lean
    `Dat.before_out_kept`). -/
theorem before0_10_B (c : Dev nD) (t : Fin cfg0.N) (h0 : ¬t.val % 32 = 0) (d) :
    (dats m 0 c).before 10 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dats]
/-- At a point of case B output 11's current staging buffer holds what the body left at the point before: the point is
    not the first, the buffer was not written back between (`flush0_11`), the window is live and uncut (Lib/Pipeline/Frame.lean
    `Dat.before_out_kept`). -/
theorem before0_11_B (c : Dev nD) (t : Fin cfg0.N) (h0 : ¬t.val % 32 = 0) (d) :
    (dats m 0 c).before 11 t d = (outsAt0 m c (t.val - 1) (Nat.lt_of_le_of_lt (Nat.sub_le _ _) t.isLt)).2.2.2.2.2.2.1 := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dats]
/-- At a point of case B output 12's current staging buffer holds what the body left at the point before: the point is
    not the first, the buffer was not written back between (`flush0_12`), the window is live and uncut (Lib/Pipeline/Frame.lean
    `Dat.before_out_kept`). -/
theorem before0_12_B (c : Dev nD) (t : Fin cfg0.N) (h0 : ¬t.val % 32 = 0) (d) :
    (dats m 0 c).before 12 t d = (outsAt0 m c (t.val - 1) (Nat.lt_of_le_of_lt (Nat.sub_le _ _) t.isLt)).2.2.2.2.2.2.2.1 := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ,
    after0_0, after0_1, after0_2, after0_3, after0_4, after0_5, after0_6, after0_7, after0_8, after0_9, after0_10, after0_11, after0_12]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases hz : t.val = 0
    · rw [PhiS_castSucc m c t, PhiS_zero m c _ _ hz, PhiD0_eq]
      rw [outsAt0_A m c t h0]
      unfold first0 first1 first2 first3 first4 first5 first6 first7 first8 first9 first10 out0_A_5 out0_A_6 out0_A_7 out0_A_8 out0_A_9 out0_A_10 out0_A_11 out0_A_12 sout0_A_0 sout0_A_1 sout0_A_2; (try dsimp only)
      iintro ⟨⟨⟨HS0, HS1, HS2, HS3, HS4⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (V m c main_v14) (V m c main_v15) (V m c main_v16)).2.2.2.2.2.2.2.2.2.2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [HS0]; · iexact HS0
      isplitl [HS1]; · iexact HS1
      isplitl [HS2]; · iexact HS2
      isplitl [HS3]; · iexact HS3
      isplitl [HS4]; · iexact HS4
      isplitl [Hq0]; · iexact Hq0
      isplitl [Hq1]; · iexact Hq1
      isplitl [Hq2]; · iexact Hq2
      isplitl [Hh0]; · iexact Hh0
      isplitl [Hh1]; · iexact Hh1
      isplitl [Hh2]; · iexact Hh2
      isplitl [HW]; · iexact HW
      iintro ⟨H0, H1, H2, H3, H4, ⟨%e5, H5⟩, ⟨%e6, H6⟩, ⟨%e7, H7⟩, ⟨%e8, H8⟩, ⟨%e9, H9⟩, ⟨%e10, H10⟩, ⟨%e11, H11⟩, ⟨%e12, H12⟩, ⟨%es0, HS0⟩, ⟨%es1, HS1⟩, ⟨%es2, HS2⟩, ⟨%fT3, HS3⟩, ⟨%fT4, HS4⟩, Hq0, Hq1, Hq2, Hh0, Hh1, Hh2, ⟨%W', HW'⟩⟩
      isplitl [HS0 HS1 HS2 HS3 HS4 Hg Hq0 Hq1 Hq2 Hh0 Hh1 Hh2]
      · isplitl [HS0 HS1 HS2 HS3 HS4]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _)
          isplitl [HS3]
          · iexists _; unfold owns; iexists _; isplitr
            swap; · iexact HS3
            ipureintro; rfl
          iexists _; unfold owns; iexists _; isplitr
          swap; · iexact HS4
          ipureintro; rfl
        isplitl [Hg]
        · iexact Hg
        isplitl [Hq0 Hq1 Hq2]
        · isplitl [Hq0]; · iexact Hq0
          isplitl [Hq1]; · iexact Hq1
          iexact Hq2
        isplitl [Hh0]; · iexact Hh0
        isplitl [Hh1]; · iexact Hh1
        iexact Hh2
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      simp only [before0_10_B m c t h0, before0_11_B m c t h0, before0_12_B m c t h0]
      unfold later0 later1 later2 later3 later4 later5 later6 later7 later8 later9 later10 out0_B_5 out0_B_6 out0_B_7 out0_B_8 out0_B_9 out0_B_10 out0_B_11 out0_B_12 sout0_B_0 sout0_B_1 sout0_B_2; (try dsimp only)
      iintro ⟨⟨⟨HS0, HS1, HS2, HS3, HS4⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_B c (grid0.coords t) _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _ _ _ _ _ _ (V m c main_v14) (V m c main_v15) (V m c main_v16)).2.2.2.2.2.2.2.2.2.2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexact H10
      isplitl [H11]; · iexact H11
      isplitl [H12]; · iexact H12
      isplitl [HS0]; · iexact HS0
      isplitl [HS1]; · iexact HS1
      isplitl [HS2]; · iexact HS2
      isplitl [HS3]; · iexact HS3
      isplitl [HS4]; · iexact HS4
      isplitl [Hq0]; · iexact Hq0
      isplitl [Hq1]; · iexact Hq1
      isplitl [Hq2]; · iexact Hq2
      isplitl [Hh0]; · iexact Hh0
      isplitl [Hh1]; · iexact Hh1
      isplitl [Hh2]; · iexact Hh2
      isplitl [HW]; · iexact HW
      iintro ⟨H0, H1, H2, H3, H4, ⟨%e5, H5⟩, ⟨%e6, H6⟩, ⟨%e7, H7⟩, ⟨%e8, H8⟩, ⟨%e9, H9⟩, ⟨%e10, H10⟩, ⟨%e11, H11⟩, ⟨%e12, H12⟩, HS0, HS1, HS2, ⟨%fT3, HS3⟩, ⟨%fT4, HS4⟩, Hq0, Hq1, Hq2, Hh0, Hh1, Hh2, ⟨%W', HW'⟩⟩
      isplitl [HS0 HS1 HS2 HS3 HS4 Hg Hq0 Hq1 Hq2 Hh0 Hh1 Hh2]
      · isplitl [HS0 HS1 HS2 HS3 HS4]
        · isplitl [HS0]; · iexact HS0
          isplitl [HS1]; · iexact HS1
          isplitl [HS2]; · iexact HS2
          isplitl [HS3]
          · iexists _; unfold owns; iexists _; isplitr
            swap; · iexact HS3
            ipureintro; rfl
          iexists _; unfold owns; iexists _; isplitr
          swap; · iexact HS4
          ipureintro; rfl
        isplitl [Hg]
        · iexact Hg
        isplitl [Hq0 Hq1 Hq2]
        · isplitl [Hq0]; · iexact Hq0
          isplitl [Hq1]; · iexact Hq1
          iexact Hq2
        isplitl [Hh0]; · iexact Hh0
        isplitl [Hh1]; · iexact Hh1
        iexact Hh2
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3, HS4⟩, Hg, ⟨Hq0, Hq1, Hq2⟩, ⟨Hh0, Hh1, Hh2⟩⟩
  isplitl [HS0 HS1 HS2 HS3 HS4]
  · isplitl [HS0]
    · iexists _; iexact HS0
    isplitl [HS1]
    · iexists _; iexact HS1
    isplitl [HS2]
    · iexists _; iexact HS2
    isplitl [HS3]
    · iexact HS3
    iexact HS4
  isplitl [Hg]; · iexact Hg
  isplitl [Hq0 Hq1 Hq2]
  · isplitl [Hq0]; · iexact Hq0
    isplitl [Hq1]; · iexact Hq1
    iexact Hq2
  isplitl [Hh0]; · iexact Hh0
  isplitl [Hh1]; · iexact Hh1
  iexact Hh2

/-- The same after the last point. -/
theorem hout (c : Dev nD) : (dats m 0 c).Φ (Fin.last cfg0.N) ⊢ Pipeline.ΦD osem0 spec0 H0 (V m) c :=
  Phi_out m c _ (by rw [Fin.val_last]; have : cfg0.N = 32 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_FfnIdeal`'s statement (Defs.lean) at any `F` — Proof.lean cites it at `Bits`:
    `theorem Cert.Proof.claim : Cert.Claim := ⟨Cert.FfnIdeal.Gen.facts, fun m ρ _ => Cert.FfnIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.FfnIdeal.Gen

end
-- ==== Proof.Ffn.RefFrame.lean ====
/-
  The frame of the feed-forward reference: a straight line of host operations, none of which writes an argument.
-/
module

public import proofs.«01_k».proof.Defs
public import proofs.«01_k».proof.Proof.Gen.FfnRefIdeal.Run
public import Idealize.ShloMosaic.Lib.Claim

@[expose] public section

noncomputable section

open Idealize.ShloMosaic Idealize.ShloMosaic.TcCoe Idealize.SL.Sem

namespace Cert.FfnEqual

/-- The reference's frame: it ends, its arguments and every counter as they were. -/
theorem ref_frame : Cert.quiescent_FfnRefIdeal := fun m ρ _ => by
  refine (θ_run Cert.FfnRefIdeal.defs _ _).mono (fun r h => ⟨fun c => ?_, sem_eq_zero_of_no_sems (by decide) r.2⟩)
    (Cert.FfnRefIdeal.Value.run (F := Ideal) m ρ)
  obtain ⟨-, -, -, -, -, -, -, -, hk⟩ := h c
  exact hk

end Cert.FfnEqual
-- ==== Proof.Lift.lean ====
/-
  Finite extended reals: the operations of a program at the exact reading, applied to real numbers, are the same
  operations of the real numbers; and the words of the literals that the programs hold.
-/
module

public import Idealize.ShloMosaic.PureOps.Ideal
public import Idealize.ShloMosaic.Lib.Pointwise

@[expose] public section

noncomputable section

open Idealize.ShloMosaic

namespace Cert.Lift

/-- A finite sum of real numbers, taken among the extended reals. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient by a real number that is not zero. -/
theorem div_real {y : ℝ} (h : y ≠ 0) (x : ℝ) : Ideal.div (x : EReal) (y : EReal) = ((x / y : ℝ) : EReal) := by
  rw [Ideal.div_coe h, ← EReal.coe_mul, one_div, div_eq_mul_inv]

/-- The reciprocal square root of a positive real number. -/
theorem rsqrt_real {x : ℝ} (h : 0 < x) : Ideal.rsqrt (x : EReal) = (((Real.sqrt x)⁻¹ : ℝ) : EReal) := by
  rw [Ideal.rsqrt_coe, if_neg (not_lt.mpr h.le), if_neg h.ne']

/-- The root mean square's small addend: what the word `0x358637BD` denotes. -/
def eps : ℝ := 8796093 / 8796093022208

theorem eps_pos : 0 < eps := by unfold eps; norm_num

theorem lit_zero : Ideal.ofBits .f32 0x00000000#32 = ((0 : ℝ) : EReal) := by
  rw [Ideal.ofBits_zero_f32]; rfl

theorem lit_one : Ideal.ofBits .f32 0x3F800000#32 = ((1 : ℝ) : EReal) := by
  rw [Ideal.ofBits_one_f32]; rfl

theorem lit_half : Ideal.ofBits .f32 0x3F000000#32 = ((1 / 2 : ℝ) : EReal) := by
  simp [Ideal.ofBits, Ideal.ieee, -EReal.coe_mul]; norm_num

theorem lit_1024 : Ideal.ofBits .f32 0x44800000#32 = ((1024 : ℝ) : EReal) := by
  simp [Ideal.ofBits, Ideal.ieee, -EReal.coe_mul]; norm_num

theorem lit_recip1024 : Ideal.ofBits .f32 0x3A800000#32 = ((1 / 1024 : ℝ) : EReal) := by
  simp [Ideal.ofBits, Ideal.ieee, -EReal.coe_mul]; norm_num

theorem lit_eps : Ideal.ofBits .f32 0x358637BD#32 = ((eps : ℝ) : EReal) := by
  unfold eps
  simp [Ideal.ofBits, Ideal.ieee, -EReal.coe_mul]; norm_num

theorem lit_inf : Ideal.ofBits .f32 0x7F800000#32 = (⊤ : EReal) := by
  simp [Ideal.ofBits, Ideal.ieee]

end Cert.Lift
-- ==== Proof.Ffn.Real.lean ====
/-
  The feed-forward sub-layer of one token, over the real numbers: forward, loss, and the gradients that its backward
  pass hands on. Everything here is a function of the token's row and of the layer's parameters; nothing is of a program.
-/
module

public import proofs.«01_k».proof.Proof.Lift

@[expose] public section

noncomputable section

namespace Cert.FfnReal

open Cert.Lift

/-- A row of the model's width, and of the feed-forward's width. -/
abbrev Row := Fin 1024 → ℝ
abbrev Wide := Fin 2816 → ℝ

/-- The layer's parameters: the three weights, the norms' gains before and after. -/
structure Par where
  wg : Fin 1024 → Wide
  wu : Fin 1024 → Wide
  wd : Fin 2816 → Row
  gp : Row
  gf : Row

/-- The reciprocal of a row's root mean square. -/
def rn (v : Row) : ℝ := (Real.sqrt ((∑ k, v k * v k) / 1024 + eps))⁻¹

theorem rn_arg_pos (v : Row) : 0 < (∑ k, v k * v k) / 1024 + eps :=
  add_pos_of_nonneg_of_pos (div_nonneg (Finset.sum_nonneg fun _ _ => mul_self_nonneg _) (by norm_num)) eps_pos

/-- The gradient of a root-mean-square norm in its row: `d` is the cotangent already multiplied by the gain. -/
def rmsBack (v d : Row) : Row := fun j => rn v * d j - v j * (rn v * rn v * rn v) * ((∑ k, d k * v k) / 1024)

/-- The logistic function. -/
def sg (x : ℝ) : ℝ := (1 + Real.exp (-x))⁻¹

variable (p : Par) (x tg : Row)

/-- The normed row that the two input products take. -/
def h : Row := fun j => x j * rn x * p.gp j
def gt : Wide := fun n => ∑ k, h p x k * p.wg k n
def up : Wide := fun n => ∑ k, h p x k * p.wu k n
/-- The gated activation. -/
def act : Wide := fun n => gt p x n * sg (gt p x n) * up p x n
def f : Row := fun j => ∑ n, act p x n * p.wd n j
/-- The output's error. -/
def e : Row := fun j => x j + f p x j * rn (f p x) * p.gf j - tg j
/-- The cotangent of the output. -/
def d2 : Row := fun j => e p x tg j * (1 / 1024)
def df : Row := rmsBack (f p x) fun j => d2 p x tg j * p.gf j
def da : Wide := fun n => ∑ k, df p x tg k * p.wd n k
def dg : Wide := fun n =>
  da p x tg n * up p x n * (sg (gt p x n) * (1 + gt p x n * (1 - sg (gt p x n))))
def du : Wide := fun n => da p x tg n * gt p x n * sg (gt p x n)
def dh : Row := fun j => ∑ n, dg p x tg n * p.wg j n + ∑ n, du p x tg n * p.wu j n
def dx : Row := fun j => d2 p x tg j + rmsBack x (fun j => dh p x tg j * p.gp j) j
/-- One token's part of the two gains' gradients and of the loss. -/
def gpPart : Row := fun j => dh p x tg j * x j * rn x
def gfPart : Row := fun j => d2 p x tg j * f p x j * rn (f p x)
def sq : ℝ := ∑ j, e p x tg j * e p x tg j

/-- The logistic function by the hyperbolic tangent of the half. -/
theorem sg_tanh (x : ℝ) : 1 / 2 * Real.tanh (1 / 2 * x) + 1 / 2 = sg x := by
  unfold sg
  have h1 : Real.exp (1 / 2 * x) ≠ 0 := (Real.exp_pos _).ne'
  have h2 : Real.exp (-x) = (Real.exp (1 / 2 * x) * Real.exp (1 / 2 * x))⁻¹ := by
    rw [← Real.exp_add, ← Real.exp_neg]; congr 1; ring
  have h3 : Real.exp (-(1 / 2 * x)) = (Real.exp (1 / 2 * x))⁻¹ := Real.exp_neg _
  rw [Real.tanh_eq_sinh_div_cosh, Real.sinh_eq, Real.cosh_eq, h2, h3]
  have h4 : (0 : ℝ) < Real.exp (1 / 2 * x) := Real.exp_pos _
  field_simp
  ring

end Cert.FfnReal
-- ==== Proof.Ffn.Args.lean ====
/-
  What it means that the arguments of the feed-forward step are real numbers.
-/
module

public import proofs.«01_k».proof.Proof.Ffn.Real
public import Idealize.ShloMosaic.Lib.Pointwise

@[expose] public section

noncomputable section

open Idealize.ShloMosaic

namespace Cert.FfnReal

/-- The seven argument arrays hold the tokens' rows `X`, the targets `T` and the parameters `p`. -/
structure Args (p : Par) (X T : Fin 8192 → Row) (a0 a1 : FVec Ideal (⟨2, ![8192, 1024]⟩ : Shape) .f32)
    (a2 a3 : FVec Ideal (⟨2, ![1024, 2816]⟩ : Shape) .f32) (a4 : FVec Ideal (⟨2, ![2816, 1024]⟩ : Shape) .f32)
    (a5 a6 : FVec Ideal (⟨1, ![1024]⟩ : Shape) .f32) : Prop where
  x : ∀ i k, a0 (ix2 i k) = ((X i k : ℝ) : EReal)
  t : ∀ i k, a1 (ix2 i k) = ((T i k : ℝ) : EReal)
  wg : ∀ k n, a2 (ix2 k n) = ((p.wg k n : ℝ) : EReal)
  wu : ∀ k n, a3 (ix2 k n) = ((p.wu k n : ℝ) : EReal)
  wd : ∀ n k, a4 (ix2 n k) = ((p.wd n k : ℝ) : EReal)
  gp : ∀ k, a5 (ix1 k) = ((p.gp k : ℝ) : EReal)
  gf : ∀ k, a6 (ix1 k) = ((p.gf k : ℝ) : EReal)

end Cert.FfnReal
-- ==== Proof.Ffn.Value.lean ====
/-
  The run of the feed-forward kernel with each output array after the run named, and what the named arrays are made of: an
  output whose blocks are all different holds, in block `t`, what point `t` wrote back.
-/
module

public import proofs.«01_k».proof.Proof.Ffn.Frame
public import Idealize.ShloMosaic.Lib.Pipeline.Value

@[expose] public section

noncomputable section

namespace Cert.FfnIdeal.Value

open Cert.FfnIdeal Cert.FfnIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- The index map sends distinct grid points to distinct block indices (decided over the 32 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- WHAT POINT `t` WRITES BACK to output window 6's array: the run's contents for that window after the body (`Gen.outsAt0`: its component 1), read through the window's block. -/
theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

/-- The index map sends distinct grid points to distinct block indices (decided over the 32 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- WHAT POINT `t` WRITES BACK to output window 7's array: the run's contents for that window after the body (`Gen.outsAt0`: its component 2), read through the window's block. -/
theorem flushed7 (c : Dev nD) (t : Fin cfg0.N) :
    (dats m 0 c).flushed 7 t = (cfg0.win 7).cut (grid0.coords t) ((outsAt0 m c t.val t.isLt).2.2.1) := by
  show (cfg0.win 7).cut (grid0.coords t) ((dats m 0 c).after 7 t) = _
  rw [after0_7]

/-- The index map sends distinct grid points to distinct block indices (decided over the 32 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- WHAT POINT `t` WRITES BACK to output window 8's array: the run's contents for that window after the body (`Gen.outsAt0`: its component 3), read through the window's block. -/
theorem flushed8 (c : Dev nD) (t : Fin cfg0.N) :
    (dats m 0 c).flushed 8 t = (cfg0.win 8).cut (grid0.coords t) ((outsAt0 m c t.val t.isLt).2.2.2.1) := by
  show (cfg0.win 8).cut (grid0.coords t) ((dats m 0 c).after 8 t) = _
  rw [after0_8]

/-- The index map sends distinct grid points to distinct block indices (decided over the 32 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- WHAT POINT `t` WRITES BACK to output window 9's array: the run's contents for that window after the body (`Gen.outsAt0`: its component 4), read through the window's block. -/
theorem flushed9 (c : Dev nD) (t : Fin cfg0.N) :
    (dats m 0 c).flushed 9 t = (cfg0.win 9).cut (grid0.coords t) ((outsAt0 m c t.val t.isLt).2.2.2.2.1) := by
  show (cfg0.win 9).cut (grid0.coords t) ((dats m 0 c).after 9 t) = _
  rw [after0_9]

/-- The index map sends distinct grid points to distinct block indices (decided over the 32 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- WHAT POINT `t` WRITES BACK to output window 10's array: the run's contents for that window after the body (`Gen.outsAt0`: its component 5), read through the window's block. -/
theorem flushed10 (c : Dev nD) (t : Fin cfg0.N) :
    (dats m 0 c).flushed 10 t = (cfg0.win 10).cut (grid0.coords t) ((outsAt0 m c t.val t.isLt).2.2.2.2.2.1) := by
  show (cfg0.win 10).cut (grid0.coords t) ((dats m 0 c).after 10 t) = _
  rw [after0_10]

/-- WHAT POINT `t` WRITES BACK to output window 11's array: the run's contents for that window after the body (`Gen.outsAt0`: its component 6), read through the window's block. -/
theorem flushed11 (c : Dev nD) (t : Fin cfg0.N) :
    (dats m 0 c).flushed 11 t = (cfg0.win 11).cut (grid0.coords t) ((outsAt0 m c t.val t.isLt).2.2.2.2.2.2.1) := by
  show (cfg0.win 11).cut (grid0.coords t) ((dats m 0 c).after 11 t) = _
  rw [after0_11]

/-- WHAT POINT `t` WRITES BACK to output window 12's array: the run's contents for that window after the body (`Gen.outsAt0`: its component 7), read through the window's block. -/
theorem flushed12 (c : Dev nD) (t : Fin cfg0.N) :
    (dats m 0 c).flushed 12 t = (cfg0.win 12).cut (grid0.coords t) ((outsAt0 m c t.val t.isLt).2.2.2.2.2.2.2.1) := by
  show (cfg0.win 12).cut (grid0.coords t) ((dats m 0 c).after 12 t) = _
  rw [after0_12]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v19_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v19_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v19_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v19_3) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v19_4) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v19_5) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v19_6) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v19_7) = (dats m 0 c).arrAt 12 cfg0.N :=
  (h c).1 12

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 2 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v19_0) = (dats m 0 c).arrAt 5 cfg0.N
      ∧ r.2.mem ((c : Thread nD τ).loc main_v19_1) = (dats m 0 c).arrAt 6 cfg0.N
      ∧ r.2.mem ((c : Thread nD τ).loc main_v19_2) = (dats m 0 c).arrAt 7 cfg0.N
      ∧ r.2.mem ((c : Thread nD τ).loc main_v19_3) = (dats m 0 c).arrAt 8 cfg0.N
      ∧ r.2.mem ((c : Thread nD τ).loc main_v19_4) = (dats m 0 c).arrAt 9 cfg0.N
      ∧ r.2.mem ((c : Thread nD τ).loc main_v19_5) = (dats m 0 c).arrAt 10 cfg0.N
      ∧ r.2.mem ((c : Thread nD τ).loc main_v19_6) = (dats m 0 c).arrAt 11 cfg0.N
      ∧ r.2.mem ((c : Thread nD τ).loc main_v19_7) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post5 m r h c,
      post6 m r h c,
      post7 m r h c,
      post8 m r h c,
      post9 m r h c,
      post10 m r h c,
      post11 m r h c,
      post12 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.FfnIdeal.Value
-- ==== Proof.Ffn.Block.lean ====
/-
  What one grid point of the feed-forward kernel computes, at an element: each value that the body names, read off the
  real numbers that its operands are.
-/
module

public import proofs.«01_k».proof.Proof.Gen.FfnIdeal.Skeleton
public import proofs.«01_k».proof.Proof.Ffn.Real

@[expose] public section

set_option maxRecDepth 16384

noncomputable section

open Idealize.ShloMosaic

namespace Cert.FfnIdeal.Block

open Cert.FfnIdeal Cert.FfnIdeal.Gen Cert.Lift Cert.FfnReal

/-- A rectangle of extended reals that holds real numbers. -/
abbrev Is2 {a b : ℕ} {φ : FTy} (v : FVec Ideal (⟨2, ![a, b]⟩ : Shape) φ) (r : Fin a → Fin b → ℝ) : Prop :=
  ∀ i j, v (ix2 i j) = ((r i j : ℝ) : EReal)

variable (p : Par) (X T : Fin 256 → Row)

theorem gt_eq (v3 : FVec Ideal S256x1024 .bf16) (v6 : FVec Ideal S1024x2816 .bf16)
    (h3 : Is2 v3 fun i => h p (X i)) (h6 : Is2 v6 p.wg) : Is2 (k0_pay6 (F := Ideal) v3 v6) fun i => gt p (X i) := by
  intro i j
  pointwise [k0_pay6, k0_pay5]
  simp only [h3 _ _, h6 _ _, ← EReal.coe_mul, sum_coe]
  rfl

theorem up_eq (v3 : FVec Ideal S256x1024 .bf16) (v8 : FVec Ideal S1024x2816 .bf16)
    (h3 : Is2 v3 fun i => h p (X i)) (h8 : Is2 v8 p.wu) : Is2 (k0_pay7 (F := Ideal) v3 v8) fun i => up p (X i) := by
  intro i j
  pointwise [k0_pay7, k0_pay5]
  simp only [h3 _ _, h8 _ _, ← EReal.coe_mul, sum_coe]
  rfl

theorem act_eq (v3 : FVec Ideal S256x1024 .bf16) (v6 v8 : FVec Ideal S1024x2816 .bf16)
    (h3 : Is2 v3 fun i => h p (X i)) (h6 : Is2 v6 p.wg) (h8 : Is2 v8 p.wu) :
    Is2 (k0_pay10 (F := Ideal) v3 v6 v8) fun i => act p (X i) := by
  intro i j
  have hg := gt_eq p X v3 v6 h3 h6
  have hu := up_eq p X v3 v8 h3 h8
  pointwise [k0_pay10]
  simp only [hg _ _, hu _ _, lit_half, ← EReal.coe_mul, ← EReal.coe_add, Ideal.tanh_coe, sg_tanh]
  rfl

theorem f_eq (v3 : FVec Ideal S256x1024 .bf16) (v6 v8 : FVec Ideal S1024x2816 .bf16) (v27 : FVec Ideal S2816x1024 .bf16)
    (h3 : Is2 v3 fun i => h p (X i)) (h6 : Is2 v6 p.wg) (h8 : Is2 v8 p.wu) (h27 : Is2 v27 p.wd) :
    Is2 (k0_pay11 (F := Ideal) v3 v6 v8 v27) fun i => f p (X i) := by
  intro i j
  have ha := act_eq p X v3 v6 v8 h3 h6 h8
  pointwise [k0_pay11]
  simp only [ha _ _, h27 _ _, ← EReal.coe_mul, sum_coe]
  rfl

theorem rn_eq (v : FVec Ideal S256x1024 .f32) (V : Fin 256 → Row) (hv : Is2 v V) :
    Is2 (k0_pay12 (F := Ideal) v) fun i _ => rn (V i) := by
  intro i j
  pointwise [k0_pay12]
  simp only [hv _ _, lit_1024, lit_eps, ← EReal.coe_mul, sum_coe]
  rw [div_real (by norm_num), ← EReal.coe_add, rsqrt_real (rn_arg_pos (V i))]
  rfl

variable (v29 v30 v46 : FVec Ideal S256x1024 .f32) (v41 : FVec Ideal S1x1024 .f32)

theorem e_eq (h29 : Is2 v29 fun i => f p (X i)) (h30 : Is2 v30 X) (h41 : Is2 v41 fun _ => p.gf) (h46 : Is2 v46 T) :
    Is2 (k0_pay13 (F := Ideal) v29 v30 v41 v46) fun i => e p (X i) (T i) := by
  intro i j
  have hr := rn_eq v29 _ h29
  pointwise [k0_pay13]
  simp only [h29 _ _, h30 _ _, h41 _ _, h46 _ _, hr _ _, ← EReal.coe_mul, ← EReal.coe_add, ← EReal.coe_sub]
  rfl

theorem d2_eq (h29 : Is2 v29 fun i => f p (X i)) (h30 : Is2 v30 X) (h41 : Is2 v41 fun _ => p.gf) (h46 : Is2 v46 T) :
    Is2 (k0_pay15 (F := Ideal) v29 v30 v41 v46) fun i => d2 p (X i) (T i) := by
  intro i j
  have he := e_eq p X T v29 v30 v46 v41 h29 h30 h41 h46
  pointwise [k0_pay15]
  simp only [he _ _, lit_recip1024, ← EReal.coe_mul]
  rfl

/-- The loss row after a point: the first lane takes the tile's part, the others stay. -/
theorem loss_eq (v58 : FVec Ideal S1x128 .f32) (l : Fin 128 → ℝ) (h58 : Is2 v58 fun _ => l)
    (h29 : Is2 v29 fun i => f p (X i)) (h30 : Is2 v30 X) (h41 : Is2 v41 fun _ => p.gf) (h46 : Is2 v46 T) :
    Is2 (k0_pay14 (F := Ideal) v29 v30 v41 v46 v58) fun _ j =>
      l j + if j = 0 then 1 / 2 * (∑ i, sq p (X i) (T i)) * (1 / 1024) else 0 := by
  intro i j
  have he := e_eq p X T v29 v30 v46 v41 h29 h30 h41 h46
  pointwise [k0_pay14]
  simp only [he _ _, h58 _ _, lit_recip1024, lit_half, lit_zero, ← EReal.coe_mul, sum_coe]
  have hj : (BitVec.ofNat 32 j.val = 0#32) ↔ j = 0 := by
    rw [← BitVec.toNat_inj, BitVec.toNat_ofNat, Nat.mod_eq_of_lt (by omega)]
    exact Fin.val_eq_zero_iff
  by_cases h : j = 0
  · subst h
    rw [if_pos rfl, EReal.coe_add]
    exact congrArg _ (by simp [Scalar.select, IntOp.cmpi]; rfl)
  · rw [if_neg h, add_zero, show IntOp.cmpi .eq (BitVec.ofNat 32 j.val) 0#32 = 0#1 by
      simp only [IntOp.cmpi]
      rw [show (BitVec.ofNat 32 j.val == 0#32) = false from beq_eq_false_iff_ne.mpr fun c => h (hj.mp c)]
      rfl]
    exact add_zero _

theorem gf_eq (v38 : FVec Ideal S256x1 .f32) (v69 : FVec Ideal S256x1024 .f32) (v70 : FVec Ideal S1x1024 .f32) (a : Row)
    (h70 : Is2 v70 fun _ => a)
    (h29 : Is2 v29 fun i => f p (X i)) (h38 : Is2 v38 fun i _ => rn (f p (X i))) (h69 : Is2 v69 fun i => d2 p (X i) (T i)) :
    Is2 (k0_pay16 (F := Ideal) v29 v38 v69 v70) fun _ j => a j + ∑ i, gfPart p (X i) (T i) j := by
  intro i j
  pointwise [k0_pay16]
  simp only [h29 _ _, h38 _ _, h69 _ _, h70 _ _, ← EReal.coe_mul, sum_coe, ← EReal.coe_add]
  rfl

theorem df_eq (v38 : FVec Ideal S256x1 .f32) (v69 : FVec Ideal S256x1024 .f32) (v79 : FVec Ideal S1x1024 .f32)
    (h29 : Is2 v29 fun i => f p (X i)) (h38 : Is2 v38 fun i _ => rn (f p (X i))) (h69 : Is2 v69 fun i => d2 p (X i) (T i))
    (h79 : Is2 v79 fun _ => p.gf) :
    Is2 (k0_pay17 (F := Ideal) v29 v38 v69 v79) fun i => df p (X i) (T i) := by
  intro i j
  pointwise [k0_pay17]
  simp only [h29 _ _, h38 _ _, h69 _ _, h79 _ _, lit_1024, ← EReal.coe_mul, sum_coe]
  rw [div_real (by norm_num)]
  simp only [← EReal.coe_mul, ← EReal.coe_sub]
  rfl

theorem da_eq (v38 : FVec Ideal S256x1 .f32) (v69 : FVec Ideal S256x1024 .f32) (v79 : FVec Ideal S1x1024 .f32)
    (v100 : FVec Ideal S2816x1024 .bf16) (h100 : Is2 v100 p.wd)
    (h29 : Is2 v29 fun i => f p (X i)) (h38 : Is2 v38 fun i _ => rn (f p (X i))) (h69 : Is2 v69 fun i => d2 p (X i) (T i))
    (h79 : Is2 v79 fun _ => p.gf) :
    Is2 (k0_pay19 (F := Ideal) v29 v38 v69 v79 v100) fun i => da p (X i) (T i) := by
  intro i j
  have hd := df_eq p X T v29 v38 v69 v79 h29 h38 h69 h79
  pointwise [k0_pay19]
  simp only [hd _ _, h100 _ _, ← EReal.coe_mul, sum_coe]
  rfl

/-- The logistic function of the gate, by the hyperbolic tangent that the body takes. -/
theorem sg_eq (v102 : FVec Ideal S256x2816 .f32) (h102 : Is2 v102 fun i => gt p (X i)) :
    Is2 (k0_pay22 (F := Ideal) (k0_pay20 v102) k0_pay21) fun i n => sg (gt p (X i) n) := by
  intro i j
  pointwise [k0_pay22, k0_pay20, k0_pay21]
  simp only [h102 _ _, lit_half, ← EReal.coe_mul, ← EReal.coe_add, Ideal.tanh_coe, sg_tanh]

theorem dg_eq (v101 v102 v103 : FVec Ideal S256x2816 .f32) (h101 : Is2 v101 fun i => da p (X i) (T i))
    (h102 : Is2 v102 fun i => gt p (X i)) (h103 : Is2 v103 fun i => up p (X i)) :
    Is2 (k0_pay23 (F := Ideal) v101 v102 v103 (k0_pay20 v102) k0_pay21) fun i => dg p (X i) (T i) := by
  intro i j
  have hs := sg_eq p X v102 h102
  pointwise [k0_pay23]
  simp only [h101 _ _, h102 _ _, h103 _ _, hs _ _, lit_one, ← EReal.coe_mul, ← EReal.coe_add, ← EReal.coe_sub]
  rfl

theorem du_eq (v101 v102 : FVec Ideal S256x2816 .f32) (h101 : Is2 v101 fun i => da p (X i) (T i))
    (h102 : Is2 v102 fun i => gt p (X i)) :
    Is2 (k0_pay24 (F := Ideal) v101 v102 (k0_pay20 v102) k0_pay21) fun i => du p (X i) (T i) := by
  intro i j
  have hs := sg_eq p X v102 h102
  pointwise [k0_pay24]
  simp only [h101 _ _, h102 _ _, hs _ _, ← EReal.coe_mul]
  rfl

theorem dh_eq (v101 v102 v103 : FVec Ideal S256x2816 .f32) (v125 v127 : FVec Ideal S1024x2816 .bf16)
    (h101 : Is2 v101 fun i => da p (X i) (T i))
    (h102 : Is2 v102 fun i => gt p (X i)) (h103 : Is2 v103 fun i => up p (X i)) (h125 : Is2 v125 p.wg) (h127 : Is2 v127 p.wu) :
    Is2 (k0_pay25 (F := Ideal) k0_pay18 v101 v102 v103 (k0_pay20 v102) k0_pay21 v125 v127) fun i => dh p (X i) (T i) := by
  intro i j
  have hg := dg_eq p X T v101 v102 v103 h101 h102 h103
  have hu := du_eq p X T v101 v102 h101 h102
  pointwise [k0_pay25, k0_pay18]
  simp only [hg _ _, hu _ _, h125 _ _, h127 _ _, lit_zero, ← EReal.coe_mul, sum_coe, ← EReal.coe_add, zero_add]
  rfl

theorem rnx_eq (v : FVec Ideal S256x1024 .f32) (V : Fin 256 → Row) (hv : Is2 v V) :
    Is2 (k0_pay26 (F := Ideal) v) fun i _ => rn (V i) := by
  intro i j
  pointwise [k0_pay26]
  simp only [hv _ _, lit_1024, lit_eps, ← EReal.coe_mul, sum_coe]
  rw [div_real (by norm_num), ← EReal.coe_add, rsqrt_real (rn_arg_pos (V i))]
  rfl

theorem gp_eq (v101 v102 v103 : FVec Ideal S256x2816 .f32) (v125 v127 : FVec Ideal S1024x2816 .bf16)
    (v139 : FVec Ideal S1x1024 .f32) (a : Row) (h139 : Is2 v139 fun _ => a) (h30 : Is2 v30 X)
    (h101 : Is2 v101 fun i => da p (X i) (T i))
    (h102 : Is2 v102 fun i => gt p (X i)) (h103 : Is2 v103 fun i => up p (X i)) (h125 : Is2 v125 p.wg) (h127 : Is2 v127 p.wu) :
    Is2 (k0_pay27 (F := Ideal) v30 k0_pay18 v101 v102 v103 (k0_pay20 v102) k0_pay21 v125 v127 v139) fun _ j =>
      a j + ∑ i, gpPart p (X i) (T i) j := by
  intro i j
  have hd := dh_eq p X T v101 v102 v103 v125 v127 h101 h102 h103 h125 h127
  have hr := rnx_eq v30 X h30
  pointwise [k0_pay27]
  simp only [hd _ _, hr _ _, h30 _ _, h139 _ _, ← EReal.coe_mul, sum_coe, ← EReal.coe_add]
  rfl

theorem dx_eq (v69 v130 : FVec Ideal S256x1024 .f32) (v138 : FVec Ideal S256x1 .f32) (v148 : FVec Ideal S1x1024 .f32)
    (h30 : Is2 v30 X) (h69 : Is2 v69 fun i => d2 p (X i) (T i)) (h130 : Is2 v130 fun i => dh p (X i) (T i))
    (h138 : Is2 v138 fun i _ => rn (X i)) (h148 : Is2 v148 fun _ => p.gp) :
    Is2 (k0_pay1 (F := Ideal) v30 v69 v130 v138 v148) fun i => dx p (X i) (T i) := by
  intro i j
  pointwise [k0_pay1]
  simp only [h30 _ _, h69 _ _, h130 _ _, h138 _ _, h148 _ _, lit_1024, ← EReal.coe_mul, sum_coe]
  rw [div_real (by norm_num)]
  simp only [← EReal.coe_mul, ← EReal.coe_sub, ← EReal.coe_add]
  rfl

theorem zero_gp : Is2 (k0_pay2 (F := Ideal)) fun _ _ => 0 := by
  intro i j; pointwise [k0_pay2]; exact EReal.coe_zero.symm

theorem zero_gf : Is2 (k0_pay3 (F := Ideal)) fun _ _ => 0 := by
  intro i j; pointwise [k0_pay3]; exact EReal.coe_zero.symm

theorem zero_loss : Is2 (k0_pay4 (F := Ideal)) fun _ _ => 0 := by
  intro i j; pointwise [k0_pay4]; exact EReal.coe_zero.symm

theorem gt_kept (v3 : FVec Ideal S256x1024 .bf16) (v6 : FVec Ideal S1024x2816 .bf16)
    (h3 : Is2 v3 fun i => h p (X i)) (h6 : Is2 v6 p.wg) : Is2 (k0_pay8 (F := Ideal) v3 v6) fun i => gt p (X i) := by
  intro i j
  have := gt_eq p X v3 v6 h3 h6
  pointwise [k0_pay8]
  exact this _ _

theorem up_kept (v3 : FVec Ideal S256x1024 .bf16) (v8 : FVec Ideal S1024x2816 .bf16)
    (h3 : Is2 v3 fun i => h p (X i)) (h8 : Is2 v8 p.wu) : Is2 (k0_pay9 (F := Ideal) v3 v8) fun i => up p (X i) := by
  intro i j
  have := up_eq p X v3 v8 h3 h8
  pointwise [k0_pay9]
  exact this _ _

end Cert.FfnIdeal.Block
-- ==== Proof.Ffn.Point.lean ====
/-
  What a grid point of the feed-forward kernel leaves in each buffer, as one composition of the body's named values over the
  point's input blocks and the three weights, and what real numbers that is.
-/
module

public import proofs.«01_k».proof.Proof.Ffn.Value
public import proofs.«01_k».proof.Proof.Ffn.Block
public import Idealize.ShloMosaic.Lib.Pipeline.ValueKit
public import Idealize.ShloMosaic.Lib.Pipeline.ReadBack

@[expose] public section

set_option maxRecDepth 16384

noncomputable section

namespace Cert.FfnIdeal.Point

open Cert.FfnIdeal Cert.FfnIdeal.Gen Cert.FfnIdeal.Block Cert.FfnReal
open Idealize.ShloMosaic Idealize.ShloMosaic.TcCoe Idealize.SL.Sem

section Compose

variable {F : FTy → Type} [FloatOps F]
variable (x0 x2 : Vec F S256x1024 .f32) (x1 : Vec F S256x1024 .bf16) (x3 x4 : Vec F S1x1024 .f32)
variable (w0 w1 : Vec F S1024x2816 .bf16) (w2 : Vec F S2816x1024 .bf16)

/-- The block's down product. -/
def fB : FVec F S256x1024 .f32 := k0_pay11 x1 w0 w1 w2
/-- The cotangent of the block's output. -/
def d2B : FVec F S256x1024 .f32 := k0_pay15 (fB x1 w0 w1 w2) x0 x4 x2
/-- The cotangent of the block's down product. -/
def dfB : FVec F S256x1024 .bf16 := k0_pay17 (fB x1 w0 w1 w2) (k0_pay12 (fB x1 w0 w1 w2)) (d2B x0 x2 x1 x4 w0 w1 w2) x4
/-- The cotangent of the block's activation. -/
def daB : FVec F S256x2816 .f32 :=
  k0_pay19 (fB x1 w0 w1 w2) (k0_pay12 (fB x1 w0 w1 w2)) (d2B x0 x2 x1 x4 w0 w1 w2) x4 w2
/-- The gate and the up product, as the body keeps them. -/
def gtB : FVec F S256x2816 .f32 := k0_pay8 x1 w0
def upB : FVec F S256x2816 .f32 := k0_pay9 x1 w1
/-- The cotangents of the two. -/
def dgB : FVec F S256x2816 .bf16 :=
  k0_pay23 (daB x0 x2 x1 x4 w0 w1 w2) (gtB x1 w0) (upB x1 w1) (k0_pay20 (gtB x1 w0)) k0_pay21
def duB : FVec F S256x2816 .bf16 := k0_pay24 (daB x0 x2 x1 x4 w0 w1 w2) (gtB x1 w0) (k0_pay20 (gtB x1 w0)) k0_pay21
/-- The cotangent of the block's input. -/
def dxB : FVec F S256x1024 .f32 :=
  k0_pay1 x0 (d2B x0 x2 x1 x4 w0 w1 w2)
    (k0_pay25 k0_pay18 (daB x0 x2 x1 x4 w0 w1 w2) (gtB x1 w0) (upB x1 w1) (k0_pay20 (gtB x1 w0)) k0_pay21 w0 w1)
    (k0_pay26 x0) x3
/-- The gains' sums and the loss row, over what they held before. -/
def gpB (a : Vec F S1x1024 .f32) : FVec F S1x1024 .f32 :=
  k0_pay27 x0 k0_pay18 (daB x0 x2 x1 x4 w0 w1 w2) (gtB x1 w0) (upB x1 w1) (k0_pay20 (gtB x1 w0)) k0_pay21 w0 w1 a
def gfB (a : Vec F S1x1024 .f32) : FVec F S1x1024 .f32 :=
  k0_pay16 (fB x1 w0 w1 w2) (k0_pay12 (fB x1 w0 w1 w2)) (d2B x0 x2 x1 x4 w0 w1 w2) a
def lossB (a : Vec F S1x128 .f32) : FVec F S1x128 .f32 := k0_pay14 (fB x1 w0 w1 w2) x0 x4 x2 a

end Compose

/-! ## The numbers -/

/-- The point's operands hold the parameters `p`, the rows `X` (with their normed rows) and the targets `T`. -/
structure Holds (p : Par) (X T : Fin 256 → Row) (x0 x2 : FVec Ideal S256x1024 .f32) (x1 : FVec Ideal S256x1024 .bf16)
    (x3 x4 : FVec Ideal S1x1024 .f32) (w0 w1 : FVec Ideal S1024x2816 .bf16) (w2 : FVec Ideal S2816x1024 .bf16) : Prop where
  x : Is2 x0 X
  t : Is2 x2 T
  h : Is2 x1 fun i => FfnReal.h p (X i)
  gp : Is2 x3 fun _ => p.gp
  gf : Is2 x4 fun _ => p.gf
  wg : Is2 w0 p.wg
  wu : Is2 w1 p.wu
  wd : Is2 w2 p.wd

section Numbers

variable {p : Par} {X T : Fin 256 → Row} {x0 x2 : FVec Ideal S256x1024 .f32} {x1 : FVec Ideal S256x1024 .bf16}
  {x3 x4 : FVec Ideal S1x1024 .f32} {w0 w1 : FVec Ideal S1024x2816 .bf16} {w2 : FVec Ideal S2816x1024 .bf16}
variable (H : Holds p X T x0 x2 x1 x3 x4 w0 w1 w2)
include H

theorem f_is : Is2 (fB x1 w0 w1 w2) fun i => f p (X i) := f_eq p X x1 w0 w1 w2 H.h H.wg H.wu H.wd
theorem rn_is : Is2 (k0_pay12 (fB x1 w0 w1 w2)) fun i _ => rn (f p (X i)) := rn_eq _ _ (f_is H)
theorem d2_is : Is2 (d2B x0 x2 x1 x4 w0 w1 w2) fun i => d2 p (X i) (T i) := d2_eq p X T _ _ _ _ (f_is H) H.x H.gf H.t
theorem df_is : Is2 (dfB x0 x2 x1 x4 w0 w1 w2) fun i => df p (X i) (T i) :=
  df_eq p X T _ _ _ _ (f_is H) (rn_is H) (d2_is H) H.gf
theorem da_is : Is2 (daB x0 x2 x1 x4 w0 w1 w2) fun i => da p (X i) (T i) :=
  da_eq p X T _ _ _ _ _ H.wd (f_is H) (rn_is H) (d2_is H) H.gf
theorem gt_is : Is2 (gtB x1 w0) fun i => gt p (X i) := gt_kept p X _ _ H.h H.wg
theorem up_is : Is2 (upB x1 w1) fun i => up p (X i) := up_kept p X _ _ H.h H.wu
theorem act_is : Is2 (k0_pay10 (F := Ideal) x1 w0 w1) fun i => act p (X i) := act_eq p X _ _ _ H.h H.wg H.wu
theorem dg_is : Is2 (dgB x0 x2 x1 x4 w0 w1 w2) fun i => dg p (X i) (T i) := dg_eq p X T _ _ _ (da_is H) (gt_is H) (up_is H)
theorem du_is : Is2 (duB x0 x2 x1 x4 w0 w1 w2) fun i => du p (X i) (T i) := du_eq p X T _ _ (da_is H) (gt_is H)
theorem dx_is : Is2 (dxB x0 x2 x1 x3 x4 w0 w1 w2) fun i => dx p (X i) (T i) :=
  dx_eq p X T _ _ _ _ _ H.x (d2_is H) (dh_eq p X T _ _ _ _ _ (da_is H) (gt_is H) (up_is H) H.wg H.wu) (rnx_eq _ _ H.x) H.gp
theorem gp_is {a : FVec Ideal S1x1024 .f32} {r : Row} (ha : Is2 a fun _ => r) :
    Is2 (gpB x0 x2 x1 x4 w0 w1 w2 a) fun _ j => r j + ∑ i, gpPart p (X i) (T i) j :=
  gp_eq p X T _ _ _ _ _ _ _ r ha H.x (da_is H) (gt_is H) (up_is H) H.wg H.wu
theorem gf_is {a : FVec Ideal S1x1024 .f32} {r : Row} (ha : Is2 a fun _ => r) :
    Is2 (gfB x0 x2 x1 x4 w0 w1 w2 a) fun _ j => r j + ∑ i, gfPart p (X i) (T i) j :=
  gf_eq p X T _ _ _ _ r ha (f_is H) (rn_is H) (d2_is H)
theorem loss_is {a : FVec Ideal S1x128 .f32} {l : Fin 128 → ℝ} (ha : Is2 a fun _ => l) :
    Is2 (lossB x0 x2 x1 x4 w0 w1 w2 a) fun _ j =>
      l j + if j = 0 then 1 / 2 * (∑ i, sq p (X i) (T i)) * (1 / 1024) else 0 :=
  loss_eq p X T _ _ _ _ _ l ha (f_is H) H.x H.gf H.t

end Numbers

/-! ## What a point leaves -/

section Leaves

variable {F : FTy → Type} [FloatOps F]
variable (m : (ℓ : Loc nD τ sig) → Buf (Elt F) ℓ)

/-- A load of the whole after a copy of the whole. -/
theorem cov_whole {sig : RefSig} {κ : Kind} {sp : Space} {a b : ℕ} {e : EltTy} (v : View sig κ sp (⟨2, ![a, b]⟩ : Shape) e)
    (w : (⟨2, ![a, b]⟩ : Shape).Idx → Elt F e) (inb) :
    v.readCov [⟨Rect.whole (⟨2, ![a, b]⟩ : Shape), w⟩]
      (Rect.unit (s := (⟨2, ![a, b]⟩ : Shape)) ![0, 0] ![a, b] inb).toLoadRect = w := by
  have e0 : (![0, 0] : Fin 2 → ℕ) = fun _ => 0 := funext fun k => by fin_cases k <;> rfl
  revert inb
  rw [e0]
  intro inb
  exact View.readCov_cons_toLoadRect v (Rect.whole _) w []

/-- One piece that fills the block is the block. -/
theorem canon_whole {S : Shape} {e : EltTy} (w : (Rect.whole S).shape.Idx → Elt F e) :
    View.canon [⟨Rect.whole S, w⟩] = w :=
  View.canon_cons_unit_lit (off := fun _ => 0) _ w [] fun _ => rfl

variable (c : Dev nD) (t : Fin cfg0.N)

/-! ### At the first point -/

theorem first0_eq (h0 : t.val % 32 = 0) : first0 m c t h0 =
    dxB (iblk m c 0 t) (iblk m c 2 t) (iblk m c 1 t) (iblk m c 3 t) (iblk m c 4 t) (V m c main_v14) (V m c main_v15) (V m c main_v16)  := by
  unfold first0
  frame_out
  simp only [cov_whole, ReadAs.apply_same, View.read_whole]
  rfl

theorem first1_eq (h0 : t.val % 32 = 0) : first1 m c t h0 =
    k0_pay10 (iblk m c 1 t) (V m c main_v14) (V m c main_v15)  := by
  unfold first1
  frame_out
  simp only [cov_whole, ReadAs.apply_same, View.read_whole]

theorem first2_eq (h0 : t.val % 32 = 0) : first2 m c t h0 =
    dfB (iblk m c 0 t) (iblk m c 2 t) (iblk m c 1 t) (iblk m c 4 t) (V m c main_v14) (V m c main_v15) (V m c main_v16)  := by
  unfold first2
  frame_out
  simp only [cov_whole, ReadAs.apply_same, View.read_whole]
  rfl

theorem first3_eq (h0 : t.val % 32 = 0) : first3 m c t h0 =
    dgB (iblk m c 0 t) (iblk m c 2 t) (iblk m c 1 t) (iblk m c 4 t) (V m c main_v14) (V m c main_v15) (V m c main_v16)  := by
  unfold first3
  frame_out
  simp only [cov_whole, ReadAs.apply_same, View.read_whole]
  rfl

theorem first4_eq (h0 : t.val % 32 = 0) : first4 m c t h0 =
    duB (iblk m c 0 t) (iblk m c 2 t) (iblk m c 1 t) (iblk m c 4 t) (V m c main_v14) (V m c main_v15) (V m c main_v16)  := by
  unfold first4
  frame_out
  simp only [cov_whole, ReadAs.apply_same, View.read_whole]
  rfl

theorem first5_eq (h0 : t.val % 32 = 0) : first5 m c t h0 =
    gpB (iblk m c 0 t) (iblk m c 2 t) (iblk m c 1 t) (iblk m c 4 t) (V m c main_v14) (V m c main_v15) (V m c main_v16) k0_pay2 := by
  unfold first5
  frame_out
  simp only [cov_whole, ReadAs.apply_same, View.read_whole]
  rfl

theorem first6_eq (h0 : t.val % 32 = 0) : first6 m c t h0 =
    gfB (iblk m c 0 t) (iblk m c 2 t) (iblk m c 1 t) (iblk m c 4 t) (V m c main_v14) (V m c main_v15) (V m c main_v16) k0_pay3 := by
  unfold first6
  frame_out
  simp only [cov_whole, ReadAs.apply_same, View.read_whole]
  rfl

theorem first7_eq (h0 : t.val % 32 = 0) : first7 m c t h0 =
    lossB (iblk m c 0 t) (iblk m c 2 t) (iblk m c 1 t) (iblk m c 4 t) (V m c main_v14) (V m c main_v15) (V m c main_v16) k0_pay4 := by
  unfold first7
  frame_out
  simp only [cov_whole, ReadAs.apply_same, View.read_whole]
  rfl

theorem first8_eq (h0 : t.val % 32 = 0) : first8 m c t h0 = V m c main_v14 := by
  unfold first8
  frame_out
  simp only [canon_whole, ReadAs.apply_same, View.read_whole]

theorem first9_eq (h0 : t.val % 32 = 0) : first9 m c t h0 = V m c main_v15 := by
  unfold first9
  frame_out
  simp only [canon_whole, ReadAs.apply_same, View.read_whole]

theorem first10_eq (h0 : t.val % 32 = 0) : first10 m c t h0 = V m c main_v16 := by
  unfold first10
  frame_out
  simp only [canon_whole, ReadAs.apply_same, View.read_whole]

/-! ### At a later point, over what the point before left -/

variable (prev : Vec F S256x1024 .f32 × Vec F S256x2816 .bf16 × Vec F S256x1024 .bf16 × Vec F S256x2816 .bf16 × Vec F S256x2816 .bf16
  × Vec F S1x1024 .f32 × Vec F S1x1024 .f32 × Vec F S1x128 .f32 × Vec F S1024x2816 .bf16 × Vec F S1024x2816 .bf16 × Vec F S2816x1024 .bf16)

theorem later0_eq (h0 : ¬t.val % 32 = 0) : later0 m c t h0 prev =
    dxB (iblk m c 0 t) (iblk m c 2 t) (iblk m c 1 t) (iblk m c 3 t) (iblk m c 4 t) prev.2.2.2.2.2.2.2.2.1 prev.2.2.2.2.2.2.2.2.2.1 prev.2.2.2.2.2.2.2.2.2.2  := by
  unfold later0
  frame_out
  simp only [read_unread_whole]
  rfl

theorem later1_eq (h0 : ¬t.val % 32 = 0) : later1 m c t h0 prev =
    k0_pay10 (iblk m c 1 t) prev.2.2.2.2.2.2.2.2.1 prev.2.2.2.2.2.2.2.2.2.1  := by
  unfold later1
  frame_out
  simp only [read_unread_whole]

theorem later2_eq (h0 : ¬t.val % 32 = 0) : later2 m c t h0 prev =
    dfB (iblk m c 0 t) (iblk m c 2 t) (iblk m c 1 t) (iblk m c 4 t) prev.2.2.2.2.2.2.2.2.1 prev.2.2.2.2.2.2.2.2.2.1 prev.2.2.2.2.2.2.2.2.2.2  := by
  unfold later2
  frame_out
  simp only [read_unread_whole]
  rfl

theorem later3_eq (h0 : ¬t.val % 32 = 0) : later3 m c t h0 prev =
    dgB (iblk m c 0 t) (iblk m c 2 t) (iblk m c 1 t) (iblk m c 4 t) prev.2.2.2.2.2.2.2.2.1 prev.2.2.2.2.2.2.2.2.2.1 prev.2.2.2.2.2.2.2.2.2.2  := by
  unfold later3
  frame_out
  simp only [read_unread_whole]
  rfl

theorem later4_eq (h0 : ¬t.val % 32 = 0) : later4 m c t h0 prev =
    duB (iblk m c 0 t) (iblk m c 2 t) (iblk m c 1 t) (iblk m c 4 t) prev.2.2.2.2.2.2.2.2.1 prev.2.2.2.2.2.2.2.2.2.1 prev.2.2.2.2.2.2.2.2.2.2  := by
  unfold later4
  frame_out
  simp only [read_unread_whole]
  rfl

theorem later5_eq (h0 : ¬t.val % 32 = 0) : later5 m c t h0 prev =
    gpB (iblk m c 0 t) (iblk m c 2 t) (iblk m c 1 t) (iblk m c 4 t) prev.2.2.2.2.2.2.2.2.1 prev.2.2.2.2.2.2.2.2.2.1 prev.2.2.2.2.2.2.2.2.2.2 prev.2.2.2.2.2.1 := by
  unfold later5
  frame_out
  simp only [read_unread_whole]
  rfl

theorem later6_eq (h0 : ¬t.val % 32 = 0) : later6 m c t h0 prev =
    gfB (iblk m c 0 t) (iblk m c 2 t) (iblk m c 1 t) (iblk m c 4 t) prev.2.2.2.2.2.2.2.2.1 prev.2.2.2.2.2.2.2.2.2.1 prev.2.2.2.2.2.2.2.2.2.2 prev.2.2.2.2.2.2.1 := by
  unfold later6
  frame_out
  simp only [read_unread_whole]
  rfl

theorem later7_eq (h0 : ¬t.val % 32 = 0) : later7 m c t h0 prev =
    lossB (iblk m c 0 t) (iblk m c 2 t) (iblk m c 1 t) (iblk m c 4 t) prev.2.2.2.2.2.2.2.2.1 prev.2.2.2.2.2.2.2.2.2.1 prev.2.2.2.2.2.2.2.2.2.2 prev.2.2.2.2.2.2.2.1 := by
  unfold later7
  frame_out
  simp only [read_unread_whole]
  rfl

theorem later8_eq (h0 : ¬t.val % 32 = 0) : later8 m c t h0 prev = prev.2.2.2.2.2.2.2.2.1 := rfl

theorem later9_eq (h0 : ¬t.val % 32 = 0) : later9 m c t h0 prev = prev.2.2.2.2.2.2.2.2.2.1 := rfl

theorem later10_eq (h0 : ¬t.val % 32 = 0) : later10 m c t h0 prev = prev.2.2.2.2.2.2.2.2.2.2 := rfl

end Leaves

end Cert.FfnIdeal.Point
-- ==== Proof.Ffn.Arrays.lean ====
/-
  What the feed-forward kernel's result arrays hold after its run, over real arguments: the host operands that the launch
  reads, the grid's points one after the other, and each array at an index.
-/
module

public import proofs.«01_k».proof.Proof.Ffn.Args
public import proofs.«01_k».proof.Proof.Ffn.Point
public import Idealize.ShloMosaic.Lib.Claim
public import Idealize.ShloMosaic.Lib.Pointwise

@[expose] public section

set_option maxRecDepth 16384

noncomputable section

namespace Cert.FfnIdeal.Arrays

open Cert.FfnIdeal Cert.FfnIdeal.Gen Cert.FfnIdeal.Block Cert.FfnIdeal.Point Cert.FfnReal Cert.Lift
open Idealize.ShloMosaic Idealize.ShloMosaic.TcCoe Idealize.SL.Sem

/-- The arguments of device `c` in the memory `m`. -/
abbrev Given (p : Par) (X T : Fin 8192 → Row) (m : (ℓ : Loc nD τ sig) → Buf (Elt Ideal) ℓ) (c : Dev nD) : Prop :=
  Args p X T (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

variable {p : Par} {X T : Fin 8192 → Row} {m : (ℓ : Loc nD τ sig) → Buf (Elt Ideal) ℓ} {c : Dev nD}

section Host

variable (A : Given p X T m c)
include A

theorem wg_val : Is2 (φ := .bf16) (V m c main_v14) p.wg := fun k n => by
  entry_read; pointwise; exact A.wg k n

theorem wu_val : Is2 (φ := .bf16) (V m c main_v15) p.wu := fun k n => by
  entry_read; pointwise; exact A.wu k n

theorem wd_val : Is2 (φ := .bf16) (V m c main_v16) p.wd := fun k n => by
  entry_read; pointwise; exact A.wd k n

theorem gp_val : Is2 (φ := .f32) (V m c main_v17) fun _ => p.gp := fun i k => by
  entry_read; pointwise; exact A.gp k

theorem gf_val : Is2 (φ := .f32) (V m c main_v18) fun _ => p.gf := fun i k => by
  entry_read; pointwise; exact A.gf k

theorem h_val : Is2 (φ := .bf16) (V m c main_v13) fun i => h p (X i) := fun i k => by
  have hx : ∀ i k, m (c, Proc.tc.devRef main_arg0) (ix2 i k) = ((X i k : ℝ) : EReal) := A.x
  have hg : ∀ k, m (c, Proc.tc.devRef main_arg5) (ix1 k) = ((p.gp k : ℝ) : EReal) := A.gp
  entry_read
  pointwise
  simp only [hx _ _, hg _, lit_1024, lit_eps, ← EReal.coe_mul, sum_coe]
  rw [div_real (by norm_num), ← EReal.coe_add, rsqrt_real (rn_arg_pos (X i)), ← EReal.coe_mul, ← EReal.coe_mul]
  rfl

end Host

/-! ## One point -/

/-- The row of the arrays that row `i` of point `n`'s tiles is. -/
def row (n : ℕ) (i : Fin 256) : Fin 8192 := ⟨(256 * n + i.val) % 8192, Nat.mod_lt _ (by norm_num)⟩

/-- The index maps: the tiles go along the rows, the small blocks stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] := by
  decide +kernel

theorem row_lt (t : Fin cfg0.N) : t.val < 32 := t.isLt

theorem row_val (t : Fin cfg0.N) (i : Fin 256) : (row t.val i).val = t.val * 256 + i.val := by
  have := row_lt t
  unfold row
  show (256 * t.val + i.val) % 8192 = _
  omega

section Host

variable (A : Given p X T m c)
include A

theorem holds (t : Fin cfg0.N) : Holds p (fun i => X (row t.val i)) (fun i => T (row t.val i)) (iblk m c 0 t) (iblk m c 2 t)
    (iblk m c 1 t) (iblk m c 3 t) (iblk m c 4 t) (V m c main_v14) (V m c main_v15) (V m c main_v16) where
  x i k := by
    refine Eq.trans ?_ (A.x (row t.val i) k)
    have := row_val t i
    rw [← V_main_arg0 m c]
    blk_ext [iblk, idx t]
  t i k := by
    refine Eq.trans ?_ (A.t (row t.val i) k)
    have := row_val t i
    rw [← V_main_arg1 m c]
    blk_ext [iblk, idx t]
  h i k := by
    refine Eq.trans ?_ (h_val A (row t.val i) k)
    have := row_val t i
    blk_ext [iblk, idx t]
  gp i k := by
    refine Eq.trans ?_ (gp_val A i k)
    blk_ext [iblk, idx t]
  gf i k := by
    refine Eq.trans ?_ (gf_val A i k)
    blk_ext [iblk, idx t]
  wg := wg_val A
  wu := wu_val A
  wd := wd_val A

/-- What the point `n` leaves in the eight results' blocks, and what the three held weights are. -/
structure Left (p : Par) (X T : Fin 8192 → Row) (m : (ℓ : Loc nD τ sig) → Buf (Elt Ideal) ℓ) (c : Dev nD) (n : ℕ)
    (o : Vec Ideal S256x1024 .f32 × Vec Ideal S256x2816 .bf16 × Vec Ideal S256x1024 .bf16 × Vec Ideal S256x2816 .bf16
      × Vec Ideal S256x2816 .bf16 × Vec Ideal S1x1024 .f32 × Vec Ideal S1x1024 .f32 × Vec Ideal S1x128 .f32
      × Vec Ideal S1024x2816 .bf16 × Vec Ideal S1024x2816 .bf16 × Vec Ideal S2816x1024 .bf16) : Prop where
  dx : Is2 (φ := .f32) o.1 fun i => dx p (X (row n i)) (T (row n i))
  act : Is2 (φ := .bf16) o.2.1 fun i => act p (X (row n i))
  df : Is2 (φ := .bf16) o.2.2.1 fun i => df p (X (row n i)) (T (row n i))
  dg : Is2 (φ := .bf16) o.2.2.2.1 fun i => dg p (X (row n i)) (T (row n i))
  du : Is2 (φ := .bf16) o.2.2.2.2.1 fun i => du p (X (row n i)) (T (row n i))
  gp : Is2 (φ := .f32) o.2.2.2.2.2.1 fun _ j => ∑ q ∈ Finset.range (n + 1), ∑ i, gpPart p (X (row q i)) (T (row q i)) j
  gf : Is2 (φ := .f32) o.2.2.2.2.2.2.1 fun _ j => ∑ q ∈ Finset.range (n + 1), ∑ i, gfPart p (X (row q i)) (T (row q i)) j
  loss : Is2 (φ := .f32) o.2.2.2.2.2.2.2.1 fun _ j => if j = 0 then
    1 / 2 * (∑ q ∈ Finset.range (n + 1), ∑ i, sq p (X (row q i)) (T (row q i))) * (1 / 1024) else 0
  wg : o.2.2.2.2.2.2.2.2.1 = V m c main_v14
  wu : o.2.2.2.2.2.2.2.2.2.1 = V m c main_v15
  wd : o.2.2.2.2.2.2.2.2.2.2 = V m c main_v16

theorem left_all : ∀ (n : ℕ) (hn : n < cfg0.N), Left p X T m c n (outsAt0 m c n hn) := by
  intro n
  induction n with
  | zero =>
    intro hn
    have H := holds A ⟨0, hn⟩
    have h0 : (⟨0, hn⟩ : Fin cfg0.N).val % 32 = 0 := rfl
    have e := outsAt0_A m c ⟨0, hn⟩ h0
    rw [first0_eq, first1_eq, first2_eq, first3_eq, first4_eq, first5_eq, first6_eq, first7_eq, first8_eq, first9_eq,
      first10_eq] at e
    rw [show outsAt0 m c 0 hn = _ from e]
    exact {
      dx := dx_is H
      act := act_is H
      df := df_is H
      dg := dg_is H
      du := du_is H
      gp := fun i j => by
        have := gp_is H zero_gp i j
        simpa using this
      gf := fun i j => by
        have := gf_is H zero_gf i j
        simpa using this
      loss := fun i j => by
        have := loss_is H zero_loss i j
        simpa using this
      wg := rfl
      wu := rfl
      wd := rfl }
  | succ n ih =>
    intro hn
    have I := ih (Nat.lt_of_succ_lt hn)
    have H := holds A ⟨n + 1, hn⟩
    have h0 : ¬(⟨n + 1, hn⟩ : Fin cfg0.N).val % 32 = 0 := by
      have : n + 1 < 32 := hn
      show ¬(n + 1) % 32 = 0
      omega
    have e := outsAt0_B m c ⟨n + 1, hn⟩ h0
    rw [later0_eq, later1_eq, later2_eq, later3_eq, later4_eq, later5_eq, later6_eq, later7_eq, later8_eq, later9_eq,
      later10_eq] at e
    have e' : outsAt0 m c (n + 1) hn = _ := e
    simp only [Nat.add_sub_cancel] at e'
    rw [I.wg, I.wu, I.wd] at e'
    rw [e']
    exact {
      dx := dx_is H
      act := act_is H
      df := df_is H
      dg := dg_is H
      du := du_is H
      gp := fun i j => by
        refine Eq.trans ?_ (congrArg (fun z : ℝ => (z : EReal)) (Finset.sum_range_succ
          (fun q => ∑ i, gpPart p (X (row q i)) (T (row q i)) j) (n + 1)).symm)
        exact gp_is H (r := fun j => ∑ q ∈ Finset.range (n + 1), ∑ i, gpPart p (X (row q i)) (T (row q i)) j)
          (fun i k => by rw [show i = 0 from Subsingleton.elim _ _]; exact I.gp 0 k) i j
      gf := fun i j => by
        refine Eq.trans ?_ (congrArg (fun z : ℝ => (z : EReal)) (Finset.sum_range_succ
          (fun q => ∑ i, gfPart p (X (row q i)) (T (row q i)) j) (n + 1)).symm)
        exact gf_is H (r := fun j => ∑ q ∈ Finset.range (n + 1), ∑ i, gfPart p (X (row q i)) (T (row q i)) j)
          (fun i k => by rw [show i = 0 from Subsingleton.elim _ _]; exact I.gf 0 k) i j
      loss := fun i j => by
        rw [Finset.sum_range_succ]
        have := loss_is H (a := (outsAt0 m c n (Nat.lt_of_succ_lt hn)).2.2.2.2.2.2.2.1)
          (l := fun j => if j = 0 then
            1 / 2 * (∑ q ∈ Finset.range (n + 1), ∑ i, sq p (X (row q i)) (T (row q i))) * (1 / 1024) else 0)
          (fun i k => by rw [show i = 0 from Subsingleton.elim _ _]; exact I.loss 0 k) i j
        refine this.trans (congrArg _ ?_)
        by_cases hj : j = 0
        · simp only [hj, if_true]; ring
        · simp only [hj, if_false]; ring
      wg := rfl
      wu := rfl
      wd := rfl }

end Host

/-! ## The arrays -/

/-- The last point. -/
def lastPt : Fin cfg0.N := ⟨31, by decide⟩

section Host

variable (A : Given p X T m c)
include A

theorem arr_dx : ((dats m 0 c).arrAt 5 cfg0.N : FVec Ideal S8192x1024 .f32) = fun y => ((dx p (X (y 0)) (T (y 0)) (y 1) : ℝ) : EReal) := by
  refine (dats m 0 c).arrAt_eq_of_covers 5 _ (by decide +kernel) fun t hf y => ?_
  have L := (left_all A t.val t.isLt).dx
  have hr := row_val t (y 0)
  have e : (win0_5.blk t).view.emb y = ix2 (row t.val (y 0)) (y 1) := by blk_ext [idx t]
  blk_simp
  rw [after0_5, e]
  exact (congrArg _ (eq_ix2 y)).trans (L (y 0) (y 1))

theorem arr_act : ((dats m 0 c).arrAt 6 cfg0.N : FVec Ideal S8192x2816 .bf16) = fun y => ((act p (X (y 0)) (y 1) : ℝ) : EReal) := by
  refine (dats m 0 c).arrAt_eq_of_covers 6 _ (by decide +kernel) fun t hf y => ?_
  have L := (left_all A t.val t.isLt).act
  have hr := row_val t (y 0)
  have e : (win0_6.blk t).view.emb y = ix2 (row t.val (y 0)) (y 1) := by blk_ext [idx t]
  blk_simp
  rw [after0_6, e]
  exact (congrArg _ (eq_ix2 y)).trans (L (y 0) (y 1))

theorem arr_df : ((dats m 0 c).arrAt 7 cfg0.N : FVec Ideal S8192x1024 .bf16) = fun y => ((df p (X (y 0)) (T (y 0)) (y 1) : ℝ) : EReal) := by
  refine (dats m 0 c).arrAt_eq_of_covers 7 _ (by decide +kernel) fun t hf y => ?_
  have L := (left_all A t.val t.isLt).df
  have hr := row_val t (y 0)
  have e : (win0_7.blk t).view.emb y = ix2 (row t.val (y 0)) (y 1) := by blk_ext [idx t]
  blk_simp
  rw [after0_7, e]
  exact (congrArg _ (eq_ix2 y)).trans (L (y 0) (y 1))

theorem arr_dg : ((dats m 0 c).arrAt 8 cfg0.N : FVec Ideal S8192x2816 .bf16) = fun y => ((dg p (X (y 0)) (T (y 0)) (y 1) : ℝ) : EReal) := by
  refine (dats m 0 c).arrAt_eq_of_covers 8 _ (by decide +kernel) fun t hf y => ?_
  have L := (left_all A t.val t.isLt).dg
  have hr := row_val t (y 0)
  have e : (win0_8.blk t).view.emb y = ix2 (row t.val (y 0)) (y 1) := by blk_ext [idx t]
  blk_simp
  rw [after0_8, e]
  exact (congrArg _ (eq_ix2 y)).trans (L (y 0) (y 1))

theorem arr_du : ((dats m 0 c).arrAt 9 cfg0.N : FVec Ideal S8192x2816 .bf16) = fun y => ((du p (X (y 0)) (T (y 0)) (y 1) : ℝ) : EReal) := by
  refine (dats m 0 c).arrAt_eq_of_covers 9 _ (by decide +kernel) fun t hf y => ?_
  have L := (left_all A t.val t.isLt).du
  have hr := row_val t (y 0)
  have e : (win0_9.blk t).view.emb y = ix2 (row t.val (y 0)) (y 1) := by blk_ext [idx t]
  blk_simp
  rw [after0_9, e]
  exact (congrArg _ (eq_ix2 y)).trans (L (y 0) (y 1))

theorem arr_gp : ((dats m 0 c).arrAt 10 cfg0.N : FVec Ideal S1x1024 .f32) = fun y => ((∑ q ∈ Finset.range 32, ∑ i, gpPart p (X (row q i)) (T (row q i)) (y 1) : ℝ) : EReal) := by
  refine (dats m 0 c).arrAt_eq_of_after_last 10 lastPt (by decide +kernel) _ fun j => ?_
  have L := (left_all A lastPt.val lastPt.isLt).gp
  blk_simp
  rw [after0_10]
  exact (congrArg _ (eq_ix2 j)).trans (L (j 0) (j 1))

theorem arr_gf : ((dats m 0 c).arrAt 11 cfg0.N : FVec Ideal S1x1024 .f32) = fun y => ((∑ q ∈ Finset.range 32, ∑ i, gfPart p (X (row q i)) (T (row q i)) (y 1) : ℝ) : EReal) := by
  refine (dats m 0 c).arrAt_eq_of_after_last 11 lastPt (by decide +kernel) _ fun j => ?_
  have L := (left_all A lastPt.val lastPt.isLt).gf
  blk_simp
  rw [after0_11]
  exact (congrArg _ (eq_ix2 j)).trans (L (j 0) (j 1))

theorem arr_loss : ((dats m 0 c).arrAt 12 cfg0.N : FVec Ideal S1x128 .f32) = fun y => ((if (y 1 : Fin 128) = 0 then 1 / 2 * (∑ q ∈ Finset.range 32, ∑ i, sq p (X (row q i)) (T (row q i))) * (1 / 1024) else 0 : ℝ) : EReal) := by
  refine (dats m 0 c).arrAt_eq_of_after_last 12 lastPt (by decide +kernel) _ fun j => ?_
  have L := (left_all A lastPt.val lastPt.isLt).loss
  blk_simp
  rw [after0_12]
  exact (congrArg _ (eq_ix2 j)).trans (L (j 0) (j 1))

end Host

end Cert.FfnIdeal.Arrays
-- ==== Proof.Ffn.Ref.lean ====
/-
  What the feed-forward step's reference computes, over real arguments: each of its values that the real description names,
  at an index.
-/
module

public import proofs.«01_k».proof.Proof.Ffn.Args
public import proofs.«01_k».proof.Proof.Gen.FfnRefIdeal.Read

@[expose] public section

set_option maxRecDepth 16384

noncomputable section

open Idealize.ShloMosaic

namespace Cert.FfnRefIdeal.Val

open Cert.FfnRefIdeal Cert.FfnRefIdeal.Read Cert.FfnReal Cert.Lift

/-! ## Words and quotients -/

theorem lit_two : Ideal.ofBits .f32 0x40000000#32 = ((2 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

theorem div_1024 (x : ℝ) : Ideal.div (x : EReal) ((1024 : ℝ) : EReal) = ((x / 1024 : ℝ) : EReal) :=
  div_real (by norm_num) x

theorem div_logistic (x : ℝ) : Ideal.div 1 (1 + ((Real.exp (-x) : ℝ) : EReal)) = ((sg x : ℝ) : EReal) := by
  have h : (0 : ℝ) < 1 + Real.exp (-x) := by positivity
  rw [← EReal.coe_one, ← EReal.coe_add, div_real h.ne', one_div]; rfl

theorem rsqrt_row (v : Row) :
    Ideal.rsqrt ((((∑ k, v k * v k) / 1024 + eps : ℝ)) : EReal) = ((rn v : ℝ) : EReal) := rsqrt_real (rn_arg_pos v)

theorem div_row (v : Row) : Ideal.div ((rn v : ℝ) : EReal) ((((∑ k, v k * v k) / 1024 + eps : ℝ)) : EReal)
    = ((rn v * rn v * rn v : ℝ) : EReal) := by
  have h := rn_arg_pos v
  have e : rn v * rn v = (((∑ k, v k * v k) / 1024 + eps))⁻¹ := by
    unfold rn; rw [← mul_inv, Real.mul_self_sqrt h.le]
  rw [div_real h.ne', div_eq_mul_inv, ← e]; congr 1; ring

/-! ## The stages -/

variable {x0 x1 : FVec Ideal S8192x1024 .f32} {x2 x3 : FVec Ideal S1024x2816 .f32} {x4 : FVec Ideal S2816x1024 .f32}
  {x5 x6 : FVec Ideal S1024 .f32} {p : Par} {X T : Fin 8192 → Row}
variable (A : Args p X T x0 x1 x2 x3 x4 x5 x6)
include A

theorem main_v9 (i : Fin 8192) (k : Fin 1) : val_main_v9 (F := Ideal) x0 (ix2 i k) = ((rn (X i) : ℝ) : EReal) := by
  pointwise [val_main_v9, val_main_v8, val_main_v7, val_main_cst_3, val_main_v6, val_main_v5, val_main_cst_2, val_main_v4, val_main_v3, val_main_cst_1, val_main_v2]
  simp only [A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [h]; ring)
    | exact congrArg (fun z : ℝ => (z : EReal)) (by ring)

theorem main_v12 (i : Fin 8192) (k : Fin 1) : val_main_v12 (F := Ideal) x0 (ix2 i k) = ((-(1 / 2) * (rn (X i) * rn (X i) * rn (X i)) : ℝ) : EReal) := by
  pointwise [val_main_v12, val_main_v10, val_main_v8, val_main_v7, val_main_cst_3, val_main_v6, val_main_v5, val_main_cst_2, val_main_v4, val_main_v3, val_main_cst_1, val_main_v2, val_main_v9, val_main_v11, val_main_cst_4]
  simp only [A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [h]; ring)
    | exact congrArg (fun z : ℝ => (z : EReal)) (by ring)

theorem main_v14 (i : Fin 8192) (k : Fin 1024) : val_main_v14 (F := Ideal) x0 (ix2 i k) = ((X i k * rn (X i) : ℝ) : EReal) := by
  pointwise [val_main_v14, val_main_v13]
  simp only [main_v9 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [h]; ring)
    | exact congrArg (fun z : ℝ => (z : EReal)) (by ring)

theorem main_v17 (i : Fin 8192) (k : Fin 1024) : val_main_v17 (F := Ideal) x0 x5 (ix2 i k) = ((h p (X i) k : ℝ) : EReal) := by
  pointwise [val_main_v17, val_main_v16, val_main_v15]
  simp only [main_v14 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [h]; ring)
    | exact congrArg (fun z : ℝ => (z : EReal)) (by ring)

theorem main_v19 (i : Fin 8192) (k : Fin 2816) : val_main_v19 (F := Ideal) x0 x2 x5 (ix2 i k) = ((gt p (X i) k : ℝ) : EReal) := by
  pointwise [val_main_v19, val_main_v0, val_main_cst, val_main_v18]
  simp only [main_v17 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [h]; ring)
    | exact congrArg (fun z : ℝ => (z : EReal)) (by ring)

theorem main_v20_2 (i : Fin 8192) (k : Fin 2816) : val_main_v20_2 (F := Ideal) x0 x2 x5 (ix2 i k) = ((sg (gt p (X i) k) : ℝ) : EReal) := by
  pointwise [val_main_v20_2, val_main_call0_v3, val_main_call0_v1, val_main_call0_v0, val_main_call0_v2, val_main_call0_cst, val_main_call0_v4, val_main_call0_cst_0]
  simp only [main_v19 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [h]; ring)
    | exact congrArg (fun z : ℝ => (z : EReal)) (by ring)

theorem main_v20_1 (i : Fin 8192) (k : Fin 2816) : val_main_v20_1 (F := Ideal) x0 x2 x5 (ix2 i k) = ((sg (gt p (X i) k) * (1 - sg (gt p (X i) k)) : ℝ) : EReal) := by
  pointwise [val_main_v20_1, val_main_call0_v7, val_main_call0_v6, val_main_call0_cst_1]
  simp only [main_v20_2 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [h]; ring)
    | exact congrArg (fun z : ℝ => (z : EReal)) (by ring)

theorem main_v20_0 (i : Fin 8192) (k : Fin 2816) : val_main_v20_0 (F := Ideal) x0 x2 x5 (ix2 i k) = ((gt p (X i) k * sg (gt p (X i) k) : ℝ) : EReal) := by
  pointwise [val_main_v20_0]
  simp only [main_v20_2 A _ _, main_v19 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [h]; ring)
    | exact congrArg (fun z : ℝ => (z : EReal)) (by ring)

theorem main_v22 (i : Fin 8192) (k : Fin 2816) : val_main_v22 (F := Ideal) x0 x3 x5 (ix2 i k) = ((up p (X i) k : ℝ) : EReal) := by
  pointwise [val_main_v22, val_main_v0, val_main_cst, val_main_v21]
  simp only [main_v17 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [h]; ring)
    | exact congrArg (fun z : ℝ => (z : EReal)) (by ring)

theorem main_v23 (i : Fin 8192) (k : Fin 2816) : val_main_v23 (F := Ideal) x0 x2 x3 x5 (ix2 i k) = ((act p (X i) k : ℝ) : EReal) := by
  pointwise [val_main_v23]
  simp only [main_v20_0 A _ _, main_v22 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [act]; ring)
    | exact congrArg (fun z : ℝ => (z : EReal)) (by ring)

theorem main_v25 (i : Fin 8192) (k : Fin 1024) : val_main_v25 (F := Ideal) x0 x2 x3 x4 x5 (ix2 i k) = ((f p (X i) k : ℝ) : EReal) := by
  pointwise [val_main_v25, val_main_v1, val_main_cst_0, val_main_v24]
  simp only [main_v23 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [h]; ring)
    | exact congrArg (fun z : ℝ => (z : EReal)) (by ring)

theorem main_v33 (i : Fin 8192) (k : Fin 1) : val_main_v33 (F := Ideal) x0 x2 x3 x4 x5 (ix2 i k) = ((rn (f p (X i)) : ℝ) : EReal) := by
  pointwise [val_main_v33, val_main_v32, val_main_v31, val_main_cst_7, val_main_v30, val_main_v29, val_main_cst_6, val_main_v28, val_main_v27, val_main_cst_5, val_main_v26]
  simp only [main_v25 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [h]; ring)
    | exact congrArg (fun z : ℝ => (z : EReal)) (by ring)

theorem main_v36 (i : Fin 8192) (k : Fin 1) : val_main_v36 (F := Ideal) x0 x2 x3 x4 x5 (ix2 i k) = ((-(1 / 2) * (rn (f p (X i)) * rn (f p (X i)) * rn (f p (X i))) : ℝ) : EReal) := by
  pointwise [val_main_v36, val_main_v34, val_main_v32, val_main_v31, val_main_cst_7, val_main_v30, val_main_v29, val_main_cst_6, val_main_v28, val_main_v27, val_main_cst_5, val_main_v26, val_main_v33, val_main_v35, val_main_cst_8]
  simp only [main_v25 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [h]; ring)
    | exact congrArg (fun z : ℝ => (z : EReal)) (by ring)

theorem main_v38 (i : Fin 8192) (k : Fin 1024) : val_main_v38 (F := Ideal) x0 x2 x3 x4 x5 (ix2 i k) = ((f p (X i) k * rn (f p (X i)) : ℝ) : EReal) := by
  pointwise [val_main_v38, val_main_v37]
  simp only [main_v25 A _ _, main_v33 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [h]; ring)
    | exact congrArg (fun z : ℝ => (z : EReal)) (by ring)

theorem main_v43 (i : Fin 8192) (k : Fin 1024) : val_main_v43 (F := Ideal) x0 x1 x2 x3 x4 x5 x6 (ix2 i k) = ((e p (X i) (T i) k : ℝ) : EReal) := by
  pointwise [val_main_v43, val_main_v42, val_main_v41, val_main_v40, val_main_v39]
  simp only [main_v38 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [e]; ring)
    | exact congrArg (fun z : ℝ => (z : EReal)) (by ring)

theorem main_v57 (i : Fin 8192) (k : Fin 1024) : val_main_v57 (F := Ideal) x0 x1 x2 x3 x4 x5 x6 (ix2 i k) = ((d2 p (X i) (T i) k : ℝ) : EReal) := by
  pointwise [val_main_v57, val_main_v46, val_main_v45, val_main_cst_9, val_main_v56, val_main_v55, val_main_v54, val_main_cst_16, val_main_v53, val_main_v52, val_main_cst_15, val_main_cst_14]
  simp only [main_v43 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [d2]; ring)
    | exact congrArg (fun z : ℝ => (z : EReal)) (by ring)

theorem main_v62 (i : Fin 8192) (k : Fin 1024) : val_main_v62 (F := Ideal) x0 x1 x2 x3 x4 x5 x6 (ix2 i k) = ((d2 p (X i) (T i) k * p.gf k : ℝ) : EReal) := by
  pointwise [val_main_v62, val_main_v61, val_main_v39]
  simp only [main_v57 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [h]; ring)
    | exact congrArg (fun z : ℝ => (z : EReal)) (by ring)

theorem main_v73 (i : Fin 8192) (k : Fin 1024) : val_main_v73 (F := Ideal) x0 x1 x2 x3 x4 x5 x6 (ix2 i k) = (((∑ k, (d2 p (X i) (T i) k * p.gf k) * f p (X i) k) * (-(1 / 2) * (rn (f p (X i)) * rn (f p (X i)) * rn (f p (X i)))) / 1024 : ℝ) : EReal) := by
  pointwise [val_main_v73, val_main_v72, val_main_cst_21, val_main_v71, val_main_v70, val_main_cst_20, val_main_v69, val_main_v66, val_main_v65, val_main_cst_19, val_main_v64]
  simp only [main_v62 A _ _, main_v25 A _ _, main_v36 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  refine congrArg (fun z : ℝ => (z : EReal)) ?_
  rw [Fin.sum_univ_one]
  exact congrArg (fun s : ℝ => s * _ / 1024) (Finset.sum_congr rfl fun _ _ => by ring)

theorem main_v77 (i : Fin 8192) (k : Fin 1024) : val_main_v77 (F := Ideal) x0 x1 x2 x3 x4 x5 x6 (ix2 i k) = ((df p (X i) (T i) k : ℝ) : EReal) := by
  pointwise [val_main_v77, val_main_v76, val_main_v75, val_main_v74, val_main_v68, val_main_v67]
  simp only [main_v73 A _ _, main_v62 A _ _, main_v25 A _ _, main_v33 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [df, rmsBack]; ring)
    | exact congrArg (fun z : ℝ => (z : EReal)) (by ring)

theorem main_v78 (i : Fin 8192) (k : Fin 2816) : val_main_v78 (F := Ideal) x0 x1 x2 x3 x4 x5 x6 (ix2 i k) = ((da p (X i) (T i) k : ℝ) : EReal) := by
  pointwise [val_main_v78]
  simp only [main_v77 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [h]; ring)
    | exact congrArg (fun z : ℝ => (z : EReal)) (by ring)

theorem main_v79 (i : Fin 8192) (k : Fin 2816) : val_main_v79 (F := Ideal) x0 x1 x2 x3 x4 x5 x6 (ix2 i k) = ((du p (X i) (T i) k : ℝ) : EReal) := by
  pointwise [val_main_v79]
  simp only [main_v20_0 A _ _, main_v78 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [du]; ring)
    | exact congrArg (fun z : ℝ => (z : EReal)) (by ring)

theorem main_v82 (i : Fin 8192) (k : Fin 2816) : val_main_v82 (F := Ideal) x0 x1 x2 x3 x4 x5 x6 (ix2 i k) = ((dg p (X i) (T i) k : ℝ) : EReal) := by
  pointwise [val_main_v82, val_main_call1_v2, val_main_call1_v0, val_main_v80, val_main_call1_v1]
  simp only [main_v20_1 A _ _, main_v20_2 A _ _, main_v19 A _ _, main_v78 A _ _, main_v22 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [dg]; ring)
    | exact congrArg (fun z : ℝ => (z : EReal)) (by ring)

theorem main_v84 (i : Fin 8192) (k : Fin 1024) : val_main_v84 (F := Ideal) x0 x1 x2 x3 x4 x5 x6 (ix2 i k) = ((dh p (X i) (T i) k : ℝ) : EReal) := by
  pointwise [val_main_v84, val_main_v83, val_main_v81]
  simp only [main_v79 A _ _, main_v82 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [dh]; ring)
    | exact congrArg (fun z : ℝ => (z : EReal)) (by ring)

theorem main_v89 (i : Fin 8192) (k : Fin 1024) : val_main_v89 (F := Ideal) x0 x1 x2 x3 x4 x5 x6 (ix2 i k) = ((dh p (X i) (T i) k * p.gp k : ℝ) : EReal) := by
  pointwise [val_main_v89, val_main_v88, val_main_v15]
  simp only [main_v84 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [h]; ring)
    | exact congrArg (fun z : ℝ => (z : EReal)) (by ring)

theorem main_v101 (i : Fin 8192) (k : Fin 1024) : val_main_v101 (F := Ideal) x0 x1 x2 x3 x4 x5 x6 (ix2 i k) = (((∑ k, (dh p (X i) (T i) k * p.gp k) * X i k) * (-(1 / 2) * (rn (X i) * rn (X i) * rn (X i))) / 1024 : ℝ) : EReal) := by
  pointwise [val_main_v101, val_main_v100, val_main_cst_26, val_main_v99, val_main_v98, val_main_cst_25, val_main_v97, val_main_v93, val_main_v92, val_main_cst_24, val_main_v91]
  simp only [main_v89 A _ _, main_v12 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  refine congrArg (fun z : ℝ => (z : EReal)) ?_
  rw [Fin.sum_univ_one]
  exact congrArg (fun s : ℝ => s * _ / 1024) (Finset.sum_congr rfl fun _ _ => by ring)

theorem main_v105 (i : Fin 8192) (k : Fin 1024) : val_main_v105 (F := Ideal) x0 x1 x2 x3 x4 x5 x6 (ix2 i k) = ((dx p (X i) (T i) k : ℝ) : EReal) := by
  pointwise [val_main_v105, val_main_v104, val_main_v103, val_main_v102, val_main_v96, val_main_v95, val_main_v94]
  simp only [main_v101 A _ _, main_v57 A _ _, main_v89 A _ _, main_v9 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [dx, rmsBack]; ring)
    | exact congrArg (fun z : ℝ => (z : EReal)) (by ring)

theorem main_v106 (i : Fin 8192) (k : Fin 2816) : val_main_v106 (F := Ideal) x0 x2 x3 x5 (ix2 i k) = ((act p (X i) k : ℝ) : EReal) := by
  pointwise [val_main_v106]
  simp only [main_v23 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [h]; ring)
    | exact congrArg (fun z : ℝ => (z : EReal)) (by ring)

theorem main_v107 (i : Fin 8192) (k : Fin 1024) : val_main_v107 (F := Ideal) x0 x1 x2 x3 x4 x5 x6 (ix2 i k) = ((df p (X i) (T i) k : ℝ) : EReal) := by
  pointwise [val_main_v107]
  simp only [main_v77 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [h]; ring)
    | exact congrArg (fun z : ℝ => (z : EReal)) (by ring)

theorem main_v108 (i : Fin 8192) (k : Fin 2816) : val_main_v108 (F := Ideal) x0 x1 x2 x3 x4 x5 x6 (ix2 i k) = ((dg p (X i) (T i) k : ℝ) : EReal) := by
  pointwise [val_main_v108]
  simp only [main_v82 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [h]; ring)
    | exact congrArg (fun z : ℝ => (z : EReal)) (by ring)

theorem main_v109 (i : Fin 8192) (k : Fin 2816) : val_main_v109 (F := Ideal) x0 x1 x2 x3 x4 x5 x6 (ix2 i k) = ((du p (X i) (T i) k : ℝ) : EReal) := by
  pointwise [val_main_v109]
  simp only [main_v79 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  first
    | done
    | rfl
    | exact congrArg (fun z : ℝ => (z : EReal)) (by simp only [h]; ring)
    | exact congrArg (fun z : ℝ => (z : EReal)) (by ring)

theorem main_v110 (i : Fin 1) (k : Fin 1024) : val_main_v110 (F := Ideal) x0 x1 x2 x3 x4 x5 x6 (ix2 i k) = ((∑ i, gpPart p (X i) (T i) k : ℝ) : EReal) := by
  pointwise [val_main_v110, val_main_v90, val_main_cst_23, val_main_v87, val_main_v86, val_main_cst_22, val_main_v85]
  simp only [main_v14 A _ _, main_v84 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  refine congrArg (fun z : ℝ => (z : EReal)) ?_
  rw [Fin.sum_univ_one]
  exact Finset.sum_congr rfl fun _ _ => by simp only [gpPart]; ring

theorem main_v111 (i : Fin 1) (k : Fin 1024) : val_main_v111 (F := Ideal) x0 x1 x2 x3 x4 x5 x6 (ix2 i k) = ((∑ i, gfPart p (X i) (T i) k : ℝ) : EReal) := by
  pointwise [val_main_v111, val_main_v63, val_main_cst_18, val_main_v60, val_main_v59, val_main_cst_17, val_main_v58]
  simp only [main_v38 A _ _, main_v57 A _ _, A.x _ _, A.t _ _, A.wg _ _, A.wu _ _, A.wd _ _, A.gp _, A.gf _,
    lit_half, lit_two, lit_neg_half, lit_one, lit_zero, lit_1024, lit_eps, Ideal.exp_coe, div_logistic, ← EReal.coe_mul, ← EReal.coe_add, ← EReal.coe_sub,
    ← EReal.coe_neg, sum_coe, div_1024, rsqrt_row, div_row]
  refine congrArg (fun z : ℝ => (z : EReal)) ?_
  rw [Fin.sum_univ_one]
  exact Finset.sum_congr rfl fun _ _ => by simp only [gfPart]; ring

theorem main_v51 : val_main_v51 (F := Ideal) x0 x1 x2 x3 x4 x5 x6 ix0 = ((1 / 2 * (∑ i, sq p (X i) (T i)) * (1 / 1024) : ℝ) : EReal) := by
  pointwise [val_main_v51, val_main_v50, val_main_cst_12, val_main_v49, val_main_v48, val_main_cst_11, val_main_v47, val_main_cst_10, val_main_v44, val_main_cst_13]
  simp only [main_v43 A _ _, lit_half, lit_1024, ← EReal.coe_mul, sum_coe, div_1024]
  refine congrArg (fun z : ℝ => (z : EReal)) ?_
  unfold FfnReal.sq
  rw [mul_assoc, Finset.sum_mul]
  exact congrArg _ (Finset.sum_congr rfl fun _ _ => by rw [div_eq_mul_one_div])

theorem main_v114 (i : Fin 1) (k : Fin 128) : val_main_v114 (F := Ideal) x0 x1 x2 x3 x4 x5 x6 (ix2 i k) = ((if k = 0 then 1 / 2 * (∑ i, sq p (X i) (T i)) * (1 / 1024) else 0 : ℝ) : EReal) := by
  pointwise [val_main_v114, val_main_v113, val_main_cst_27, val_main_v112]
  rw [main_v51 A]
  by_cases hk : k = 0
  · subst hk; simp
  · have hk' : ¬k.val < 1 := fun h' => hk (Fin.ext (by show k.val = 0; omega))
    rw [dif_neg hk', if_neg hk, EReal.coe_zero]

end Cert.FfnRefIdeal.Val
-- ==== Proof.Ffn.Finite.lean ====
/-
  The precondition of the feed-forward claim, read: every argument entry is a real number.
-/
module

public import proofs.«01_k».proof.Pre_ffn_finite
public import proofs.«01_k».proof.Proof.Ffn.Args
public import Idealize.ShloMosaic.Lib.ReduceAll

@[expose] public section

set_option maxRecDepth 16384

noncomputable section

open Idealize.ShloMosaic

namespace Cert.Pre_ffn_finite.Read

open Cert.Pre_ffn_finite Cert.FfnReal Cert.Lift

instance facts : Cert.Pre_ffn_finite.Facts where
  bcast_S_S8192x1024 := by decide
  reducesTo_S8192x1024_S_d0_1 := by decide
  h_S_ := by decide
  bcast_S_S1024x2816 := by decide
  reducesTo_S1024x2816_S_d0_1 := by decide
  bcast_S_S2816x1024 := by decide
  reducesTo_S2816x1024_S_d0_1 := by decide
  bcast_S_S1024 := by decide
  reducesTo_S1024_S_d0 := by decide

/-- An extended real whose absolute value is below the infinite word is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [lit_inf] at h
  induction x with
  | bot => simp [FloatOps.cmpf, FloatOps.hostAbsf, Ideal.cmp] at h
  | coe r => exact ⟨r, rfl⟩
  | top => simp [FloatOps.cmpf, FloatOps.hostAbsf, Ideal.cmp] at h

/-- A whole array of them, by the reduction of the comparison. -/
theorem real_of_all {s t u : Shape} {axes : List (Fin s.rank)} [Subsingleton t.Idx] (x : FVec Ideal s .f32) (dims) (hb : S_.BroadcastsInDim s dims) (init : u.Idx → BitVec 1)
    (h : s.ReducesTo axes t) (hu : 0 < u.numel) (j : t.Idx)
    (e : Host.reduce IntOp.andi (cmpf .olt (Host.absf x) (broadcastInDim s dims hb (constant S_ .f32 0x7F800000#32))) init h hu j = 1#1)
    (i : s.Idx) : ∃ r : ℝ, x i = (r : EReal) :=
  real_of_abs_lt _ (Host.reduce_andi_all _ init h hu j e i)

theorem args_of_fn (x0 x1 : FVec Ideal S8192x1024 .f32) (x2 x3 : FVec Ideal S1024x2816 .f32) (x4 : FVec Ideal S2816x1024 .f32)
    (x5 x6 : FVec Ideal S1024 .f32) (h : fn (F := Ideal) x0 x1 x2 x3 x4 x5 x6 = fun _ => 1#1) :
    ∃ p X T, Args p X T x0 x1 x2 x3 x4 x5 x6 := by
  have h' := congrFun h ix0
  dsimp only [fn, fn_part1] at h'
  simp only [andi, IntOp.andi_eq_one] at h'
  obtain ⟨⟨⟨⟨⟨⟨h0, h1⟩, h2⟩, h3⟩, h4⟩, h5⟩, h6⟩ := h'
  choose r0 e0 using real_of_all x0 _ _ _ _ _ _ h0
  choose r1 e1 using real_of_all x1 _ _ _ _ _ _ h1
  choose r2 e2 using real_of_all x2 _ _ _ _ _ _ h2
  choose r3 e3 using real_of_all x3 _ _ _ _ _ _ h3
  choose r4 e4 using real_of_all x4 _ _ _ _ _ _ h4
  choose r5 e5 using real_of_all x5 _ _ _ _ _ _ h5
  choose r6 e6 using real_of_all x6 _ _ _ _ _ _ h6
  exact ⟨⟨fun k n => r2 (ix2 k n), fun k n => r3 (ix2 k n), fun n k => r4 (ix2 n k), fun k => r5 (ix1 k), fun k => r6 (ix1 k)⟩,
    fun i k => r0 (ix2 i k), fun i k => r1 (ix2 i k),
    ⟨fun _ _ => e0 _, fun _ _ => e1 _, fun _ _ => e2 _, fun _ _ => e3 _, fun _ _ => e4 _, fun _ => e5 _, fun _ => e6 _⟩⟩

end Cert.Pre_ffn_finite.Read
-- ==== Proof.Ffn.Equal.lean ====
/-
  The feed-forward kernel's run and its reference's run end with the same arrays.
-/
module

public import proofs.«01_k».proof.Defs
public import proofs.«01_k».proof.Proof.Ffn.Arrays
public import proofs.«01_k».proof.Proof.Ffn.Ref
public import proofs.«01_k».proof.Proof.Ffn.Finite
public import proofs.«01_k».proof.Proof.Gen.FfnRefIdeal.Run

@[expose] public section

set_option maxRecDepth 16384

noncomputable section

open Idealize.ShloMosaic Idealize.ShloMosaic.TcCoe Idealize.SL.Sem

namespace Cert.FfnEqual

open Cert.FfnReal Cert.FfnIdeal.Arrays

/-- The points' rows, one point after the other, are all the rows. -/
theorem sum_rows (F : Fin 8192 → ℝ) : ∑ q ∈ Finset.range 32, ∑ i, F (row q i) = ∑ r, F r := by
  rw [Finset.sum_range fun q => ∑ i, F (row q i)]
  rw [← Fintype.sum_prod_type' fun (q : Fin 32) (i : Fin 256) => F (row q.val i)]
  refine Fintype.sum_equiv (finProdFinEquiv (m := 32) (n := 256)) _ _ fun y => congrArg F (Fin.ext ?_)
  have h1 := y.1.isLt
  have h2 := y.2.isLt
  show (256 * y.1.val + y.2.val) % 8192 = y.2.val + 256 * y.1.val
  omega

section Same

variable {p : Par} {X T : Fin 8192 → Row}
  {m : (ℓ : Loc Cert.FfnIdeal.nD Cert.FfnIdeal.τ Cert.FfnIdeal.sig) → Buf (Elt Ideal) ℓ} {c : Dev Cert.FfnIdeal.nD}
  {x0 x1 : FVec Ideal (⟨2, ![8192, 1024]⟩ : Shape) .f32} {x2 x3 : FVec Ideal (⟨2, ![1024, 2816]⟩ : Shape) .f32}
  {x4 : FVec Ideal (⟨2, ![2816, 1024]⟩ : Shape) .f32} {x5 x6 : FVec Ideal (⟨1, ![1024]⟩ : Shape) .f32}
variable (A : Given p X T m c) (B : Args p X T x0 x1 x2 x3 x4 x5 x6)
include A B

theorem dx_same : (Cert.FfnIdeal.Gen.dats m 0 c).arrAt 5 Cert.FfnIdeal.cfg0.N
    = Cert.FfnRefIdeal.Read.val_main_v105 (F := Ideal) x0 x1 x2 x3 x4 x5 x6 := by
  refine (arr_dx A).trans (funext fun y : Cert.FfnIdeal.S8192x1024.Idx => ?_)
  rw [eq_ix2 y]
  refine Eq.trans ?_ (Cert.FfnRefIdeal.Val.main_v105 B (y 0) (y 1)).symm
  rfl

theorem act_same : (Cert.FfnIdeal.Gen.dats m 0 c).arrAt 6 Cert.FfnIdeal.cfg0.N
    = Cert.FfnRefIdeal.Read.val_main_v106 (F := Ideal) x0 x2 x3 x5 := by
  refine (arr_act A).trans (funext fun y : Cert.FfnIdeal.S8192x2816.Idx => ?_)
  rw [eq_ix2 y]
  refine Eq.trans ?_ (Cert.FfnRefIdeal.Val.main_v106 B (y 0) (y 1)).symm
  rfl

theorem df_same : (Cert.FfnIdeal.Gen.dats m 0 c).arrAt 7 Cert.FfnIdeal.cfg0.N
    = Cert.FfnRefIdeal.Read.val_main_v107 (F := Ideal) x0 x1 x2 x3 x4 x5 x6 := by
  refine (arr_df A).trans (funext fun y : Cert.FfnIdeal.S8192x1024.Idx => ?_)
  rw [eq_ix2 y]
  refine Eq.trans ?_ (Cert.FfnRefIdeal.Val.main_v107 B (y 0) (y 1)).symm
  rfl

theorem dg_same : (Cert.FfnIdeal.Gen.dats m 0 c).arrAt 8 Cert.FfnIdeal.cfg0.N
    = Cert.FfnRefIdeal.Read.val_main_v108 (F := Ideal) x0 x1 x2 x3 x4 x5 x6 := by
  refine (arr_dg A).trans (funext fun y : Cert.FfnIdeal.S8192x2816.Idx => ?_)
  rw [eq_ix2 y]
  refine Eq.trans ?_ (Cert.FfnRefIdeal.Val.main_v108 B (y 0) (y 1)).symm
  rfl

theorem du_same : (Cert.FfnIdeal.Gen.dats m 0 c).arrAt 9 Cert.FfnIdeal.cfg0.N
    = Cert.FfnRefIdeal.Read.val_main_v109 (F := Ideal) x0 x1 x2 x3 x4 x5 x6 := by
  refine (arr_du A).trans (funext fun y : Cert.FfnIdeal.S8192x2816.Idx => ?_)
  rw [eq_ix2 y]
  refine Eq.trans ?_ (Cert.FfnRefIdeal.Val.main_v109 B (y 0) (y 1)).symm
  rfl

theorem gp_same : (Cert.FfnIdeal.Gen.dats m 0 c).arrAt 10 Cert.FfnIdeal.cfg0.N
    = Cert.FfnRefIdeal.Read.val_main_v110 (F := Ideal) x0 x1 x2 x3 x4 x5 x6 := by
  refine (arr_gp A).trans (funext fun y : Cert.FfnIdeal.S1x1024.Idx => ?_)
  rw [eq_ix2 y]
  refine Eq.trans ?_ (Cert.FfnRefIdeal.Val.main_v110 B (y 0) (y 1)).symm
  exact congrArg (fun z : ℝ => (z : EReal)) (sum_rows fun r => gpPart p (X r) (T r) (y 1))

theorem gf_same : (Cert.FfnIdeal.Gen.dats m 0 c).arrAt 11 Cert.FfnIdeal.cfg0.N
    = Cert.FfnRefIdeal.Read.val_main_v111 (F := Ideal) x0 x1 x2 x3 x4 x5 x6 := by
  refine (arr_gf A).trans (funext fun y : Cert.FfnIdeal.S1x1024.Idx => ?_)
  rw [eq_ix2 y]
  refine Eq.trans ?_ (Cert.FfnRefIdeal.Val.main_v111 B (y 0) (y 1)).symm
  exact congrArg (fun z : ℝ => (z : EReal)) (sum_rows fun r => gfPart p (X r) (T r) (y 1))

theorem loss_same : (Cert.FfnIdeal.Gen.dats m 0 c).arrAt 12 Cert.FfnIdeal.cfg0.N
    = Cert.FfnRefIdeal.Read.val_main_v114 (F := Ideal) x0 x1 x2 x3 x4 x5 x6 := by
  refine (arr_loss A).trans (funext fun y : Cert.FfnIdeal.S1x128.Idx => ?_)
  rw [eq_ix2 y]
  refine Eq.trans ?_ (Cert.FfnRefIdeal.Val.main_v114 B (y 0) (y 1)).symm
  exact congrArg (fun z : ℝ => ((if (show Fin 128 from y 1) = 0 then 1 / 2 * z * (1 / 1024) else 0 : ℝ) : EReal)) (sum_rows fun r => sq p (X r) (T r))

end Same

set_option maxHeartbeats 1000000 in
/-- The reference's run: each result is its last stage at the arguments, the arguments unchanged. -/
theorem ref_run (m : (ℓ : Loc Cert.FfnRefIdeal.nD Cert.FfnRefIdeal.τ Cert.FfnRefIdeal.sig) → Buf (Elt Ideal) ℓ)
    (ρ : Dev Cert.FfnRefIdeal.nD → PrngReg) :
    θ_run Cert.FfnRefIdeal.defs (onTc (τ := Cert.FfnRefIdeal.τ) (Cert.FfnRefIdeal.main (F := Ideal))) ⟨m, fun _ => 0, ρ⟩ fun r => ∀ c : Dev Cert.FfnRefIdeal.nD,
      r.2.mem ((c.tc : Thread Cert.FfnRefIdeal.nD Cert.FfnRefIdeal.τ).loc Cert.FfnRefIdeal.main_v105) = Cert.FfnRefIdeal.Read.val_main_v105 (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))
      ∧ r.2.mem ((c.tc : Thread Cert.FfnRefIdeal.nD Cert.FfnRefIdeal.τ).loc Cert.FfnRefIdeal.main_v106) = Cert.FfnRefIdeal.Read.val_main_v106 (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg5))
      ∧ r.2.mem ((c.tc : Thread Cert.FfnRefIdeal.nD Cert.FfnRefIdeal.τ).loc Cert.FfnRefIdeal.main_v107) = Cert.FfnRefIdeal.Read.val_main_v107 (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))
      ∧ r.2.mem ((c.tc : Thread Cert.FfnRefIdeal.nD Cert.FfnRefIdeal.τ).loc Cert.FfnRefIdeal.main_v108) = Cert.FfnRefIdeal.Read.val_main_v108 (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))
      ∧ r.2.mem ((c.tc : Thread Cert.FfnRefIdeal.nD Cert.FfnRefIdeal.τ).loc Cert.FfnRefIdeal.main_v109) = Cert.FfnRefIdeal.Read.val_main_v109 (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))
      ∧ r.2.mem ((c.tc : Thread Cert.FfnRefIdeal.nD Cert.FfnRefIdeal.τ).loc Cert.FfnRefIdeal.main_v110) = Cert.FfnRefIdeal.Read.val_main_v110 (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))
      ∧ r.2.mem ((c.tc : Thread Cert.FfnRefIdeal.nD Cert.FfnRefIdeal.τ).loc Cert.FfnRefIdeal.main_v111) = Cert.FfnRefIdeal.Read.val_main_v111 (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))
      ∧ r.2.mem ((c.tc : Thread Cert.FfnRefIdeal.nD Cert.FfnRefIdeal.τ).loc Cert.FfnRefIdeal.main_v114) = Cert.FfnRefIdeal.Read.val_main_v114 (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))
      ∧ r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6) := by
  refine (θ_run _ _ _).mono (fun r h c => ?_) (Cert.FfnRefIdeal.Value.run m ρ)
  obtain ⟨h0, h1, h2, h3, h4, h5, h6, h7, hk⟩ := h c
  exact ⟨h0.trans (Cert.FfnRefIdeal.Read.val_main_v105_eq (Idealize.ShloMosaic.StableHlo.launchContents m c)),
    h1.trans (Cert.FfnRefIdeal.Read.val_main_v106_eq (Idealize.ShloMosaic.StableHlo.launchContents m c)),
    h2.trans (Cert.FfnRefIdeal.Read.val_main_v107_eq (Idealize.ShloMosaic.StableHlo.launchContents m c)),
    h3.trans (Cert.FfnRefIdeal.Read.val_main_v108_eq (Idealize.ShloMosaic.StableHlo.launchContents m c)),
    h4.trans (Cert.FfnRefIdeal.Read.val_main_v109_eq (Idealize.ShloMosaic.StableHlo.launchContents m c)),
    h5.trans (Cert.FfnRefIdeal.Read.val_main_v110_eq (Idealize.ShloMosaic.StableHlo.launchContents m c)),
    h6.trans (Cert.FfnRefIdeal.Read.val_main_v111_eq (Idealize.ShloMosaic.StableHlo.launchContents m c)),
    h7.trans (Cert.FfnRefIdeal.Read.val_main_v114_eq (Idealize.ShloMosaic.StableHlo.launchContents m c)), hk⟩

/-- The claim: over real arguments the kernel's run and the reference's end with equal arrays, the arguments unchanged. -/
theorem algebraic : Cert.algebraic_FfnIdeal_FfnRefIdeal_pre_ffn_finite := by
  pair_intro
  · run_from Cert.FfnIdeal.Value.run_blocks m g
  · refine (θ_run _ _ _).mono (fun r h c => ?_) (ref_run m' g')
    obtain ⟨p, X, T, A⟩ := Cert.Pre_ffn_finite.Read.args_of_fn _ _ _ _ _ _ _ (hpre c)
    have B := A
    obtain ⟨e0, e1, e2, e3, e4, e5, e6⟩ := hagree c
    rw [← e0, ← e1, ← e2, ← e3, ← e4, ← e5, ← e6] at B
    obtain ⟨h0, h1, h2, h3, h4, h5, h6, h7, hk⟩ := h c
    exact ⟨h0.trans (dx_same A B).symm, h1.trans (act_same A B).symm, h2.trans (df_same A B).symm, h3.trans (dg_same A B).symm, h4.trans (du_same A B).symm, h5.trans (gp_same A B).symm, h6.trans (gf_same A B).symm, h7.trans (loss_same A B).symm, hk⟩

end Cert.FfnEqual
-- ==== Proof.InBwd.Real.lean ====
/-
  The backward pass of the input projection and of its norm, of one token and over the real numbers. Everything here is a
  function of the token's rows and of the layer's parameters; nothing is of a program.
-/
module

public import proofs.«01_k».proof.Proof.Ffn.Real

@[expose] public section

noncomputable section

namespace Cert.InReal

open Cert.Lift
open Cert.FfnReal (Row rn rmsBack)

/-- The layer's parameters: the projection's weight and the norm's gain. -/
structure Par where
  w : Fin 1024 → Fin 4624 → ℝ
  g : Row

/-- One token: the gradient that comes past the layer, the three parts of the projection's cotangent, and the input. -/
structure Tok where
  d : Row
  l : Fin 2048 → ℝ
  s : Fin 2560 → ℝ
  t : Fin 16 → ℝ
  x : Row

variable (p : Par) (k : Tok)

/-- The cotangent of the whole projection. -/
def ct (n : Fin 4624) : ℝ :=
  if h : n.val < 2048 then k.l ⟨n.val, h⟩
  else if h' : n.val < 4608 then k.s ⟨n.val - 2048, by omega⟩
  else k.t ⟨n.val - 4608, by omega⟩

/-- The cotangent of the normed row. -/
def dh : Row := fun j => ∑ n, ct k n * p.w j n
/-- The gradient of the input. -/
def dx : Row := fun j => k.d j + rmsBack k.x (fun j => dh p k j * p.g j) j
/-- The token's part of the gain's gradient. -/
def gPart : Row := fun j => dh p k j * k.x j * rn k.x

/-- The third part, sixteen wide, as it lies padded with zeros to a lane row; likewise the weight's last columns. -/
def tPad (n : Fin 128) : ℝ := if h : n.val < 16 then k.t ⟨n.val, h⟩ else 0
def wl (j : Fin 1024) (n : Fin 2048) : ℝ := p.w j ⟨n.val, by omega⟩
def ws (j : Fin 1024) (n : Fin 2560) : ℝ := p.w j ⟨2048 + n.val, by omega⟩
def wPad (j : Fin 1024) (n : Fin 128) : ℝ := if h : n.val < 16 then p.w j ⟨4608 + n.val, by omega⟩ else 0

/-- The cotangent of the normed row, by the three parts. -/
theorem dh_parts (j : Fin 1024) :
    ∑ n, k.l n * wl p j n + ∑ n, k.s n * ws p j n + ∑ n, tPad k n * wPad p j n = dh p k j := by
  unfold dh
  have hz : ∑ n, tPad k n * wPad p j n = ∑ n : Fin 16, k.t n * p.w j ⟨4608 + n.val, by omega⟩ := by
    refine (Fin.sum_univ_add (a := 16) (b := 112) fun n : Fin 128 => tPad k n * wPad p j n).trans ?_
    rw [Finset.sum_eq_zero (s := (Finset.univ : Finset (Fin 112))) fun n _ => ?_, add_zero]
    · refine Finset.sum_congr rfl fun n _ => ?_
      exact congrArg₂ (· * ·) (dif_pos n.isLt) (dif_pos n.isLt)
    · exact (congrArg (· * _) (dif_neg (show ¬16 + n.val < 16 by omega))).trans (zero_mul _)
  rw [hz]
  symm
  have split : ∀ f : Fin 4624 → ℝ, ∑ n, f n = ∑ n : Fin 2048, f ⟨n.val, by omega⟩ + ∑ n : Fin 2560, f ⟨2048 + n.val, by omega⟩
      + ∑ n : Fin 16, f ⟨4608 + n.val, by omega⟩ := fun f =>
    (Fin.sum_univ_add (a := 4608) (b := 16) f).trans
      (congrArg (· + _) (Fin.sum_univ_add (a := 2048) (b := 2560) fun n : Fin 4608 => f ⟨n.val, by omega⟩))
  rw [split]
  refine congrArg₂ (· + ·) (congrArg₂ (· + ·) ?_ ?_) ?_
  · refine Finset.sum_congr rfl fun n _ => ?_
    exact congrArg (· * _) (dif_pos n.isLt)
  · refine Finset.sum_congr rfl fun n _ => congrArg (· * _) ?_
    have hn := n.isLt
    refine ((dif_neg (show ¬2048 + n.val < 2048 by omega)).trans (dif_pos (show 2048 + n.val < 4608 by omega))).trans ?_
    exact congrArg k.s (Fin.ext (by show 2048 + n.val - 2048 = n.val; omega))
  · refine Finset.sum_congr rfl fun n _ => congrArg (· * _) ?_
    have hn := n.isLt
    refine ((dif_neg (show ¬4608 + n.val < 2048 by omega)).trans (dif_neg (show ¬4608 + n.val < 4608 by omega))).trans ?_
    exact congrArg k.t (Fin.ext (by show 4608 + n.val - 4608 = n.val; omega))

end Cert.InReal
-- ==== Proof.InBwd.Args.lean ====
/-
  What it means that the arguments of the input projection's backward pass are real numbers.
-/
module

public import proofs.«01_k».proof.Proof.InBwd.Real
public import Idealize.ShloMosaic.Lib.Pointwise

@[expose] public section

noncomputable section

open Idealize.ShloMosaic

namespace Cert.InReal

/-- The seven argument arrays hold the tokens `K` and the parameters `p`. -/
structure Args (p : Par) (K : Fin 8192 → Tok) (a0 : FVec Ideal (⟨2, ![8192, 1024]⟩ : Shape) .f32)
    (a1 : FVec Ideal (⟨2, ![8192, 2048]⟩ : Shape) .f32) (a2 : FVec Ideal (⟨2, ![8192, 2560]⟩ : Shape) .f32)
    (a3 : FVec Ideal (⟨2, ![8192, 16]⟩ : Shape) .f32) (a4 : FVec Ideal (⟨2, ![8192, 1024]⟩ : Shape) .f32)
    (a5 : FVec Ideal (⟨1, ![1024]⟩ : Shape) .f32) (a6 : FVec Ideal (⟨2, ![1024, 4624]⟩ : Shape) .f32) : Prop where
  d : ∀ i k, a0 (ix2 i k) = (((K i).d k : ℝ) : EReal)
  l : ∀ i k, a1 (ix2 i k) = (((K i).l k : ℝ) : EReal)
  s : ∀ i k, a2 (ix2 i k) = (((K i).s k : ℝ) : EReal)
  t : ∀ i k, a3 (ix2 i k) = (((K i).t k : ℝ) : EReal)
  x : ∀ i k, a4 (ix2 i k) = (((K i).x k : ℝ) : EReal)
  g : ∀ k, a5 (ix1 k) = ((p.g k : ℝ) : EReal)
  w : ∀ k n, a6 (ix2 k n) = ((p.w k n : ℝ) : EReal)

end Cert.InReal
-- ==== Proof.InBwd.Block.lean ====
/-
  What one grid point of the input projection's backward kernel computes, at an element: each value that the body names,
  read off the real numbers that its operands are.
-/
module

public import proofs.«01_k».proof.Proof.Gen.InBwdIdeal.Skeleton
public import proofs.«01_k».proof.Proof.InBwd.Real

@[expose] public section

set_option maxRecDepth 16384

noncomputable section

open Idealize.ShloMosaic

namespace Cert.InBwdIdeal.Block

open Cert.InBwdIdeal Cert.InBwdIdeal.Gen Cert.Lift Cert.InReal
open Cert.FfnReal (Row rn rmsBack rn_arg_pos)

/-- A rectangle of extended reals that holds real numbers. -/
abbrev Is2 {a b : ℕ} {φ : FTy} (v : FVec Ideal (⟨2, ![a, b]⟩ : Shape) φ) (r : Fin a → Fin b → ℝ) : Prop :=
  ∀ i j, v (ix2 i j) = ((r i j : ℝ) : EReal)

variable (p : Par) (K : Fin 512 → Tok)

theorem dh_eq (v3 : FVec Ideal S512x2048 .bf16) (v5 : FVec Ideal S1024x2048 .bf16) (v7 : FVec Ideal S512x2560 .bf16)
    (v9 : FVec Ideal S1024x2560 .bf16) (v12 : FVec Ideal S512x128 .bf16) (v14 : FVec Ideal S1024x128 .bf16)
    (h3 : Is2 v3 fun i => (K i).l) (h5 : Is2 v5 (wl p)) (h7 : Is2 v7 fun i => (K i).s) (h9 : Is2 v9 (ws p))
    (h12 : Is2 v12 fun i => tPad (K i)) (h14 : Is2 v14 (wPad p)) :
    Is2 (k0_pay4 (F := Ideal) v3 v5 v7 v9 v12 v14) fun i => dh p (K i) := by
  intro i j
  pointwise [k0_pay4]
  simp only [h3 _ _, h5 _ _, h7 _ _, h9 _ _, h12 _ _, h14 _ _, ← EReal.coe_mul, sum_coe, ← EReal.coe_add]
  exact congrArg (fun z : ℝ => (z : EReal)) (dh_parts p (K i) j)

theorem rn_eq (v : FVec Ideal S512x1024 .f32) (hv : Is2 v fun i => (K i).x) :
    Is2 (k0_pay5 (F := Ideal) v) fun i _ => rn (K i).x := by
  intro i j
  pointwise [k0_pay5]
  simp only [hv _ _, lit_1024, lit_eps, ← EReal.coe_mul, sum_coe]
  rw [div_real (by norm_num), ← EReal.coe_add, rsqrt_real (rn_arg_pos (K i).x)]
  rfl

theorem g_eq (v3 : FVec Ideal S512x2048 .bf16) (v5 : FVec Ideal S1024x2048 .bf16) (v7 : FVec Ideal S512x2560 .bf16)
    (v9 : FVec Ideal S1024x2560 .bf16) (v12 : FVec Ideal S512x128 .bf16) (v14 : FVec Ideal S1024x128 .bf16)
    (h3 : Is2 v3 fun i => (K i).l) (h5 : Is2 v5 (wl p)) (h7 : Is2 v7 fun i => (K i).s) (h9 : Is2 v9 (ws p))
    (h12 : Is2 v12 fun i => tPad (K i)) (h14 : Is2 v14 (wPad p))
    (v17 : FVec Ideal S512x1024 .f32) (h17 : Is2 v17 fun i => (K i).x) (v26 : FVec Ideal S1x1024 .f32) (a : Row)
    (h26 : Is2 v26 fun _ => a) :
    Is2 (k0_pay1 (F := Ideal) (k0_pay6 v26) (k0_pay7 v3 v5 v7 v9 v12 v14 v17)) fun _ j => a j + ∑ i, gPart p (K i) j := by
  intro i j
  have hd := dh_eq p K v3 v5 v7 v9 v12 v14 h3 h5 h7 h9 h12 h14
  have hr := rn_eq K v17 h17
  pointwise [k0_pay1, k0_pay6, k0_pay7]
  simp only [hd _ _, hr _ _, h17 _ _, h26 _ _, ← EReal.coe_mul, sum_coe, ← EReal.coe_add]
  rfl

theorem dx_eq (v16 v17 v35 : FVec Ideal S512x1024 .f32) (v25 : FVec Ideal S512x1 .f32) (v36 : FVec Ideal S1x1024 .f32)
    (h16 : Is2 v16 fun i => dh p (K i)) (h17 : Is2 v17 fun i => (K i).x) (h25 : Is2 v25 fun i _ => rn (K i).x)
    (h35 : Is2 v35 fun i => (K i).d) (h36 : Is2 v36 fun _ => p.g) :
    Is2 (k0_pay2 (F := Ideal) v16 v17 v25 v35 v36) fun i => dx p (K i) := by
  intro i j
  pointwise [k0_pay2]
  simp only [h16 _ _, h17 _ _, h25 _ _, h35 _ _, h36 _ _, lit_1024, ← EReal.coe_mul, sum_coe]
  rw [div_real (by norm_num)]
  simp only [← EReal.coe_mul, ← EReal.coe_sub, ← EReal.coe_add]
  rfl

theorem zero_g : Is2 (k0_pay3 (F := Ideal)) fun _ _ => 0 := by
  intro i j; pointwise [k0_pay3]; exact EReal.coe_zero.symm

end Cert.InBwdIdeal.Block
-- ==== Proof.InBwd.Point.lean ====
/-
  What a grid point of the input projection's backward kernel leaves in each buffer, as one composition of the body's named
  values over the point's input blocks and the weight's two parts, and what real numbers that is.
-/
module

public import proofs.«01_k».proof.Proof.Gen.InBwdIdeal.Value
public import proofs.«01_k».proof.Proof.InBwd.Block
public import Idealize.ShloMosaic.Lib.Pipeline.ValueKit
public import Idealize.ShloMosaic.Lib.Pipeline.ReadBack

@[expose] public section

set_option maxRecDepth 16384

noncomputable section

namespace Cert.InBwdIdeal.Point

open Cert.InBwdIdeal Cert.InBwdIdeal.Gen Cert.InBwdIdeal.Block Cert.InReal Cert.Lift
open Cert.FfnReal (Row rn)
open Idealize.ShloMosaic Idealize.ShloMosaic.TcCoe Idealize.SL.Sem

/-! ## The compositions -/

section Compose

/-- The main weight's columns of the first part, and those of the second. -/
def colsL (wm : Vec Ideal S1024x4608 .bf16) : Vec Ideal S1024x2048 .bf16 :=
  View.ld wm (Rect.unit (s := S1024x4608) ![0, 0] ![1024, 2048] inb_S1024x4608_S1024x2048_0_0)
def colsS (wm : Vec Ideal S1024x4608 .bf16) : Vec Ideal S1024x2560 .bf16 :=
  View.ld wm (Rect.unit (s := S1024x4608) ![0, 2048] ![1024, 2560] inb_S1024x4608_S1024x2560_0_2048)

variable (x0 : FVec Ideal S512x2048 .bf16) (x1 : FVec Ideal S512x2560 .bf16) (x2 : FVec Ideal S512x128 .bf16)
  (x3 x4 : FVec Ideal S512x1024 .f32) (x5 : FVec Ideal S1x1024 .f32) (wm : FVec Ideal S1024x4608 .bf16) (wd : FVec Ideal S1024x128 .bf16)

/-- The input's gradient of the block. -/
def dxB : FVec Ideal S512x1024 .f32 :=
  k0_pay2 (k0_pay4 x0 (colsL wm) x1 (colsS wm) x2 wd) x4 (k0_pay5 x4) x3 x5

/-- The gain's gradient over what it held before. -/
def gB (a : FVec Ideal S1x1024 .f32) : FVec Ideal S1x1024 .f32 :=
  k0_pay1 (k0_pay6 a) (k0_pay7 x0 (colsL wm) x1 (colsS wm) x2 wd x4)

end Compose

/-- The point's operands hold the parameters `p` and the tokens `K`. -/
structure Holds (p : Par) (K : Fin 512 → Tok) (x0 : FVec Ideal S512x2048 .bf16) (x1 : FVec Ideal S512x2560 .bf16)
    (x2 : FVec Ideal S512x128 .bf16) (x3 x4 : FVec Ideal S512x1024 .f32) (x5 : FVec Ideal S1x1024 .f32)
    (wm : FVec Ideal S1024x4608 .bf16) (wd : FVec Ideal S1024x128 .bf16) : Prop where
  l : Is2 x0 fun i => (K i).l
  s : Is2 x1 fun i => (K i).s
  t : Is2 x2 fun i => tPad (K i)
  d : Is2 x3 fun i => (K i).d
  x : Is2 x4 fun i => (K i).x
  g : Is2 x5 fun _ => p.g
  wm : Is2 wm fun j n => p.w j ⟨n.val, by omega⟩
  wd : Is2 wd (wPad p)

section Numbers

variable {p : Par} {K : Fin 512 → Tok} {x0 : FVec Ideal S512x2048 .bf16} {x1 : FVec Ideal S512x2560 .bf16}
  {x2 : FVec Ideal S512x128 .bf16} {x3 x4 : FVec Ideal S512x1024 .f32} {x5 : FVec Ideal S1x1024 .f32}
  {wm : FVec Ideal S1024x4608 .bf16} {wd : FVec Ideal S1024x128 .bf16}
variable (H : Holds p K x0 x1 x2 x3 x4 x5 wm wd)
include H

theorem colsL_is : Is2 (φ := .bf16) (colsL wm) (wl p) := fun j n => by
  refine Eq.trans ?_ (H.wm j ⟨n.val, by omega⟩)
  refine congrArg wm (funext fun k => ?_)
  match k with
  | ⟨0, _⟩ => exact Fin.ext (by show 0 + 1 * j.val = j.val; omega)
  | ⟨1, _⟩ => exact Fin.ext (by show 0 + 1 * n.val = n.val; omega)

theorem colsS_is : Is2 (φ := .bf16) (colsS wm) (ws p) := fun j n => by
  refine Eq.trans ?_ (H.wm j ⟨2048 + n.val, by omega⟩)
  refine congrArg wm (funext fun k => ?_)
  match k with
  | ⟨0, _⟩ => exact Fin.ext (by show 0 + 1 * j.val = j.val; omega)
  | ⟨1, _⟩ => exact Fin.ext (by show 2048 + 1 * n.val = 2048 + n.val; omega)

theorem dx_is : Is2 (dxB x0 x1 x2 x3 x4 x5 wm wd) fun i => dx p (K i) :=
  dx_eq p K _ _ _ _ _ (dh_eq p K _ _ _ _ _ _ H.l (colsL_is H) H.s (colsS_is H) H.t H.wd) H.x (rn_eq K _ H.x) H.d H.g

theorem g_is {a : FVec Ideal S1x1024 .f32} {r : Row} (ha : Is2 a fun _ => r) :
    Is2 (gB x0 x1 x2 x4 wm wd a) fun _ j => r j + ∑ i, gPart p (K i) j :=
  g_eq p K _ _ _ _ _ _ H.l (colsL_is H) H.s (colsS_is H) H.t H.wd _ H.x _ r ha

end Numbers

/-! ## What a point leaves -/

/-- One piece that fills the block is the block. -/
theorem canon_whole {S : Shape} {e : EltTy} (w : (Rect.whole S).shape.Idx → Elt Ideal e) :
    View.canon [⟨Rect.whole S, w⟩] = w :=
  View.canon_cons_unit_lit (off := fun _ => 0) _ w [] fun _ => rfl

/-- A load of a part after a copy of the whole is that part of what was copied. -/
theorem cov_part {sig : RefSig} {κ : Kind} {sp : Space} {S : Shape} {e : EltTy} (v : View sig κ sp S e)
    (w : (Rect.whole S).shape.Idx → Elt Ideal e) (R : Rect S) :
    v.readCov [⟨Rect.whole S, w⟩] R.toLoadRect = View.ld (S := S) w R := by
  rw [View.readCov_eq_canon', canon_whole]

/-- The whole is the part that starts at the origin and has the whole's size. -/
theorem ld_whole {a b : ℕ} {e : EltTy} (w : (⟨2, ![a, b]⟩ : Shape).Idx → Elt Ideal e) (inb) :
    View.ld w (Rect.unit (s := (⟨2, ![a, b]⟩ : Shape)) ![0, 0] ![a, b] inb) = w := by
  funext y
  refine congrArg w (funext fun k => ?_)
  match k with
  | ⟨0, _⟩ => exact Fin.ext (by show 0 + 1 * (y 0).val = (y 0).val; omega)
  | ⟨1, _⟩ => exact Fin.ext (by show 0 + 1 * (y 1).val = (y 1).val; omega)

variable (m : (ℓ : Loc nD τ sig) → Buf (Elt Ideal) ℓ) (c : Dev nD) (t : Fin cfg0.N)

theorem first (h0 : t.val % 16 = 0) : outsAt0 m c t.val t.isLt =
    (dxB (iblk m c 0 t) (iblk m c 1 t) (iblk m c 2 t) (iblk m c 3 t) (iblk m c 4 t) (iblk m c 5 t) (V m c main_v8) (V m c main_v2),
      gB (iblk m c 0 t) (iblk m c 1 t) (iblk m c 2 t) (iblk m c 4 t) (V m c main_v8) (V m c main_v2) k0_pay3,
      V m c main_v8, V m c main_v2) := by
  rw [outsAt0_A m c t h0]
  frame_out
  simp only [cov_part, canon_whole, ReadAs.apply_same, View.read_whole, ld_whole]
  rfl

theorem later (h0 : ¬t.val % 16 = 0) : outsAt0 m c t.val t.isLt =
    let o := outsAt0 m c (t.val - 1) (lt_of_le_of_lt (Nat.sub_le _ _) t.isLt)
    (dxB (iblk m c 0 t) (iblk m c 1 t) (iblk m c 2 t) (iblk m c 3 t) (iblk m c 4 t) (iblk m c 5 t) o.2.2.1 o.2.2.2,
      gB (iblk m c 0 t) (iblk m c 1 t) (iblk m c 2 t) (iblk m c 4 t) o.2.2.1 o.2.2.2 o.2.1, o.2.2.1, o.2.2.2) := by
  rw [outsAt0_B m c t h0]
  frame_out
  simp only [read_unread_whole]
  rfl

end Cert.InBwdIdeal.Point
-- ==== Proof.InBwd.Arrays.lean ====
/-
  What the input projection's backward kernel leaves in its result arrays, over real arguments: the host operands that the
  launch reads, the grid's points one after the other, and each array at an index.
-/
module

public import proofs.«01_k».proof.Proof.InBwd.Args
public import proofs.«01_k».proof.Proof.InBwd.Point
public import Idealize.ShloMosaic.Lib.Claim
public import Idealize.ShloMosaic.Lib.Pointwise
public import Idealize.ShloMosaic.Lib.KernelVsHost

@[expose] public section

set_option maxRecDepth 16384

noncomputable section

namespace Cert.InBwdIdeal.Arrays

open Cert.InBwdIdeal Cert.InBwdIdeal.Gen Cert.InBwdIdeal.Block Cert.InBwdIdeal.Point Cert.InReal Cert.Lift
open Cert.FfnReal (Row rn)
open Idealize.ShloMosaic Idealize.ShloMosaic.TcCoe Idealize.SL.Sem

/-- The arguments of device `c` in the memory `m`. -/
abbrev Given (p : Par) (K : Fin 8192 → Tok) (m : (ℓ : Loc nD τ sig) → Buf (Elt Ideal) ℓ) (c : Dev nD) : Prop :=
  Args p K (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

variable {p : Par} {K : Fin 8192 → Tok} {m : (ℓ : Loc nD τ sig) → Buf (Elt Ideal) ℓ} {c : Dev nD}

/-- Sixteen columns padded with the integer zero, converted, to a lane row. -/
theorem padded {a : ℕ} (x : FVec Ideal (⟨2, ![a, 16]⟩ : Shape) .bf16)
    (hp : (⟨2, ![a, 16]⟩ : Shape).Pads ![0, 0] ![0, 112] ![0, 0] (⟨2, ![a, 128]⟩ : Shape)) (i : Fin a) (n : Fin 128) :
    pad (⟨2, ![a, 128]⟩ : Shape) ![0, 0] ![0, 112] ![0, 0] x (sitofp (F := Ideal) .bf16 (constantI S_ 32 0#32)) hp h_S_ (ix2 i n)
      = if h : n.val < 16 then x (ix2 i ⟨n.val, h⟩) else ((0 : ℝ) : EReal) := by
  by_cases h : n.val < 16
  · rw [dif_pos h]
    refine pad_apply_of_inside ![0, 0] ![0, 112] ![0, 0] _ _ hp h_S_ _ (ix2 i ⟨n.val, h⟩) fun k => ?_
    match k with
    | ⟨0, _⟩ => show i.val = 0 + i.val * 1; omega
    | ⟨1, _⟩ => show n.val = 0 + n.val * 1; omega
  · rw [dif_neg h]
    refine (pad_apply_of_not_inside (s := (⟨2, ![a, 16]⟩ : Shape)) (t := (⟨2, ![a, 128]⟩ : Shape)) ![0, 0] ![0, 112] ![0, 0] _ _ hp h_S_ (ix2 i n) (⟨1, by decide⟩ : Fin 2) fun hn => h ?_).trans ?_
    · have h2 : (n.val - 0) / 1 < 16 := hn.2.2
      omega
    · show (((0#32 : BitVec 32).toInt : ℝ) : EReal) = _
      simp

section Host

variable (A : Given p K m c)
include A

theorem l_val : Is2 (φ := .bf16) (V m c main_v5) fun i => (K i).l := fun i k => by
  entry_read; pointwise; exact A.l i k

theorem s_val : Is2 (φ := .bf16) (V m c main_v6) fun i => (K i).s := fun i k => by
  entry_read; pointwise; exact A.s i k

theorem g_val : Is2 (φ := .f32) (V m c main_v7) fun _ => p.g := fun i k => by
  unfold V
  simp only [List.flatten_cons, List.flatten_nil, hostOps0, hostOps0_1, hostOps0_2, hostOps0_3, hostOps0_4, List.cons_append, List.nil_append]
  after_results_simp
  pointwise
  exact A.g k

theorem wm_val : Is2 (φ := .bf16) (V m c main_v8) fun j n => p.w j ⟨n.val, by omega⟩ := fun j n => by
  unfold V
  simp only [List.flatten_cons, List.flatten_nil, hostOps0, hostOps0_1, hostOps0_2, hostOps0_3, hostOps0_4, List.cons_append, List.nil_append]
  after_results_simp
  pointwise
  exact A.w j ⟨n.val, by omega⟩

theorem wd_val : Is2 (φ := .bf16) (V m c main_v2) (wPad p) := fun j n => by
  unfold V
  simp only [List.flatten_cons, List.flatten_nil, hostOps0, hostOps0_1, hostOps0_2, hostOps0_3, hostOps0_4, List.cons_append, List.nil_append]
  after_results_simp
  refine (padded (extractStridedSlice S1024x16 ![0, 4608] (truncf (F := Ideal) .bf16 (m (c, Proc.tc.devRef main_arg6)) bitsLt_bf16_f32)
    slices_S1024x4624_S1024x16_0_4608) pads_S1024x16_S1024x128_000_01120 j n).trans ?_
  unfold wPad
  by_cases h : n.val < 16
  · rw [dif_pos h, dif_pos h]
    pointwise
    exact A.w j ⟨4608 + n.val, by omega⟩
  · rw [dif_neg h, dif_neg h]

theorem t_val : Is2 (φ := .bf16) (V m c main_v4) fun i => tPad (K i) := fun i n => by
  unfold V
  simp only [List.flatten_cons, List.flatten_nil, hostOps0, hostOps0_1, hostOps0_2, hostOps0_3, hostOps0_4, List.cons_append, List.nil_append]
  after_results_simp
  refine (padded (truncf (F := Ideal) .bf16 (m (c, Proc.tc.devRef main_arg3)) bitsLt_bf16_f32) pads_S8192x16_S8192x128_000_01120 i n).trans ?_
  unfold tPad
  by_cases h : n.val < 16
  · rw [dif_pos h, dif_pos h]
    pointwise
    exact A.t i ⟨n.val, h⟩
  · rw [dif_neg h, dif_neg h]

end Host

/-! ## One point -/

/-- The row of the arrays that row `i` of point `n`'s tiles is. -/
def row (n : ℕ) (i : Fin 512) : Fin 8192 := ⟨(512 * n + i.val) % 8192, Nat.mod_lt _ (by norm_num)⟩

/-- The index maps: the tiles go along the rows, the small blocks stay. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0] := by
  decide +kernel

theorem row_lt (t : Fin cfg0.N) : t.val < 16 := t.isLt

theorem row_val (t : Fin cfg0.N) (i : Fin 512) : (row t.val i).val = t.val * 512 + i.val := by
  have := row_lt t
  unfold row
  show (512 * t.val + i.val) % 8192 = _
  omega

section Host

variable (A : Given p K m c)
include A

theorem holds (t : Fin cfg0.N) : Holds p (fun i => K (row t.val i)) (iblk m c 0 t) (iblk m c 1 t) (iblk m c 2 t)
    (iblk m c 3 t) (iblk m c 4 t) (iblk m c 5 t) (V m c main_v8) (V m c main_v2) where
  l i k := by
    refine Eq.trans ?_ (l_val A (row t.val i) k)
    have := row_val t i
    blk_ext [iblk, idx t]
  s i k := by
    refine Eq.trans ?_ (s_val A (row t.val i) k)
    have := row_val t i
    blk_ext [iblk, idx t]
  t i k := by
    refine Eq.trans ?_ (t_val A (row t.val i) k)
    have := row_val t i
    blk_ext [iblk, idx t]
  d i k := by
    refine Eq.trans ?_ (A.d (row t.val i) k)
    have := row_val t i
    rw [← V_main_arg0 m c]
    blk_ext [iblk, idx t]
  x i k := by
    refine Eq.trans ?_ (A.x (row t.val i) k)
    have := row_val t i
    rw [← V_main_arg4 m c]
    blk_ext [iblk, idx t]
  g i k := by
    refine Eq.trans ?_ (g_val A i k)
    blk_ext [iblk, idx t]
  wm := wm_val A
  wd := wd_val A

/-- What the point `n` leaves in the two results' blocks, and what the two held weights are. -/
structure Left (p : Par) (K : Fin 8192 → Tok) (m : (ℓ : Loc nD τ sig) → Buf (Elt Ideal) ℓ) (c : Dev nD) (n : ℕ)
    (o : Vec Ideal S512x1024 .f32 × Vec Ideal S1x1024 .f32 × Vec Ideal S1024x4608 .bf16 × Vec Ideal S1024x128 .bf16) : Prop where
  dx : Is2 (φ := .f32) o.1 fun i => dx p (K (row n i))
  g : Is2 (φ := .f32) o.2.1 fun _ j => ∑ q ∈ Finset.range (n + 1), ∑ i, gPart p (K (row q i)) j
  wm : o.2.2.1 = V m c main_v8
  wd : o.2.2.2 = V m c main_v2

theorem left_all : ∀ (n : ℕ) (hn : n < cfg0.N), Left p K m c n (outsAt0 m c n hn) := by
  intro n
  induction n with
  | zero =>
    intro hn
    have H := holds A ⟨0, hn⟩
    rw [show outsAt0 m c 0 hn = _ from first m c ⟨0, hn⟩ rfl]
    exact {
      dx := dx_is H
      g := fun i j => by
        have := g_is H zero_g i j
        simpa using this
      wm := rfl
      wd := rfl }
  | succ n ih =>
    intro hn
    have I := ih (Nat.lt_of_succ_lt hn)
    have H := holds A ⟨n + 1, hn⟩
    have h0 : ¬(⟨n + 1, hn⟩ : Fin cfg0.N).val % 16 = 0 := by
      have : n + 1 < 16 := hn
      show ¬(n + 1) % 16 = 0
      omega
    have e : outsAt0 m c (n + 1) hn = _ := later m c ⟨n + 1, hn⟩ h0
    simp only [Nat.add_sub_cancel] at e
    rw [I.wm, I.wd] at e
    rw [e]
    exact {
      dx := dx_is H
      g := fun i j => by
        refine Eq.trans ?_ (congrArg (fun z : ℝ => (z : EReal)) (Finset.sum_range_succ
          (fun q => ∑ i, gPart p (K (row q i)) j) (n + 1)).symm)
        exact g_is H (r := fun j => ∑ q ∈ Finset.range (n + 1), ∑ i, gPart p (K (row q i)) j)
          (fun i k => by rw [show i = 0 from Subsingleton.elim _ _]; exact I.g 0 k) i j
      wm := rfl
      wd := rfl }

end Host

/-! ## The arrays -/

/-- The last point. -/
def lastPt : Fin cfg0.N := ⟨15, by decide⟩

section Host

variable (A : Given p K m c)
include A

theorem arr_dx : ((dats m 0 c).arrAt 6 cfg0.N : FVec Ideal S8192x1024 .f32) = fun y => ((dx p (K (y 0)) (y 1) : ℝ) : EReal) := by
  refine (dats m 0 c).arrAt_eq_of_covers 6 _ (by decide +kernel) fun t hf y => ?_
  have L := (left_all A t.val t.isLt).dx
  have hr := row_val t (y 0)
  have e : (win0_6.blk t).view.emb y = ix2 (row t.val (y 0)) (y 1) := by blk_ext [idx t]
  blk_simp
  rw [after0_6, e]
  exact (congrArg _ (eq_ix2 y)).trans (L (y 0) (y 1))

theorem arr_g : ((dats m 0 c).arrAt 7 cfg0.N : FVec Ideal S1x1024 .f32) = fun y => ((∑ q ∈ Finset.range 16, ∑ i, gPart p (K (row q i)) (y 1) : ℝ) : EReal) := by
  refine (dats m 0 c).arrAt_eq_of_after_last 7 lastPt (by decide +kernel) _ fun j => ?_
  have L := (left_all A lastPt.val lastPt.isLt).g
  blk_simp
  rw [after0_7]
  exact (congrArg _ (eq_ix2 j)).trans (L (j 0) (j 1))

end Host

end Cert.InBwdIdeal.Arrays
-- ==== Proof.InBwd.Ref.lean ====
/-
  What the reference of the input projection's backward pass computes, over real arguments: each of its values that the
  real description names, at an index.
-/
module

public import proofs.«01_k».proof.Proof.InBwd.Args
public import proofs.«01_k».proof.Proof.Gen.InBwdRefIdeal.Read
public import proofs.«01_k».proof.Proof.Ffn.Ref

@[expose] public section

set_option maxRecDepth 16384

noncomputable section

open Idealize.ShloMosaic

namespace Cert.InBwdRefIdeal.Val

open Cert.InBwdRefIdeal Cert.InBwdRefIdeal.Read Cert.InReal Cert.Lift
open Cert.FfnReal (Row rn rmsBack)
open Cert.FfnRefIdeal.Val (lit_neg_half div_1024 rsqrt_row div_row)

variable {x0 : FVec Ideal S8192x1024 .f32} {x1 : FVec Ideal S8192x2048 .f32} {x2 : FVec Ideal S8192x2560 .f32}
  {x3 : FVec Ideal S8192x16 .f32} {x4 : FVec Ideal S8192x1024 .f32} {x5 : FVec Ideal S1024 .f32} {x6 : FVec Ideal S1024x4624 .f32}
  {p : Par} {K : Fin 8192 → Tok}
variable (A : Args p K x0 x1 x2 x3 x4 x5 x6)
include A

theorem main_v7 (i : Fin 8192) (k : Fin 1) : val_main_v7 (F := Ideal) x4 (ix2 i k) = ((rn (K i).x : ℝ) : EReal) := by
  pointwise [val_main_v7, val_main_v6, val_main_v5, val_main_cst_1, val_main_v4, val_main_v3, val_main_cst_0, val_main_v2,
    val_main_v1, val_main_cst, val_main_v0]
  simp only [A.x _ _, lit_zero, lit_1024, lit_eps, ← EReal.coe_mul, ← EReal.coe_add, sum_coe, div_1024, rsqrt_row, zero_add]

theorem main_v10 (i : Fin 8192) (k : Fin 1) :
    val_main_v10 (F := Ideal) x4 (ix2 i k) = ((-(1 / 2) * (rn (K i).x * rn (K i).x * rn (K i).x) : ℝ) : EReal) := by
  pointwise [val_main_v10, val_main_v9, val_main_cst_2, val_main_v8, val_main_v7, val_main_v6, val_main_v5, val_main_cst_1, val_main_v4, val_main_v3, val_main_cst_0, val_main_v2,
    val_main_v1, val_main_cst, val_main_v0]
  simp only [A.x _ _, lit_zero, lit_1024, lit_eps, lit_neg_half, ← EReal.coe_mul, ← EReal.coe_add, sum_coe, div_1024, rsqrt_row, zero_add, div_row]

theorem main_v12 (i : Fin 8192) (k : Fin 1024) :
    val_main_v12 (F := Ideal) x4 (ix2 i k) = (((K i).x k * rn (K i).x : ℝ) : EReal) := by
  pointwise [val_main_v12, val_main_v11]
  simp only [main_v7 A _ _, A.x _ _, ← EReal.coe_mul]

theorem main_v17 (i : Fin 8192) (n : Fin 4624) :
    val_main_v17 (F := Ideal) x1 x2 x3 (ix2 i n) = ((ct (K i) n : ℝ) : EReal) := by
  unfold val_main_v17
  pointwise
  unfold ct
  by_cases h : n.val < 2048
  · rw [dif_pos h, dif_pos h]; exact A.l i _
  · rw [dif_neg h, dif_neg h]
    by_cases h' : n.val < 4608
    · rw [dif_pos h', dif_pos (by omega : n.val - 2048 < 2560)]; exact A.s i _
    · rw [dif_neg h', dif_neg (by omega : ¬ n.val - 2048 < 2560)]
      refine Eq.trans ?_ (A.t i _)
      exact congrArg x3 (congrArg (ix2 i) (Fin.ext (by show n.val - 2048 - 2560 = n.val - 4608; omega)))

theorem main_v18 (i : Fin 8192) (k : Fin 1024) :
    val_main_v18 (F := Ideal) x1 x2 x3 x6 (ix2 i k) = ((dh p (K i) k : ℝ) : EReal) := by
  pointwise [val_main_v18]
  simp only [main_v17 A _ _, A.w _ _, ← EReal.coe_mul, sum_coe]
  rfl

theorem main_v21 (i : Fin 1) (k : Fin 1024) :
    val_main_v21 (F := Ideal) x1 x2 x3 x4 x6 (ix2 i k) = ((∑ r, gPart p (K r) k : ℝ) : EReal) := by
  pointwise [val_main_v21, val_main_v20, val_main_v19, val_main_cst_3]
  simp only [main_v18 A _ _, main_v12 A _ _, lit_zero, ← EReal.coe_mul, ← EReal.coe_add, sum_coe, zero_add]
  exact congrArg (fun z : ℝ => (z : EReal)) (Finset.sum_congr rfl fun r _ => by unfold gPart; ring)

theorem main_v23 (i : Fin 8192) (k : Fin 1024) :
    val_main_v23 (F := Ideal) x1 x2 x3 x5 x6 (ix2 i k) = ((dh p (K i) k * p.g k : ℝ) : EReal) := by
  pointwise [val_main_v23, val_main_v22, val_main_v13]
  simp only [main_v18 A _ _, A.g _, ← EReal.coe_mul]

theorem main_v32 (i : Fin 8192) (k : Fin 1) :
    val_main_v32 (F := Ideal) x1 x2 x3 x4 x5 x6 (ix2 i k)
      = (((∑ j, (K i).x j * (dh p (K i) j * p.g j)) * (-(1 / 2) * (rn (K i).x * rn (K i).x * rn (K i).x)) / 1024 : ℝ) : EReal) := by
  pointwise [val_main_v32, val_main_v31, val_main_cst_6, val_main_v30, val_main_v27, val_main_v26, val_main_cst_5, val_main_v25]
  simp only [main_v23 A _ _, main_v10 A _ _, A.x _ _, lit_zero, lit_1024, ← EReal.coe_mul, ← EReal.coe_add, sum_coe, zero_add, div_1024]

theorem main_v39 (i : Fin 8192) (k : Fin 1024) :
    val_main_v39 (F := Ideal) x0 x1 x2 x3 x4 x5 x6 (ix2 i k) = ((dx p (K i) k : ℝ) : EReal) := by
  pointwise [val_main_v39, val_main_v38, val_main_v37, val_main_v36, val_main_v35, val_main_v34, val_main_v33, val_main_cst_7, val_main_v29, val_main_v28]
  simp only [Fin.sum_univ_one, main_v32 A _ _, main_v23 A _ _, main_v7 A _ _, A.x _ _, A.d _ _, lit_zero, ← EReal.coe_mul, ← EReal.coe_add, zero_add]
  refine congrArg (fun z : ℝ => (z : EReal)) ?_
  have e : ∑ j, (K i).x j * (dh p (K i) j * p.g j) = ∑ j, (dh p (K i) j * p.g j) * (K i).x j :=
    Finset.sum_congr rfl fun j _ => mul_comm _ _
  unfold dx rmsBack
  rw [e]
  ring

theorem main_v40 (i : Fin 1) (k : Fin 1024) :
    val_main_v40 (F := Ideal) x1 x2 x3 x4 x6 (ix2 i k) = ((∑ r, gPart p (K r) k : ℝ) : EReal) := by
  pointwise [val_main_v40, val_main_v24, val_main_cst_4]
  simp only [Fin.sum_univ_one, main_v21 A _ _, lit_zero, ← EReal.coe_add, zero_add]

end Cert.InBwdRefIdeal.Val
-- ==== Proof.InBwd.Finite.lean ====
/-
  The precondition of the claim on the input projection's backward pass, read: every argument entry is a real number.
-/
module

public import proofs.«01_k».proof.Pre_in_finite
public import proofs.«01_k».proof.Proof.InBwd.Args
public import proofs.«01_k».proof.Proof.Ffn.Finite

@[expose] public section

set_option maxRecDepth 16384

noncomputable section

open Idealize.ShloMosaic

namespace Cert.Pre_in_finite.Read

open Cert.Pre_in_finite Cert.InReal Cert.Lift
open Cert.Pre_ffn_finite.Read (real_of_all)

instance facts : Cert.Pre_in_finite.Facts where
  bcast_S_S8192x1024 := by decide
  reducesTo_S8192x1024_S_d0_1 := by decide
  h_S_ := by decide
  bcast_S_S8192x2048 := by decide
  reducesTo_S8192x2048_S_d0_1 := by decide
  bcast_S_S8192x2560 := by decide
  reducesTo_S8192x2560_S_d0_1 := by decide
  bcast_S_S8192x16 := by decide
  reducesTo_S8192x16_S_d0_1 := by decide
  bcast_S_S1024 := by decide
  reducesTo_S1024_S_d0 := by decide
  bcast_S_S1024x4624 := by decide
  reducesTo_S1024x4624_S_d0_1 := by decide

theorem args_of_fn (x0 : FVec Ideal S8192x1024 .f32) (x1 : FVec Ideal S8192x2048 .f32) (x2 : FVec Ideal S8192x2560 .f32)
    (x3 : FVec Ideal S8192x16 .f32) (x4 : FVec Ideal S8192x1024 .f32) (x5 : FVec Ideal S1024 .f32)
    (x6 : FVec Ideal S1024x4624 .f32) (h : fn (F := Ideal) x0 x1 x2 x3 x4 x5 x6 = fun _ => 1#1) :
    ∃ p K, Args p K x0 x1 x2 x3 x4 x5 x6 := by
  have h' := congrFun h ix0
  dsimp only [fn, fn_part1] at h'
  simp only [andi, IntOp.andi_eq_one] at h'
  obtain ⟨⟨⟨⟨⟨⟨h0, h1⟩, h2⟩, h3⟩, h4⟩, h5⟩, h6⟩ := h'
  choose r0 e0 using real_of_all x0 _ _ _ _ _ _ h0
  choose r1 e1 using real_of_all x1 _ _ _ _ _ _ h1
  choose r2 e2 using real_of_all x2 _ _ _ _ _ _ h2
  choose r3 e3 using real_of_all x3 _ _ _ _ _ _ h3
  choose r4 e4 using real_of_all x4 _ _ _ _ _ _ h4
  choose r5 e5 using real_of_all x5 _ _ _ _ _ _ h5
  choose r6 e6 using real_of_all x6 _ _ _ _ _ _ h6
  exact ⟨⟨fun k n => r6 (ix2 k n), fun k => r5 (ix1 k)⟩,
    fun i => ⟨fun k => r0 (ix2 i k), fun k => r1 (ix2 i k), fun k => r2 (ix2 i k), fun k => r3 (ix2 i k), fun k => r4 (ix2 i k)⟩,
    ⟨fun _ _ => e0 _, fun _ _ => e1 _, fun _ _ => e2 _, fun _ _ => e3 _, fun _ _ => e4 _, fun _ => e5 _, fun _ _ => e6 _⟩⟩

end Cert.Pre_in_finite.Read
-- ==== Proof.InBwd.RefFrame.lean ====
/-
  The frame of the reference of the input projection's backward pass: a straight line of host operations, none of which writes an argument.
-/
module

public import proofs.«01_k».proof.Defs
public import proofs.«01_k».proof.Proof.Gen.InBwdRefIdeal.Run
public import Idealize.ShloMosaic.Lib.Claim

@[expose] public section

noncomputable section

open Idealize.ShloMosaic Idealize.ShloMosaic.TcCoe Idealize.SL.Sem

namespace Cert.InBwdEqual

/-- The reference's frame: it ends, its arguments and every counter as they were. -/
theorem ref_frame : Cert.quiescent_InBwdRefIdeal := fun m ρ _ => by
  refine (θ_run Cert.InBwdRefIdeal.defs _ _).mono (fun r h => ⟨fun c => ?_, sem_eq_zero_of_no_sems (by decide) r.2⟩)
    (Cert.InBwdRefIdeal.Value.run (F := Ideal) m ρ)
  obtain ⟨-, -, hk⟩ := h c
  exact hk

end Cert.InBwdEqual
-- ==== Proof.InBwd.Equal.lean ====
/-
  The input projection's backward kernel and its reference end with the same arrays.
-/
module

public import proofs.«01_k».proof.Defs
public import proofs.«01_k».proof.Proof.InBwd.Arrays
public import proofs.«01_k».proof.Proof.InBwd.Ref
public import proofs.«01_k».proof.Proof.InBwd.Finite
public import proofs.«01_k».proof.Proof.InBwd.RefFrame

@[expose] public section

set_option maxRecDepth 16384

noncomputable section

open Idealize.ShloMosaic Idealize.ShloMosaic.TcCoe Idealize.SL.Sem

namespace Cert.InBwdEqual

open Cert.InReal Cert.InBwdIdeal.Arrays

/-- The points' rows, one point after the other, are all the rows. -/
theorem sum_rows (F : Fin 8192 → ℝ) : ∑ q ∈ Finset.range 16, ∑ i, F (row q i) = ∑ r, F r := by
  rw [Finset.sum_range fun q => ∑ i, F (row q i)]
  rw [← Fintype.sum_prod_type' fun (q : Fin 16) (i : Fin 512) => F (row q.val i)]
  refine Fintype.sum_equiv (finProdFinEquiv (m := 16) (n := 512)) _ _ fun y => congrArg F (Fin.ext ?_)
  have h1 := y.1.isLt
  have h2 := y.2.isLt
  show (512 * y.1.val + y.2.val) % 8192 = y.2.val + 512 * y.1.val
  omega

section Same

variable {p : Par} {K : Fin 8192 → Tok}
  {m : (ℓ : Loc Cert.InBwdIdeal.nD Cert.InBwdIdeal.τ Cert.InBwdIdeal.sig) → Buf (Elt Ideal) ℓ} {c : Dev Cert.InBwdIdeal.nD}
  {x0 : FVec Ideal (⟨2, ![8192, 1024]⟩ : Shape) .f32} {x1 : FVec Ideal (⟨2, ![8192, 2048]⟩ : Shape) .f32}
  {x2 : FVec Ideal (⟨2, ![8192, 2560]⟩ : Shape) .f32} {x3 : FVec Ideal (⟨2, ![8192, 16]⟩ : Shape) .f32}
  {x4 : FVec Ideal (⟨2, ![8192, 1024]⟩ : Shape) .f32} {x5 : FVec Ideal (⟨1, ![1024]⟩ : Shape) .f32}
  {x6 : FVec Ideal (⟨2, ![1024, 4624]⟩ : Shape) .f32}
variable (A : Given p K m c) (B : Args p K x0 x1 x2 x3 x4 x5 x6)
include A B

theorem dx_same : (Cert.InBwdIdeal.Gen.dats m 0 c).arrAt 6 Cert.InBwdIdeal.cfg0.N
    = Cert.InBwdRefIdeal.Read.val_main_v39 (F := Ideal) x0 x1 x2 x3 x4 x5 x6 := by
  refine (arr_dx A).trans (funext fun y : Cert.InBwdIdeal.S8192x1024.Idx => ?_)
  rw [eq_ix2 y]
  refine Eq.trans ?_ (Cert.InBwdRefIdeal.Val.main_v39 B (y 0) (y 1)).symm
  rfl

theorem g_same : (Cert.InBwdIdeal.Gen.dats m 0 c).arrAt 7 Cert.InBwdIdeal.cfg0.N
    = Cert.InBwdRefIdeal.Read.val_main_v40 (F := Ideal) x1 x2 x3 x4 x6 := by
  refine (arr_g A).trans (funext fun y : Cert.InBwdIdeal.S1x1024.Idx => ?_)
  rw [eq_ix2 y]
  refine Eq.trans ?_ (Cert.InBwdRefIdeal.Val.main_v40 B (y 0) (y 1)).symm
  exact congrArg (fun z : ℝ => (z : EReal)) (sum_rows fun r => gPart p (K r) (y 1))

end Same

set_option maxHeartbeats 1000000 in
/-- The reference's run: each result is its last stage at the arguments, the arguments unchanged. -/
theorem ref_run (m : (ℓ : Loc Cert.InBwdRefIdeal.nD Cert.InBwdRefIdeal.τ Cert.InBwdRefIdeal.sig) → Buf (Elt Ideal) ℓ)
    (ρ : Dev Cert.InBwdRefIdeal.nD → PrngReg) :
    θ_run Cert.InBwdRefIdeal.defs (onTc (τ := Cert.InBwdRefIdeal.τ) (Cert.InBwdRefIdeal.main (F := Ideal))) ⟨m, fun _ => 0, ρ⟩ fun r => ∀ c : Dev Cert.InBwdRefIdeal.nD,
      r.2.mem ((c.tc : Thread Cert.InBwdRefIdeal.nD Cert.InBwdRefIdeal.τ).loc Cert.InBwdRefIdeal.main_v39) = Cert.InBwdRefIdeal.Read.val_main_v39 (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6))
      ∧ r.2.mem ((c.tc : Thread Cert.InBwdRefIdeal.nD Cert.InBwdRefIdeal.τ).loc Cert.InBwdRefIdeal.main_v40) = Cert.InBwdRefIdeal.Read.val_main_v40 (F := Ideal) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg6))
      ∧ r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6) := by
  refine (θ_run _ _ _).mono (fun r h c => ?_) (Cert.InBwdRefIdeal.Value.run m ρ)
  obtain ⟨h0, h1, hk⟩ := h c
  exact ⟨h0.trans (Cert.InBwdRefIdeal.Read.val_main_v39_eq (m := m) (c := c)),
    h1.trans (Cert.InBwdRefIdeal.Read.val_main_v40_eq _ _ _ _ _), hk⟩

/-- The claim: over real arguments the kernel's run and the reference's end with equal arrays, the arguments unchanged. -/
theorem algebraic : Cert.algebraic_InBwdIdeal_InBwdRefIdeal_pre_in_finite := by
  pair_intro
  · run_from Cert.InBwdIdeal.Value.run_blocks m g
  · refine (θ_run _ _ _).mono (fun r h c => ?_) (ref_run m' g')
    obtain ⟨p, K, A⟩ := Cert.Pre_in_finite.Read.args_of_fn _ _ _ _ _ _ _ (hpre c)
    have B := A
    obtain ⟨e0, e1, e2, e3, e4, e5, e6⟩ := hagree c
    rw [← e0, ← e1, ← e2, ← e3, ← e4, ← e5, ← e6] at B
    obtain ⟨h0, h1, hk⟩ := h c
    exact ⟨h0.trans (dx_same A B).symm, h1.trans (g_same A B).symm, hk⟩

end Cert.InBwdEqual
-- ==== Proof.Dw.In.lean ====
/-
  The weight gradient `hᵀ·ct` of the input projection. The cotangent comes in three arrays: the kernel adds each one's
  product into its own columns of one accumulator (the last, sixteen columns wide, padded to 128), over sixteen blocks of
  512 tokens, and after the last block writes the first 4624 columns out as eight slabs of 578; the reference is the one
  product with the three cotangents side by side.
-/
module

public import proofs.«01_k».proof.Defs
public import proofs.«01_k».proof.Proof.Gen.DwInIdeal.Value
public import proofs.«01_k».proof.Proof.Gen.DwInRefIdeal.Read
public import Idealize.ShloMosaic.Lib.Claim
public import Idealize.ShloMosaic.Lib.Pointwise
public import Idealize.ShloMosaic.Lib.KernelVsHost
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.DwInIdeal.Sum

open Cert.DwInIdeal Cert.DwInIdeal.Gen

/-- The cotangent's block at a token and a column: the three arrays side by side. -/
def side (x1 : Vec Ideal S512x2048 .bf16) (x2 : Vec Ideal S512x2560 .bf16) (x3 : Vec Ideal S512x128 .bf16) (k : Fin 512)
    (b : Fin 4736) : EReal :=
  if h : b.val < 2048 then x1 (ix2 k ⟨b.val, h⟩)
  else if h' : b.val < 4608 then x2 (ix2 k ⟨b.val - 2048, by omega⟩)
  else x3 (ix2 k ⟨b.val - 4608, by omega⟩)

theorem start (j : S1024x4736.Idx) : k0_pay10 (F := Ideal) j = 0 := by
  unfold k0_pay10
  rw [eq_ix2 j]
  pointwise

/-- What one step of the accumulator makes of `W`. -/
def grown (x0 : Vec Ideal S512x1024 .bf16) (x1 : Vec Ideal S512x2048 .bf16) (x2 : Vec Ideal S512x2560 .bf16)
    (x3 : Vec Ideal S512x128 .bf16) (W : Vec Ideal S1024x4736 .f32) (y : S1024x4736.Idx) : EReal :=
  W y + ∑ k : Fin 512, x0 (ix2 k (y 0)) * side x1 x2 x3 k (y 1)

/-- The three stores of a step, over whatever was stored before, leave the grown accumulator. -/
theorem three (x0 : Vec Ideal S512x1024 .bf16) (x1 : Vec Ideal S512x2048 .bf16) (x2 : Vec Ideal S512x2560 .bf16)
    (x3 : Vec Ideal S512x128 .bf16) (W : Vec Ideal S1024x4736 .f32) (L : List (View.Piece (Elt Ideal) S1024x4736 .f32)) :
    View.canon ([⟨Rect.unit ![0, 4608] ![1024, 128] inb_S1024x4736_S1024x128_0_4608,
          k0_pay14 x0 (View.ld W (Rect.unit ![0, 4608] ![1024, 128] inb_S1024x4736_S1024x128_0_4608)) x3⟩,
        ⟨Rect.unit ![0, 2048] ![1024, 2560] inb_S1024x4736_S1024x2560_0_2048,
          k0_pay13 x0 (View.ld W (Rect.unit ![0, 2048] ![1024, 2560] inb_S1024x4736_S1024x2560_0_2048)) x2⟩,
        ⟨Rect.unit ![0, 0] ![1024, 2048] inb_S1024x4736_S1024x2048_0_0,
          k0_pay12 x0 (View.ld W (Rect.unit ![0, 0] ![1024, 2048] inb_S1024x4736_S1024x2048_0_0)) x1⟩] ++ L)
      = grown x0 x1 x2 x3 W := by
  funext y
  refine View.canon_append_of_piecesOf (grown x0 x1 x2 x3 W) L [_, _, _] ⟨fun x => ?_, fun x => ?_, fun x => ?_, trivial⟩ y
    ?_
  rotate_right
  · have h0 : (y 0).val < 1024 := (y 0).isLt
    have h1 : (y 1).val < 4736 := (y 1).isLt
    have key : ∀ (o n : ℕ) (inb), o ≤ (y 1).val → (y 1).val < o + n →
        y ∈ (Rect.unit (s := S1024x4736) ![0, o] ![1024, n] inb).set := fun o n inb l u =>
      Rect.mem_set_unit.mpr fun a => match a with
        | ⟨0, _⟩ => ⟨Nat.zero_le _, by show (y 0).val < 0 + 1024; omega⟩
        | ⟨1, _⟩ => ⟨l, u⟩
    rcases Nat.lt_or_ge (y 1).val 2048 with h | h
    · exact ⟨_, List.mem_cons_of_mem _ (List.mem_cons_of_mem _ List.mem_cons_self), key 0 2048 inb_S1024x4736_S1024x2048_0_0 (by omega) (by omega)⟩
    · rcases Nat.lt_or_ge (y 1).val 4608 with h' | h'
      · exact ⟨_, List.mem_cons_of_mem _ List.mem_cons_self, key 2048 2560 inb_S1024x4736_S1024x2560_0_2048 (by omega) (by omega)⟩
      · exact ⟨_, List.mem_cons_self, key 4608 128 inb_S1024x4736_S1024x128_0_4608 (by omega) (by omega)⟩
  · obtain ⟨a, b, rfl⟩ : ∃ (a : Fin 1024) (b : Fin 128), x = ix2 a b := ⟨_, _, eq_ix2 x⟩
    have hx : (Rect.unit (s := S1024x4736) ![0, 4608] ![1024, 128] inb_S1024x4736_S1024x128_0_4608).emb (ix2 a b)
        = ix2 a (⟨4608 + b.val, by omega⟩ : Fin 4736) := by
      funext k
      match k with
      | ⟨0, _⟩ => exact Fin.ext (show 0 + 1 * a.val = a.val by omega)
      | ⟨1, _⟩ => exact Fin.ext (show 4608 + 1 * b.val = 4608 + b.val by omega)
    dsimp only
    rw [hx]
    unfold grown k0_pay14 k0_pay11
    pointwise
    unfold side
    refine congrArg (_ + ·) (Finset.sum_congr rfl fun k _ => congrArg (_ * ·) ?_)
    rw [dif_neg (by dsimp only; omega), dif_neg (by dsimp only; omega)]
    exact congrArg x3 (congrArg (ix2 k) (Fin.ext (by dsimp only; omega)))
  · obtain ⟨a, b, rfl⟩ : ∃ (a : Fin 1024) (b : Fin 2560), x = ix2 a b := ⟨_, _, eq_ix2 x⟩
    have hx : (Rect.unit (s := S1024x4736) ![0, 2048] ![1024, 2560] inb_S1024x4736_S1024x2560_0_2048).emb (ix2 a b)
        = ix2 a (⟨2048 + b.val, by omega⟩ : Fin 4736) := by
      funext k
      match k with
      | ⟨0, _⟩ => exact Fin.ext (show 0 + 1 * a.val = a.val by omega)
      | ⟨1, _⟩ => exact Fin.ext (show 2048 + 1 * b.val = 2048 + b.val by omega)
    dsimp only
    rw [hx]
    unfold grown k0_pay13 k0_pay11
    pointwise
    unfold side
    refine congrArg (_ + ·) (Finset.sum_congr rfl fun k _ => congrArg (_ * ·) ?_)
    rw [dif_neg (by dsimp only; omega), dif_pos (by dsimp only; omega)]
    exact congrArg x2 (congrArg (ix2 k) (Fin.ext (by dsimp only; omega)))
  · obtain ⟨a, b, rfl⟩ : ∃ (a : Fin 1024) (b : Fin 2048), x = ix2 a b := ⟨_, _, eq_ix2 x⟩
    have hx : (Rect.unit (s := S1024x4736) ![0, 0] ![1024, 2048] inb_S1024x4736_S1024x2048_0_0).emb (ix2 a b)
        = ix2 a (⟨0 + b.val, by omega⟩ : Fin 4736) := by
      funext k
      match k with
      | ⟨0, _⟩ => exact Fin.ext (show 0 + 1 * a.val = a.val by omega)
      | ⟨1, _⟩ => exact Fin.ext (show 0 + 1 * b.val = 0 + b.val by omega)
    dsimp only
    rw [hx]
    unfold grown k0_pay12 k0_pay11
    pointwise
    unfold side
    refine congrArg (_ + ·) (Finset.sum_congr rfl fun k _ => congrArg (_ * ·) ?_)
    rw [dif_pos (by dsimp only; omega)]

/-- The same where nothing was stored before. -/
theorem three_only (x0 : Vec Ideal S512x1024 .bf16) (x1 : Vec Ideal S512x2048 .bf16) (x2 : Vec Ideal S512x2560 .bf16)
    (x3 : Vec Ideal S512x128 .bf16) (W : Vec Ideal S1024x4736 .f32) :
    View.canon (Val := Elt Ideal) (s := S1024x4736) (e := .f32) [⟨Rect.unit ![0, 4608] ![1024, 128] inb_S1024x4736_S1024x128_0_4608,
          k0_pay14 x0 (View.ld W (Rect.unit ![0, 4608] ![1024, 128] inb_S1024x4736_S1024x128_0_4608)) x3⟩,
        ⟨Rect.unit ![0, 2048] ![1024, 2560] inb_S1024x4736_S1024x2560_0_2048,
          k0_pay13 x0 (View.ld W (Rect.unit ![0, 2048] ![1024, 2560] inb_S1024x4736_S1024x2560_0_2048)) x2⟩,
        ⟨Rect.unit ![0, 0] ![1024, 2048] inb_S1024x4736_S1024x2048_0_0,
          k0_pay12 x0 (View.ld W (Rect.unit ![0, 0] ![1024, 2048] inb_S1024x4736_S1024x2048_0_0)) x1⟩]
      = grown x0 x1 x2 x3 W :=
  three x0 x1 x2 x3 W []

variable (m : (ℓ : Loc nD τ sig) → Buf (Elt Ideal) ℓ) (c : Dev nD)

theorem first (t : Fin cfg0.N) (h0 : t.val % 16 = 0) : (outsAt0 m c t.val t.isLt).2
    = grown (iblk m c 0 t) (iblk m c 1 t) (iblk m c 2 t) (iblk m c 3 t) (k0_pay10 (F := Ideal)) := by
  rw [outsAt0_A m c t h0 (by omega)]
  frame_out
  simp (disch := decide) only [↓ View.readCov_skip, ↓ View.readCov_cons_toLoadRect, ↓ View.readCov_fill]
  generalize k0_pay10 (F := Ideal) = Z
  exact three _ _ _ _ Z [_]

theorem next (t : Fin cfg0.N) (h0 : ¬t.val % 16 = 0) : (outsAt0 m c t.val t.isLt).2
    = grown (iblk m c 0 t) (iblk m c 1 t) (iblk m c 2 t) (iblk m c 3 t)
        (outsAt0 m c (t.val - 1) (Nat.lt_of_le_of_lt (Nat.sub_le _ _) t.isLt)).2 := by
  by_cases h1 : t.val % 16 = 15
  · rw [outsAt0_C m c t h0 h1]
    frame_out
    simp only [read_unread_whole]
    exact three_only _ _ _ _ _
  · rw [outsAt0_B m c t h0 h1]
    frame_out
    simp only [read_unread_whole]
    exact three_only _ _ _ _ _

theorem last_out (t : Fin cfg0.N) (h1 : t.val % 16 = 15) (y : S8x1024x578.Idx) (a : Fin 1024) (b : Fin 4736)
    (ha : a.val = (y 1).val) (hb : b.val = 578 * (y 0).val + (y 2).val) :
    (outsAt0 m c t.val t.isLt).1 y = (outsAt0 m c t.val t.isLt).2 (ix2 a b) := by
  rw [next m c t (by omega)]
  rw [outsAt0_C m c t (by omega) h1]
  frame_out
  simp only [read_unread_whole, View.readCov_eq_canon']
  refine Eq.trans ?_ (congrFun (three_only _ _ _ _ _) _)
  canon_tiles x hx
  all_goals
    simp only [k0_pay1, k0_pay2, k0_pay3, k0_pay4, k0_pay5, k0_pay6, k0_pay7, k0_pay8, k0_pay9]
    rw [eq_ix3 x]
    pointwise
    exact congrArg (View.canon _) (congrArg₂ ix2 (Fin.ext (by omega)) (Fin.ext (by dsimp only; omega)))

/-- The index maps: a block of tokens a point. -/
theorem idx : ∀ t : Fin cfg0.N, win0_0.index t = ![t.val, 0] ∧ win0_1.index t = ![t.val, 0] ∧ win0_2.index t = ![t.val, 0]
    ∧ win0_3.index t = ![t.val, 0] := by
  decide +kernel

/-- The padded third cotangent on its own columns. -/
theorem padded (n : Fin 8192) (k : Fin 128) (k' : Fin 16) (h : k.val = k'.val) :
    V m c main_v1 (ix2 n k) = m ((c : Thread nD τ).loc main_arg3) (ix2 n k') := by
  entry_read
  refine (pad_apply_of_inside ![0, 0] ![0, 112] ![0, 0] _ _ pads_S8192x16_S8192x128_000_01120 h_S_ _ (ix2 n k') ?_).trans ?_
  · intro a
    match a with
    | ⟨0, _⟩ => show n.val = 0 + n.val * 1; omega
    | ⟨1, _⟩ => show k.val = 0 + k'.val * 1; omega
  · rfl

/-- The cotangent at a token and a column of the result. -/
def cot (x1 : FVec Ideal S8192x2048 .f32) (x2 : FVec Ideal S8192x2560 .f32) (x3 : FVec Ideal S8192x16 .f32) (n : Fin 8192)
    (b : Fin 4624) : EReal :=
  if h : b.val < 2048 then x1 (ix2 n ⟨b.val, h⟩)
  else if h' : b.val < 4608 then x2 (ix2 n ⟨b.val - 2048, by omega⟩)
  else x3 (ix2 n ⟨b.val - 4608, by omega⟩)

/-- The accumulator after the last point is the product over all tokens, at a column of the result. -/
theorem total (a : Fin 1024) (b : Fin 4624) (b' : Fin 4736) (hb : b'.val = b.val) :
    (outsAt0 m c t0_15.val t0_15.isLt).2 (ix2 a b')
      = ∑ n : Fin 8192, (show FVec Ideal S8192x1024 .f32 from m ((c : Thread nD τ).loc main_arg0)) (ix2 n a)
        * cot (m ((c : Thread nD τ).loc main_arg1)) (m ((c : Thread nD τ).loc main_arg2)) (m ((c : Thread nD τ).loc main_arg3)) n b := by
  rw [Pipeline.eq_sum_fin_of_reset_step_apply_last (fun n h => (outsAt0 m c n h).2) 16 (fun _ => (0 : EReal))
    (fun p j => ∑ k : Fin 512, (show FVec Ideal S512x1024 .bf16 from iblk m c 0 p) (ix2 k (j 0))
      * side (iblk m c 1 p) (iblk m c 2 p) (iblk m c 3 p) k (j 1))
    (fun t h j => by rw [first m c t h]; unfold grown; rw [start]) (fun t h j => by rw [next m c t h]; rfl)
    (le_of_eq N_0) t0_15 rfl (ix2 a b'), zero_add]
  refine Fin.sum_mul_add_congr fun t k hl => ?_
  unfold side cot
  have e1 : (ix2 a b' 1).val = b.val := hb
  by_cases h : b.val < 2048
  · rw [dif_pos (e1.symm ▸ h), dif_pos h]
    blk_point [iblk, V, idx t]
  · by_cases h' : b.val < 4608
    · rw [dif_neg (e1.symm ▸ h), dif_pos (e1.symm ▸ h'), dif_neg h, dif_pos h']
      blk_point [iblk, V, idx t]
    · rw [dif_neg (e1.symm ▸ h), dif_neg (e1.symm ▸ h'), dif_neg h, dif_neg h']
      have key : (show FVec Ideal S512x128 .bf16 from iblk m c 3 t) (ix2 k ⟨(ix2 a b' 1).val - 4608, by have := b'.isLt; show b'.val - 4608 < 128; omega⟩)
          = m ((c : Thread nD τ).loc main_arg3) (ix2 ⟨t.val * 512 + k.val, hl⟩ ⟨b.val - 4608, by omega⟩) := by
        refine Eq.trans ?_ (padded m c ⟨t.val * 512 + k.val, hl⟩ ⟨b'.val - 4608, by omega⟩ ⟨b.val - 4608, by omega⟩ (by dsimp only; omega))
        blk_point [iblk, idx t]
      refine congrArg₂ (fun u v : EReal => u * v) ?_ key
      blk_point [iblk, V, idx t]

end Cert.DwInIdeal.Sum

namespace Cert.DwInEqual

open Cert.DwInRefIdeal Cert.DwInRefIdeal.Read

/-- The reference's three cotangents side by side. -/
theorem joined (x1 : FVec Ideal S8192x2048 .f32) (x2 : FVec Ideal S8192x2560 .f32) (x3 : FVec Ideal S8192x16 .f32)
    (n : Fin 8192) (b : Fin 4624) :
    val_main_v0 (F := Ideal) x1 x2 x3 (ix2 n b) = Cert.DwInIdeal.Sum.cot x1 x2 x3 n b := by
  unfold val_main_v0
  pointwise
  unfold Cert.DwInIdeal.Sum.cot
  by_cases h : b.val < 2048
  · rw [dif_pos h, dif_pos h]
  · rw [dif_neg h, dif_neg h]
    by_cases h' : b.val < 4608
    · rw [dif_pos h', dif_pos (by omega : b.val - 2048 < 2560)]
    · rw [dif_neg h', dif_neg (by omega : ¬ b.val - 2048 < 2560)]
      exact congrArg x3 (congrArg (ix2 n) (Fin.ext (by show b.val - 2048 - 2560 = b.val - 4608; omega)))

/-- The reference's result at an index. -/
theorem ref_apply (x0 : FVec Ideal S8192x1024 .f32) (x1 : FVec Ideal S8192x2048 .f32) (x2 : FVec Ideal S8192x2560 .f32)
    (x3 : FVec Ideal S8192x16 .f32) (y : S8x1024x578.Idx) (a : Fin 1024) (b : Fin 4624) (ha : a.val = (y 1).val)
    (hb : b.val = 578 * (y 0).val + (y 2).val) :
    val_main_v7 (F := Ideal) x0 x1 x2 x3 y = ∑ n : Fin 8192, x0 (ix2 n a) * Cert.DwInIdeal.Sum.cot x1 x2 x3 n b := by
  rw [val_main_v7_apply, val_main_v6_apply, val_main_v5_apply, val_main_v4_apply]
  refine (val_main_v3_apply x0 x1 x2 x3 _).trans (Finset.sum_congr rfl fun n _ => ?_)
  rw [mul_comm, ← joined]
  have h0 : (y 0).val < 8 := (y 0).isLt
  have h1 : (y 1).val < 1024 := (y 1).isLt
  have h2 : (y 2).val < 578 := (y 2).isLt
  congr 2
  · funext k
    match k with
    | ⟨0, _⟩ => rfl
    | ⟨1, _⟩ =>
      refine Fin.ext ?_
      show (((y 1).val * 8 + (y 0).val) * 578 + (y 2).val) / 4624 = a.val
      omega
  · funext k
    match k with
    | ⟨0, _⟩ => rfl
    | ⟨1, _⟩ =>
      refine Fin.ext ?_
      show (((y 1).val * 8 + (y 0).val) * 578 + (y 2).val) % 4624 = b.val
      omega

/-- The kernel's result is the reference's, of the same arguments. -/
theorem same (m : (ℓ : Loc Cert.DwInIdeal.nD Cert.DwInIdeal.τ Cert.DwInIdeal.sig) → Buf (Elt Ideal) ℓ)
    (c : Dev Cert.DwInIdeal.nD) :
    val_main_v7 (F := Ideal) (m ((c.tc : Thread Cert.DwInIdeal.nD Cert.DwInIdeal.τ).loc Cert.DwInIdeal.main_arg0))
      (m ((c.tc : Thread Cert.DwInIdeal.nD Cert.DwInIdeal.τ).loc Cert.DwInIdeal.main_arg1))
      (m ((c.tc : Thread Cert.DwInIdeal.nD Cert.DwInIdeal.τ).loc Cert.DwInIdeal.main_arg2))
      (m ((c.tc : Thread Cert.DwInIdeal.nD Cert.DwInIdeal.τ).loc Cert.DwInIdeal.main_arg3)) = Cert.DwInIdeal.Value.G4 m c := by
  funext y
  have h0 : (y 0).val < 8 := (y 0).isLt
  have h1 : (y 1).val < 1024 := (y 1).isLt
  have h2 : (y 2).val < 578 := (y 2).isLt
  rw [Cert.DwInIdeal.Value.G4_last, ← Cert.DwInIdeal.Value.outsAt0_sweep]
  refine (ref_apply _ _ _ _ y ⟨_, h1⟩ ⟨578 * (y 0).val + (y 2).val, by omega⟩ rfl rfl).trans ?_
  exact ((Cert.DwInIdeal.Sum.last_out m c Cert.DwInIdeal.Gen.t0_15 rfl y ⟨_, h1⟩ ⟨578 * (y 0).val + (y 2).val, by omega⟩ rfl rfl).trans
    (Cert.DwInIdeal.Sum.total m c _ _ _ rfl)).symm

theorem algebraic : Cert.algebraic_DwInIdeal_DwInRefIdeal := by
  pair_intro
  · run_from Cert.DwInIdeal.Value.run m g
  · refine (θ_run _ _ _).mono (fun r h c => ?_) (Cert.DwInRefIdeal.Value.run (F := Ideal) m' g')
    obtain ⟨e0, e1, e2, e3⟩ := hagree c
    obtain ⟨h0, hk⟩ := h c
    refine ⟨h0.trans ?_, hk⟩
    rw [e0, e1, e2, e3]
    exact (val_main_v7_eq _ _ _ _).trans (same m c)

/-- The reference's frame: it ends, its arguments and every counter as they were. -/
theorem ref_frame : Cert.quiescent_DwInRefIdeal := fun m ρ _ => by
  refine (θ_run Cert.DwInRefIdeal.defs _ _).mono (fun r h => ⟨fun c => ?_, sem_eq_zero_of_no_sems (by decide) r.2⟩)
    (Cert.DwInRefIdeal.Value.run (F := Ideal) m ρ)
  obtain ⟨-, hk⟩ := h c
  exact hk

end Cert.DwInEqual
-- ==== Proof.Dw.Ff.lean ====
/-
  The weight gradient `hᵀ·ct` of a gate or up projection: the kernel adds the products of eight blocks of a thousand
  tokens into one accumulator and, after the last block, writes the accumulator out slab by slab; the reference is the one
  product over all tokens. The two agree over any extended reals, since a sum may be taken block by block.
-/
module

public import proofs.«01_k».proof.Defs
public import proofs.«01_k».proof.Proof.Gen.DwFfIdeal.Value
public import proofs.«01_k».proof.Proof.Gen.DwFfRefIdeal.Read
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.DwFfIdeal.Sum

open Cert.DwFfIdeal Cert.DwFfIdeal.Gen

/-- One step of the accumulator at an index. -/
theorem step (x0 : Vec Ideal S1024x1024 .bf16) (acc : Vec Ideal S1024x2816 .f32) (x1 : Vec Ideal S1024x2816 .bf16)
    (j : S1024x2816.Idx) :
    k0_pay2 x0 acc x1 j = acc j + ∑ k : Fin 1024, x0 (ix2 k (j 0)) * x1 (ix2 k (j 1)) := by
  rw [eq_ix2 j]
  unfold k0_pay2
  pointwise

theorem start (j : S1024x2816.Idx) : k0_pay1 (F := Ideal) j = 0 := by
  unfold k0_pay1
  rw [eq_ix2 j]
  pointwise

variable (m : (ℓ : Loc nD τ sig) → Buf (Elt Ideal) ℓ) (c : Dev nD)

theorem first (t : Fin cfg0.N) (h0 : t.val % 8 = 0) :
    (outsAt0 m c t.val t.isLt).2 = k0_pay2 (iblk m c 0 t) (k0_pay1 (F := Ideal)) (iblk m c 1 t) := by
  rw [outsAt0_A m c t h0 (by omega)]
  frame_out

theorem next (t : Fin cfg0.N) (h0 : ¬t.val % 8 = 0) : (outsAt0 m c t.val t.isLt).2
    = k0_pay2 (iblk m c 0 t) (outsAt0 m c (t.val - 1) (Nat.lt_of_le_of_lt (Nat.sub_le _ _) t.isLt)).2 (iblk m c 1 t) := by
  by_cases h1 : t.val % 8 = 7
  · rw [outsAt0_C m c t h0 h1]
    frame_out
    simp only [read_unread_whole]
  · rw [outsAt0_B m c t h0 h1]
    frame_out
    simp only [read_unread_whole]

theorem last_out (t : Fin cfg0.N) (h1 : t.val % 8 = 7) (y : S8x1024x352.Idx) (a : Fin 1024) (b : Fin 2816)
    (ha : a.val = (y 1).val) (hb : b.val = 352 * (y 0).val + (y 2).val) :
    (outsAt0 m c t.val t.isLt).1 y = (outsAt0 m c t.val t.isLt).2 (ix2 a b) := by
  rw [next m c t (by omega)]
  rw [outsAt0_C m c t (by omega) h1]
  frame_out
  simp only [read_unread_whole]
  generalize k0_pay2 (iblk m c 0 t) (outsAt0 m c (t.val - 1) _).2 (iblk m c 1 t) = W
  canon_tiles x hx
  all_goals
    open_payloads
    rw [View.readCov_fill _ _ _ _ _ (by decide), eq_ix3 x]
    pointwise
    exact congrArg W (congrArg₂ ix2 (Fin.ext (by omega)) (Fin.ext (by dsimp only; omega)))

/-- The index maps: a block of tokens a point. -/
theorem idx : ∀ t : Fin cfg0.N, win0_0.index t = ![t.val, 0] ∧ win0_1.index t = ![t.val, 0] := by
  decide +kernel

/-- The accumulator after the last point is the product over all tokens. -/
theorem total (j : S1024x2816.Idx) : (outsAt0 m c t0_7.val t0_7.isLt).2 j
    = ∑ n : Fin 8192, (show FVec Ideal S8192x1024 .f32 from m ((c : Thread nD τ).loc main_arg0)) (ix2 n (j 0))
      * (show FVec Ideal S8192x2816 .f32 from m ((c : Thread nD τ).loc main_arg1)) (ix2 n (j 1)) := by
  rw [Pipeline.eq_sum_fin_of_reset_step_apply_last (fun n h => (outsAt0 m c n h).2) 8 (fun _ => (0 : EReal))
    (fun p j => ∑ k : Fin 1024, (show FVec Ideal S1024x1024 .bf16 from iblk m c 0 p) (ix2 k (j 0))
      * (show FVec Ideal S1024x2816 .bf16 from iblk m c 1 p) (ix2 k (j 1)))
    (fun t h j => by rw [first m c t h, step, start]) (fun t h j => by rw [next m c t h, step])
    (le_of_eq N_0) t0_7 rfl j, zero_add]
  refine Fin.sum_mul_add_congr fun t k hl => ?_
  blk_point [iblk, V, idx t]

end Cert.DwFfIdeal.Sum

namespace Cert.DwFfEqual

open Cert.DwFfRefIdeal Cert.DwFfRefIdeal.Read in
/-- The reference's result at an index. -/
theorem ref_apply (x0 : FVec Ideal S8192x1024 .f32) (x1 : FVec Ideal S8192x2816 .f32) (y : S8x1024x352.Idx) (a : Fin 1024)
    (b : Fin 2816) (ha : a.val = (y 1).val) (hb : b.val = 352 * (y 0).val + (y 2).val) :
    val_main_v6 (F := Ideal) x0 x1 y = ∑ n : Fin 8192, x0 (ix2 n a) * x1 (ix2 n b) := by
  rw [val_main_v6_apply, val_main_v5_apply, val_main_v4_apply, val_main_v3_apply]
  refine (val_main_v2_apply x0 x1 _).trans (Finset.sum_congr rfl fun n _ => ?_)
  rw [mul_comm]
  have h0 := (y 0).isLt
  have h1 := (y 1).isLt
  have h2 := (y 2).isLt
  congr 2
  · funext k
    match k with
    | ⟨0, _⟩ => rfl
    | ⟨1, _⟩ =>
      refine Fin.ext ?_
      show (((y 1).val * 8 + (y 0).val) * 352 + (y 2).val) / 2816 = a.val
      omega
  · funext k
    match k with
    | ⟨0, _⟩ => rfl
    | ⟨1, _⟩ =>
      refine Fin.ext ?_
      show (((y 1).val * 8 + (y 0).val) * 352 + (y 2).val) % 2816 = b.val
      omega

/-- The kernel's result is the reference's, of the same arguments. -/
theorem same (m : (ℓ : Loc Cert.DwFfIdeal.nD Cert.DwFfIdeal.τ Cert.DwFfIdeal.sig) → Buf (Elt Ideal) ℓ)
    (c : Dev Cert.DwFfIdeal.nD) :
    Cert.DwFfRefIdeal.Read.val_main_v6 (F := Ideal) (m ((c.tc : Thread Cert.DwFfIdeal.nD Cert.DwFfIdeal.τ).loc Cert.DwFfIdeal.main_arg0))
      (m ((c.tc : Thread Cert.DwFfIdeal.nD Cert.DwFfIdeal.τ).loc Cert.DwFfIdeal.main_arg1)) = Cert.DwFfIdeal.Value.G2 m c := by
  funext y
  have h0 : (y 0).val < 8 := (y 0).isLt
  have h1 : (y 1).val < 1024 := (y 1).isLt
  have h2 : (y 2).val < 352 := (y 2).isLt
  rw [Cert.DwFfIdeal.Value.G2_last, ← Cert.DwFfIdeal.Value.outsAt0_sweep]
  refine (ref_apply _ _ y ⟨_, h1⟩ ⟨352 * (y 0).val + (y 2).val, by omega⟩ rfl rfl).trans ?_
  refine ((Cert.DwFfIdeal.Sum.last_out m c Cert.DwFfIdeal.Gen.t0_7 rfl y ⟨_, h1⟩ ⟨352 * (y 0).val + (y 2).val, by omega⟩ rfl rfl).trans
    (Cert.DwFfIdeal.Sum.total m c _)).symm

theorem algebraic : Cert.algebraic_DwFfIdeal_DwFfRefIdeal := by
  pair_intro
  · run_from Cert.DwFfIdeal.Value.run m g
  · refine (θ_run _ _ _).mono (fun r h c => ?_) (Cert.DwFfRefIdeal.Value.run (F := Ideal) m' g')
    obtain ⟨e0, e1⟩ := hagree c
    obtain ⟨h0, hk⟩ := h c
    refine ⟨h0.trans ?_, hk⟩
    rw [e0, e1]
    exact (Cert.DwFfRefIdeal.Read.val_main_v6_eq _ _).trans (same m c)

/-- The reference's frame: it ends, its arguments and every counter as they were. -/
theorem ref_frame : Cert.quiescent_DwFfRefIdeal := fun m ρ _ => by
  refine (θ_run Cert.DwFfRefIdeal.defs _ _).mono (fun r h => ⟨fun c => ?_, sem_eq_zero_of_no_sems (by decide) r.2⟩)
    (Cert.DwFfRefIdeal.Value.run (F := Ideal) m ρ)
  obtain ⟨-, hk⟩ := h c
  exact hk

end Cert.DwFfEqual
-- ==== Proof.Dw.Down.lean ====
/-
  The weight gradient `hᵀ·ct` of the down projection: the kernel adds the products of eight blocks of a thousand tokens
  into one accumulator and writes it out after the last block; the reference is the one product over all tokens.
-/
module

public import proofs.«01_k».proof.Defs
public import proofs.«01_k».proof.Proof.Gen.DwDownIdeal.Value
public import proofs.«01_k».proof.Proof.Gen.DwDownRefIdeal.Read
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.DwDownIdeal.Sum

open Cert.DwDownIdeal Cert.DwDownIdeal.Gen

/-- One step of the accumulator at an index. -/
theorem step (x0 : Vec Ideal S1024x2816 .bf16) (acc : Vec Ideal S2816x1024 .f32) (x1 : Vec Ideal S1024x1024 .bf16)
    (j : S2816x1024.Idx) :
    k0_pay2 x0 acc x1 j = acc j + ∑ k : Fin 1024, x0 (ix2 k (j 0)) * x1 (ix2 k (j 1)) := by
  rw [eq_ix2 j]
  unfold k0_pay2
  pointwise

theorem start (j : S2816x1024.Idx) : k0_pay1 (F := Ideal) j = 0 := by
  unfold k0_pay1
  rw [eq_ix2 j]
  pointwise

variable (m : (ℓ : Loc nD τ sig) → Buf (Elt Ideal) ℓ) (c : Dev nD)

theorem first (t : Fin cfg0.N) (h0 : t.val % 8 = 0) :
    (outsAt0 m c t.val t.isLt).2 = k0_pay2 (iblk m c 0 t) (k0_pay1 (F := Ideal)) (iblk m c 1 t) := by
  rw [outsAt0_A m c t h0 (by omega)]
  frame_out

theorem next (t : Fin cfg0.N) (h0 : ¬t.val % 8 = 0) : (outsAt0 m c t.val t.isLt).2
    = k0_pay2 (iblk m c 0 t) (outsAt0 m c (t.val - 1) (Nat.lt_of_le_of_lt (Nat.sub_le _ _) t.isLt)).2 (iblk m c 1 t) := by
  by_cases h1 : t.val % 8 = 7
  · rw [outsAt0_C m c t h0 h1]
    frame_out
    simp only [read_unread_whole]
  · rw [outsAt0_B m c t h0 h1]
    frame_out
    simp only [read_unread_whole]

theorem last_out (t : Fin cfg0.N) (h1 : t.val % 8 = 7) (y : S2816x1024.Idx) :
    (outsAt0 m c t.val t.isLt).1 y = (outsAt0 m c t.val t.isLt).2 y := by
  rw [next m c t (by omega)]
  rw [outsAt0_C m c t (by omega) h1]
  frame_out
  simp only [read_unread_whole]
  unfold k0_pay3
  rfl

/-- The index maps: a block of tokens a point. -/
theorem idx : ∀ t : Fin cfg0.N, win0_0.index t = ![t.val, 0] ∧ win0_1.index t = ![t.val, 0] := by
  decide +kernel

/-- The accumulator after the last point is the product over all tokens. -/
theorem total (j : S2816x1024.Idx) : (outsAt0 m c t0_7.val t0_7.isLt).2 j
    = ∑ n : Fin 8192, (show FVec Ideal S8192x2816 .f32 from m ((c : Thread nD τ).loc main_arg0)) (ix2 n (j 0))
      * (show FVec Ideal S8192x1024 .f32 from m ((c : Thread nD τ).loc main_arg1)) (ix2 n (j 1)) := by
  rw [Pipeline.eq_sum_fin_of_reset_step_apply_last (fun n h => (outsAt0 m c n h).2) 8 (fun _ => (0 : EReal))
    (fun p j => ∑ k : Fin 1024, (show FVec Ideal S1024x2816 .bf16 from iblk m c 0 p) (ix2 k (j 0))
      * (show FVec Ideal S1024x1024 .bf16 from iblk m c 1 p) (ix2 k (j 1)))
    (fun t h j => by rw [first m c t h, step, start]) (fun t h j => by rw [next m c t h, step])
    (le_of_eq N_0) t0_7 rfl j, zero_add]
  refine Fin.sum_mul_add_congr fun t k hl => ?_
  blk_point [iblk, V, idx t]

end Cert.DwDownIdeal.Sum

namespace Cert.DwDownEqual

open Cert.DwDownRefIdeal Cert.DwDownRefIdeal.Read in
/-- The reference's result at an index. -/
theorem ref_apply (x0 : FVec Ideal S8192x2816 .f32) (x1 : FVec Ideal S8192x1024 .f32) (y : S2816x1024.Idx) :
    val_main_v4 (F := Ideal) x0 x1 y = ∑ n : Fin 8192, x0 (ix2 n (y 0)) * x1 (ix2 n (y 1)) := by
  rw [val_main_v4_apply, val_main_v3_apply]
  refine (val_main_v2_apply x0 x1 _).trans (Finset.sum_congr rfl fun n _ => ?_)
  rw [mul_comm]
  congr 2
  · funext k
    match k with
    | ⟨0, _⟩ => rfl
    | ⟨1, _⟩ => rfl
  · funext k
    match k with
    | ⟨0, _⟩ => rfl
    | ⟨1, _⟩ => rfl

/-- The kernel's result is the reference's, of the same arguments. -/
theorem same (m : (ℓ : Loc Cert.DwDownIdeal.nD Cert.DwDownIdeal.τ Cert.DwDownIdeal.sig) → Buf (Elt Ideal) ℓ)
    (c : Dev Cert.DwDownIdeal.nD) :
    Cert.DwDownRefIdeal.Read.val_main_v4 (F := Ideal) (m ((c.tc : Thread Cert.DwDownIdeal.nD Cert.DwDownIdeal.τ).loc Cert.DwDownIdeal.main_arg0))
      (m ((c.tc : Thread Cert.DwDownIdeal.nD Cert.DwDownIdeal.τ).loc Cert.DwDownIdeal.main_arg1)) = Cert.DwDownIdeal.Value.G2 m c := by
  funext y
  rw [Cert.DwDownIdeal.Value.G2_last, ← Cert.DwDownIdeal.Value.outsAt0_sweep]
  refine (ref_apply _ _ y).trans ?_
  exact ((Cert.DwDownIdeal.Sum.last_out m c Cert.DwDownIdeal.Gen.t0_7 rfl y).trans
    (Cert.DwDownIdeal.Sum.total m c y)).symm

theorem algebraic : Cert.algebraic_DwDownIdeal_DwDownRefIdeal := by
  pair_intro
  · run_from Cert.DwDownIdeal.Value.run m g
  · refine (θ_run _ _ _).mono (fun r h c => ?_) (Cert.DwDownRefIdeal.Value.run (F := Ideal) m' g')
    obtain ⟨e0, e1⟩ := hagree c
    obtain ⟨h0, hk⟩ := h c
    refine ⟨h0.trans ?_, hk⟩
    rw [e0, e1]
    exact (Cert.DwDownRefIdeal.Read.val_main_v4_eq _ _).trans (same m c)

/-- The reference's frame: it ends, its arguments and every counter as they were. -/
theorem ref_frame : Cert.quiescent_DwDownRefIdeal := fun m ρ _ => by
  refine (θ_run Cert.DwDownRefIdeal.defs _ _).mono (fun r h => ⟨fun c => ?_, sem_eq_zero_of_no_sems (by decide) r.2⟩)
    (Cert.DwDownRefIdeal.Value.run (F := Ideal) m ρ)
  obtain ⟨-, hk⟩ := h c
  exact hk

end Cert.DwDownEqual
-- ==== Proof.Dw.Out.lean ====
/-
  The weight gradient `hᵀ·ct` of a half of the output projection: the kernel adds the products of eight blocks of a
  thousand tokens into one accumulator and writes it out after the last block; the reference is the one product.
-/
module

public import proofs.«01_k».proof.Defs
public import proofs.«01_k».proof.Proof.Gen.DwOutIdeal.Value
public import proofs.«01_k».proof.Proof.Gen.DwOutRefIdeal.Read
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.DwOutIdeal.Sum

open Cert.DwOutIdeal Cert.DwOutIdeal.Gen

/-- One step of the accumulator at an index. -/
theorem step (x0 : Vec Ideal S1024x1024 .bf16) (acc : Vec Ideal S1024x1024 .f32) (x1 : Vec Ideal S1024x1024 .bf16)
    (j : S1024x1024.Idx) :
    k0_pay2 x0 acc x1 j = acc j + ∑ k : Fin 1024, x0 (ix2 k (j 0)) * x1 (ix2 k (j 1)) := by
  rw [eq_ix2 j]
  unfold k0_pay2
  pointwise

theorem start (j : S1024x1024.Idx) : k0_pay1 (F := Ideal) j = 0 := by
  unfold k0_pay1
  rw [eq_ix2 j]
  pointwise

variable (m : (ℓ : Loc nD τ sig) → Buf (Elt Ideal) ℓ) (c : Dev nD)

theorem first (t : Fin cfg0.N) (h0 : t.val % 8 = 0) :
    (outsAt0 m c t.val t.isLt).2 = k0_pay2 (iblk m c 0 t) (k0_pay1 (F := Ideal)) (iblk m c 1 t) := by
  rw [outsAt0_A m c t h0 (by omega)]
  frame_out

theorem next (t : Fin cfg0.N) (h0 : ¬t.val % 8 = 0) : (outsAt0 m c t.val t.isLt).2
    = k0_pay2 (iblk m c 0 t) (outsAt0 m c (t.val - 1) (Nat.lt_of_le_of_lt (Nat.sub_le _ _) t.isLt)).2 (iblk m c 1 t) := by
  by_cases h1 : t.val % 8 = 7
  · rw [outsAt0_C m c t h0 h1]
    frame_out
    simp only [read_unread_whole]
  · rw [outsAt0_B m c t h0 h1]
    frame_out
    simp only [read_unread_whole]

theorem last_out (t : Fin cfg0.N) (h1 : t.val % 8 = 7) (y : S1024x1024.Idx) :
    (outsAt0 m c t.val t.isLt).1 y = (outsAt0 m c t.val t.isLt).2 y := by
  rw [next m c t (by omega)]
  rw [outsAt0_C m c t (by omega) h1]
  frame_out
  simp only [read_unread_whole]
  unfold k0_pay3
  rfl

/-- The index maps: a block of tokens a point. -/
theorem idx : ∀ t : Fin cfg0.N, win0_0.index t = ![t.val, 0] ∧ win0_1.index t = ![t.val, 0] := by
  decide +kernel

/-- The accumulator after the last point is the product over all tokens. -/
theorem total (j : S1024x1024.Idx) : (outsAt0 m c t0_7.val t0_7.isLt).2 j
    = ∑ n : Fin 8192, (show FVec Ideal S8192x1024 .f32 from m ((c : Thread nD τ).loc main_arg0)) (ix2 n (j 0))
      * (show FVec Ideal S8192x1024 .f32 from m ((c : Thread nD τ).loc main_arg1)) (ix2 n (j 1)) := by
  rw [Pipeline.eq_sum_fin_of_reset_step_apply_last (fun n h => (outsAt0 m c n h).2) 8 (fun _ => (0 : EReal))
    (fun p j => ∑ k : Fin 1024, (show FVec Ideal S1024x1024 .bf16 from iblk m c 0 p) (ix2 k (j 0))
      * (show FVec Ideal S1024x1024 .bf16 from iblk m c 1 p) (ix2 k (j 1)))
    (fun t h j => by rw [first m c t h, step, start]) (fun t h j => by rw [next m c t h, step])
    (le_of_eq N_0) t0_7 rfl j, zero_add]
  refine Fin.sum_mul_add_congr fun t k hl => ?_
  blk_point [iblk, V, idx t]

end Cert.DwOutIdeal.Sum

namespace Cert.DwOutEqual

open Cert.DwOutRefIdeal Cert.DwOutRefIdeal.Read in
/-- The reference's result at an index. -/
theorem ref_apply (x0 : FVec Ideal S8192x1024 .f32) (x1 : FVec Ideal S8192x1024 .f32) (y : S1024x1024.Idx) :
    val_main_v4 (F := Ideal) x0 x1 y = ∑ n : Fin 8192, x0 (ix2 n (y 0)) * x1 (ix2 n (y 1)) := by
  rw [val_main_v4_apply, val_main_v3_apply]
  refine (val_main_v2_apply x0 x1 _).trans (Finset.sum_congr rfl fun n _ => ?_)
  rw [mul_comm]
  congr 2
  · funext k
    match k with
    | ⟨0, _⟩ => rfl
    | ⟨1, _⟩ => rfl
  · funext k
    match k with
    | ⟨0, _⟩ => rfl
    | ⟨1, _⟩ => rfl

/-- The kernel's result is the reference's, of the same arguments. -/
theorem same (m : (ℓ : Loc Cert.DwOutIdeal.nD Cert.DwOutIdeal.τ Cert.DwOutIdeal.sig) → Buf (Elt Ideal) ℓ)
    (c : Dev Cert.DwOutIdeal.nD) :
    Cert.DwOutRefIdeal.Read.val_main_v4 (F := Ideal) (m ((c.tc : Thread Cert.DwOutIdeal.nD Cert.DwOutIdeal.τ).loc Cert.DwOutIdeal.main_arg0))
      (m ((c.tc : Thread Cert.DwOutIdeal.nD Cert.DwOutIdeal.τ).loc Cert.DwOutIdeal.main_arg1)) = Cert.DwOutIdeal.Value.G2 m c := by
  funext y
  rw [Cert.DwOutIdeal.Value.G2_last, ← Cert.DwOutIdeal.Value.outsAt0_sweep]
  refine (ref_apply _ _ y).trans ?_
  exact ((Cert.DwOutIdeal.Sum.last_out m c Cert.DwOutIdeal.Gen.t0_7 rfl y).trans
    (Cert.DwOutIdeal.Sum.total m c y)).symm

theorem algebraic : Cert.algebraic_DwOutIdeal_DwOutRefIdeal := by
  pair_intro
  · run_from Cert.DwOutIdeal.Value.run m g
  · refine (θ_run _ _ _).mono (fun r h c => ?_) (Cert.DwOutRefIdeal.Value.run (F := Ideal) m' g')
    obtain ⟨e0, e1⟩ := hagree c
    obtain ⟨h0, hk⟩ := h c
    refine ⟨h0.trans ?_, hk⟩
    rw [e0, e1]
    exact (Cert.DwOutRefIdeal.Read.val_main_v4_eq _ _).trans (same m c)

/-- The reference's frame: it ends, its arguments and every counter as they were. -/
theorem ref_frame : Cert.quiescent_DwOutRefIdeal := fun m ρ _ => by
  refine (θ_run Cert.DwOutRefIdeal.defs _ _).mono (fun r h => ⟨fun c => ?_, sem_eq_zero_of_no_sems (by decide) r.2⟩)
    (Cert.DwOutRefIdeal.Value.run (F := Ideal) m ρ)
  obtain ⟨-, hk⟩ := h c
  exact hk

end Cert.DwOutEqual
-- ==== Proof.InFwd.Form.lean ====
/-
  The normed row, over the extended reals, as one expression: what the forward kernels and their references both compute of a
  token's row. It is stated of any row, so nothing about finiteness is needed.
-/
module

public import Idealize.ShloMosaic.Lib.Pointwise

@[expose] public section

noncomputable section

open Idealize.ShloMosaic

namespace Cert.NormForm

/-- The reciprocal root of the row's mean square. -/
def scale (x : Fin 1024 → EReal) : EReal :=
  Ideal.rsqrt (Ideal.div (∑ k, x k * x k) (Ideal.ofBits .f32 0x44800000#32) + Ideal.ofBits .f32 0x358637BD#32)

/-- The row over its root mean square, times the gain. -/
def norm (x g : Fin 1024 → EReal) (j : Fin 1024) : EReal := x j * scale x * g j

/-- Row `i` of an array, and a vector, as functions of the column. -/
abbrev rowOf {n a : ℕ} {φ : FTy} (v : FVec Ideal (⟨2, ![n, a]⟩ : Shape) φ) (i : Fin n) (k : Fin a) : EReal := v (ix2 i k)
abbrev vecOf {a : ℕ} {φ : FTy} (v : FVec Ideal (⟨1, ![a]⟩ : Shape) φ) (k : Fin a) : EReal := v (ix1 k)

end Cert.NormForm
-- ==== Proof.InFwd.Point.lean ====
/-
  What a grid point of the input projection's forward kernel leaves in each buffer, and its values at an index.
-/
module

public import proofs.«01_k».proof.Proof.Gen.InFwdIdeal.Value
public import proofs.«01_k».proof.Proof.InFwd.Form
public import Idealize.ShloMosaic.Lib.Pipeline.ValueKit
public import Idealize.ShloMosaic.Lib.Pipeline.ReadBack

@[expose] public section

set_option maxRecDepth 16384

noncomputable section

namespace Cert.InFwdIdeal.Point

open Cert.InFwdIdeal Cert.InFwdIdeal.Gen Cert.NormForm
open Idealize.ShloMosaic Idealize.ShloMosaic.TcCoe Idealize.SL.Sem

theorem h_eq (x : FVec Ideal S512x1024 .f32) (g : FVec Ideal S1x1024 .f32) (i : Fin 512) (j : Fin 1024) :
    k0_pay1 (F := Ideal) x g (ix2 i j) = norm (rowOf x i) (rowOf g 0) j := by
  pointwise [k0_pay1]
  rfl

theorem proj_eq (x : FVec Ideal S512x1024 .f32) (g : FVec Ideal S1x1024 .f32) (w : FVec Ideal S1024x4608 .bf16)
    (i : Fin 512) (n : Fin 4608) :
    k0_pay2 (F := Ideal) x g w (ix2 i n) = ∑ k, norm (rowOf x i) (rowOf g 0) k * w (ix2 k n) := by
  pointwise [k0_pay2]
  simp only [h_eq]

theorem dt_eq (x : FVec Ideal S512x1024 .f32) (g : FVec Ideal S1x1024 .f32) (w : FVec Ideal S1024x128 .bf16)
    (i : Fin 512) (n : Fin 128) :
    k0_pay3 (F := Ideal) x g w (ix2 i n) = ∑ k, norm (rowOf x i) (rowOf g 0) k * w (ix2 k n) := by
  pointwise [k0_pay3]
  simp only [h_eq]

/-! ## What a point leaves -/

/-- One piece that fills the block is the block. -/
theorem canon_whole {S : Shape} {e : EltTy} (w : (Rect.whole S).shape.Idx → Elt Ideal e) :
    View.canon [⟨Rect.whole S, w⟩] = w :=
  View.canon_cons_unit_lit (off := fun _ => 0) _ w [] fun _ => rfl

/-- A load of a part after a copy of the whole is that part of what was copied. -/
theorem cov_part {sig : RefSig} {κ : Kind} {sp : Space} {S : Shape} {e : EltTy} (v : View sig κ sp S e)
    (w : (Rect.whole S).shape.Idx → Elt Ideal e) (R : Rect S) :
    v.readCov [⟨Rect.whole S, w⟩] R.toLoadRect = View.ld (S := S) w R := by
  rw [View.readCov_eq_canon', canon_whole]

/-- The whole is the part that starts at the origin and has the whole's size. -/
theorem ld_whole {a b : ℕ} {e : EltTy} (w : (⟨2, ![a, b]⟩ : Shape).Idx → Elt Ideal e) (inb) :
    View.ld w (Rect.unit (s := (⟨2, ![a, b]⟩ : Shape)) ![0, 0] ![a, b] inb) = w := by
  funext y
  refine congrArg w (funext fun k => ?_)
  match k with
  | ⟨0, _⟩ => exact Fin.ext (by show 0 + 1 * (y 0).val = (y 0).val; omega)
  | ⟨1, _⟩ => exact Fin.ext (by show 0 + 1 * (y 1).val = (y 1).val; omega)

variable (m : (ℓ : Loc nD τ sig) → Buf (Elt Ideal) ℓ) (c : Dev nD) (t : Fin cfg0.N)

theorem first (h0 : t.val % 16 = 0) : outsAt0 m c t.val t.isLt =
    (k0_pay1 (iblk m c 0 t) (iblk m c 1 t), k0_pay2 (iblk m c 0 t) (iblk m c 1 t) (V m c main_v4),
      k0_pay3 (iblk m c 0 t) (iblk m c 1 t) (V m c main_v2), V m c main_v4, V m c main_v2) := by
  rw [outsAt0_A m c t h0]
  frame_out
  simp only [cov_part, canon_whole, ReadAs.apply_same, View.read_whole, ld_whole]

theorem later (h0 : ¬t.val % 16 = 0) : outsAt0 m c t.val t.isLt =
    let o := outsAt0 m c (t.val - 1) (lt_of_le_of_lt (Nat.sub_le _ _) t.isLt)
    (k0_pay1 (iblk m c 0 t) (iblk m c 1 t), k0_pay2 (iblk m c 0 t) (iblk m c 1 t) o.2.2.2.1,
      k0_pay3 (iblk m c 0 t) (iblk m c 1 t) o.2.2.2.2, o.2.2.2.1, o.2.2.2.2) := by
  rw [outsAt0_B m c t h0]
  frame_out
  simp only [read_unread_whole]
  rfl

end Cert.InFwdIdeal.Point
-- ==== Proof.InFwd.Arrays.lean ====
/-
  What the input projection's forward kernel leaves in its result arrays, as functions of its arguments.
-/
module

public import proofs.«01_k».proof.Proof.InFwd.Point
public import Idealize.ShloMosaic.Lib.Claim
public import Idealize.ShloMosaic.Lib.Pointwise
public import Idealize.ShloMosaic.Lib.KernelVsHost

@[expose] public section

set_option maxRecDepth 16384

noncomputable section

/-! ## The results as functions of the arguments -/

namespace Cert.InFwdForm

open Idealize.ShloMosaic Cert.NormForm

variable (x : FVec Ideal (⟨2, ![8192, 1024]⟩ : Shape) .f32) (g : FVec Ideal (⟨1, ![1024]⟩ : Shape) .f32)
  (w : FVec Ideal (⟨2, ![1024, 4624]⟩ : Shape) .f32)

/-- The normed input, the projection's main columns, and its last sixteen padded with zeros to a lane row. -/
def h (i : Fin 8192) (j : Fin 1024) : EReal := norm (rowOf x i) (vecOf g) j
def proj (i : Fin 8192) (n : Fin 4608) : EReal := ∑ k, h x g i k * w (ix2 k ⟨n.val, by omega⟩)
def dt (i : Fin 8192) (n : Fin 128) : EReal :=
  if hn : n.val < 16 then ∑ k, h x g i k * w (ix2 k ⟨4608 + n.val, by omega⟩) else 0

end Cert.InFwdForm

namespace Cert.InFwdIdeal.Arrays

open Cert.InFwdIdeal Cert.InFwdIdeal.Gen Cert.InFwdIdeal.Point Cert.NormForm
open Idealize.ShloMosaic Idealize.ShloMosaic.TcCoe Idealize.SL.Sem

variable (m : (ℓ : Loc nD τ sig) → Buf (Elt Ideal) ℓ) (c : Dev nD)

/-- The arguments of device `c`. -/
abbrev argX : FVec Ideal S8192x1024 .f32 := m ((c : Thread nD τ).loc main_arg0)
abbrev argG : FVec Ideal S1024 .f32 := m ((c : Thread nD τ).loc main_arg1)
abbrev argW : FVec Ideal S1024x4624 .f32 := m ((c : Thread nD τ).loc main_arg2)

/-- Sixteen columns padded with the integer zero, converted, to a lane row. -/
theorem padded {a : ℕ} (x : FVec Ideal (⟨2, ![a, 16]⟩ : Shape) .bf16)
    (hp : (⟨2, ![a, 16]⟩ : Shape).Pads ![0, 0] ![0, 112] ![0, 0] (⟨2, ![a, 128]⟩ : Shape)) (i : Fin a) (n : Fin 128) :
    pad (⟨2, ![a, 128]⟩ : Shape) ![0, 0] ![0, 112] ![0, 0] x (sitofp (F := Ideal) .bf16 (constantI S_ 32 0#32)) hp h_S_ (ix2 i n)
      = if h : n.val < 16 then x (ix2 i ⟨n.val, h⟩) else (0 : EReal) := by
  by_cases h : n.val < 16
  · rw [dif_pos h]
    refine pad_apply_of_inside ![0, 0] ![0, 112] ![0, 0] _ _ hp h_S_ _ (ix2 i ⟨n.val, h⟩) fun k => ?_
    match k with
    | ⟨0, _⟩ => show i.val = 0 + i.val * 1; omega
    | ⟨1, _⟩ => show n.val = 0 + n.val * 1; omega
  · rw [dif_neg h]
    refine (pad_apply_of_not_inside (s := (⟨2, ![a, 16]⟩ : Shape)) (t := (⟨2, ![a, 128]⟩ : Shape)) ![0, 0] ![0, 112] ![0, 0] _ _ hp h_S_ (ix2 i n) (⟨1, by decide⟩ : Fin 2) fun hn => h ?_).trans ?_
    · have h2 : (n.val - 0) / 1 < 16 := hn.2.2
      omega
    · show (((0#32 : BitVec 32).toInt : ℝ) : EReal) = _
      simp

theorem g_val (i : Fin 1) (k : Fin 1024) : (V m c main_v3 : FVec Ideal S1x1024 .f32) (ix2 i k) = argG m c (ix1 k) := by
  unfold V
  simp only [List.flatten_cons, List.flatten_nil, hostOps0, hostOps0_1, hostOps0_2, List.cons_append, List.nil_append]
  after_results_simp
  pointwise

theorem wm_val (j : Fin 1024) (n : Fin 4608) :
    (V m c main_v4 : FVec Ideal S1024x4608 .bf16) (ix2 j n) = argW m c (ix2 j ⟨n.val, by omega⟩) := by
  unfold V
  simp only [List.flatten_cons, List.flatten_nil, hostOps0, hostOps0_1, hostOps0_2, List.cons_append, List.nil_append]
  after_results_simp
  pointwise

theorem wd_val (j : Fin 1024) (n : Fin 128) : (V m c main_v2 : FVec Ideal S1024x128 .bf16) (ix2 j n)
    = if h : n.val < 16 then argW m c (ix2 j ⟨4608 + n.val, by omega⟩) else (0 : EReal) := by
  unfold V
  simp only [List.flatten_cons, List.flatten_nil, hostOps0, hostOps0_1, hostOps0_2, List.cons_append, List.nil_append]
  after_results_simp
  refine (padded (extractStridedSlice S1024x16 ![0, 4608] (truncf (F := Ideal) .bf16 (m (c, Proc.tc.devRef main_arg2)) bitsLt_bf16_f32)
    slices_S1024x4624_S1024x16_0_4608) pads_S1024x16_S1024x128_000_01120 j n).trans ?_
  by_cases h : n.val < 16
  · rw [dif_pos h, dif_pos h]
    pointwise
  · rw [dif_neg h, dif_neg h]

/-! ## One point -/

/-- The row of the arrays that row `i` of point `n`'s tiles is. -/
def row (n : ℕ) (i : Fin 512) : Fin 8192 := ⟨(512 * n + i.val) % 8192, Nat.mod_lt _ (by norm_num)⟩

/-- The index maps: the tiles go along the rows, the gain's block stays. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] := by
  decide +kernel

theorem row_val (t : Fin cfg0.N) (i : Fin 512) : (row t.val i).val = t.val * 512 + i.val := by
  have : t.val < 16 := t.isLt
  unfold row
  show (512 * t.val + i.val) % 8192 = _
  omega

theorem x_blk (t : Fin cfg0.N) (i : Fin 512) (k : Fin 1024) :
    (iblk m c 0 t : FVec Ideal S512x1024 .f32) (ix2 i k) = argX m c (ix2 (row t.val i) k) := by
  have := row_val t i
  unfold argX
  rw [← V_main_arg0 m c]
  blk_ext [iblk, idx t]

theorem g_blk (t : Fin cfg0.N) (i : Fin 1) (k : Fin 1024) :
    (iblk m c 1 t : FVec Ideal S1x1024 .f32) (ix2 i k) = argG m c (ix1 k) := by
  refine Eq.trans ?_ (g_val m c i k)
  blk_ext [iblk, idx t]

theorem norm_blk (t : Fin cfg0.N) (i : Fin 512) (j : Fin 1024) :
    norm (rowOf (φ := .f32) (iblk m c 0 t : FVec Ideal S512x1024 .f32) i) (rowOf (φ := .f32) (iblk m c 1 t : FVec Ideal S1x1024 .f32) 0) j
      = InFwdForm.h (argX m c) (argG m c) (row t.val i) j := by
  have hx : rowOf (φ := .f32) (iblk m c 0 t : FVec Ideal S512x1024 .f32) i = rowOf (argX m c) (row t.val i) := funext fun k => x_blk m c t i k
  have hg : rowOf (φ := .f32) (iblk m c 1 t : FVec Ideal S1x1024 .f32) 0 = vecOf (argG m c) := funext fun k => g_blk m c t 0 k
  rw [hx, hg]
  rfl

/-- What a point leaves: its rows of the three results; the held weights stay. -/
theorem left_all : ∀ (n : ℕ) (hn : n < cfg0.N), outsAt0 m c n hn =
    (k0_pay1 (iblk m c 0 ⟨n, hn⟩) (iblk m c 1 ⟨n, hn⟩), k0_pay2 (iblk m c 0 ⟨n, hn⟩) (iblk m c 1 ⟨n, hn⟩) (V m c main_v4),
      k0_pay3 (iblk m c 0 ⟨n, hn⟩) (iblk m c 1 ⟨n, hn⟩) (V m c main_v2), V m c main_v4, V m c main_v2) := by
  intro n
  induction n with
  | zero => exact fun hn => first m c ⟨0, hn⟩ rfl
  | succ n ih =>
    intro hn
    have h0 : ¬(⟨n + 1, hn⟩ : Fin cfg0.N).val % 16 = 0 := by
      have : n + 1 < 16 := hn
      show ¬(n + 1) % 16 = 0
      omega
    have e : outsAt0 m c (n + 1) hn = _ := later m c ⟨n + 1, hn⟩ h0
    simp only [Nat.add_sub_cancel] at e
    rw [ih (Nat.lt_of_succ_lt hn)] at e
    exact e

/-! ## The arrays -/

theorem arr_h : ((dats m 0 c).arrAt 2 cfg0.N : FVec Ideal S8192x1024 .bf16)
    = fun y => InFwdForm.h (argX m c) (argG m c) (y 0) (y 1) := by
  refine (dats m 0 c).arrAt_eq_of_covers 2 _ (by decide +kernel) fun t hf y => ?_
  have hr := row_val t (y 0)
  have e : (win0_2.blk t).view.emb y = ix2 (row t.val (y 0)) (y 1) := by blk_ext [idx t]
  blk_simp
  rw [after0_2, e, left_all m c t.val t.isLt]
  exact ((congrArg _ (eq_ix2 y)).trans (h_eq _ _ (y 0) (y 1))).trans (norm_blk m c t (y 0) (y 1))

theorem arr_proj : ((dats m 0 c).arrAt 3 cfg0.N : FVec Ideal S8192x4608 .f32)
    = fun y => InFwdForm.proj (argX m c) (argG m c) (argW m c) (y 0) (y 1) := by
  refine (dats m 0 c).arrAt_eq_of_covers 3 _ (by decide +kernel) fun t hf y => ?_
  have hr := row_val t (y 0)
  have e : (win0_3.blk t).view.emb y = ix2 (row t.val (y 0)) (y 1) := by blk_ext [idx t]
  blk_simp
  rw [after0_3, e, left_all m c t.val t.isLt]
  refine ((congrArg _ (eq_ix2 y)).trans (proj_eq _ _ _ (y 0) (y 1))).trans ?_
  exact Finset.sum_congr rfl fun k _ => congrArg₂ (· * ·) (norm_blk m c t (y 0) k) (wm_val m c k (y 1))

theorem arr_dt : ((dats m 0 c).arrAt 4 cfg0.N : FVec Ideal S8192x128 .f32)
    = fun y => InFwdForm.dt (argX m c) (argG m c) (argW m c) (y 0) (y 1) := by
  refine (dats m 0 c).arrAt_eq_of_covers 4 _ (by decide +kernel) fun t hf y => ?_
  have hr := row_val t (y 0)
  have e : (win0_4.blk t).view.emb y = ix2 (row t.val (y 0)) (y 1) := by blk_ext [idx t]
  blk_simp
  rw [after0_4, e, left_all m c t.val t.isLt]
  refine ((congrArg _ (eq_ix2 y)).trans (dt_eq _ _ _ (y 0) (y 1))).trans ?_
  show _ = InFwdForm.dt (argX m c) (argG m c) (argW m c) (row t.val (y 0)) (y 1)
  have hw := fun k : Fin 1024 => wd_val m c k (y 1)
  unfold InFwdForm.dt
  by_cases h : (y 1).val < 16
  · rw [dif_pos h]
    refine Finset.sum_congr rfl fun k _ => congrArg₂ (· * ·) (norm_blk m c t (y 0) k) ((hw k).trans ?_)
    rw [dif_pos h]
  · rw [dif_neg h]
    refine Finset.sum_eq_zero fun k _ => ?_
    refine (congrArg (fun z : EReal => _ * z) ((hw k).trans (dif_neg h))).trans ?_
    exact mul_zero (M₀ := EReal) _

end Cert.InFwdIdeal.Arrays
-- ==== Proof.InFwd.Equal.lean ====
/-
  The input projection's forward kernel and its reference end with the same arrays, whatever the arguments.
-/
module

public import proofs.«01_k».proof.Defs
public import proofs.«01_k».proof.Proof.InFwd.Arrays
public import proofs.«01_k».proof.Proof.Gen.InFwdRefIdeal.Read
public import Idealize.ShloMosaic.Lib.Claim

@[expose] public section

set_option maxRecDepth 16384

noncomputable section

open Idealize.ShloMosaic Idealize.ShloMosaic.TcCoe Idealize.SL.Sem

namespace Cert.InFwdRefIdeal.Val

open Cert.InFwdRefIdeal Cert.InFwdRefIdeal.Read Cert.NormForm

variable (x0 : FVec Ideal S8192x1024 .f32) (x1 : FVec Ideal S1024 .f32) (x2 : FVec Ideal S1024x4624 .f32)

theorem main_v12 (i : Fin 8192) (j : Fin 1024) : val_main_v12 (F := Ideal) x0 x1 (ix2 i j) = InFwdForm.h x0 x1 i j := by
  pointwise [val_main_v12, val_main_v11, val_main_v10, val_main_v9, val_main_v8, val_main_v7, val_main_v6, val_main_v5, val_main_cst_1, val_main_v4, val_main_v3, val_main_cst_0, val_main_v2,
    val_main_v1, val_main_cst, val_main_v0]
  rfl

theorem main_v13 (i : Fin 8192) (n : Fin 4624) :
    val_main_v13 (F := Ideal) x0 x1 x2 (ix2 i n) = ∑ k, InFwdForm.h x0 x1 i k * x2 (ix2 k n) := by
  pointwise [val_main_v13]
  simp only [main_v12]

theorem main_v17 (i : Fin 8192) (j : Fin 1024) : val_main_v17 (F := Ideal) x0 x1 (ix2 i j) = InFwdForm.h x0 x1 i j := by
  pointwise [val_main_v17]
  exact main_v12 x0 x1 i j

theorem main_v18 (i : Fin 8192) (n : Fin 4608) :
    val_main_v18 (F := Ideal) x0 x1 x2 (ix2 i n) = InFwdForm.proj x0 x1 x2 i n := by
  pointwise [val_main_v18]
  exact main_v13 x0 x1 x2 i ⟨n.val, by omega⟩

theorem main_v16 (i : Fin 8192) (n : Fin 128) :
    val_main_v16 (F := Ideal) x0 x1 x2 (ix2 i n) = InFwdForm.dt x0 x1 x2 i n := by
  unfold val_main_v16
  pointwise
  unfold InFwdForm.dt
  by_cases h : n.val < 16
  · rw [dif_pos h, dif_pos h]
    pointwise [val_main_v14]
    exact main_v13 x0 x1 x2 i ⟨4608 + n.val, by omega⟩
  · rw [dif_neg h, dif_neg h]
    pointwise [val_main_v15, val_main_cst_2]

end Cert.InFwdRefIdeal.Val

namespace Cert.InFwdEqual

open Cert.InFwdIdeal.Arrays

/-- The reference's frame: it ends, its arguments and every counter as they were. -/
theorem ref_frame : Cert.quiescent_InFwdRefIdeal := fun m ρ _ => by
  refine (θ_run Cert.InFwdRefIdeal.defs _ _).mono (fun r h => ⟨fun c => ?_, sem_eq_zero_of_no_sems (by decide) r.2⟩)
    (Cert.InFwdRefIdeal.Value.run (F := Ideal) m ρ)
  obtain ⟨-, -, -, hk⟩ := h c
  exact hk

section Same

variable (m : (ℓ : Loc Cert.InFwdIdeal.nD Cert.InFwdIdeal.τ Cert.InFwdIdeal.sig) → Buf (Elt Ideal) ℓ) (c : Dev Cert.InFwdIdeal.nD)

theorem h_same : (Cert.InFwdIdeal.Gen.dats m 0 c).arrAt 2 Cert.InFwdIdeal.cfg0.N
    = Cert.InFwdRefIdeal.Read.val_main_v17 (F := Ideal) (argX m c) (argG m c) := by
  refine (arr_h m c).trans (funext fun y : Cert.InFwdIdeal.S8192x1024.Idx => ?_)
  rw [eq_ix2 y]
  exact (Cert.InFwdRefIdeal.Val.main_v17 _ _ (y 0) (y 1)).symm

theorem proj_same : (Cert.InFwdIdeal.Gen.dats m 0 c).arrAt 3 Cert.InFwdIdeal.cfg0.N
    = Cert.InFwdRefIdeal.Read.val_main_v18 (F := Ideal) (argX m c) (argG m c) (argW m c) := by
  refine (arr_proj m c).trans (funext fun y : Cert.InFwdIdeal.S8192x4608.Idx => ?_)
  rw [eq_ix2 y]
  exact (Cert.InFwdRefIdeal.Val.main_v18 _ _ _ (y 0) (y 1)).symm

theorem dt_same : (Cert.InFwdIdeal.Gen.dats m 0 c).arrAt 4 Cert.InFwdIdeal.cfg0.N
    = Cert.InFwdRefIdeal.Read.val_main_v16 (F := Ideal) (argX m c) (argG m c) (argW m c) := by
  refine (arr_dt m c).trans (funext fun y : Cert.InFwdIdeal.S8192x128.Idx => ?_)
  rw [eq_ix2 y]
  exact (Cert.InFwdRefIdeal.Val.main_v16 _ _ _ (y 0) (y 1)).symm

end Same

/-- The claim: the kernel's run and the reference's end with equal arrays, the arguments unchanged. -/
theorem algebraic : Cert.algebraic_InFwdIdeal_InFwdRefIdeal := by
  pair_intro
  · run_from Cert.InFwdIdeal.Value.run_blocks m g
  · refine (θ_run _ _ _).mono (fun r h c => ?_) (Cert.InFwdRefIdeal.Value.run (F := Ideal) m' g')
    obtain ⟨e0, e1, e2⟩ := hagree c
    obtain ⟨h0, h1, h2, hk⟩ := h c
    refine ⟨?_, ?_, ?_, hk⟩
    · rw [h0, Cert.InFwdRefIdeal.Read.val_main_v17_eq, e0, e1]
      exact (h_same m c).symm
    · rw [h1, Cert.InFwdRefIdeal.Read.val_main_v18_eq, e0, e1, e2]
      exact (proj_same m c).symm
    · rw [h2, Cert.InFwdRefIdeal.Read.val_main_v16_eq, e0, e1, e2]
      exact (dt_same m c).symm

end Cert.InFwdEqual
-- ==== Proof.OutFwd.Point.lean ====
/-
  What a grid point of the output projection's forward kernel leaves, at an index.
-/
module

public import proofs.«01_k».proof.Proof.Gen.OutFwdIdeal.Value
public import proofs.«01_k».proof.Proof.InFwd.Form
public import Idealize.ShloMosaic.Lib.Pipeline.ValueKit

@[expose] public section

set_option maxRecDepth 16384

noncomputable section

namespace Cert.OutFwdIdeal.Point

open Cert.OutFwdIdeal Cert.OutFwdIdeal.Gen Cert.NormForm
open Idealize.ShloMosaic Idealize.ShloMosaic.TcCoe Idealize.SL.Sem

/-- One piece that fills the block is the block. -/
theorem canon_unit {a b : ℕ} {e : EltTy} (inb) (w : (⟨2, ![a, b]⟩ : Shape).Idx → Elt Ideal e) :
    View.canon [⟨Rect.unit (s := (⟨2, ![a, b]⟩ : Shape)) ![0, 0] ![a, b] inb, w⟩] = w :=
  View.canon_cons_unit_lit (off := ![0, 0]) _ w [] fun k => by
    match k with
    | ⟨0, _⟩ => rfl
    | ⟨1, _⟩ => rfl

/-- The whole is the part that starts at the origin and has the whole's size. -/
theorem ld_whole {a b : ℕ} {e : EltTy} (w : (⟨2, ![a, b]⟩ : Shape).Idx → Elt Ideal e) (inb) :
    View.ld w (Rect.unit (s := (⟨2, ![a, b]⟩ : Shape)) ![0, 0] ![a, b] inb) = w := by
  funext y
  refine congrArg w (funext fun k => ?_)
  match k with
  | ⟨0, _⟩ => exact Fin.ext (by show 0 + 1 * (y 0).val = (y 0).val; omega)
  | ⟨1, _⟩ => exact Fin.ext (by show 0 + 1 * (y 1).val = (y 1).val; omega)

/-- The weight's rows of the first half, and those of the second. -/
def top (w : Vec Ideal S2048x1024 .bf16) : Vec Ideal S1024x1024 .bf16 := View.ld w r0_1
def bot (w : Vec Ideal S2048x1024 .bf16) : Vec Ideal S1024x1024 .bf16 := View.ld w r0_2

theorem top_eq (w : FVec Ideal S2048x1024 .bf16) (k n : Fin 1024) : top w (ix2 k n) = w (ix2 ⟨k.val, by omega⟩ n) :=
  congrArg w (funext fun a => match a with
    | ⟨0, _⟩ => Fin.ext (by show 0 + 1 * k.val = k.val; omega)
    | ⟨1, _⟩ => Fin.ext (by show 0 + 1 * n.val = n.val; omega))

theorem bot_eq (w : FVec Ideal S2048x1024 .bf16) (k n : Fin 1024) : bot w (ix2 k n) = w (ix2 ⟨1024 + k.val, by omega⟩ n) :=
  congrArg w (funext fun a => match a with
    | ⟨0, _⟩ => Fin.ext (by show 1024 + 1 * k.val = 1024 + k.val; omega)
    | ⟨1, _⟩ => Fin.ext (by show 0 + 1 * n.val = n.val; omega))

variable (x0 : FVec Ideal S512x1024 .f32) (x1 x2 : FVec Ideal S512x1024 .bf16) (x3 : FVec Ideal S2048x1024 .bf16)
  (x4 x5 : FVec Ideal S1x1024 .f32)

/-- The block's row of the mixed heads, of the layer's sum, and of that sum's norm. -/
def mixB (i : Fin 512) (n : Fin 1024) : EReal :=
  ∑ k : Fin 1024, x1 (ix2 i k) * x3 (ix2 ⟨k.val, by omega⟩ n) + ∑ k : Fin 1024, x2 (ix2 i k) * x3 (ix2 ⟨1024 + k.val, by omega⟩ n)
def x1B (i : Fin 512) (n : Fin 1024) : EReal := x0 (ix2 i n) + norm (mixB x1 x2 x3 i) (rowOf x4 0) n

theorem pay2_eq (i : Fin 512) (n : Fin 1024) : k0_pay2 (F := Ideal) x1 (top x3) x2 (bot x3) (ix2 i n) = mixB x1 x2 x3 i n := by
  pointwise [k0_pay2]
  simp only [top_eq, bot_eq]
  rfl

theorem pay3_eq (i : Fin 512) (n : Fin 1024) :
    k0_pay3 (F := Ideal) x1 (top x3) x2 (bot x3) x0 x4 (ix2 i n) = x1B x0 x1 x2 x3 x4 i n := by
  pointwise [k0_pay3]
  simp only [pay2_eq]
  rfl

theorem pay1_eq (i : Fin 512) (n : Fin 1024) :
    k0_pay1 (F := Ideal) (k0_pay3 x1 (top x3) x2 (bot x3) x0 x4) (k0_pay4 x1 (top x3) x2 (bot x3) x0 x4) x5 (ix2 i n)
      = norm (x1B x0 x1 x2 x3 x4 i) (rowOf x5 0) n := by
  pointwise [k0_pay1, k0_pay4]
  simp only [pay3_eq]
  rfl

/-- A load of a whole block is the block. -/
theorem ldF (x : Vec Ideal S512x1024 .f32) : View.ld x r0_0 = x := ld_whole x _
theorem ldB (x : Vec Ideal S512x1024 .bf16) : View.ld x r0_0 = x := ld_whole x _
theorem ldG (x : Vec Ideal S1x1024 .f32) : View.ld x r0_3 = x := ld_whole x _

theorem out6 : out0_6 (F := Ideal) x0 x1 x2 x3 x4 x5 = k0_pay2 x1 (top x3) x2 (bot x3) := by
  unfold out0_6
  refine (canon_unit (e := .f32) _ _).trans ?_
  rw [ldB x1, ldB x2]
  rfl

theorem out7 : out0_7 (F := Ideal) x0 x1 x2 x3 x4 x5 = k0_pay3 x1 (top x3) x2 (bot x3) x0 x4 := by
  unfold out0_7
  refine (canon_unit (e := .f32) _ _).trans ?_
  rw [ldB x1, ldB x2,
    ldF x0, ldG x4]
  rfl

theorem out8 : out0_8 (F := Ideal) x0 x1 x2 x3 x4 x5
    = k0_pay1 (k0_pay3 x1 (top x3) x2 (bot x3) x0 x4) (k0_pay4 x1 (top x3) x2 (bot x3) x0 x4) x5 := by
  unfold out0_8
  refine (canon_unit (e := .bf16) _ _).trans ?_
  rw [ldB x1, ldB x2,
    ldF x0, ldG x4,
    ldG x5]
  rfl

end Cert.OutFwdIdeal.Point
-- ==== Proof.OutFwd.Arrays.lean ====
/-
  What the output projection's forward kernel leaves in its result arrays, as functions of its arguments.
-/
module

public import proofs.«01_k».proof.Proof.OutFwd.Point
public import Idealize.ShloMosaic.Lib.Claim
public import Idealize.ShloMosaic.Lib.Pointwise
public import Idealize.ShloMosaic.Lib.KernelVsHost

@[expose] public section

set_option maxRecDepth 16384

noncomputable section

/-! ## The results as functions of the arguments -/

namespace Cert.OutFwdForm

open Idealize.ShloMosaic Cert.NormForm

variable (x yl ys : FVec Ideal (⟨2, ![8192, 1024]⟩ : Shape) .f32) (w : FVec Ideal (⟨2, ![2048, 1024]⟩ : Shape) .f32)
  (gm gf : FVec Ideal (⟨1, ![1024]⟩ : Shape) .f32)

/-- The mixed heads, the layer's sum, and that sum's norm. -/
def mix (i : Fin 8192) (n : Fin 1024) : EReal :=
  ∑ k : Fin 1024, yl (ix2 i k) * w (ix2 ⟨k.val, by omega⟩ n) + ∑ k : Fin 1024, ys (ix2 i k) * w (ix2 ⟨1024 + k.val, by omega⟩ n)
def x1 (i : Fin 8192) (n : Fin 1024) : EReal := x (ix2 i n) + norm (mix yl ys w i) (vecOf gm) n
def h2 (i : Fin 8192) (n : Fin 1024) : EReal := norm (x1 x yl ys w gm i) (vecOf gf) n

end Cert.OutFwdForm

namespace Cert.OutFwdIdeal.Arrays

open Cert.OutFwdIdeal Cert.OutFwdIdeal.Gen Cert.OutFwdIdeal.Point Cert.NormForm
open Idealize.ShloMosaic Idealize.ShloMosaic.TcCoe Idealize.SL.Sem

variable (m : (ℓ : Loc nD τ sig) → Buf (Elt Ideal) ℓ) (c : Dev nD)

/-- The arguments of device `c`. -/
abbrev argX : FVec Ideal S8192x1024 .f32 := m ((c : Thread nD τ).loc main_arg0)
abbrev argL : FVec Ideal S8192x1024 .f32 := m ((c : Thread nD τ).loc main_arg1)
abbrev argS : FVec Ideal S8192x1024 .f32 := m ((c : Thread nD τ).loc main_arg2)
abbrev argW : FVec Ideal S2048x1024 .f32 := m ((c : Thread nD τ).loc main_arg3)
abbrev argM : FVec Ideal S1024 .f32 := m ((c : Thread nD τ).loc main_arg4)
abbrev argF : FVec Ideal S1024 .f32 := m ((c : Thread nD τ).loc main_arg5)

theorem l_val (i : Fin 8192) (k : Fin 1024) : (V m c main_v0 : FVec Ideal S8192x1024 .bf16) (ix2 i k) = argL m c (ix2 i k) := by
  entry_read; pointwise
theorem s_val (i : Fin 8192) (k : Fin 1024) : (V m c main_v1 : FVec Ideal S8192x1024 .bf16) (ix2 i k) = argS m c (ix2 i k) := by
  entry_read; pointwise
theorem w_val (k : Fin 2048) (n : Fin 1024) : (V m c main_v2 : FVec Ideal S2048x1024 .bf16) (ix2 k n) = argW m c (ix2 k n) := by
  entry_read; pointwise
theorem gm_val (i : Fin 1) (k : Fin 1024) : (V m c main_v3 : FVec Ideal S1x1024 .f32) (ix2 i k) = argM m c (ix1 k) := by
  entry_read; pointwise
theorem gf_val (i : Fin 1) (k : Fin 1024) : (V m c main_v4 : FVec Ideal S1x1024 .f32) (ix2 i k) = argF m c (ix1 k) := by
  entry_read; pointwise

/-- The row of the arrays that row `i` of point `n`'s tiles is. -/
def row (n : ℕ) (i : Fin 512) : Fin 8192 := ⟨(512 * n + i.val) % 8192, Nat.mod_lt _ (by norm_num)⟩

/-- The index maps: the tiles go along the rows, the weight's and the gains' blocks stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] := by
  decide +kernel

theorem row_val (t : Fin cfg0.N) (i : Fin 512) : (row t.val i).val = t.val * 512 + i.val := by
  have : t.val < 16 := t.isLt
  unfold row
  show (512 * t.val + i.val) % 8192 = _
  omega

/-! ## The blocks -/

section Blocks

variable (t : Fin cfg0.N)

theorem x_blk (i : Fin 512) (k : Fin 1024) : (iblk m c 0 t : FVec Ideal S512x1024 .f32) (ix2 i k) = argX m c (ix2 (row t.val i) k) := by
  have := row_val t i
  unfold argX
  rw [← V_main_arg0 m c]
  blk_ext [iblk, idx t]

theorem l_blk (i : Fin 512) (k : Fin 1024) : (iblk m c 1 t : FVec Ideal S512x1024 .bf16) (ix2 i k) = argL m c (ix2 (row t.val i) k) := by
  refine Eq.trans ?_ (l_val m c (row t.val i) k)
  have := row_val t i
  blk_ext [iblk, idx t]

theorem s_blk (i : Fin 512) (k : Fin 1024) : (iblk m c 2 t : FVec Ideal S512x1024 .bf16) (ix2 i k) = argS m c (ix2 (row t.val i) k) := by
  refine Eq.trans ?_ (s_val m c (row t.val i) k)
  have := row_val t i
  blk_ext [iblk, idx t]

theorem w_blk (k : Fin 2048) (n : Fin 1024) : (iblk m c 3 t : FVec Ideal S2048x1024 .bf16) (ix2 k n) = argW m c (ix2 k n) := by
  refine Eq.trans ?_ (w_val m c k n)
  blk_ext [iblk, idx t]

theorem gm_blk (k : Fin 1024) : (iblk m c 4 t : FVec Ideal S1x1024 .f32) (ix2 0 k) = argM m c (ix1 k) := by
  refine Eq.trans ?_ (gm_val m c 0 k)
  blk_ext [iblk, idx t]

theorem gf_blk (k : Fin 1024) : (iblk m c 5 t : FVec Ideal S1x1024 .f32) (ix2 0 k) = argF m c (ix1 k) := by
  refine Eq.trans ?_ (gf_val m c 0 k)
  blk_ext [iblk, idx t]

theorem mix_blk (i : Fin 512) : mixB (iblk m c 1 t) (iblk m c 2 t) (iblk m c 3 t) i
    = OutFwdForm.mix (argL m c) (argS m c) (argW m c) (row t.val i) := funext fun n =>
  congrArg₂ (· + ·)
    (Finset.sum_congr rfl fun k _ => congrArg₂ (· * ·) (l_blk m c t i k) (w_blk m c t _ n))
    (Finset.sum_congr rfl fun k _ => congrArg₂ (· * ·) (s_blk m c t i k) (w_blk m c t _ n))

theorem x1_blk (i : Fin 512) : x1B (iblk m c 0 t) (iblk m c 1 t) (iblk m c 2 t) (iblk m c 3 t) (iblk m c 4 t) i
    = OutFwdForm.x1 (argX m c) (argL m c) (argS m c) (argW m c) (argM m c) (row t.val i) := funext fun n => by
  have hg : rowOf (φ := .f32) (iblk m c 4 t : FVec Ideal S1x1024 .f32) 0 = vecOf (argM m c) := funext fun k => gm_blk m c t k
  unfold x1B OutFwdForm.x1
  rw [mix_blk m c t i, hg]
  exact congrArg (· + _) (x_blk m c t i n)

theorem h2_blk (i : Fin 512) (n : Fin 1024) :
    norm (x1B (iblk m c 0 t) (iblk m c 1 t) (iblk m c 2 t) (iblk m c 3 t) (iblk m c 4 t) i)
        (rowOf (φ := .f32) (iblk m c 5 t : FVec Ideal S1x1024 .f32) 0) n
      = OutFwdForm.h2 (argX m c) (argL m c) (argS m c) (argW m c) (argM m c) (argF m c) (row t.val i) n := by
  have hg : rowOf (φ := .f32) (iblk m c 5 t : FVec Ideal S1x1024 .f32) 0 = vecOf (argF m c) := funext fun k => gf_blk m c t k
  rw [x1_blk m c t i, hg]
  rfl

end Blocks

/-! ## The arrays -/

theorem arr_mix : ((dats m 0 c).arrAt 6 cfg0.N : FVec Ideal S8192x1024 .f32)
    = fun y => OutFwdForm.mix (argL m c) (argS m c) (argW m c) (y 0) (y 1) := by
  refine (dats m 0 c).arrAt_eq_of_covers 6 _ (by decide +kernel) fun t hf y => ?_
  have hr := row_val t (y 0)
  have e : (win0_6.blk t).view.emb y = ix2 (row t.val (y 0)) (y 1) := by blk_ext [idx t]
  blk_simp
  rw [after0_6, e, out6]
  exact ((congrArg _ (eq_ix2 y)).trans (pay2_eq _ _ _ (y 0) (y 1))).trans (congrFun (mix_blk m c t (y 0)) (y 1))

theorem arr_x1 : ((dats m 0 c).arrAt 7 cfg0.N : FVec Ideal S8192x1024 .f32)
    = fun y => OutFwdForm.x1 (argX m c) (argL m c) (argS m c) (argW m c) (argM m c) (y 0) (y 1) := by
  refine (dats m 0 c).arrAt_eq_of_covers 7 _ (by decide +kernel) fun t hf y => ?_
  have hr := row_val t (y 0)
  have e : (win0_7.blk t).view.emb y = ix2 (row t.val (y 0)) (y 1) := by blk_ext [idx t]
  blk_simp
  rw [after0_7, e, out7]
  exact ((congrArg _ (eq_ix2 y)).trans (pay3_eq _ _ _ _ _ (y 0) (y 1))).trans (congrFun (x1_blk m c t (y 0)) (y 1))

theorem arr_h2 : ((dats m 0 c).arrAt 8 cfg0.N : FVec Ideal S8192x1024 .bf16)
    = fun y => OutFwdForm.h2 (argX m c) (argL m c) (argS m c) (argW m c) (argM m c) (argF m c) (y 0) (y 1) := by
  refine (dats m 0 c).arrAt_eq_of_covers 8 _ (by decide +kernel) fun t hf y => ?_
  have hr := row_val t (y 0)
  have e : (win0_8.blk t).view.emb y = ix2 (row t.val (y 0)) (y 1) := by blk_ext [idx t]
  blk_simp
  rw [after0_8, e, out8]
  exact ((congrArg _ (eq_ix2 y)).trans (pay1_eq _ _ _ _ _ _ (y 0) (y 1))).trans (h2_blk m c t (y 0) (y 1))

end Cert.OutFwdIdeal.Arrays
-- ==== Proof.OutFwd.Equal.lean ====
/-
  The output projection's forward kernel and its reference end with the same arrays, whatever the arguments.
-/
module

public import proofs.«01_k».proof.Defs
public import proofs.«01_k».proof.Proof.OutFwd.Arrays
public import proofs.«01_k».proof.Proof.Gen.OutFwdRefIdeal.Read
public import Idealize.ShloMosaic.Lib.Claim

@[expose] public section

set_option maxRecDepth 16384

noncomputable section

open Idealize.ShloMosaic Idealize.ShloMosaic.TcCoe Idealize.SL.Sem

namespace Cert.OutFwdRefIdeal.Val

open Cert.OutFwdRefIdeal Cert.OutFwdRefIdeal.Read Cert.NormForm

variable (x0 x1 x2 : FVec Ideal S8192x1024 .f32) (x3 : FVec Ideal S2048x1024 .f32) (x4 x5 : FVec Ideal S1024 .f32)

theorem left (i : Fin 8192) (k : Fin 1024) : val_main_v0 (F := Ideal) x1 x2 (ix2 i ⟨k.val, by omega⟩) = x1 (ix2 i k) := by
  unfold val_main_v0
  pointwise

theorem right (i : Fin 8192) (k : Fin 1024) : val_main_v0 (F := Ideal) x1 x2 (ix2 i ⟨1024 + k.val, by omega⟩) = x2 (ix2 i k) := by
  unfold val_main_v0
  pointwise

theorem main_v1 (i : Fin 8192) (n : Fin 1024) : val_main_v1 (F := Ideal) x1 x2 x3 (ix2 i n) = OutFwdForm.mix x1 x2 x3 i n := by
  pointwise [val_main_v1]
  refine (Fin.sum_univ_add (M := EReal) (a := 1024) (b := 1024) fun k : Fin 2048 => val_main_v0 (F := Ideal) x1 x2 (ix2 i k) * x3 (ix2 k n)).trans ?_
  exact congrArg₂ (· + ·) (Finset.sum_congr rfl fun k _ => congrArg (· * _) (left x1 x2 i k))
    (Finset.sum_congr rfl fun k _ => congrArg (· * _) (right x1 x2 i k))

theorem main_v15 (i : Fin 8192) (n : Fin 1024) :
    val_main_v15 (F := Ideal) x0 x1 x2 x3 x4 (ix2 i n) = OutFwdForm.x1 x0 x1 x2 x3 x4 i n := by
  pointwise [val_main_v15, val_main_v14, val_main_v13, val_main_v12, val_main_v11, val_main_v10, val_main_v9, val_main_v8, val_main_v7, val_main_cst_1,
    val_main_v6, val_main_v5, val_main_cst_0, val_main_v4, val_main_v3, val_main_cst, val_main_v2]
  simp only [main_v1]
  rfl

theorem main_v29 (i : Fin 8192) (n : Fin 1024) :
    val_main_v29 (F := Ideal) x0 x1 x2 x3 x4 x5 (ix2 i n) = OutFwdForm.h2 x0 x1 x2 x3 x4 x5 i n := by
  pointwise [val_main_v29, val_main_v28, val_main_v27, val_main_v26, val_main_v25, val_main_v24, val_main_v23, val_main_v22, val_main_v21, val_main_cst_4,
    val_main_v20, val_main_v19, val_main_cst_3, val_main_v18, val_main_v17, val_main_cst_2, val_main_v16]
  simp only [main_v15]
  rfl

end Cert.OutFwdRefIdeal.Val

namespace Cert.OutFwdEqual

open Cert.OutFwdIdeal.Arrays

/-- The reference's frame: it ends, its arguments and every counter as they were. -/
theorem ref_frame : Cert.quiescent_OutFwdRefIdeal := fun m ρ _ => by
  refine (θ_run Cert.OutFwdRefIdeal.defs _ _).mono (fun r h => ⟨fun c => ?_, sem_eq_zero_of_no_sems (by decide) r.2⟩)
    (Cert.OutFwdRefIdeal.Value.run (F := Ideal) m ρ)
  obtain ⟨-, -, -, hk⟩ := h c
  exact hk

section Same

variable (m : (ℓ : Loc Cert.OutFwdIdeal.nD Cert.OutFwdIdeal.τ Cert.OutFwdIdeal.sig) → Buf (Elt Ideal) ℓ) (c : Dev Cert.OutFwdIdeal.nD)

theorem mix_same : (Cert.OutFwdIdeal.Gen.dats m 0 c).arrAt 6 Cert.OutFwdIdeal.cfg0.N
    = Cert.OutFwdRefIdeal.Read.val_main_v1 (F := Ideal) (argL m c) (argS m c) (argW m c) := by
  refine (arr_mix m c).trans (funext fun y : Cert.OutFwdIdeal.S8192x1024.Idx => ?_)
  rw [eq_ix2 y]
  exact (Cert.OutFwdRefIdeal.Val.main_v1 _ _ _ (y 0) (y 1)).symm

theorem x1_same : (Cert.OutFwdIdeal.Gen.dats m 0 c).arrAt 7 Cert.OutFwdIdeal.cfg0.N
    = Cert.OutFwdRefIdeal.Read.val_main_v15 (F := Ideal) (argX m c) (argL m c) (argS m c) (argW m c) (argM m c) := by
  refine (arr_x1 m c).trans (funext fun y : Cert.OutFwdIdeal.S8192x1024.Idx => ?_)
  rw [eq_ix2 y]
  exact (Cert.OutFwdRefIdeal.Val.main_v15 _ _ _ _ _ (y 0) (y 1)).symm

theorem h2_same : (Cert.OutFwdIdeal.Gen.dats m 0 c).arrAt 8 Cert.OutFwdIdeal.cfg0.N
    = Cert.OutFwdRefIdeal.Read.val_main_v29 (F := Ideal) (argX m c) (argL m c) (argS m c) (argW m c) (argM m c) (argF m c) := by
  refine (arr_h2 m c).trans (funext fun y : Cert.OutFwdIdeal.S8192x1024.Idx => ?_)
  rw [eq_ix2 y]
  exact (Cert.OutFwdRefIdeal.Val.main_v29 _ _ _ _ _ _ (y 0) (y 1)).symm

end Same

/-- The claim: the kernel's run and the reference's end with equal arrays, the arguments unchanged. -/
theorem algebraic : Cert.algebraic_OutFwdIdeal_OutFwdRefIdeal := by
  pair_intro
  · run_from Cert.OutFwdIdeal.Value.run_blocks m g
  · refine (θ_run _ _ _).mono (fun r h c => ?_) (Cert.OutFwdRefIdeal.Value.run (F := Ideal) m' g')
    obtain ⟨e0, e1, e2, e3, e4, e5⟩ := hagree c
    obtain ⟨h0, h1, h2, hk⟩ := h c
    refine ⟨?_, ?_, ?_, hk⟩
    · rw [h0, Cert.OutFwdRefIdeal.Read.val_main_v1_eq, e1, e2, e3]
      exact (mix_same m c).symm
    · rw [h1, Cert.OutFwdRefIdeal.Read.val_main_v15_eq, e0, e1, e2, e3, e4]
      exact (x1_same m c).symm
    · rw [h2, Cert.OutFwdRefIdeal.Read.val_main_v29_eq, e0, e1, e2, e3, e4, e5]
      exact (h2_same m c).symm

end Cert.OutFwdEqual
-- ==== Proof.OutBwd.Real.lean ====
/-
  The backward pass of the output projection and of the norm behind it, of one token and over the real numbers. Everything here
  is a function of the token's rows and of the layer's parameters; nothing is of a program.
-/
module

public import proofs.«01_k».proof.Proof.Ffn.Real
public import Idealize.ShloMosaic.Lib.Pointwise

@[expose] public section

noncomputable section

open Idealize.ShloMosaic

namespace Cert.OutReal

open Cert.FfnReal (Row rn rmsBack)

/-- The layer's parameters: the projection's weight and the norm's gain. -/
structure Par where
  w : Fin 2048 → Fin 1024 → ℝ
  g : Row

/-- One token: the gradient of the layer's output, and the two halves of the projection's input. -/
structure Tok where
  d : Row
  a : Row
  b : Row

variable (p : Par) (k : Tok)

/-- The projection's whole input, and what the projection makes of it. -/
def cat (n : Fin 2048) : ℝ := if h : n.val < 1024 then k.a ⟨n.val, h⟩ else k.b ⟨n.val - 1024, by omega⟩
def mix : Row := fun j => ∑ n, cat k n * p.w n j
/-- The gradient of the projection's output. -/
def dm : Row := rmsBack (mix p k) fun j => k.d j * p.g j
/-- The gradients of the two halves of the projection's input. -/
def da : Row := fun n => ∑ j, dm p k j * p.w ⟨n.val, by omega⟩ j
def db : Row := fun n => ∑ j, dm p k j * p.w ⟨1024 + n.val, by omega⟩ j
/-- The token's part of the gain's gradient. -/
def gPart : Row := fun j => k.d j * mix p k j * rn (mix p k)

/-- What the projection makes of its input, by the two halves. -/
theorem mix_halves (j : Fin 1024) : mix p k j
    = ∑ n : Fin 1024, k.a n * p.w ⟨n.val, by omega⟩ j + ∑ n : Fin 1024, k.b n * p.w ⟨1024 + n.val, by omega⟩ j := by
  refine (Fin.sum_univ_add (a := 1024) (b := 1024) fun n : Fin 2048 => cat k n * p.w n j).trans (congrArg₂ (· + ·) ?_ ?_)
  · exact Finset.sum_congr rfl fun n _ => congrArg (· * _) (dif_pos n.isLt)
  · refine Finset.sum_congr rfl fun n _ => congrArg (· * _) ((dif_neg (show ¬1024 + n.val < 1024 by omega)).trans ?_)
    exact congrArg k.b (Fin.ext (by show 1024 + n.val - 1024 = n.val; omega))

/-- The five argument arrays hold the tokens `K` and the parameters `p`. -/
structure Args (p : Par) (K : Fin 8192 → Tok) (a0 a1 a2 : FVec Ideal (⟨2, ![8192, 1024]⟩ : Shape) .f32)
    (a3 : FVec Ideal (⟨2, ![2048, 1024]⟩ : Shape) .f32) (a4 : FVec Ideal (⟨1, ![1024]⟩ : Shape) .f32) : Prop where
  d : ∀ i k, a0 (ix2 i k) = (((K i).d k : ℝ) : EReal)
  a : ∀ i k, a1 (ix2 i k) = (((K i).a k : ℝ) : EReal)
  b : ∀ i k, a2 (ix2 i k) = (((K i).b k : ℝ) : EReal)
  w : ∀ k n, a3 (ix2 k n) = ((p.w k n : ℝ) : EReal)
  g : ∀ k, a4 (ix1 k) = ((p.g k : ℝ) : EReal)

end Cert.OutReal
-- ==== Proof.OutBwd.Point.lean ====
/-
  What a grid point of the output projection's backward kernel leaves in each buffer, as compositions of the body's named
  values over the point's input blocks, and what real numbers that is.
-/
module

public import proofs.«01_k».proof.Proof.Gen.OutBwdIdeal.Value
public import proofs.«01_k».proof.Proof.OutBwd.Real
public import Idealize.ShloMosaic.Lib.Pipeline.ValueKit
public import Idealize.ShloMosaic.Lib.Pipeline.ReadBack

@[expose] public section

set_option maxRecDepth 16384

noncomputable section

namespace Cert.OutBwdIdeal.Point

open Cert.OutBwdIdeal Cert.OutBwdIdeal.Gen Cert.OutReal Cert.Lift
open Cert.FfnReal (Row rn rmsBack rn_arg_pos)
open Idealize.ShloMosaic Idealize.ShloMosaic.TcCoe Idealize.SL.Sem

/-- A rectangle of extended reals that holds real numbers. -/
abbrev Is2 {a b : ℕ} {φ : FTy} (v : FVec Ideal (⟨2, ![a, b]⟩ : Shape) φ) (r : Fin a → Fin b → ℝ) : Prop :=
  ∀ i j, v (ix2 i j) = ((r i j : ℝ) : EReal)

/-! ## The compositions -/

/-- The weight's rows of the first half, and those of the second. -/
def top (w : Vec Ideal S2048x1024 .bf16) : Vec Ideal S1024x1024 .bf16 :=
  View.ld w (Rect.unit (s := S2048x1024) ![0, 0] S1024x1024.size inb_S2048x1024_S1024x1024_0_0)
def bot (w : Vec Ideal S2048x1024 .bf16) : Vec Ideal S1024x1024 .bf16 :=
  View.ld w (Rect.unit (s := S2048x1024) ![1024, 0] S1024x1024.size inb_S2048x1024_S1024x1024_1024_0)

section Compose

variable (x0 x1 : FVec Ideal S512x1024 .f32) (x2 : Vec Ideal S2048x1024 .bf16) (x3 : FVec Ideal S1x1024 .f32)

/-- The block's gradients of the two halves of the projection's input, and of its output. -/
def daB : FVec Ideal S512x1024 .f32 := k0_pay2 (k0_pay9 x1 x0 x3) (k0_pay10 x1) (k0_pay11 x1 x0 x3) (top x2)
def dbB : FVec Ideal S512x1024 .f32 := k0_pay3 (k0_pay9 x1 x0 x3) (k0_pay10 x1) (k0_pay11 x1 x0 x3) (bot x2)
def dmB : FVec Ideal S512x1024 .bf16 := k0_pay1 (k0_pay9 x1 x0 x3) (k0_pay10 x1) (k0_pay11 x1 x0 x3)

end Compose

section Numbers

variable {p : Par} {K : Fin 512 → Tok} {x0 x1 : FVec Ideal S512x1024 .f32} {x3 : FVec Ideal S1x1024 .f32}

theorem rn_eq (h1 : Is2 x1 fun i => mix p (K i)) : Is2 (k0_pay6 (F := Ideal) x1) fun i _ => rn (mix p (K i)) := by
  intro i j
  pointwise [k0_pay6, k0_pay5]
  simp only [h1 _ _, lit_1024, lit_eps, ← EReal.coe_mul, sum_coe]
  rw [div_real (by norm_num), ← EReal.coe_add, rsqrt_real (rn_arg_pos (mix p (K i)))]
  rfl

theorem g_eq (h0 : Is2 x0 fun i => (K i).d) (h1 : Is2 x1 fun i => mix p (K i)) {a : FVec Ideal S1x1024 .f32} {r : Row}
    (ha : Is2 a fun _ => r) : Is2 (k0_pay7 (F := Ideal) x1 x0 a) fun _ j => r j + ∑ i, gPart p (K i) j := by
  intro i j
  have hr := rn_eq h1
  pointwise [k0_pay7, k0_pay5]
  simp only [h0 _ _, h1 _ _, hr _ _, ha _ _, ← EReal.coe_mul, sum_coe, ← EReal.coe_add]
  rfl

theorem zero_g : Is2 (k0_pay4 (F := Ideal)) fun _ _ => 0 := by
  intro i j; pointwise [k0_pay4]; exact EReal.coe_zero.symm

theorem dm_is (h0 : Is2 x0 fun i => (K i).d) (h1 : Is2 x1 fun i => mix p (K i)) (h3 : Is2 x3 fun _ => p.g) :
    Is2 (dmB x0 x1 x3) fun i => dm p (K i) := by
  intro i j
  have hr := rn_eq h1
  pointwise [dmB, k0_pay1, k0_pay9, k0_pay10, k0_pay11, k0_pay8, k0_pay5]
  simp only [h0 _ _, h1 _ _, hr _ _, h3 _ _, lit_1024, ← EReal.coe_mul, sum_coe]
  rw [div_real (by norm_num)]
  simp only [← EReal.coe_mul, ← EReal.coe_sub]
  rfl

theorem top_is {w : FVec Ideal S2048x1024 .bf16} (hw : Is2 w p.w) : Is2 (φ := .bf16) (top w) fun k n => p.w ⟨k.val, by omega⟩ n := fun k n => by
  refine Eq.trans ?_ (hw ⟨k.val, by omega⟩ n)
  exact congrArg w (funext fun a => match a with
    | ⟨0, _⟩ => Fin.ext (by show 0 + 1 * k.val = k.val; omega)
    | ⟨1, _⟩ => Fin.ext (by show 0 + 1 * n.val = n.val; omega))

theorem bot_is {w : FVec Ideal S2048x1024 .bf16} (hw : Is2 w p.w) : Is2 (φ := .bf16) (bot w) fun k n => p.w ⟨1024 + k.val, by omega⟩ n := fun k n => by
  refine Eq.trans ?_ (hw ⟨1024 + k.val, by omega⟩ n)
  exact congrArg w (funext fun a => match a with
    | ⟨0, _⟩ => Fin.ext (by show 1024 + 1 * k.val = 1024 + k.val; omega)
    | ⟨1, _⟩ => Fin.ext (by show 0 + 1 * n.val = n.val; omega))

theorem da_is {x2 : FVec Ideal S2048x1024 .bf16} (h0 : Is2 x0 fun i => (K i).d) (h1 : Is2 x1 fun i => mix p (K i)) (h2 : Is2 x2 p.w) (h3 : Is2 x3 fun _ => p.g) :
    Is2 (daB x0 x1 x2 x3) fun i => da p (K i) := by
  intro i j
  have hd := dm_is h0 h1 h3
  have ht := top_is h2
  unfold dmB at hd
  pointwise [daB, k0_pay2]
  simp only [hd _ _, ht _ _, ← EReal.coe_mul, sum_coe]
  rfl

theorem db_is {x2 : FVec Ideal S2048x1024 .bf16} (h0 : Is2 x0 fun i => (K i).d) (h1 : Is2 x1 fun i => mix p (K i)) (h2 : Is2 x2 p.w) (h3 : Is2 x3 fun _ => p.g) :
    Is2 (dbB x0 x1 x2 x3) fun i => db p (K i) := by
  intro i j
  have hd := dm_is h0 h1 h3
  have ht := bot_is h2
  unfold dmB at hd
  pointwise [dbB, k0_pay3]
  simp only [hd _ _, ht _ _, ← EReal.coe_mul, sum_coe]
  rfl

end Numbers

/-! ## What a point leaves -/

variable (m : (ℓ : Loc nD τ sig) → Buf (Elt Ideal) ℓ) (c : Dev nD) (t : Fin cfg0.N)

theorem first (h0 : t.val % 16 = 0) : outsAt0 m c t.val t.isLt =
    (daB (iblk m c 0 t) (iblk m c 1 t) (iblk m c 2 t) (iblk m c 3 t), dbB (iblk m c 0 t) (iblk m c 1 t) (iblk m c 2 t) (iblk m c 3 t),
      dmB (iblk m c 0 t) (iblk m c 1 t) (iblk m c 3 t), k0_pay7 (iblk m c 1 t) (iblk m c 0 t) (k0_pay4 (F := Ideal))) := by
  rw [outsAt0_A m c t h0]
  frame_out
  rfl

theorem later (h0 : ¬t.val % 16 = 0) : outsAt0 m c t.val t.isLt =
    let o := outsAt0 m c (t.val - 1) (lt_of_le_of_lt (Nat.sub_le _ _) t.isLt)
    (daB (iblk m c 0 t) (iblk m c 1 t) (iblk m c 2 t) (iblk m c 3 t), dbB (iblk m c 0 t) (iblk m c 1 t) (iblk m c 2 t) (iblk m c 3 t),
      dmB (iblk m c 0 t) (iblk m c 1 t) (iblk m c 3 t), k0_pay7 (iblk m c 1 t) (iblk m c 0 t) o.2.2.2) := by
  rw [outsAt0_B m c t h0]
  frame_out
  rfl

end Cert.OutBwdIdeal.Point
-- ==== Proof.OutBwd.Arrays.lean ====
/-
  What the output projection's backward kernel leaves in its result arrays, over real arguments.
-/
module

public import proofs.«01_k».proof.Proof.OutBwd.Point
public import Idealize.ShloMosaic.Lib.Claim
public import Idealize.ShloMosaic.Lib.Pointwise
public import Idealize.ShloMosaic.Lib.KernelVsHost

@[expose] public section

set_option maxRecDepth 16384

noncomputable section

namespace Cert.OutBwdIdeal.Arrays

open Cert.OutBwdIdeal Cert.OutBwdIdeal.Gen Cert.OutBwdIdeal.Point Cert.OutReal Cert.Lift
open Cert.FfnReal (Row rn)
open Idealize.ShloMosaic Idealize.ShloMosaic.TcCoe Idealize.SL.Sem

/-- The arguments of device `c` in the memory `m`. -/
abbrev Given (p : Par) (K : Fin 8192 → Tok) (m : (ℓ : Loc nD τ sig) → Buf (Elt Ideal) ℓ) (c : Dev nD) : Prop :=
  Args p K (m ((c : Thread nD τ).loc main_arg0)) (m ((c : Thread nD τ).loc main_arg1)) (m ((c : Thread nD τ).loc main_arg2))
    (m ((c : Thread nD τ).loc main_arg3)) (m ((c : Thread nD τ).loc main_arg4))

variable {p : Par} {K : Fin 8192 → Tok} {m : (ℓ : Loc nD τ sig) → Buf (Elt Ideal) ℓ} {c : Dev nD}

section Host

variable (A : Given p K m c)
include A

theorem mix_val : Is2 (φ := .f32) (V m c main_v1) fun i => mix p (K i) := fun i j => by
  entry_read
  pointwise
  rw [mix_halves]
  simp only [EReal.coe_add, ← sum_coe, EReal.coe_mul]
  exact congrArg₂ (· + ·) (Finset.sum_congr rfl fun k _ => congrArg₂ (· * ·) (A.a i k) (A.w _ j))
    (Finset.sum_congr rfl fun k _ => congrArg₂ (· * ·) (A.b i k) (A.w _ j))

theorem w_val : Is2 (φ := .bf16) (V m c main_v2) p.w := fun k n => by
  entry_read; pointwise; exact A.w k n

theorem g_val : Is2 (φ := .f32) (V m c main_v3) fun _ => p.g := fun i k => by
  entry_read; pointwise; exact A.g k

end Host

/-! ## One point -/

/-- The row of the arrays that row `i` of point `n`'s tiles is. -/
def row (n : ℕ) (i : Fin 512) : Fin 8192 := ⟨(512 * n + i.val) % 8192, Nat.mod_lt _ (by norm_num)⟩

/-- The index maps: the tiles go along the rows, the weight's and the gain's blocks stay. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0] := by
  decide +kernel

theorem row_val (t : Fin cfg0.N) (i : Fin 512) : (row t.val i).val = t.val * 512 + i.val := by
  have : t.val < 16 := t.isLt
  unfold row
  show (512 * t.val + i.val) % 8192 = _
  omega

section Host

variable (A : Given p K m c) (t : Fin cfg0.N)
include A

theorem d_blk : Is2 (φ := .f32) (iblk m c 0 t : FVec Ideal S512x1024 .f32) fun i => (K (row t.val i)).d := fun i k => by
  refine Eq.trans ?_ (A.d (row t.val i) k)
  have := row_val t i
  rw [← V_main_arg0 m c]
  blk_ext [iblk, idx t]

theorem mix_blk : Is2 (φ := .f32) (iblk m c 1 t : FVec Ideal S512x1024 .f32) fun i => mix p (K (row t.val i)) := fun i k => by
  refine Eq.trans ?_ (mix_val A (row t.val i) k)
  have := row_val t i
  blk_ext [iblk, idx t]

theorem w_blk : Is2 (φ := .bf16) (iblk m c 2 t : FVec Ideal S2048x1024 .bf16) p.w := fun i k => by
  refine Eq.trans ?_ (w_val A i k)
  blk_ext [iblk, idx t]

theorem g_blk : Is2 (φ := .f32) (iblk m c 3 t : FVec Ideal S1x1024 .f32) fun _ => p.g := fun i k => by
  refine Eq.trans ?_ (g_val A i k)
  blk_ext [iblk, idx t]

end Host

/-- What the point `n` leaves in the four results' blocks. -/
structure Left (p : Par) (K : Fin 8192 → Tok) (n : ℕ)
    (o : Vec Ideal S512x1024 .f32 × Vec Ideal S512x1024 .f32 × Vec Ideal S512x1024 .bf16 × Vec Ideal S1x1024 .f32) : Prop where
  a : Is2 (φ := .f32) o.1 fun i => da p (K (row n i))
  b : Is2 (φ := .f32) o.2.1 fun i => db p (K (row n i))
  m : Is2 (φ := .bf16) o.2.2.1 fun i => dm p (K (row n i))
  g : Is2 (φ := .f32) o.2.2.2 fun _ j => ∑ q ∈ Finset.range (n + 1), ∑ i, gPart p (K (row q i)) j

section Host

variable (A : Given p K m c)
include A

theorem left_all : ∀ (n : ℕ) (hn : n < cfg0.N), Left p K n (outsAt0 m c n hn) := by
  intro n
  induction n with
  | zero =>
    intro hn
    have D := d_blk A ⟨0, hn⟩
    have M := mix_blk A ⟨0, hn⟩
    have W := w_blk A ⟨0, hn⟩
    have G := g_blk A ⟨0, hn⟩
    rw [show outsAt0 m c 0 hn = _ from first m c ⟨0, hn⟩ rfl]
    exact {
      a := da_is D M W G
      b := db_is D M W G
      m := dm_is D M G
      g := fun i j => by
        have := g_eq D M zero_g i j
        simpa using this }
  | succ n ih =>
    intro hn
    have I := ih (Nat.lt_of_succ_lt hn)
    have D := d_blk A ⟨n + 1, hn⟩
    have M := mix_blk A ⟨n + 1, hn⟩
    have W := w_blk A ⟨n + 1, hn⟩
    have G := g_blk A ⟨n + 1, hn⟩
    have h0 : ¬(⟨n + 1, hn⟩ : Fin cfg0.N).val % 16 = 0 := by
      have : n + 1 < 16 := hn
      show ¬(n + 1) % 16 = 0
      omega
    have e : outsAt0 m c (n + 1) hn = _ := later m c ⟨n + 1, hn⟩ h0
    simp only [Nat.add_sub_cancel] at e
    rw [e]
    exact {
      a := da_is D M W G
      b := db_is D M W G
      m := dm_is D M G
      g := fun i j => by
        refine Eq.trans ?_ (congrArg (fun z : ℝ => (z : EReal)) (Finset.sum_range_succ
          (fun q => ∑ i, gPart p (K (row q i)) j) (n + 1)).symm)
        exact g_eq D M (r := fun j => ∑ q ∈ Finset.range (n + 1), ∑ i, gPart p (K (row q i)) j)
          (fun i k => by rw [show i = 0 from Subsingleton.elim _ _]; exact I.g 0 k) i j }

end Host

/-! ## The arrays -/

/-- The last point. -/
def lastPt : Fin cfg0.N := ⟨15, by decide⟩

section Host

variable (A : Given p K m c)
include A

theorem arr_a : ((dats m 0 c).arrAt 4 cfg0.N : FVec Ideal S8192x1024 .f32) = fun y => ((da p (K (y 0)) (y 1) : ℝ) : EReal) := by
  refine (dats m 0 c).arrAt_eq_of_covers 4 _ (by decide +kernel) fun t hf y => ?_
  have L := (left_all A t.val t.isLt).a
  have hr := row_val t (y 0)
  have e : (win0_4.blk t).view.emb y = ix2 (row t.val (y 0)) (y 1) := by blk_ext [idx t]
  blk_simp
  rw [after0_4, e]
  exact (congrArg _ (eq_ix2 y)).trans (L (y 0) (y 1))

theorem arr_b : ((dats m 0 c).arrAt 5 cfg0.N : FVec Ideal S8192x1024 .f32) = fun y => ((db p (K (y 0)) (y 1) : ℝ) : EReal) := by
  refine (dats m 0 c).arrAt_eq_of_covers 5 _ (by decide +kernel) fun t hf y => ?_
  have L := (left_all A t.val t.isLt).b
  have hr := row_val t (y 0)
  have e : (win0_5.blk t).view.emb y = ix2 (row t.val (y 0)) (y 1) := by blk_ext [idx t]
  blk_simp
  rw [after0_5, e]
  exact (congrArg _ (eq_ix2 y)).trans (L (y 0) (y 1))

theorem arr_m : ((dats m 0 c).arrAt 6 cfg0.N : FVec Ideal S8192x1024 .bf16) = fun y => ((dm p (K (y 0)) (y 1) : ℝ) : EReal) := by
  refine (dats m 0 c).arrAt_eq_of_covers 6 _ (by decide +kernel) fun t hf y => ?_
  have L := (left_all A t.val t.isLt).m
  have hr := row_val t (y 0)
  have e : (win0_6.blk t).view.emb y = ix2 (row t.val (y 0)) (y 1) := by blk_ext [idx t]
  blk_simp
  rw [after0_6, e]
  exact (congrArg _ (eq_ix2 y)).trans (L (y 0) (y 1))

theorem arr_g : ((dats m 0 c).arrAt 7 cfg0.N : FVec Ideal S1x1024 .f32) = fun y => ((∑ q ∈ Finset.range 16, ∑ i, gPart p (K (row q i)) (y 1) : ℝ) : EReal) := by
  refine (dats m 0 c).arrAt_eq_of_after_last 7 lastPt (by decide +kernel) _ fun j => ?_
  have L := (left_all A lastPt.val lastPt.isLt).g
  blk_simp
  rw [after0_7]
  exact (congrArg _ (eq_ix2 j)).trans (L (j 0) (j 1))

end Host

end Cert.OutBwdIdeal.Arrays
-- ==== Proof.OutBwd.Ref.lean ====
/-
  What the reference of the output projection's backward pass computes, over real arguments: each of its values that the
  real description names, at an index.
-/
module

public import proofs.«01_k».proof.Proof.OutBwd.Real
public import proofs.«01_k».proof.Proof.Gen.OutBwdRefIdeal.Read
public import proofs.«01_k».proof.Proof.Ffn.Ref

@[expose] public section

set_option maxRecDepth 16384

noncomputable section

open Idealize.ShloMosaic

namespace Cert.OutBwdRefIdeal.Val

open Cert.OutBwdRefIdeal Cert.OutBwdRefIdeal.Read Cert.OutReal Cert.Lift
open Cert.FfnReal (Row rn rmsBack)
open Cert.FfnRefIdeal.Val (lit_neg_half div_1024 rsqrt_row div_row)

variable {x0 x1 x2 : FVec Ideal S8192x1024 .f32} {x3 : FVec Ideal S2048x1024 .f32} {x4 : FVec Ideal S1024 .f32}
  {p : Par} {K : Fin 8192 → Tok}
variable (A : Args p K x0 x1 x2 x3 x4)
include A

theorem main_v1 (i : Fin 8192) (n : Fin 2048) : val_main_v1 (F := Ideal) x1 x2 (ix2 i n) = ((cat (K i) n : ℝ) : EReal) := by
  unfold val_main_v1
  pointwise
  unfold cat
  by_cases h : n.val < 1024
  · rw [dif_pos h, dif_pos h]; exact A.a i _
  · rw [dif_neg h, dif_neg h]; exact A.b i _

theorem main_v3 (i : Fin 8192) (k : Fin 1024) : val_main_v3 (F := Ideal) x1 x2 x3 (ix2 i k) = ((mix p (K i) k : ℝ) : EReal) := by
  pointwise [val_main_v3, val_main_v2, val_main_v0, val_main_cst]
  simp only [main_v1 A _ _, A.w _ _, lit_zero, ← EReal.coe_mul, ← EReal.coe_add, sum_coe, add_zero]
  rfl

theorem main_v11 (i : Fin 8192) (k : Fin 1) : val_main_v11 (F := Ideal) x1 x2 x3 (ix2 i k) = ((rn (mix p (K i)) : ℝ) : EReal) := by
  pointwise [val_main_v11, val_main_v10, val_main_v9, val_main_cst_2, val_main_v8, val_main_v7, val_main_cst_1, val_main_v6,
    val_main_v5, val_main_cst_0, val_main_v4]
  simp only [main_v3 A _ _, lit_zero, lit_1024, lit_eps, ← EReal.coe_mul, ← EReal.coe_add, sum_coe, div_1024, rsqrt_row, zero_add]

theorem main_v14 (i : Fin 8192) (k : Fin 1) : val_main_v14 (F := Ideal) x1 x2 x3 (ix2 i k)
    = ((-(1 / 2) * (rn (mix p (K i)) * rn (mix p (K i)) * rn (mix p (K i))) : ℝ) : EReal) := by
  pointwise [val_main_v14, val_main_v13, val_main_cst_3, val_main_v12, val_main_v11, val_main_v10, val_main_v9, val_main_cst_2, val_main_v8, val_main_v7,
    val_main_cst_1, val_main_v6, val_main_v5, val_main_cst_0, val_main_v4]
  simp only [main_v3 A _ _, lit_zero, lit_1024, lit_eps, lit_neg_half, ← EReal.coe_mul, ← EReal.coe_add, sum_coe, div_1024, rsqrt_row, zero_add, div_row]

theorem main_v24 (i : Fin 8192) (k : Fin 1024) : val_main_v24 (F := Ideal) x0 x4 (ix2 i k) = (((K i).d k * p.g k : ℝ) : EReal) := by
  pointwise [val_main_v24, val_main_v23, val_main_v17]
  simp only [A.d _ _, A.g _, ← EReal.coe_mul]

theorem main_v22 (i : Fin 1) (k : Fin 1024) :
    val_main_v22 (F := Ideal) x0 x1 x2 x3 (ix2 i k) = ((∑ r, gPart p (K r) k : ℝ) : EReal) := by
  pointwise [val_main_v22, val_main_v21, val_main_cst_4, val_main_v20, val_main_v16, val_main_v15]
  simp only [main_v3 A _ _, main_v11 A _ _, A.d _ _, lit_zero, ← EReal.coe_mul, ← EReal.coe_add, sum_coe, zero_add]
  exact congrArg (fun z : ℝ => (z : EReal)) (Finset.sum_congr rfl fun r _ => by unfold gPart; ring)

theorem main_v44 (i : Fin 1) (k : Fin 1024) :
    val_main_v44 (F := Ideal) x0 x1 x2 x3 (ix2 i k) = ((∑ r, gPart p (K r) k : ℝ) : EReal) := by
  pointwise [val_main_v44, val_main_v25, val_main_cst_5]
  simp only [Fin.sum_univ_one, main_v22 A _ _, lit_zero, ← EReal.coe_add, zero_add]

theorem main_v33 (i : Fin 8192) (k : Fin 1) : val_main_v33 (F := Ideal) x0 x1 x2 x3 x4 (ix2 i k)
    = (((∑ j, mix p (K i) j * ((K i).d j * p.g j)) * (-(1 / 2) * (rn (mix p (K i)) * rn (mix p (K i)) * rn (mix p (K i)))) / 1024 : ℝ) : EReal) := by
  pointwise [val_main_v33, val_main_v32, val_main_cst_7, val_main_v31, val_main_v28, val_main_v27, val_main_cst_6, val_main_v26]
  simp only [main_v24 A _ _, main_v14 A _ _, main_v3 A _ _, lit_zero, lit_1024, ← EReal.coe_mul, ← EReal.coe_add, sum_coe, zero_add, div_1024]

theorem main_v39 (i : Fin 8192) (k : Fin 1024) :
    val_main_v39 (F := Ideal) x0 x1 x2 x3 x4 (ix2 i k) = ((dm p (K i) k : ℝ) : EReal) := by
  pointwise [val_main_v39, val_main_v38, val_main_v37, val_main_v36, val_main_v35, val_main_v34, val_main_cst_8, val_main_v30, val_main_v29]
  simp only [Fin.sum_univ_one, main_v33 A _ _, main_v24 A _ _, main_v11 A _ _, main_v3 A _ _, lit_zero, ← EReal.coe_mul, ← EReal.coe_add, zero_add]
  refine congrArg (fun z : ℝ => (z : EReal)) ?_
  have e : ∑ j, mix p (K i) j * ((K i).d j * p.g j) = ∑ j, ((K i).d j * p.g j) * mix p (K i) j :=
    Finset.sum_congr rfl fun j _ => mul_comm _ _
  unfold dm rmsBack
  rw [e]
  ring

theorem main_v43 (i : Fin 8192) (k : Fin 1024) :
    val_main_v43 (F := Ideal) x0 x1 x2 x3 x4 (ix2 i k) = ((dm p (K i) k : ℝ) : EReal) := by
  pointwise [val_main_v43]
  exact main_v39 A i k

theorem main_v41 (i : Fin 8192) (n : Fin 1024) :
    val_main_v41 (F := Ideal) x0 x1 x2 x3 x4 (ix2 i n) = ((da p (K i) n : ℝ) : EReal) := by
  pointwise [val_main_v41, val_main_v40]
  simp only [main_v39 A _ _, A.w _ _, ← EReal.coe_mul, sum_coe]
  rfl

theorem main_v42 (i : Fin 8192) (n : Fin 1024) :
    val_main_v42 (F := Ideal) x0 x1 x2 x3 x4 (ix2 i n) = ((db p (K i) n : ℝ) : EReal) := by
  pointwise [val_main_v42, val_main_v40]
  simp only [main_v39 A _ _, A.w _ _, ← EReal.coe_mul, sum_coe]
  rfl

end Cert.OutBwdRefIdeal.Val
-- ==== Proof.OutBwd.Finite.lean ====
/-
  The precondition of the claim on the output projection's backward pass, read: every argument entry is a real number.
-/
module

public import proofs.«01_k».proof.Pre_out_finite
public import proofs.«01_k».proof.Proof.OutBwd.Real
public import proofs.«01_k».proof.Proof.Ffn.Finite

@[expose] public section

set_option maxRecDepth 16384

noncomputable section

open Idealize.ShloMosaic

namespace Cert.Pre_out_finite.Read

open Cert.Pre_out_finite Cert.OutReal Cert.Lift
open Cert.Pre_ffn_finite.Read (real_of_all)

instance facts : Cert.Pre_out_finite.Facts where
  bcast_S_S8192x1024 := by decide
  reducesTo_S8192x1024_S_d0_1 := by decide
  h_S_ := by decide
  bcast_S_S2048x1024 := by decide
  reducesTo_S2048x1024_S_d0_1 := by decide
  bcast_S_S1024 := by decide
  reducesTo_S1024_S_d0 := by decide

theorem args_of_fn (x0 x1 x2 : FVec Ideal S8192x1024 .f32) (x3 : FVec Ideal S2048x1024 .f32) (x4 : FVec Ideal S1024 .f32)
    (h : fn (F := Ideal) x0 x1 x2 x3 x4 = fun _ => 1#1) : ∃ p K, Args p K x0 x1 x2 x3 x4 := by
  have h' := congrFun h ix0
  dsimp only [fn, fn_part1] at h'
  simp only [andi, IntOp.andi_eq_one] at h'
  obtain ⟨⟨⟨⟨h0, h1⟩, h2⟩, h3⟩, h4⟩ := h'
  choose r0 e0 using real_of_all x0 _ _ _ _ _ _ h0
  choose r1 e1 using real_of_all x1 _ _ _ _ _ _ h1
  choose r2 e2 using real_of_all x2 _ _ _ _ _ _ h2
  choose r3 e3 using real_of_all x3 _ _ _ _ _ _ h3
  choose r4 e4 using real_of_all x4 _ _ _ _ _ _ h4
  exact ⟨⟨fun k n => r3 (ix2 k n), fun k => r4 (ix1 k)⟩,
    fun i => ⟨fun k => r0 (ix2 i k), fun k => r1 (ix2 i k), fun k => r2 (ix2 i k)⟩,
    ⟨fun _ _ => e0 _, fun _ _ => e1 _, fun _ _ => e2 _, fun _ _ => e3 _, fun _ => e4 _⟩⟩

end Cert.Pre_out_finite.Read
-- ==== Proof.OutBwd.Equal.lean ====
/-
  The output projection's backward kernel and its reference end with the same arrays.
-/
module

public import proofs.«01_k».proof.Defs
public import proofs.«01_k».proof.Proof.OutBwd.Arrays
public import proofs.«01_k».proof.Proof.OutBwd.Ref
public import proofs.«01_k».proof.Proof.OutBwd.Finite
public import Idealize.ShloMosaic.Lib.Claim

@[expose] public section

set_option maxRecDepth 16384

noncomputable section

open Idealize.ShloMosaic Idealize.ShloMosaic.TcCoe Idealize.SL.Sem

namespace Cert.OutBwdEqual

open Cert.OutReal Cert.OutBwdIdeal.Arrays

/-- The reference's frame: it ends, its arguments and every counter as they were. -/
theorem ref_frame : Cert.quiescent_OutBwdRefIdeal := fun m ρ _ => by
  refine (θ_run Cert.OutBwdRefIdeal.defs _ _).mono (fun r h => ⟨fun c => ?_, sem_eq_zero_of_no_sems (by decide) r.2⟩)
    (Cert.OutBwdRefIdeal.Value.run (F := Ideal) m ρ)
  obtain ⟨-, -, -, -, hk⟩ := h c
  exact hk

/-- The points' rows, one point after the other, are all the rows. -/
theorem sum_rows (F : Fin 8192 → ℝ) : ∑ q ∈ Finset.range 16, ∑ i, F (row q i) = ∑ r, F r := by
  rw [Finset.sum_range fun q => ∑ i, F (row q i)]
  rw [← Fintype.sum_prod_type' fun (q : Fin 16) (i : Fin 512) => F (row q.val i)]
  refine Fintype.sum_equiv (finProdFinEquiv (m := 16) (n := 512)) _ _ fun y => congrArg F (Fin.ext ?_)
  have h1 := y.1.isLt
  have h2 := y.2.isLt
  show (512 * y.1.val + y.2.val) % 8192 = y.2.val + 512 * y.1.val
  omega

section Same

variable {p : Par} {K : Fin 8192 → Tok}
  {m : (ℓ : Loc Cert.OutBwdIdeal.nD Cert.OutBwdIdeal.τ Cert.OutBwdIdeal.sig) → Buf (Elt Ideal) ℓ} {c : Dev Cert.OutBwdIdeal.nD}
  {x0 x1 x2 : FVec Ideal (⟨2, ![8192, 1024]⟩ : Shape) .f32} {x3 : FVec Ideal (⟨2, ![2048, 1024]⟩ : Shape) .f32}
  {x4 : FVec Ideal (⟨1, ![1024]⟩ : Shape) .f32}
variable (A : Given p K m c) (B : Args p K x0 x1 x2 x3 x4)
include A B

theorem a_same : (Cert.OutBwdIdeal.Gen.dats m 0 c).arrAt 4 Cert.OutBwdIdeal.cfg0.N
    = Cert.OutBwdRefIdeal.Read.val_main_v41 (F := Ideal) x0 x1 x2 x3 x4 := by
  refine (arr_a A).trans (funext fun y : Cert.OutBwdIdeal.S8192x1024.Idx => ?_)
  rw [eq_ix2 y]
  exact (Cert.OutBwdRefIdeal.Val.main_v41 B (y 0) (y 1)).symm

theorem b_same : (Cert.OutBwdIdeal.Gen.dats m 0 c).arrAt 5 Cert.OutBwdIdeal.cfg0.N
    = Cert.OutBwdRefIdeal.Read.val_main_v42 (F := Ideal) x0 x1 x2 x3 x4 := by
  refine (arr_b A).trans (funext fun y : Cert.OutBwdIdeal.S8192x1024.Idx => ?_)
  rw [eq_ix2 y]
  exact (Cert.OutBwdRefIdeal.Val.main_v42 B (y 0) (y 1)).symm

theorem m_same : (Cert.OutBwdIdeal.Gen.dats m 0 c).arrAt 6 Cert.OutBwdIdeal.cfg0.N
    = Cert.OutBwdRefIdeal.Read.val_main_v43 (F := Ideal) x0 x1 x2 x3 x4 := by
  refine (arr_m A).trans (funext fun y : Cert.OutBwdIdeal.S8192x1024.Idx => ?_)
  rw [eq_ix2 y]
  exact (Cert.OutBwdRefIdeal.Val.main_v43 B (y 0) (y 1)).symm

theorem g_same : (Cert.OutBwdIdeal.Gen.dats m 0 c).arrAt 7 Cert.OutBwdIdeal.cfg0.N
    = Cert.OutBwdRefIdeal.Read.val_main_v44 (F := Ideal) x0 x1 x2 x3 := by
  refine (arr_g A).trans (funext fun y : Cert.OutBwdIdeal.S1x1024.Idx => ?_)
  rw [eq_ix2 y]
  refine Eq.trans ?_ (Cert.OutBwdRefIdeal.Val.main_v44 B (y 0) (y 1)).symm
  exact congrArg (fun z : ℝ => (z : EReal)) (sum_rows fun r => gPart p (K r) (y 1))

end Same

/-- The claim: over real arguments the kernel's run and the reference's end with equal arrays, the arguments unchanged. -/
theorem algebraic : Cert.algebraic_OutBwdIdeal_OutBwdRefIdeal_pre_out_finite := by
  pair_intro
  · run_from Cert.OutBwdIdeal.Value.run_blocks m g
  · refine (θ_run _ _ _).mono (fun r h c => ?_) (Cert.OutBwdRefIdeal.Value.run (F := Ideal) m' g')
    obtain ⟨p, K, A⟩ := Cert.Pre_out_finite.Read.args_of_fn _ _ _ _ _ (hpre c)
    have B := A
    obtain ⟨e0, e1, e2, e3, e4⟩ := hagree c
    rw [← e0, ← e1, ← e2, ← e3, ← e4] at B
    obtain ⟨h0, h1, h2, h3, hk⟩ := h c
    refine ⟨?_, ?_, ?_, ?_, hk⟩
    · exact (h0.trans (Cert.OutBwdRefIdeal.Read.val_main_v41_eq (m := m') (c := c))).trans (a_same A B).symm
    · exact (h1.trans (Cert.OutBwdRefIdeal.Read.val_main_v42_eq (m := m') (c := c))).trans (b_same A B).symm
    · exact (h2.trans (Cert.OutBwdRefIdeal.Read.val_main_v43_eq (m := m') (c := c))).trans (m_same A B).symm
    · exact (h3.trans (Cert.OutBwdRefIdeal.Read.val_main_v44_eq _ _ _ _)).trans (g_same A B).symm

end Cert.OutBwdEqual
-- ==== Proof.Adam.Form.lean ====
/-
  The optimiser's update of one weight at one element, written once for the shards.
-/
module

public import Idealize.ShloMosaic.Lib.Pointwise

@[expose] public section

noncomputable section

namespace Cert.AdamForm

open Idealize.ShloMosaic

/-- The new moments from the gradient and the old ones. -/
def newM (g m : EReal) : EReal := Ideal.ofBits .f32 0x3F666666#32 * m + Ideal.ofBits .f32 0x3DCCCCCD#32 * g
def newV (g v : EReal) : EReal := Ideal.ofBits .f32 0x3F7FBE77#32 * v + Ideal.ofBits .f32 0x3A83126F#32 * (g * g)

/-- The step of the weight: the corrected first moment over the root of the corrected second, and the decay. -/
def delta (g w m v : EReal) : EReal :=
  Ideal.ofBits .f32 0xBA83126F#32 *
    (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

/-- The sum of the devices' parts of a gradient at an element: the own part in the place of its device. -/
def grad (me : BitVec 32) (own : EReal) (landed : Fin 8 → EReal) : EReal :=
  ∑ k : Fin 8, if me = BitVec.ofNat 32 k.val then own else landed k

end Cert.AdamForm
-- ==== Proof.AdamIn.Point.lean ====
/-
  What a grid point of the sharded optimiser kernel leaves, at an index.
-/
module

public import proofs.«01_k».proof.Proof.Gen.AdamInIdeal.Frame
public import proofs.«01_k».proof.Proof.Adam.Form
public import Idealize.ShloMosaic.Lib.Pipeline.ValueKit
public import Idealize.ShloMosaic.Lib.Pipeline.Value
public import Idealize.ShloMosaic.Lib.WordCmp

@[expose] public section

set_option maxRecDepth 16384

noncomputable section

namespace Cert.AdamInIdeal.Point

open Cert.AdamInIdeal Cert.AdamInIdeal.Gen Cert.AdamForm
open Idealize.ShloMosaic Idealize.ShloMosaic.TcCoe Idealize.SL.Sem

/-- One device's part of the block that landed. -/
def part {k : ℕ} (inb : ∀ a, (![k, 0, 0] : Fin 3 → ℕ) a + (![1, 256, 578] : Fin 3 → ℕ) a ≤ S8x256x578.size a)
    (x0 : Vec Ideal S8x256x578 .bf16) : Vec Ideal S1x256x578 .bf16 :=
  View.ld x0 (Rect.unit (s := S8x256x578) ![k, 0, 0] ![1, 256, 578] inb)

theorem part_eq {k : ℕ} (inb) (hk : k < 8) (x0 : FVec Ideal S8x256x578 .bf16) (i : Fin 256) (j : Fin 578) :
    part (k := k) inb x0 (ix3 0 i j) = x0 (ix3 ⟨k, hk⟩ i j) :=
  congrArg x0 (funext fun a => match a with
    | ⟨0, _⟩ => Fin.ext (by show k + 1 * 0 = k; omega)
    | ⟨1, _⟩ => Fin.ext (by show 0 + 1 * i.val = i.val; omega)
    | ⟨2, _⟩ => Fin.ext (by show 0 + 1 * j.val = j.val; omega))

theorem select_cmpi {α : Type} (w k : BitVec 32) (a b : α) : Scalar.select (Scalar.cmpi .eq w k) a b = if w = k then a else b := by
  by_cases h : w = k
  · subst h; simp [Scalar.select, Scalar.cmpi, WordCmp.cmpi_eq_eq]
  · simp [Scalar.select, Scalar.cmpi, WordCmp.cmpi_eq_eq, h]

section Payloads

variable (w : BitVec 32) (x0 : FVec Ideal S8x256x578 .bf16) (x1 : FVec Ideal S1x256x578 .bf16) (x2 x3 x4 : FVec Ideal S256x578 .f32)

/-- The sum of the first seven parts, the own one in the place of its device; and the last part. -/
def seven : FVec Ideal S256x578 .f32 :=
  k0_pay4 (F := Ideal)
    (k0_pay2 w x1 (part inb_S8x256x578_S1x256x578_0_0_0 x0) w x1 (part inb_S8x256x578_S1x256x578_1_0_0 x0)
      w x1 (part inb_S8x256x578_S1x256x578_2_0_0 x0))
    (Scalar.cmpi .eq w 3#32) (k0_pay3 x1) (part inb_S8x256x578_S1x256x578_3_0_0 x0) w x1 (part inb_S8x256x578_S1x256x578_4_0_0 x0)
    w x1 (part inb_S8x256x578_S1x256x578_5_0_0 x0) w x1 (part inb_S8x256x578_S1x256x578_6_0_0 x0)
def eighth : Vec Ideal S1x256x578 .bf16 := part inb_S8x256x578_S1x256x578_7_0_0 x0

/-- The block's gradient at an index. -/
def gB (i : Fin 256) (j : Fin 578) : EReal := grad w (x1 (ix3 0 i j)) fun k => x0 (ix3 k i j)

theorem pay5_eq (i : Fin 256) (j : Fin 578) : k0_pay5 (F := Ideal) (seven w x0 x1) w x1 (eighth x0) (ix2 i j) = gB w x0 x1 i j := by
  unfold gB grad
  rw [Fin.sum_univ_eight]
  pointwise [k0_pay5, seven, k0_pay4, k0_pay2, k0_pay3, eighth]
  simp only [select_cmpi]
  rw [part_eq _ (by norm_num), part_eq _ (by norm_num), part_eq _ (by norm_num), part_eq _ (by norm_num), part_eq _ (by norm_num),
    part_eq _ (by norm_num), part_eq _ (by norm_num), part_eq _ (by norm_num)]
  rfl

theorem pay6_eq (i : Fin 256) (j : Fin 578) :
    k0_pay6 (F := Ideal) (seven w x0 x1) w x1 (eighth x0) x3 (ix2 i j) = newM (gB w x0 x1 i j) (x3 (ix2 i j)) := by
  pointwise [k0_pay6]
  simp only [pay5_eq]
  rfl

theorem pay7_eq (i : Fin 256) (j : Fin 578) :
    k0_pay7 (F := Ideal) (seven w x0 x1) w x1 (eighth x0) x4 (ix2 i j) = newV (gB w x0 x1 i j) (x4 (ix2 i j)) := by
  pointwise [k0_pay7]
  simp only [pay5_eq]
  rfl

/-- The step of the weight as the kernel works it out. -/
def stepB : FVec Ideal S256x578 .f32 :=
  k0_pay1 (F := Ideal) (k0_pay8 (seven w x0 x1) w x1 (eighth x0) x2 x3 x4) (FloatOps.ofBits FTy.f32 0xBA83126F#32)

theorem stepB_eq (i : Fin 256) (j : Fin 578) :
    stepB w x0 x1 x2 x3 x4 (ix2 i j) = delta (gB w x0 x1 i j) (x2 (ix2 i j)) (x3 (ix2 i j)) (x4 (ix2 i j)) := by
  pointwise [stepB, k0_pay1, k0_pay8]
  simp only [pay6_eq, pay7_eq]
  rfl

end Payloads

section Pieces

variable (c : Dev nD) (i : grid0.Coords)
  (arg2 : Memref sig .tc .vmem S8x256x578 .bf16) (harg2 : arg2.IsWhole)  (arg3 : Memref sig .tc .vmem S1x256x578 .bf16) (harg3 : arg3.IsWhole)
  (arg4 : Memref sig .tc .vmem S256x578 .f32) (harg4 : arg4.IsWhole)
  (arg5 : Memref sig .tc .vmem S256x578 .f32) (harg5 : arg5.IsWhole)
  (arg6 : Memref sig .tc .vmem S256x578 .f32) (harg6 : arg6.IsWhole)
  (arg7 : Memref sig .tc .vmem S256x578 .f32) (harg7 : arg7.IsWhole)
  (arg8 : Memref sig .tc .vmem S256x578 .f32) (harg8 : arg8.IsWhole)
  (arg9 : Memref sig .tc .vmem S256x578 .f32) (harg9 : arg9.IsWhole)
  (arg10 : Memref sig .tc .vmem S256x578 .f32) (harg10 : arg10.IsWhole)
  (x0 : Vec Ideal S8x256x578 .bf16) (x1 : Vec Ideal S1x256x578 .bf16) (x2 x3 x4 : Vec Ideal S256x578 .f32)
  (xt : TbBuf0 (F := Ideal) c tbM0_0)

/-- The device's place as the kernel reads it off its table. -/
def wordOf : BitVec 32 := View.read (Elt Ideal) (View.whole main_arg2) xt (Shape.Idx.first (by decide))

theorem wordOf_eq : wordOf c xt = (xt : IVec S1 32) (ix1 0) :=
  congrArg (xt : IVec S1 32) (funext fun a => match a with | ⟨0, _⟩ => Subsingleton.elim (α := Fin 1) _ _)

theorem piece5 : out0_A_5 (F := Ideal) c i arg2 harg2 arg3 harg3 arg4 harg4 arg5 harg5 arg6 harg6 arg7 harg7 arg8 harg8 arg9 harg9 arg10 harg10 x0 x1 x2 x3 x4 xt
    = k0_pay5 (F := Ideal) (seven (wordOf c xt) x0 x1) (wordOf c xt) x1 (eighth x0) := by
  unfold out0_A_5
  frame_out
  rfl

theorem piece6 : out0_A_6 (F := Ideal) c i arg2 harg2 arg3 harg3 arg4 harg4 arg5 harg5 arg6 harg6 arg7 harg7 arg8 harg8 arg9 harg9 arg10 harg10 x0 x1 x2 x3 x4 xt
    = stepB (wordOf c xt) x0 x1 x2 x3 x4 := by
  unfold out0_A_6
  frame_out
  rfl

theorem piece7 : out0_A_7 (F := Ideal) c i arg2 harg2 arg3 harg3 arg4 harg4 arg5 harg5 arg6 harg6 arg7 harg7 arg8 harg8 arg9 harg9 arg10 harg10 x0 x1 x2 x3 x4 xt
    = k0_pay6 (F := Ideal) (seven (wordOf c xt) x0 x1) (wordOf c xt) x1 (eighth x0) x3 := by
  unfold out0_A_7
  frame_out
  rfl

theorem piece8 : out0_A_8 (F := Ideal) c i arg2 harg2 arg3 harg3 arg4 harg4 arg5 harg5 arg6 harg6 arg7 harg7 arg8 harg8 arg9 harg9 arg10 harg10 x0 x1 x2 x3 x4 xt
    = k0_pay7 (F := Ideal) (seven (wordOf c xt) x0 x1) (wordOf c xt) x1 (eighth x0) x4 := by
  unfold out0_A_8
  frame_out
  rfl

end Pieces

variable (m : (ℓ : Loc nD τ sig) → Buf (Elt Ideal) ℓ) (hO : Ok m) (c : Dev nD) (t : Fin (cfgM m hO).N)

/-- The device's place as the kernel reads it. -/
abbrev word : BitVec 32 := wordOf c (tbl m 0)

/-- The blocks of a point: what landed, the own slab, the weight and its moments. -/
abbrev b0 : FVec Ideal S8x256x578 .bf16 := iblk m hO c 0 t
abbrev b1 : FVec Ideal S1x256x578 .bf16 := iblk m hO c 1 t
abbrev b2 : FVec Ideal S256x578 .f32 := iblk m hO c 2 t
abbrev b3 : FVec Ideal S256x578 .f32 := iblk m hO c 3 t
abbrev b4 : FVec Ideal S256x578 .f32 := iblk m hO c 4 t

theorem out5 : (outsAt0 m hO c t).1
    = k0_pay5 (F := Ideal) (seven (word m c) (b0 m hO c t) (b1 m hO c t)) (word m c) (b1 m hO c t) (eighth (b0 m hO c t)) := by
  unfold outsAt0
  dsimp only
  exact piece5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (b0 m hO c t) (b1 m hO c t) (b2 m hO c t) (b3 m hO c t) (b4 m hO c t) (tbl m 0)

theorem out6 : (outsAt0 m hO c t).2.1
    = stepB (word m c) (b0 m hO c t) (b1 m hO c t) (b2 m hO c t) (b3 m hO c t) (b4 m hO c t) := by
  unfold outsAt0
  dsimp only
  exact piece6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (b0 m hO c t) (b1 m hO c t) (b2 m hO c t) (b3 m hO c t) (b4 m hO c t) (tbl m 0)

theorem out7 : (outsAt0 m hO c t).2.2.1
    = k0_pay6 (F := Ideal) (seven (word m c) (b0 m hO c t) (b1 m hO c t)) (word m c) (b1 m hO c t) (eighth (b0 m hO c t)) (b3 m hO c t) := by
  unfold outsAt0
  dsimp only
  exact piece7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (b0 m hO c t) (b1 m hO c t) (b2 m hO c t) (b3 m hO c t) (b4 m hO c t) (tbl m 0)

theorem out8 : (outsAt0 m hO c t).2.2.2
    = k0_pay7 (F := Ideal) (seven (word m c) (b0 m hO c t) (b1 m hO c t)) (word m c) (b1 m hO c t) (eighth (b0 m hO c t)) (b4 m hO c t) := by
  unfold outsAt0
  dsimp only
  exact piece8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (b0 m hO c t) (b1 m hO c t) (b2 m hO c t) (b3 m hO c t) (b4 m hO c t) (tbl m 0)

end Cert.AdamInIdeal.Point
-- ==== Proof.AdamIn.Place.lean ====
/-
  The precondition of the sharded optimiser kernel: the device's place is one of the eight, and so the block the
  table names lies inside its array.
-/
module

public import proofs.«01_k».proof.Defs
public import proofs.«01_k».proof.Proof.Gen.AdamIn.Frame
public import proofs.«01_k».proof.Proof.Gen.AdamInIdeal.Frame
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Pre_place_in.Read

open Cert.Pre_place_in

instance facts : Cert.Pre_place_in.Facts where
  shapeCasts_S1_S_ := by decide

/-- A number between zero and seven, as a signed word, is one of the eight as an unsigned word. -/
theorem small_of {v : BitVec 32} (h0 : IntOp.cmpi .sge v 0#32 = 1#1) (h1 : IntOp.cmpi .slt v 8#32 = 1#1) : v.toNat < 8 := by
  have h0' : (0#32).toInt ≤ v.toInt := by
    by_contra h
    rw [WordCmp.cmpi_sge_eq, decide_eq_false h] at h0
    exact absurd h0 (by decide)
  have h1' : v.toInt < (8#32).toInt := by
    by_contra h
    rw [WordCmp.cmpi_slt_eq, decide_eq_false h] at h1
    exact absurd h1 (by decide)
  have e0 : (0#32).toInt = 0 := by decide
  have e8 : (8#32).toInt = 8 := by decide
  have := v.isLt
  rw [e0] at h0'
  rw [e8] at h1'
  rw [BitVec.toInt_eq_toNat_cond] at h0' h1'
  split at h0' <;> omega

theorem small {F : FTy → Type} [FloatOps F] (x0 x1 : FVec F S8x1024x578 .f32) (x2 : IVec S1 32) (x3 x4 x5 : FVec F S1024x578 .f32)
    (h : fn (F := F) x0 x1 x2 x3 x4 x5 = fun _ => 1#1) : (x2 (ix1 0)).toNat < 8 := by
  have h' := congrFun h ix0
  dsimp only [fn] at h'
  simp only [andi, IntOp.andi_eq_one] at h'
  have e : shapeCast S_ x2 Facts.shapeCasts_S1_S_ ix0 = x2 (ix1 0) := by pointwise
  exact small_of (e ▸ h'.1) (e ▸ h'.2)

end Cert.Pre_place_in.Read

namespace Cert.AdamIn.Place

open Cert.AdamIn Cert.AdamIn.Gen

theorem inside : ∀ (k : Fin 8) (i : grid0.Coords),
    ∃ h : (∀ a, ((![k.val, (i 0).val, 0] : Fin 3 → ℕ) a + 1) * S1x256x578.size a ≤ S8x1024x578.size a),
      EltTy.bits .bf16 = 32 ∨ (Rect.block (s := S8x1024x578) S1x256x578.size ![k.val, (i 0).val, 0] h).WholeWords (EltTy.packing .bf16) := by
  decide +kernel

theorem map_eq {F : FTy → Type} [FloatOps F] (pf : pre0.Contents (Elt F)) (i : grid0.Coords) :
    cc0_transform_1 inb_S1_S1_0 numel1_S1 pf i = ![((pf 0 : IVec S1 32) (ix1 0)).toNat, (i 0).val, 0] := by
  have e : (BitVec.ofNat 32 (i 0).val).toNat = (i 0).val := by
    have : (i 0).val < 4 := (i 0).isLt
    rw [BitVec.toNat_ofNat]
    omega
  have a : (pf.at 0 (Rect.unit (s := S1) ![0] S1.size inb_S1_S1_0) numel1_S1 : BitVec 32) = (pf 0 : IVec S1 32) (ix1 0) :=
    congrArg (pf 0 : IVec S1 32) (funext fun a => match a with | ⟨0, _⟩ => Subsingleton.elim (α := Fin 1) _ _)
  exact congrArg₂ (fun k n : ℕ => ![k, n, 0]) (congrArg BitVec.toNat a) e

theorem ok_of {F : FTy → Type} [FloatOps F] (m : (ℓ : Loc nD τ sig) → Buf (Elt F) ℓ)
    (h : ((m (((0 : Dev nD).tc : Thread nD τ).loc main_arg2) : IVec S1 32) (ix1 0)).toNat < 8) : Ok m := by
  intro i
  have e : tbl m 0 = m (((0 : Dev nD).tc : Thread nD τ).loc main_arg2) := V_main_arg2 m 0
  rw [map_eq, e]
  exact inside ⟨_, h⟩ i

end Cert.AdamIn.Place

namespace Cert.AdamInIdeal.Place

open Cert.AdamInIdeal Cert.AdamInIdeal.Gen

theorem map_eq {F : FTy → Type} [FloatOps F] (pf : pre0.Contents (Elt F)) (i : grid0.Coords) :
    cc0_transform_1 inb_S1_S1_0 numel1_S1 pf i = ![((pf 0 : IVec S1 32) (ix1 0)).toNat, (i 0).val, 0] := Cert.AdamIn.Place.map_eq pf i

theorem ok_of {F : FTy → Type} [FloatOps F] (m : (ℓ : Loc nD τ sig) → Buf (Elt F) ℓ)
    (h : ((m (((0 : Dev nD).tc : Thread nD τ).loc main_arg2) : IVec S1 32) (ix1 0)).toNat < 8) : Ok m := by
  intro i
  have e : tbl m 0 = m (((0 : Dev nD).tc : Thread nD τ).loc main_arg2) := V_main_arg2 m 0
  rw [map_eq, e]
  exact Cert.AdamIn.Place.inside ⟨_, h⟩ i

end Cert.AdamInIdeal.Place

namespace Cert.AdamInEqual

theorem small (m : (ℓ : Loc Cert.AdamInIdeal.nD Cert.AdamInIdeal.τ Cert.AdamInIdeal.sig) → Buf (Elt Ideal) ℓ) (h : Cert.Pre_AdamInIdeal m) :
    ((m (((0 : Dev Cert.AdamInIdeal.nD).tc : Thread Cert.AdamInIdeal.nD Cert.AdamInIdeal.τ).loc Cert.AdamInIdeal.main_arg2) : IVec Cert.AdamInIdeal.S1 32) (ix1 0)).toNat < 8 :=
  Cert.Pre_place_in.Read.small _ _ _ _ _ _ (h 0)

theorem ok_bits (m : (ℓ : Loc Cert.AdamIn.nD Cert.AdamIn.τ Cert.AdamIn.sig) → Buf (Elt Bits) ℓ) (h : Cert.Pre_AdamIn m) : Cert.AdamIn.Gen.Ok m :=
  Cert.AdamIn.Place.ok_of m (Cert.Pre_place_in.Read.small _ _ _ _ _ _ (h 0))

theorem ok_ideal (m : (ℓ : Loc Cert.AdamInIdeal.nD Cert.AdamInIdeal.τ Cert.AdamInIdeal.sig) → Buf (Elt Ideal) ℓ) (h : Cert.Pre_AdamInIdeal m) : Cert.AdamInIdeal.Gen.Ok m :=
  Cert.AdamInIdeal.Place.ok_of m (small m h)

/-- The two frames, under the precondition. -/
theorem frame : Cert.quiescent_AdamIn := fun m ρ h => Cert.AdamIn.Gen.frame m ρ (ok_bits m h)
theorem frame_ideal : Cert.quiescent_AdamInIdeal := fun m ρ h => Cert.AdamInIdeal.Gen.frame m ρ (ok_ideal m h)

end Cert.AdamInEqual
-- ==== Proof.AdamIn.Arrays.lean ====
/-
  The arrays the sharded optimiser kernel ends with: the gradient, the step of the weight and the new moments at every
  element, of the arguments.
-/
module

public import proofs.«01_k».proof.Proof.AdamIn.Point
public import proofs.«01_k».proof.Proof.AdamIn.Place
public import Idealize.ShloMosaic.Lib.Pipeline.Covers
public import Idealize.ShloMosaic.Lib.Claim

@[expose] public section

set_option maxRecDepth 16384

noncomputable section

namespace Cert.AdamInIdeal.Arrays

open Cert.AdamInIdeal Cert.AdamInIdeal.Gen Cert.AdamInIdeal.Point Cert.AdamForm
open Idealize.ShloMosaic Idealize.ShloMosaic.TcCoe Idealize.SL.Sem

variable (m : (ℓ : Loc nD τ sig) → Buf (Elt Ideal) ℓ) (hO : Ok m) (c : Dev nD)

/-- The arguments of device `c`. -/
abbrev argL : FVec Ideal S8x1024x578 .f32 := m ((c : Thread nD τ).loc main_arg0)
abbrev argS : FVec Ideal S8x1024x578 .f32 := m ((c : Thread nD τ).loc main_arg1)
abbrev argD : IVec S1 32 := m ((c : Thread nD τ).loc main_arg2)
abbrev argW : FVec Ideal S1024x578 .f32 := m ((c : Thread nD τ).loc main_arg3)
abbrev argM : FVec Ideal S1024x578 .f32 := m ((c : Thread nD τ).loc main_arg4)
abbrev argV : FVec Ideal S1024x578 .f32 := m ((c : Thread nD τ).loc main_arg5)

theorem l_val (k : Fin 8) (i : Fin 1024) (j : Fin 578) : (V m c main_v0 : FVec Ideal S8x1024x578 .bf16) (ix3 k i j) = argL m c (ix3 k i j) := by
  entry_read; pointwise
theorem s_val (k : Fin 8) (i : Fin 1024) (j : Fin 578) : (V m c main_v1 : FVec Ideal S8x1024x578 .bf16) (ix3 k i j) = argS m c (ix3 k i j) := by
  entry_read; pointwise

theorem word_eq : word m c = argD m c (ix1 0) := by
  have e : tbl m 0 = m ((c : Thread nD τ).loc main_arg2) := (V_pre m c 0).symm.trans (V_main_arg2 m c)
  exact (wordOf_eq c (tbl m 0)).trans (congrFun e (ix1 0))

/-- The row of the arrays that row `i` of point `n`'s tiles is. -/
def row (n : ℕ) (i : Fin 256) : Fin 1024 := ⟨(256 * n + i.val) % 1024, Nat.mod_lt _ (by norm_num)⟩

theorem row_val (t : Fin (cfgM m hO).N) (i : Fin 256) : (row t.val i).val = t.val * 256 + i.val := by
  have : t.val < 4 := t.isLt
  unfold row
  show (256 * t.val + i.val) % 1024 = _
  omega

/-- The index maps: the tiles go along the rows; the own slab's is the device's. -/
theorem maps : ∀ t : Fin grid0.N, cc0_transform_0 (grid0.coords t) = ![0, t.val, 0] ∧ (grid0.coords t 0).val = t.val
    ∧ cc0_transform_2 (grid0.coords t) = ![t.val, 0] ∧ cc0_transform_3 (grid0.coords t) = ![t.val, 0] ∧ cc0_transform_4 (grid0.coords t) = ![t.val, 0]
    ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0] := by
  decide +kernel

section Blocks

variable (t : Fin (cfgM m hO).N)

theorem idx0 : ((cfgM m hO).win 0).index t = ![0, t.val, 0] := (maps t).1
theorem idx1 : ((cfgM m hO).win 1).index t = ![(argD m c (ix1 0)).toNat, t.val, 0] := by
  have e : tbl m 0 = m ((c : Thread nD τ).loc main_arg2) := (V_pre m c 0).symm.trans (V_main_arg2 m c)
  refine (Place.map_eq (tbl m) (grid0.coords t)).trans ?_
  rw [e, (maps t).2.1]
theorem idx2 : ((cfgM m hO).win 2).index t = ![t.val, 0] := (maps t).2.2.1
theorem idx3 : ((cfgM m hO).win 3).index t = ![t.val, 0] := (maps t).2.2.2.1
theorem idx4 : ((cfgM m hO).win 4).index t = ![t.val, 0] := (maps t).2.2.2.2.1
theorem idx5 : ((cfgM m hO).win 5).index t = ![t.val, 0] := (maps t).2.2.2.2.2.1
theorem idx6 : ((cfgM m hO).win 6).index t = ![t.val, 0] := (maps t).2.2.2.2.2.2.1
theorem idx7 : ((cfgM m hO).win 7).index t = ![t.val, 0] := (maps t).2.2.2.2.2.2.2.1
theorem idx8 : ((cfgM m hO).win 8).index t = ![t.val, 0] := (maps t).2.2.2.2.2.2.2.2

theorem l_blk (k : Fin 8) (i : Fin 256) (j : Fin 578) : b0 m hO c t (ix3 k i j) = argL m c (ix3 k (row t.val i) j) := by
  refine Eq.trans ?_ (l_val m c k (row t.val i) j)
  have := row_val m hO t i
  blk_ext [b0, iblk, idx0 m hO t]

theorem s_blk (h : (argD m c (ix1 0)).toNat < 8) (i : Fin 256) (j : Fin 578) :
    b1 m hO c t (ix3 0 i j) = argS m c (ix3 ⟨_, h⟩ (row t.val i) j) := by
  refine Eq.trans ?_ (s_val m c ⟨_, h⟩ (row t.val i) j)
  have := row_val m hO t i
  blk_ext [b1, iblk, idx1 m hO c t]

theorem w_blk (i : Fin 256) (j : Fin 578) : b2 m hO c t (ix2 i j) = argW m c (ix2 (row t.val i) j) := by
  have := row_val m hO t i
  unfold argW
  rw [← V_main_arg3 m c]
  blk_ext [b2, iblk, idx2 m hO t]

theorem m_blk (i : Fin 256) (j : Fin 578) : b3 m hO c t (ix2 i j) = argM m c (ix2 (row t.val i) j) := by
  have := row_val m hO t i
  unfold argM
  rw [← V_main_arg4 m c]
  blk_ext [b3, iblk, idx3 m hO t]

theorem v_blk (i : Fin 256) (j : Fin 578) : b4 m hO c t (ix2 i j) = argV m c (ix2 (row t.val i) j) := by
  have := row_val m hO t i
  unfold argV
  rw [← V_main_arg5 m c]
  blk_ext [b4, iblk, idx4 m hO t]

end Blocks

/-- The gradient at an element, of the arguments. -/
def gA (h : (argD m c (ix1 0)).toNat < 8) (i : Fin 1024) (j : Fin 578) : EReal :=
  grad (argD m c (ix1 0)) (argS m c (ix3 ⟨_, h⟩ i j)) fun k => argL m c (ix3 k i j)

theorem g_blk (h : (argD m c (ix1 0)).toNat < 8) (t : Fin (cfgM m hO).N) (i : Fin 256) (j : Fin 578) :
    gB (word m c) (b0 m hO c t) (b1 m hO c t) i j = gA m c h (row t.val i) j := by
  unfold gB gA
  rw [word_eq, s_blk m hO c t h i j]
  exact congrArg (grad _ _) (funext fun k => l_blk m hO c t k i j)

theorem step_blk (h : (argD m c (ix1 0)).toNat < 8) (t : Fin (cfgM m hO).N) (i : Fin 256) (j : Fin 578) :
    delta (gB (word m c) (b0 m hO c t) (b1 m hO c t) i j) (b2 m hO c t (ix2 i j)) (b3 m hO c t (ix2 i j)) (b4 m hO c t (ix2 i j))
      = delta (gA m c h (row t.val i) j) (argW m c (ix2 (row t.val i) j)) (argM m c (ix2 (row t.val i) j)) (argV m c (ix2 (row t.val i) j)) := by
  rw [g_blk m hO c h t i j, w_blk m hO c t i j, m_blk m hO c t i j, v_blk m hO c t i j]

theorem nm_blk (h : (argD m c (ix1 0)).toNat < 8) (t : Fin (cfgM m hO).N) (i : Fin 256) (j : Fin 578) :
    newM (gB (word m c) (b0 m hO c t) (b1 m hO c t) i j) (b3 m hO c t (ix2 i j)) = newM (gA m c h (row t.val i) j) (argM m c (ix2 (row t.val i) j)) := by
  rw [g_blk m hO c h t i j, m_blk m hO c t i j]

theorem nv_blk (h : (argD m c (ix1 0)).toNat < 8) (t : Fin (cfgM m hO).N) (i : Fin 256) (j : Fin 578) :
    newV (gB (word m c) (b0 m hO c t) (b1 m hO c t) i j) (b4 m hO c t (ix2 i j)) = newV (gA m c h (row t.val i) j) (argV m c (ix2 (row t.val i) j)) := by
  rw [g_blk m hO c h t i j, v_blk m hO c t i j]

/-! ## The arrays -/

theorem surj5 : ∀ (p : Fin 4) (q : Fin 1), ∃ i : grid0.Coords, cc0_transform_5 i = ![p.val, q.val] := by decide +kernel
theorem covers5 : ((cfgM m hO).win 5).Covers := by
  refine Pipeline.Window.covers_of_indexMap_surj _ rfl (fun a => (by decide : ∀ a : Fin 2, 0 < S256x578.size a) a) (fun β => ?_)
  have h0 : ((cfgM m hO).win 5).nblk (0 : Fin 2) = 4 := by
    show (1024 + 256 - 1) / 256 = 4
    norm_num
  have h1 : ((cfgM m hO).win 5).nblk (1 : Fin 2) = 1 := by
    show (578 + 578 - 1) / 578 = 1
    norm_num
  obtain ⟨i, hi⟩ := surj5 ((β (0 : Fin 2)).cast h0) ((β (1 : Fin 2)).cast h1)
  exact ⟨i, fun a => (congrFun hi a).trans (match a with | ⟨0, _⟩ => rfl | ⟨1, _⟩ => rfl)⟩

theorem surj6 : ∀ (p : Fin 4) (q : Fin 1), ∃ i : grid0.Coords, cc0_transform_6 i = ![p.val, q.val] := by decide +kernel
theorem covers6 : ((cfgM m hO).win 6).Covers := by
  refine Pipeline.Window.covers_of_indexMap_surj _ rfl (fun a => (by decide : ∀ a : Fin 2, 0 < S256x578.size a) a) (fun β => ?_)
  have h0 : ((cfgM m hO).win 6).nblk (0 : Fin 2) = 4 := by
    show (1024 + 256 - 1) / 256 = 4
    norm_num
  have h1 : ((cfgM m hO).win 6).nblk (1 : Fin 2) = 1 := by
    show (578 + 578 - 1) / 578 = 1
    norm_num
  obtain ⟨i, hi⟩ := surj6 ((β (0 : Fin 2)).cast h0) ((β (1 : Fin 2)).cast h1)
  exact ⟨i, fun a => (congrFun hi a).trans (match a with | ⟨0, _⟩ => rfl | ⟨1, _⟩ => rfl)⟩

theorem surj7 : ∀ (p : Fin 4) (q : Fin 1), ∃ i : grid0.Coords, cc0_transform_7 i = ![p.val, q.val] := by decide +kernel
theorem covers7 : ((cfgM m hO).win 7).Covers := by
  refine Pipeline.Window.covers_of_indexMap_surj _ rfl (fun a => (by decide : ∀ a : Fin 2, 0 < S256x578.size a) a) (fun β => ?_)
  have h0 : ((cfgM m hO).win 7).nblk (0 : Fin 2) = 4 := by
    show (1024 + 256 - 1) / 256 = 4
    norm_num
  have h1 : ((cfgM m hO).win 7).nblk (1 : Fin 2) = 1 := by
    show (578 + 578 - 1) / 578 = 1
    norm_num
  obtain ⟨i, hi⟩ := surj7 ((β (0 : Fin 2)).cast h0) ((β (1 : Fin 2)).cast h1)
  exact ⟨i, fun a => (congrFun hi a).trans (match a with | ⟨0, _⟩ => rfl | ⟨1, _⟩ => rfl)⟩

theorem surj8 : ∀ (p : Fin 4) (q : Fin 1), ∃ i : grid0.Coords, cc0_transform_8 i = ![p.val, q.val] := by decide +kernel
theorem covers8 : ((cfgM m hO).win 8).Covers := by
  refine Pipeline.Window.covers_of_indexMap_surj _ rfl (fun a => (by decide : ∀ a : Fin 2, 0 < S256x578.size a) a) (fun β => ?_)
  have h0 : ((cfgM m hO).win 8).nblk (0 : Fin 2) = 4 := by
    show (1024 + 256 - 1) / 256 = 4
    norm_num
  have h1 : ((cfgM m hO).win 8).nblk (1 : Fin 2) = 1 := by
    show (578 + 578 - 1) / 578 = 1
    norm_num
  obtain ⟨i, hi⟩ := surj8 ((β (0 : Fin 2)).cast h0) ((β (1 : Fin 2)).cast h1)
  exact ⟨i, fun a => (congrFun hi a).trans (match a with | ⟨0, _⟩ => rfl | ⟨1, _⟩ => rfl)⟩

theorem arr_g (h : (argD m c (ix1 0)).toNat < 8) : ((dats m hO 0 c).arrAt 5 (cfgM m hO).N : FVec Ideal S1024x578 .f32)
    = fun y : S1024x578.Idx => gA m c h (y 0) (y 1) := by
  refine (dats m hO 0 c).arrAt_eq_of_covers 5 (fun y : S1024x578.Idx => gA m c h (y 0) (y 1)) (covers5 m hO) fun t hf (y : S256x578.Idx) => ?_
  have hr := row_val m hO t (y 0)
  have e : (((cfgM m hO).win 5).blk t).view.emb y = ix2 (row t.val (y 0)) (y 1) := by blk_ext [idx5 m hO t]
  blk_simp
  rw [after0_5, e, out5]
  refine ((congrArg _ (eq_ix2 y)).trans (pay5_eq _ _ _ (y 0) (y 1))).trans ?_
  exact g_blk m hO c h t (y 0) (y 1)

theorem arr_step (h : (argD m c (ix1 0)).toNat < 8) : ((dats m hO 0 c).arrAt 6 (cfgM m hO).N : FVec Ideal S1024x578 .f32)
    = fun y : S1024x578.Idx => delta (gA m c h (y 0) (y 1)) (argW m c (ix2 (y 0) (y 1))) (argM m c (ix2 (y 0) (y 1))) (argV m c (ix2 (y 0) (y 1))) := by
  refine (dats m hO 0 c).arrAt_eq_of_covers 6 (fun y : S1024x578.Idx => delta (gA m c h (y 0) (y 1)) (argW m c (ix2 (y 0) (y 1))) (argM m c (ix2 (y 0) (y 1))) (argV m c (ix2 (y 0) (y 1)))) (covers6 m hO) fun t hf (y : S256x578.Idx) => ?_
  have hr := row_val m hO t (y 0)
  have e : (((cfgM m hO).win 6).blk t).view.emb y = ix2 (row t.val (y 0)) (y 1) := by blk_ext [idx6 m hO t]
  blk_simp
  rw [after0_6, e, out6]
  refine ((congrArg _ (eq_ix2 y)).trans (stepB_eq _ _ _ _ _ _ (y 0) (y 1))).trans ?_
  exact step_blk m hO c h t (y 0) (y 1)

theorem arr_m (h : (argD m c (ix1 0)).toNat < 8) : ((dats m hO 0 c).arrAt 7 (cfgM m hO).N : FVec Ideal S1024x578 .f32)
    = fun y : S1024x578.Idx => newM (gA m c h (y 0) (y 1)) (argM m c (ix2 (y 0) (y 1))) := by
  refine (dats m hO 0 c).arrAt_eq_of_covers 7 (fun y : S1024x578.Idx => newM (gA m c h (y 0) (y 1)) (argM m c (ix2 (y 0) (y 1)))) (covers7 m hO) fun t hf (y : S256x578.Idx) => ?_
  have hr := row_val m hO t (y 0)
  have e : (((cfgM m hO).win 7).blk t).view.emb y = ix2 (row t.val (y 0)) (y 1) := by blk_ext [idx7 m hO t]
  blk_simp
  rw [after0_7, e, out7]
  refine ((congrArg _ (eq_ix2 y)).trans (pay6_eq _ _ _ _ (y 0) (y 1))).trans ?_
  exact nm_blk m hO c h t (y 0) (y 1)

theorem arr_v (h : (argD m c (ix1 0)).toNat < 8) : ((dats m hO 0 c).arrAt 8 (cfgM m hO).N : FVec Ideal S1024x578 .f32)
    = fun y : S1024x578.Idx => newV (gA m c h (y 0) (y 1)) (argV m c (ix2 (y 0) (y 1))) := by
  refine (dats m hO 0 c).arrAt_eq_of_covers 8 (fun y : S1024x578.Idx => newV (gA m c h (y 0) (y 1)) (argV m c (ix2 (y 0) (y 1)))) (covers8 m hO) fun t hf (y : S256x578.Idx) => ?_
  have hr := row_val m hO t (y 0)
  have e : (((cfgM m hO).win 8).blk t).view.emb y = ix2 (row t.val (y 0)) (y 1) := by blk_ext [idx8 m hO t]
  blk_simp
  rw [after0_8, e, out8]
  refine ((congrArg _ (eq_ix2 y)).trans (pay7_eq _ _ _ _ (y 0) (y 1))).trans ?_
  exact nv_blk m hO c h t (y 0) (y 1)

end Cert.AdamInIdeal.Arrays
-- ==== Proof.AdamIn.Equal.lean ====
/-
  The sharded optimiser kernel and its reference end with the same arrays, whatever the arguments, the device's place
  being one of the eight.
-/
module

public import proofs.«01_k».proof.Defs
public import proofs.«01_k».proof.Proof.AdamIn.Arrays
public import proofs.«01_k».proof.Proof.Gen.AdamInRefIdeal.Read
public import Idealize.ShloMosaic.Lib.Claim

@[expose] public section

set_option maxRecDepth 16384

noncomputable section

open Idealize.ShloMosaic Idealize.ShloMosaic.TcCoe Idealize.SL.Sem

namespace Cert.AdamInRefIdeal.Val

open Cert.AdamInRefIdeal Cert.AdamInRefIdeal.Read Cert.AdamForm

variable (x0 x1 : FVec Ideal S8x1024x578 .f32) (x2 : IVec S1 32) (x3 x4 x5 : FVec Ideal S1024x578 .f32)

/-- One part of the reference's sum: the own one in the device's place. -/
theorem main_v5 (k : Fin 8) (i : Fin 1024) (j : Fin 578) :
    val_main_v5 (F := Ideal) x0 x1 x2 (ix3 k i j) = if x2 (ix1 0) = BitVec.ofNat 32 k.val then x1 (ix3 k i j) else x0 (ix3 k i j) := by
  have e : val_main_call0_v0 (F := Ideal) x2 (ix3 k i j) = IntOp.cmpi .eq (BitVec.ofNat 32 k.val) (x2 (ix1 0)) := by
    pointwise [val_main_call0_v0, val_main_v4, val_main_v3, val_main_v2, val_main_v1, val_main_v0]
  rw [val_main_v5_apply, e, WordCmp.cmpi_eq_eq]
  by_cases h : x2 (ix1 0) = BitVec.ofNat 32 k.val
  · simp [Scalar.select, h]
  · simp [Scalar.select, h, Ne.symm h]

theorem main_v6 (h : (x2 (ix1 0)).toNat < 8) (i : Fin 1024) (j : Fin 578) :
    val_main_v6 (F := Ideal) x0 x1 x2 (ix2 i j) = grad (x2 (ix1 0)) (x1 (ix3 ⟨_, h⟩ i j)) fun k => x0 (ix3 k i j) := by
  pointwise [val_main_v6, val_main_cst]
  unfold grad
  simp only [main_v5]
  refine Finset.sum_congr rfl fun k _ => ?_
  by_cases e : x2 (ix1 0) = BitVec.ofNat 32 k.val
  · have hk : (⟨(x2 (ix1 0)).toNat, h⟩ : Fin 8) = k := Fin.ext (by
      show (x2 (ix1 0)).toNat = k.val
      rw [e, BitVec.toNat_ofNat]
      exact Nat.mod_eq_of_lt (by omega))
    rw [if_pos e, if_pos e, hk]
  · rw [if_neg e, if_neg e]

theorem main_v11 (i : Fin 1024) (j : Fin 578) :
    val_main_v11 (F := Ideal) x0 x1 x2 x4 (ix2 i j) = newM (val_main_v6 (F := Ideal) x0 x1 x2 (ix2 i j)) (x4 (ix2 i j)) := by
  pointwise [val_main_v11, val_main_v10, val_main_v9, val_main_cst_1, val_main_v8, val_main_v7, val_main_cst_0]
  rfl

theorem main_v17 (i : Fin 1024) (j : Fin 578) :
    val_main_v17 (F := Ideal) x0 x1 x2 x5 (ix2 i j) = newV (val_main_v6 (F := Ideal) x0 x1 x2 (ix2 i j)) (x5 (ix2 i j)) := by
  pointwise [val_main_v17, val_main_v16, val_main_v15, val_main_cst_3, val_main_v14, val_main_v13, val_main_v12, val_main_cst_2]
  rfl

theorem main_v30 (i : Fin 1024) (j : Fin 578) :
    val_main_v30 (F := Ideal) x0 x1 x2 x3 x4 x5 (ix2 i j)
      = delta (val_main_v6 (F := Ideal) x0 x1 x2 (ix2 i j)) (x3 (ix2 i j)) (x4 (ix2 i j)) (x5 (ix2 i j)) := by
  pointwise [val_main_v30, val_main_v29, val_main_cst_8, val_main_v28, val_main_v27, val_main_v26, val_main_cst_7, val_main_v25, val_main_v24,
    val_main_v23, val_main_cst_6, val_main_v22, val_main_v21, val_main_v20, val_main_cst_5, val_main_v19, val_main_v18, val_main_cst_4]
  simp only [main_v11, main_v17]
  rfl

end Cert.AdamInRefIdeal.Val

namespace Cert.AdamInEqual

open Cert.AdamInIdeal.Arrays Cert.AdamInIdeal.Gen

/-- The reference's frame: it ends, its arguments and every counter as they were. -/
theorem ref_frame : Cert.quiescent_AdamInRefIdeal := fun m ρ _ => by
  refine (θ_run Cert.AdamInRefIdeal.defs _ _).mono (fun r h => ⟨fun c => ?_, sem_eq_zero_of_no_sems (by decide) r.2⟩)
    (Cert.AdamInRefIdeal.Value.run (F := Ideal) m ρ)
  obtain ⟨-, -, -, -, hk⟩ := h c
  exact hk

section Run

open Cert.AdamInIdeal

variable (m : (ℓ : Loc nD τ sig) → Buf (Elt Ideal) ℓ) (ρ : Dev nD → PrngReg)

/-- The kernel's run: the four results are what the windows write back, the arguments unchanged. -/
theorem run_blocks (hO : Ok m) : θ_run defs (onTc (τ := τ) (main (F := Ideal))) ⟨m, fun _ => 0, ρ⟩ fun r => ∀ c : Dev nD,
      r.2.mem ((c.tc : Thread nD τ).loc main_v2_0) = (dats m hO 0 c).arrAt 5 (cfgM m hO).N
      ∧ r.2.mem ((c.tc : Thread nD τ).loc main_v2_1) = (dats m hO 0 c).arrAt 6 (cfgM m hO).N
      ∧ r.2.mem ((c.tc : Thread nD τ).loc main_v2_2) = (dats m hO 0 c).arrAt 7 (cfgM m hO).N
      ∧ r.2.mem ((c.tc : Thread nD τ).loc main_v2_3) = (dats m hO 0 c).arrAt 8 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.2 c).1 5, (h.2 c).1 6, (h.2 c).1 7, (h.2 c).1 8, h.1 c⟩)
    (θ_run_and (unchanged m ρ hO) (run_main m ρ hO))

end Run

section Same

variable (m : (ℓ : Loc Cert.AdamInIdeal.nD Cert.AdamInIdeal.τ Cert.AdamInIdeal.sig) → Buf (Elt Ideal) ℓ) (hO : Ok m) (c : Dev Cert.AdamInIdeal.nD)
  (h : (argD m c (ix1 0)).toNat < 8)
include h

theorem g_same : (dats m hO 0 c).arrAt 5 (cfgM m hO).N
    = Cert.AdamInRefIdeal.Read.val_main_v6 (F := Ideal) (argL m c) (argS m c) (argD m c) := by
  refine (arr_g m hO c h).trans (funext fun y : Cert.AdamInIdeal.S1024x578.Idx => ?_)
  rw [eq_ix2 y]
  exact (Cert.AdamInRefIdeal.Val.main_v6 _ _ _ h (y 0) (y 1)).symm

theorem step_same : (dats m hO 0 c).arrAt 6 (cfgM m hO).N
    = Cert.AdamInRefIdeal.Read.val_main_v30 (F := Ideal) (argL m c) (argS m c) (argD m c) (argW m c) (argM m c) (argV m c) := by
  refine (arr_step m hO c h).trans (funext fun y : Cert.AdamInIdeal.S1024x578.Idx => ?_)
  rw [eq_ix2 y]
  refine Eq.trans ?_ (Cert.AdamInRefIdeal.Val.main_v30 _ _ _ _ _ _ (y 0) (y 1)).symm
  rw [Cert.AdamInRefIdeal.Val.main_v6 _ _ _ h (y 0) (y 1)]
  rfl

theorem m_same : (dats m hO 0 c).arrAt 7 (cfgM m hO).N
    = Cert.AdamInRefIdeal.Read.val_main_v11 (F := Ideal) (argL m c) (argS m c) (argD m c) (argM m c) := by
  refine (arr_m m hO c h).trans (funext fun y : Cert.AdamInIdeal.S1024x578.Idx => ?_)
  rw [eq_ix2 y]
  refine Eq.trans ?_ (Cert.AdamInRefIdeal.Val.main_v11 _ _ _ _ (y 0) (y 1)).symm
  rw [Cert.AdamInRefIdeal.Val.main_v6 _ _ _ h (y 0) (y 1)]
  rfl

theorem v_same : (dats m hO 0 c).arrAt 8 (cfgM m hO).N
    = Cert.AdamInRefIdeal.Read.val_main_v17 (F := Ideal) (argL m c) (argS m c) (argD m c) (argV m c) := by
  refine (arr_v m hO c h).trans (funext fun y : Cert.AdamInIdeal.S1024x578.Idx => ?_)
  rw [eq_ix2 y]
  refine Eq.trans ?_ (Cert.AdamInRefIdeal.Val.main_v17 _ _ _ _ (y 0) (y 1)).symm
  rw [Cert.AdamInRefIdeal.Val.main_v6 _ _ _ h (y 0) (y 1)]
  rfl

end Same

/-- The claim: the kernel's run and the reference's end with equal arrays, the arguments unchanged. -/
theorem algebraic : Cert.algebraic_AdamInIdeal_AdamInRefIdeal := by
  pair_intro
  · run_from run_blocks m g (ok_ideal m hpre)
  · refine (θ_run _ _ _).mono (fun r h c => ?_) (Cert.AdamInRefIdeal.Value.run (F := Ideal) m' g')
    have hs : (argD m c (ix1 0)).toNat < 8 := Cert.Pre_place_in.Read.small _ _ _ _ _ _ (hpre c)
    obtain ⟨e0, e1, e2, e3, e4, e5⟩ := hagree c
    obtain ⟨h0, h1, h2, h3, hk⟩ := h c
    refine ⟨?_, ?_, ?_, ?_, hk⟩
    · rw [h0, Cert.AdamInRefIdeal.Read.val_main_v6_eq, e0, e1, e2]
      exact (g_same m (ok_ideal m hpre) c hs).symm
    · rw [h1, Cert.AdamInRefIdeal.Read.val_main_v30_eq, e0, e1, e2, e3, e4, e5]
      exact (step_same m (ok_ideal m hpre) c hs).symm
    · rw [h2, Cert.AdamInRefIdeal.Read.val_main_v11_eq, e0, e1, e2, e4]
      exact (m_same m (ok_ideal m hpre) c hs).symm
    · rw [h3, Cert.AdamInRefIdeal.Read.val_main_v17_eq, e0, e1, e2, e5]
      exact (v_same m (ok_ideal m hpre) c hs).symm

end Cert.AdamInEqual
-- ==== Proof.AdamOut.Point.lean ====
/-
  What a grid point of the sharded optimiser kernel leaves, at an index.
-/
module

public import proofs.«01_k».proof.Proof.Gen.AdamOutIdeal.Frame
public import proofs.«01_k».proof.Proof.Adam.Form
public import Idealize.ShloMosaic.Lib.Pipeline.ValueKit
public import Idealize.ShloMosaic.Lib.Pipeline.Value
public import Idealize.ShloMosaic.Lib.WordCmp

@[expose] public section

set_option maxRecDepth 16384

noncomputable section

namespace Cert.AdamOutIdeal.Point

open Cert.AdamOutIdeal Cert.AdamOutIdeal.Gen Cert.AdamForm
open Idealize.ShloMosaic Idealize.ShloMosaic.TcCoe Idealize.SL.Sem

/-- One device's part of the block that landed. -/
def part {k : ℕ} (inb : ∀ a, (![k, 0, 0] : Fin 3 → ℕ) a + (![1, 128, 1024] : Fin 3 → ℕ) a ≤ S8x128x1024.size a)
    (x0 : Vec Ideal S8x128x1024 .bf16) : Vec Ideal S1x128x1024 .bf16 :=
  View.ld x0 (Rect.unit (s := S8x128x1024) ![k, 0, 0] ![1, 128, 1024] inb)

theorem part_eq {k : ℕ} (inb) (hk : k < 8) (x0 : FVec Ideal S8x128x1024 .bf16) (i : Fin 128) (j : Fin 1024) :
    part (k := k) inb x0 (ix3 0 i j) = x0 (ix3 ⟨k, hk⟩ i j) :=
  congrArg x0 (funext fun a => match a with
    | ⟨0, _⟩ => Fin.ext (by show k + 1 * 0 = k; omega)
    | ⟨1, _⟩ => Fin.ext (by show 0 + 1 * i.val = i.val; omega)
    | ⟨2, _⟩ => Fin.ext (by show 0 + 1 * j.val = j.val; omega))

theorem select_cmpi {α : Type} (w k : BitVec 32) (a b : α) : Scalar.select (Scalar.cmpi .eq w k) a b = if w = k then a else b := by
  by_cases h : w = k
  · subst h; simp [Scalar.select, Scalar.cmpi, WordCmp.cmpi_eq_eq]
  · simp [Scalar.select, Scalar.cmpi, WordCmp.cmpi_eq_eq, h]

section Payloads

variable (w : BitVec 32) (x0 : FVec Ideal S8x128x1024 .bf16) (x1 : FVec Ideal S1x128x1024 .bf16) (x2 x3 x4 : FVec Ideal S128x1024 .f32)

/-- The sum of the first seven parts, the own one in the place of its device; and the last part. -/
def seven : FVec Ideal S128x1024 .f32 :=
  k0_pay4 (F := Ideal)
    (k0_pay2 w x1 (part inb_S8x128x1024_S1x128x1024_0_0_0 x0) w x1 (part inb_S8x128x1024_S1x128x1024_1_0_0 x0)
      w x1 (part inb_S8x128x1024_S1x128x1024_2_0_0 x0))
    (Scalar.cmpi .eq w 3#32) (k0_pay3 x1) (part inb_S8x128x1024_S1x128x1024_3_0_0 x0) w x1 (part inb_S8x128x1024_S1x128x1024_4_0_0 x0)
    w x1 (part inb_S8x128x1024_S1x128x1024_5_0_0 x0) w x1 (part inb_S8x128x1024_S1x128x1024_6_0_0 x0)
def eighth : Vec Ideal S1x128x1024 .bf16 := part inb_S8x128x1024_S1x128x1024_7_0_0 x0

/-- The block's gradient at an index. -/
def gB (i : Fin 128) (j : Fin 1024) : EReal := grad w (x1 (ix3 0 i j)) fun k => x0 (ix3 k i j)

theorem pay5_eq (i : Fin 128) (j : Fin 1024) : k0_pay5 (F := Ideal) (seven w x0 x1) w x1 (eighth x0) (ix2 i j) = gB w x0 x1 i j := by
  unfold gB grad
  rw [Fin.sum_univ_eight]
  pointwise [k0_pay5, seven, k0_pay4, k0_pay2, k0_pay3, eighth]
  simp only [select_cmpi]
  rw [part_eq _ (by norm_num), part_eq _ (by norm_num), part_eq _ (by norm_num), part_eq _ (by norm_num), part_eq _ (by norm_num),
    part_eq _ (by norm_num), part_eq _ (by norm_num), part_eq _ (by norm_num)]
  rfl

theorem pay6_eq (i : Fin 128) (j : Fin 1024) :
    k0_pay6 (F := Ideal) (seven w x0 x1) w x1 (eighth x0) x3 (ix2 i j) = newM (gB w x0 x1 i j) (x3 (ix2 i j)) := by
  pointwise [k0_pay6]
  simp only [pay5_eq]
  rfl

theorem pay7_eq (i : Fin 128) (j : Fin 1024) :
    k0_pay7 (F := Ideal) (seven w x0 x1) w x1 (eighth x0) x4 (ix2 i j) = newV (gB w x0 x1 i j) (x4 (ix2 i j)) := by
  pointwise [k0_pay7]
  simp only [pay5_eq]
  rfl

/-- The step of the weight as the kernel works it out. -/
def stepB : FVec Ideal S128x1024 .f32 :=
  k0_pay1 (F := Ideal) (k0_pay8 (seven w x0 x1) w x1 (eighth x0) x2 x3 x4) (FloatOps.ofBits FTy.f32 0xBA83126F#32)

theorem stepB_eq (i : Fin 128) (j : Fin 1024) :
    stepB w x0 x1 x2 x3 x4 (ix2 i j) = delta (gB w x0 x1 i j) (x2 (ix2 i j)) (x3 (ix2 i j)) (x4 (ix2 i j)) := by
  pointwise [stepB, k0_pay1, k0_pay8]
  simp only [pay6_eq, pay7_eq]
  rfl

end Payloads

section Pieces

variable (c : Dev nD) (i : grid0.Coords)
  (arg2 : Memref sig .tc .vmem S8x128x1024 .bf16) (harg2 : arg2.IsWhole)  (arg3 : Memref sig .tc .vmem S1x128x1024 .bf16) (harg3 : arg3.IsWhole)
  (arg4 : Memref sig .tc .vmem S128x1024 .f32) (harg4 : arg4.IsWhole)
  (arg5 : Memref sig .tc .vmem S128x1024 .f32) (harg5 : arg5.IsWhole)
  (arg6 : Memref sig .tc .vmem S128x1024 .f32) (harg6 : arg6.IsWhole)
  (arg7 : Memref sig .tc .vmem S128x1024 .f32) (harg7 : arg7.IsWhole)
  (arg8 : Memref sig .tc .vmem S128x1024 .f32) (harg8 : arg8.IsWhole)
  (arg9 : Memref sig .tc .vmem S128x1024 .f32) (harg9 : arg9.IsWhole)
  (arg10 : Memref sig .tc .vmem S128x1024 .f32) (harg10 : arg10.IsWhole)
  (x0 : Vec Ideal S8x128x1024 .bf16) (x1 : Vec Ideal S1x128x1024 .bf16) (x2 x3 x4 : Vec Ideal S128x1024 .f32)
  (xt : TbBuf0 (F := Ideal) c tbM0_0)

/-- The device's place as the kernel reads it off its table. -/
def wordOf : BitVec 32 := View.read (Elt Ideal) (View.whole main_arg2) xt (Shape.Idx.first (by decide))

theorem wordOf_eq : wordOf c xt = (xt : IVec S1 32) (ix1 0) :=
  congrArg (xt : IVec S1 32) (funext fun a => match a with | ⟨0, _⟩ => Subsingleton.elim (α := Fin 1) _ _)

theorem piece5 : out0_A_5 (F := Ideal) c i arg2 harg2 arg3 harg3 arg4 harg4 arg5 harg5 arg6 harg6 arg7 harg7 arg8 harg8 arg9 harg9 arg10 harg10 x0 x1 x2 x3 x4 xt
    = k0_pay5 (F := Ideal) (seven (wordOf c xt) x0 x1) (wordOf c xt) x1 (eighth x0) := by
  unfold out0_A_5
  frame_out
  rfl

theorem piece6 : out0_A_6 (F := Ideal) c i arg2 harg2 arg3 harg3 arg4 harg4 arg5 harg5 arg6 harg6 arg7 harg7 arg8 harg8 arg9 harg9 arg10 harg10 x0 x1 x2 x3 x4 xt
    = stepB (wordOf c xt) x0 x1 x2 x3 x4 := by
  unfold out0_A_6
  frame_out
  rfl

theorem piece7 : out0_A_7 (F := Ideal) c i arg2 harg2 arg3 harg3 arg4 harg4 arg5 harg5 arg6 harg6 arg7 harg7 arg8 harg8 arg9 harg9 arg10 harg10 x0 x1 x2 x3 x4 xt
    = k0_pay6 (F := Ideal) (seven (wordOf c xt) x0 x1) (wordOf c xt) x1 (eighth x0) x3 := by
  unfold out0_A_7
  frame_out
  rfl

theorem piece8 : out0_A_8 (F := Ideal) c i arg2 harg2 arg3 harg3 arg4 harg4 arg5 harg5 arg6 harg6 arg7 harg7 arg8 harg8 arg9 harg9 arg10 harg10 x0 x1 x2 x3 x4 xt
    = k0_pay7 (F := Ideal) (seven (wordOf c xt) x0 x1) (wordOf c xt) x1 (eighth x0) x4 := by
  unfold out0_A_8
  frame_out
  rfl

end Pieces

variable (m : (ℓ : Loc nD τ sig) → Buf (Elt Ideal) ℓ) (hO : Ok m) (c : Dev nD) (t : Fin (cfgM m hO).N)

/-- The device's place as the kernel reads it. -/
abbrev word : BitVec 32 := wordOf c (tbl m 0)

/-- The blocks of a point: what landed, the own slab, the weight and its moments. -/
abbrev b0 : FVec Ideal S8x128x1024 .bf16 := iblk m hO c 0 t
abbrev b1 : FVec Ideal S1x128x1024 .bf16 := iblk m hO c 1 t
abbrev b2 : FVec Ideal S128x1024 .f32 := iblk m hO c 2 t
abbrev b3 : FVec Ideal S128x1024 .f32 := iblk m hO c 3 t
abbrev b4 : FVec Ideal S128x1024 .f32 := iblk m hO c 4 t

theorem out5 : (outsAt0 m hO c t).1
    = k0_pay5 (F := Ideal) (seven (word m c) (b0 m hO c t) (b1 m hO c t)) (word m c) (b1 m hO c t) (eighth (b0 m hO c t)) := by
  unfold outsAt0
  dsimp only
  exact piece5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (b0 m hO c t) (b1 m hO c t) (b2 m hO c t) (b3 m hO c t) (b4 m hO c t) (tbl m 0)

theorem out6 : (outsAt0 m hO c t).2.1
    = stepB (word m c) (b0 m hO c t) (b1 m hO c t) (b2 m hO c t) (b3 m hO c t) (b4 m hO c t) := by
  unfold outsAt0
  dsimp only
  exact piece6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (b0 m hO c t) (b1 m hO c t) (b2 m hO c t) (b3 m hO c t) (b4 m hO c t) (tbl m 0)

theorem out7 : (outsAt0 m hO c t).2.2.1
    = k0_pay6 (F := Ideal) (seven (word m c) (b0 m hO c t) (b1 m hO c t)) (word m c) (b1 m hO c t) (eighth (b0 m hO c t)) (b3 m hO c t) := by
  unfold outsAt0
  dsimp only
  exact piece7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (b0 m hO c t) (b1 m hO c t) (b2 m hO c t) (b3 m hO c t) (b4 m hO c t) (tbl m 0)

theorem out8 : (outsAt0 m hO c t).2.2.2
    = k0_pay7 (F := Ideal) (seven (word m c) (b0 m hO c t) (b1 m hO c t)) (word m c) (b1 m hO c t) (eighth (b0 m hO c t)) (b4 m hO c t) := by
  unfold outsAt0
  dsimp only
  exact piece8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (b0 m hO c t) (b1 m hO c t) (b2 m hO c t) (b3 m hO c t) (b4 m hO c t) (tbl m 0)

end Cert.AdamOutIdeal.Point
-- ==== Proof.AdamOut.Place.lean ====
/-
  The precondition of the sharded optimiser kernel: the device's place is one of the eight, and so the block the
  table names lies inside its array.
-/
module

public import proofs.«01_k».proof.Defs
public import proofs.«01_k».proof.Proof.Gen.AdamOut.Frame
public import proofs.«01_k».proof.Proof.Gen.AdamOutIdeal.Frame
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Pre_place_out.Read

open Cert.Pre_place_out

instance facts : Cert.Pre_place_out.Facts where
  shapeCasts_S1_S_ := by decide

/-- A number between zero and seven, as a signed word, is one of the eight as an unsigned word. -/
theorem small_of {v : BitVec 32} (h0 : IntOp.cmpi .sge v 0#32 = 1#1) (h1 : IntOp.cmpi .slt v 8#32 = 1#1) : v.toNat < 8 := by
  have h0' : (0#32).toInt ≤ v.toInt := by
    by_contra h
    rw [WordCmp.cmpi_sge_eq, decide_eq_false h] at h0
    exact absurd h0 (by decide)
  have h1' : v.toInt < (8#32).toInt := by
    by_contra h
    rw [WordCmp.cmpi_slt_eq, decide_eq_false h] at h1
    exact absurd h1 (by decide)
  have e0 : (0#32).toInt = 0 := by decide
  have e8 : (8#32).toInt = 8 := by decide
  have := v.isLt
  rw [e0] at h0'
  rw [e8] at h1'
  rw [BitVec.toInt_eq_toNat_cond] at h0' h1'
  split at h0' <;> omega

theorem small {F : FTy → Type} [FloatOps F] (x0 x1 : FVec F S8x256x1024 .f32) (x2 : IVec S1 32) (x3 x4 x5 : FVec F S256x1024 .f32)
    (h : fn (F := F) x0 x1 x2 x3 x4 x5 = fun _ => 1#1) : (x2 (ix1 0)).toNat < 8 := by
  have h' := congrFun h ix0
  dsimp only [fn] at h'
  simp only [andi, IntOp.andi_eq_one] at h'
  have e : shapeCast S_ x2 Facts.shapeCasts_S1_S_ ix0 = x2 (ix1 0) := by pointwise
  exact small_of (e ▸ h'.1) (e ▸ h'.2)

end Cert.Pre_place_out.Read

namespace Cert.AdamOut.Place

open Cert.AdamOut Cert.AdamOut.Gen

theorem inside : ∀ (k : Fin 8) (i : grid0.Coords),
    ∃ h : (∀ a, ((![k.val, (i 0).val, 0] : Fin 3 → ℕ) a + 1) * S1x128x1024.size a ≤ S8x256x1024.size a),
      EltTy.bits .bf16 = 32 ∨ (Rect.block (s := S8x256x1024) S1x128x1024.size ![k.val, (i 0).val, 0] h).WholeWords (EltTy.packing .bf16) := by
  decide +kernel

theorem map_eq {F : FTy → Type} [FloatOps F] (pf : pre0.Contents (Elt F)) (i : grid0.Coords) :
    cc0_transform_1 inb_S1_S1_0 numel1_S1 pf i = ![((pf 0 : IVec S1 32) (ix1 0)).toNat, (i 0).val, 0] := by
  have e : (BitVec.ofNat 32 (i 0).val).toNat = (i 0).val := by
    have : (i 0).val < 2 := (i 0).isLt
    rw [BitVec.toNat_ofNat]
    omega
  have a : (pf.at 0 (Rect.unit (s := S1) ![0] S1.size inb_S1_S1_0) numel1_S1 : BitVec 32) = (pf 0 : IVec S1 32) (ix1 0) :=
    congrArg (pf 0 : IVec S1 32) (funext fun a => match a with | ⟨0, _⟩ => Subsingleton.elim (α := Fin 1) _ _)
  exact congrArg₂ (fun k n : ℕ => ![k, n, 0]) (congrArg BitVec.toNat a) e

theorem ok_of {F : FTy → Type} [FloatOps F] (m : (ℓ : Loc nD τ sig) → Buf (Elt F) ℓ)
    (h : ((m (((0 : Dev nD).tc : Thread nD τ).loc main_arg2) : IVec S1 32) (ix1 0)).toNat < 8) : Ok m := by
  intro i
  have e : tbl m 0 = m (((0 : Dev nD).tc : Thread nD τ).loc main_arg2) := V_main_arg2 m 0
  rw [map_eq, e]
  exact inside ⟨_, h⟩ i

end Cert.AdamOut.Place

namespace Cert.AdamOutIdeal.Place

open Cert.AdamOutIdeal Cert.AdamOutIdeal.Gen

theorem map_eq {F : FTy → Type} [FloatOps F] (pf : pre0.Contents (Elt F)) (i : grid0.Coords) :
    cc0_transform_1 inb_S1_S1_0 numel1_S1 pf i = ![((pf 0 : IVec S1 32) (ix1 0)).toNat, (i 0).val, 0] := Cert.AdamOut.Place.map_eq pf i

theorem ok_of {F : FTy → Type} [FloatOps F] (m : (ℓ : Loc nD τ sig) → Buf (Elt F) ℓ)
    (h : ((m (((0 : Dev nD).tc : Thread nD τ).loc main_arg2) : IVec S1 32) (ix1 0)).toNat < 8) : Ok m := by
  intro i
  have e : tbl m 0 = m (((0 : Dev nD).tc : Thread nD τ).loc main_arg2) := V_main_arg2 m 0
  rw [map_eq, e]
  exact Cert.AdamOut.Place.inside ⟨_, h⟩ i

end Cert.AdamOutIdeal.Place

namespace Cert.AdamOutEqual

theorem small (m : (ℓ : Loc Cert.AdamOutIdeal.nD Cert.AdamOutIdeal.τ Cert.AdamOutIdeal.sig) → Buf (Elt Ideal) ℓ) (h : Cert.Pre_AdamOutIdeal m) :
    ((m (((0 : Dev Cert.AdamOutIdeal.nD).tc : Thread Cert.AdamOutIdeal.nD Cert.AdamOutIdeal.τ).loc Cert.AdamOutIdeal.main_arg2) : IVec Cert.AdamOutIdeal.S1 32) (ix1 0)).toNat < 8 :=
  Cert.Pre_place_out.Read.small _ _ _ _ _ _ (h 0)

theorem ok_bits (m : (ℓ : Loc Cert.AdamOut.nD Cert.AdamOut.τ Cert.AdamOut.sig) → Buf (Elt Bits) ℓ) (h : Cert.Pre_AdamOut m) : Cert.AdamOut.Gen.Ok m :=
  Cert.AdamOut.Place.ok_of m (Cert.Pre_place_out.Read.small _ _ _ _ _ _ (h 0))

theorem ok_ideal (m : (ℓ : Loc Cert.AdamOutIdeal.nD Cert.AdamOutIdeal.τ Cert.AdamOutIdeal.sig) → Buf (Elt Ideal) ℓ) (h : Cert.Pre_AdamOutIdeal m) : Cert.AdamOutIdeal.Gen.Ok m :=
  Cert.AdamOutIdeal.Place.ok_of m (small m h)

/-- The two frames, under the precondition. -/
theorem frame : Cert.quiescent_AdamOut := fun m ρ h => Cert.AdamOut.Gen.frame m ρ (ok_bits m h)
theorem frame_ideal : Cert.quiescent_AdamOutIdeal := fun m ρ h => Cert.AdamOutIdeal.Gen.frame m ρ (ok_ideal m h)

end Cert.AdamOutEqual
-- ==== Proof.AdamOut.Arrays.lean ====
/-
  The arrays the sharded optimiser kernel ends with: the gradient, the step of the weight and the new moments at every
  element, of the arguments.
-/
module

public import proofs.«01_k».proof.Proof.AdamOut.Point
public import proofs.«01_k».proof.Proof.AdamOut.Place
public import Idealize.ShloMosaic.Lib.Pipeline.Covers
public import Idealize.ShloMosaic.Lib.Claim

@[expose] public section

set_option maxRecDepth 16384

noncomputable section

namespace Cert.AdamOutIdeal.Arrays

open Cert.AdamOutIdeal Cert.AdamOutIdeal.Gen Cert.AdamOutIdeal.Point Cert.AdamForm
open Idealize.ShloMosaic Idealize.ShloMosaic.TcCoe Idealize.SL.Sem

variable (m : (ℓ : Loc nD τ sig) → Buf (Elt Ideal) ℓ) (hO : Ok m) (c : Dev nD)

/-- The arguments of device `c`. -/
abbrev argL : FVec Ideal S8x256x1024 .f32 := m ((c : Thread nD τ).loc main_arg0)
abbrev argS : FVec Ideal S8x256x1024 .f32 := m ((c : Thread nD τ).loc main_arg1)
abbrev argD : IVec S1 32 := m ((c : Thread nD τ).loc main_arg2)
abbrev argW : FVec Ideal S256x1024 .f32 := m ((c : Thread nD τ).loc main_arg3)
abbrev argM : FVec Ideal S256x1024 .f32 := m ((c : Thread nD τ).loc main_arg4)
abbrev argV : FVec Ideal S256x1024 .f32 := m ((c : Thread nD τ).loc main_arg5)

theorem l_val (k : Fin 8) (i : Fin 256) (j : Fin 1024) : (V m c main_v0 : FVec Ideal S8x256x1024 .bf16) (ix3 k i j) = argL m c (ix3 k i j) := by
  entry_read; pointwise
theorem s_val (k : Fin 8) (i : Fin 256) (j : Fin 1024) : (V m c main_v1 : FVec Ideal S8x256x1024 .bf16) (ix3 k i j) = argS m c (ix3 k i j) := by
  entry_read; pointwise

theorem word_eq : word m c = argD m c (ix1 0) := by
  have e : tbl m 0 = m ((c : Thread nD τ).loc main_arg2) := (V_pre m c 0).symm.trans (V_main_arg2 m c)
  exact (wordOf_eq c (tbl m 0)).trans (congrFun e (ix1 0))

/-- The row of the arrays that row `i` of point `n`'s tiles is. -/
def row (n : ℕ) (i : Fin 128) : Fin 256 := ⟨(128 * n + i.val) % 256, Nat.mod_lt _ (by norm_num)⟩

theorem row_val (t : Fin (cfgM m hO).N) (i : Fin 128) : (row t.val i).val = t.val * 128 + i.val := by
  have : t.val < 2 := t.isLt
  unfold row
  show (128 * t.val + i.val) % 256 = _
  omega

/-- The index maps: the tiles go along the rows; the own slab's is the device's. -/
theorem maps : ∀ t : Fin grid0.N, cc0_transform_0 (grid0.coords t) = ![0, t.val, 0] ∧ (grid0.coords t 0).val = t.val
    ∧ cc0_transform_2 (grid0.coords t) = ![t.val, 0] ∧ cc0_transform_3 (grid0.coords t) = ![t.val, 0] ∧ cc0_transform_4 (grid0.coords t) = ![t.val, 0]
    ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0] := by
  decide +kernel

section Blocks

variable (t : Fin (cfgM m hO).N)

theorem idx0 : ((cfgM m hO).win 0).index t = ![0, t.val, 0] := (maps t).1
theorem idx1 : ((cfgM m hO).win 1).index t = ![(argD m c (ix1 0)).toNat, t.val, 0] := by
  have e : tbl m 0 = m ((c : Thread nD τ).loc main_arg2) := (V_pre m c 0).symm.trans (V_main_arg2 m c)
  refine (Place.map_eq (tbl m) (grid0.coords t)).trans ?_
  rw [e, (maps t).2.1]
theorem idx2 : ((cfgM m hO).win 2).index t = ![t.val, 0] := (maps t).2.2.1
theorem idx3 : ((cfgM m hO).win 3).index t = ![t.val, 0] := (maps t).2.2.2.1
theorem idx4 : ((cfgM m hO).win 4).index t = ![t.val, 0] := (maps t).2.2.2.2.1
theorem idx5 : ((cfgM m hO).win 5).index t = ![t.val, 0] := (maps t).2.2.2.2.2.1
theorem idx6 : ((cfgM m hO).win 6).index t = ![t.val, 0] := (maps t).2.2.2.2.2.2.1
theorem idx7 : ((cfgM m hO).win 7).index t = ![t.val, 0] := (maps t).2.2.2.2.2.2.2.1
theorem idx8 : ((cfgM m hO).win 8).index t = ![t.val, 0] := (maps t).2.2.2.2.2.2.2.2

theorem l_blk (k : Fin 8) (i : Fin 128) (j : Fin 1024) : b0 m hO c t (ix3 k i j) = argL m c (ix3 k (row t.val i) j) := by
  refine Eq.trans ?_ (l_val m c k (row t.val i) j)
  have := row_val m hO t i
  blk_ext [b0, iblk, idx0 m hO t]

theorem s_blk (h : (argD m c (ix1 0)).toNat < 8) (i : Fin 128) (j : Fin 1024) :
    b1 m hO c t (ix3 0 i j) = argS m c (ix3 ⟨_, h⟩ (row t.val i) j) := by
  refine Eq.trans ?_ (s_val m c ⟨_, h⟩ (row t.val i) j)
  have := row_val m hO t i
  blk_ext [b1, iblk, idx1 m hO c t]

theorem w_blk (i : Fin 128) (j : Fin 1024) : b2 m hO c t (ix2 i j) = argW m c (ix2 (row t.val i) j) := by
  have := row_val m hO t i
  unfold argW
  rw [← V_main_arg3 m c]
  blk_ext [b2, iblk, idx2 m hO t]

theorem m_blk (i : Fin 128) (j : Fin 1024) : b3 m hO c t (ix2 i j) = argM m c (ix2 (row t.val i) j) := by
  have := row_val m hO t i
  unfold argM
  rw [← V_main_arg4 m c]
  blk_ext [b3, iblk, idx3 m hO t]

theorem v_blk (i : Fin 128) (j : Fin 1024) : b4 m hO c t (ix2 i j) = argV m c (ix2 (row t.val i) j) := by
  have := row_val m hO t i
  unfold argV
  rw [← V_main_arg5 m c]
  blk_ext [b4, iblk, idx4 m hO t]

end Blocks

/-- The gradient at an element, of the arguments. -/
def gA (h : (argD m c (ix1 0)).toNat < 8) (i : Fin 256) (j : Fin 1024) : EReal :=
  grad (argD m c (ix1 0)) (argS m c (ix3 ⟨_, h⟩ i j)) fun k => argL m c (ix3 k i j)

theorem g_blk (h : (argD m c (ix1 0)).toNat < 8) (t : Fin (cfgM m hO).N) (i : Fin 128) (j : Fin 1024) :
    gB (word m c) (b0 m hO c t) (b1 m hO c t) i j = gA m c h (row t.val i) j := by
  unfold gB gA
  rw [word_eq, s_blk m hO c t h i j]
  exact congrArg (grad _ _) (funext fun k => l_blk m hO c t k i j)

theorem step_blk (h : (argD m c (ix1 0)).toNat < 8) (t : Fin (cfgM m hO).N) (i : Fin 128) (j : Fin 1024) :
    delta (gB (word m c) (b0 m hO c t) (b1 m hO c t) i j) (b2 m hO c t (ix2 i j)) (b3 m hO c t (ix2 i j)) (b4 m hO c t (ix2 i j))
      = delta (gA m c h (row t.val i) j) (argW m c (ix2 (row t.val i) j)) (argM m c (ix2 (row t.val i) j)) (argV m c (ix2 (row t.val i) j)) := by
  rw [g_blk m hO c h t i j, w_blk m hO c t i j, m_blk m hO c t i j, v_blk m hO c t i j]

theorem nm_blk (h : (argD m c (ix1 0)).toNat < 8) (t : Fin (cfgM m hO).N) (i : Fin 128) (j : Fin 1024) :
    newM (gB (word m c) (b0 m hO c t) (b1 m hO c t) i j) (b3 m hO c t (ix2 i j)) = newM (gA m c h (row t.val i) j) (argM m c (ix2 (row t.val i) j)) := by
  rw [g_blk m hO c h t i j, m_blk m hO c t i j]

theorem nv_blk (h : (argD m c (ix1 0)).toNat < 8) (t : Fin (cfgM m hO).N) (i : Fin 128) (j : Fin 1024) :
    newV (gB (word m c) (b0 m hO c t) (b1 m hO c t) i j) (b4 m hO c t (ix2 i j)) = newV (gA m c h (row t.val i) j) (argV m c (ix2 (row t.val i) j)) := by
  rw [g_blk m hO c h t i j, v_blk m hO c t i j]

/-! ## The arrays -/

theorem surj5 : ∀ (p : Fin 2) (q : Fin 1), ∃ i : grid0.Coords, cc0_transform_5 i = ![p.val, q.val] := by decide +kernel
theorem covers5 : ((cfgM m hO).win 5).Covers := by
  refine Pipeline.Window.covers_of_indexMap_surj _ rfl (fun a => (by decide : ∀ a : Fin 2, 0 < S128x1024.size a) a) (fun β => ?_)
  have h0 : ((cfgM m hO).win 5).nblk (0 : Fin 2) = 2 := by
    show (256 + 128 - 1) / 128 = 2
    norm_num
  have h1 : ((cfgM m hO).win 5).nblk (1 : Fin 2) = 1 := by
    show (1024 + 1024 - 1) / 1024 = 1
    norm_num
  obtain ⟨i, hi⟩ := surj5 ((β (0 : Fin 2)).cast h0) ((β (1 : Fin 2)).cast h1)
  exact ⟨i, fun a => (congrFun hi a).trans (match a with | ⟨0, _⟩ => rfl | ⟨1, _⟩ => rfl)⟩

theorem surj6 : ∀ (p : Fin 2) (q : Fin 1), ∃ i : grid0.Coords, cc0_transform_6 i = ![p.val, q.val] := by decide +kernel
theorem covers6 : ((cfgM m hO).win 6).Covers := by
  refine Pipeline.Window.covers_of_indexMap_surj _ rfl (fun a => (by decide : ∀ a : Fin 2, 0 < S128x1024.size a) a) (fun β => ?_)
  have h0 : ((cfgM m hO).win 6).nblk (0 : Fin 2) = 2 := by
    show (256 + 128 - 1) / 128 = 2
    norm_num
  have h1 : ((cfgM m hO).win 6).nblk (1 : Fin 2) = 1 := by
    show (1024 + 1024 - 1) / 1024 = 1
    norm_num
  obtain ⟨i, hi⟩ := surj6 ((β (0 : Fin 2)).cast h0) ((β (1 : Fin 2)).cast h1)
  exact ⟨i, fun a => (congrFun hi a).trans (match a with | ⟨0, _⟩ => rfl | ⟨1, _⟩ => rfl)⟩

theorem surj7 : ∀ (p : Fin 2) (q : Fin 1), ∃ i : grid0.Coords, cc0_transform_7 i = ![p.val, q.val] := by decide +kernel
theorem covers7 : ((cfgM m hO).win 7).Covers := by
  refine Pipeline.Window.covers_of_indexMap_surj _ rfl (fun a => (by decide : ∀ a : Fin 2, 0 < S128x1024.size a) a) (fun β => ?_)
  have h0 : ((cfgM m hO).win 7).nblk (0 : Fin 2) = 2 := by
    show (256 + 128 - 1) / 128 = 2
    norm_num
  have h1 : ((cfgM m hO).win 7).nblk (1 : Fin 2) = 1 := by
    show (1024 + 1024 - 1) / 1024 = 1
    norm_num
  obtain ⟨i, hi⟩ := surj7 ((β (0 : Fin 2)).cast h0) ((β (1 : Fin 2)).cast h1)
  exact ⟨i, fun a => (congrFun hi a).trans (match a with | ⟨0, _⟩ => rfl | ⟨1, _⟩ => rfl)⟩

theorem surj8 : ∀ (p : Fin 2) (q : Fin 1), ∃ i : grid0.Coords, cc0_transform_8 i = ![p.val, q.val] := by decide +kernel
theorem covers8 : ((cfgM m hO).win 8).Covers := by
  refine Pipeline.Window.covers_of_indexMap_surj _ rfl (fun a => (by decide : ∀ a : Fin 2, 0 < S128x1024.size a) a) (fun β => ?_)
  have h0 : ((cfgM m hO).win 8).nblk (0 : Fin 2) = 2 := by
    show (256 + 128 - 1) / 128 = 2
    norm_num
  have h1 : ((cfgM m hO).win 8).nblk (1 : Fin 2) = 1 := by
    show (1024 + 1024 - 1) / 1024 = 1
    norm_num
  obtain ⟨i, hi⟩ := surj8 ((β (0 : Fin 2)).cast h0) ((β (1 : Fin 2)).cast h1)
  exact ⟨i, fun a => (congrFun hi a).trans (match a with | ⟨0, _⟩ => rfl | ⟨1, _⟩ => rfl)⟩

theorem arr_g (h : (argD m c (ix1 0)).toNat < 8) : ((dats m hO 0 c).arrAt 5 (cfgM m hO).N : FVec Ideal S256x1024 .f32)
    = fun y : S256x1024.Idx => gA m c h (y 0) (y 1) := by
  refine (dats m hO 0 c).arrAt_eq_of_covers 5 (fun y : S256x1024.Idx => gA m c h (y 0) (y 1)) (covers5 m hO) fun t hf (y : S128x1024.Idx) => ?_
  have hr := row_val m hO t (y 0)
  have e : (((cfgM m hO).win 5).blk t).view.emb y = ix2 (row t.val (y 0)) (y 1) := by blk_ext [idx5 m hO t]
  blk_simp
  rw [after0_5, e, out5]
  refine ((congrArg _ (eq_ix2 y)).trans (pay5_eq _ _ _ (y 0) (y 1))).trans ?_
  exact g_blk m hO c h t (y 0) (y 1)

theorem arr_step (h : (argD m c (ix1 0)).toNat < 8) : ((dats m hO 0 c).arrAt 6 (cfgM m hO).N : FVec Ideal S256x1024 .f32)
    = fun y : S256x1024.Idx => delta (gA m c h (y 0) (y 1)) (argW m c (ix2 (y 0) (y 1))) (argM m c (ix2 (y 0) (y 1))) (argV m c (ix2 (y 0) (y 1))) := by
  refine (dats m hO 0 c).arrAt_eq_of_covers 6 (fun y : S256x1024.Idx => delta (gA m c h (y 0) (y 1)) (argW m c (ix2 (y 0) (y 1))) (argM m c (ix2 (y 0) (y 1))) (argV m c (ix2 (y 0) (y 1)))) (covers6 m hO) fun t hf (y : S128x1024.Idx) => ?_
  have hr := row_val m hO t (y 0)
  have e : (((cfgM m hO).win 6).blk t).view.emb y = ix2 (row t.val (y 0)) (y 1) := by blk_ext [idx6 m hO t]
  blk_simp
  rw [after0_6, e, out6]
  refine ((congrArg _ (eq_ix2 y)).trans (stepB_eq _ _ _ _ _ _ (y 0) (y 1))).trans ?_
  exact step_blk m hO c h t (y 0) (y 1)

theorem arr_m (h : (argD m c (ix1 0)).toNat < 8) : ((dats m hO 0 c).arrAt 7 (cfgM m hO).N : FVec Ideal S256x1024 .f32)
    = fun y : S256x1024.Idx => newM (gA m c h (y 0) (y 1)) (argM m c (ix2 (y 0) (y 1))) := by
  refine (dats m hO 0 c).arrAt_eq_of_covers 7 (fun y : S256x1024.Idx => newM (gA m c h (y 0) (y 1)) (argM m c (ix2 (y 0) (y 1)))) (covers7 m hO) fun t hf (y : S128x1024.Idx) => ?_
  have hr := row_val m hO t (y 0)
  have e : (((cfgM m hO).win 7).blk t).view.emb y = ix2 (row t.val (y 0)) (y 1) := by blk_ext [idx7 m hO t]
  blk_simp
  rw [after0_7, e, out7]
  refine ((congrArg _ (eq_ix2 y)).trans (pay6_eq _ _ _ _ (y 0) (y 1))).trans ?_
  exact nm_blk m hO c h t (y 0) (y 1)

theorem arr_v (h : (argD m c (ix1 0)).toNat < 8) : ((dats m hO 0 c).arrAt 8 (cfgM m hO).N : FVec Ideal S256x1024 .f32)
    = fun y : S256x1024.Idx => newV (gA m c h (y 0) (y 1)) (argV m c (ix2 (y 0) (y 1))) := by
  refine (dats m hO 0 c).arrAt_eq_of_covers 8 (fun y : S256x1024.Idx => newV (gA m c h (y 0) (y 1)) (argV m c (ix2 (y 0) (y 1)))) (covers8 m hO) fun t hf (y : S128x1024.Idx) => ?_
  have hr := row_val m hO t (y 0)
  have e : (((cfgM m hO).win 8).blk t).view.emb y = ix2 (row t.val (y 0)) (y 1) := by blk_ext [idx8 m hO t]
  blk_simp
  rw [after0_8, e, out8]
  refine ((congrArg _ (eq_ix2 y)).trans (pay7_eq _ _ _ _ (y 0) (y 1))).trans ?_
  exact nv_blk m hO c h t (y 0) (y 1)

end Cert.AdamOutIdeal.Arrays
-- ==== Proof.AdamOut.Equal.lean ====
/-
  The sharded optimiser kernel and its reference end with the same arrays, whatever the arguments, the device's place
  being one of the eight.
-/
module

public import proofs.«01_k».proof.Defs
public import proofs.«01_k».proof.Proof.AdamOut.Arrays
public import proofs.«01_k».proof.Proof.Gen.AdamOutRefIdeal.Read
public import Idealize.ShloMosaic.Lib.Claim

@[expose] public section

set_option maxRecDepth 16384

noncomputable section

open Idealize.ShloMosaic Idealize.ShloMosaic.TcCoe Idealize.SL.Sem

namespace Cert.AdamOutRefIdeal.Val

open Cert.AdamOutRefIdeal Cert.AdamOutRefIdeal.Read Cert.AdamForm

variable (x0 x1 : FVec Ideal S8x256x1024 .f32) (x2 : IVec S1 32) (x3 x4 x5 : FVec Ideal S256x1024 .f32)

/-- One part of the reference's sum: the own one in the device's place. -/
theorem main_v5 (k : Fin 8) (i : Fin 256) (j : Fin 1024) :
    val_main_v5 (F := Ideal) x0 x1 x2 (ix3 k i j) = if x2 (ix1 0) = BitVec.ofNat 32 k.val then x1 (ix3 k i j) else x0 (ix3 k i j) := by
  have e : val_main_call0_v0 (F := Ideal) x2 (ix3 k i j) = IntOp.cmpi .eq (BitVec.ofNat 32 k.val) (x2 (ix1 0)) := by
    pointwise [val_main_call0_v0, val_main_v4, val_main_v3, val_main_v2, val_main_v1, val_main_v0]
  rw [val_main_v5_apply, e, WordCmp.cmpi_eq_eq]
  by_cases h : x2 (ix1 0) = BitVec.ofNat 32 k.val
  · simp [Scalar.select, h]
  · simp [Scalar.select, h, Ne.symm h]

theorem main_v6 (h : (x2 (ix1 0)).toNat < 8) (i : Fin 256) (j : Fin 1024) :
    val_main_v6 (F := Ideal) x0 x1 x2 (ix2 i j) = grad (x2 (ix1 0)) (x1 (ix3 ⟨_, h⟩ i j)) fun k => x0 (ix3 k i j) := by
  pointwise [val_main_v6, val_main_cst]
  unfold grad
  simp only [main_v5]
  refine Finset.sum_congr rfl fun k _ => ?_
  by_cases e : x2 (ix1 0) = BitVec.ofNat 32 k.val
  · have hk : (⟨(x2 (ix1 0)).toNat, h⟩ : Fin 8) = k := Fin.ext (by
      show (x2 (ix1 0)).toNat = k.val
      rw [e, BitVec.toNat_ofNat]
      exact Nat.mod_eq_of_lt (by omega))
    rw [if_pos e, if_pos e, hk]
  · rw [if_neg e, if_neg e]

theorem main_v11 (i : Fin 256) (j : Fin 1024) :
    val_main_v11 (F := Ideal) x0 x1 x2 x4 (ix2 i j) = newM (val_main_v6 (F := Ideal) x0 x1 x2 (ix2 i j)) (x4 (ix2 i j)) := by
  pointwise [val_main_v11, val_main_v10, val_main_v9, val_main_cst_1, val_main_v8, val_main_v7, val_main_cst_0]
  rfl

theorem main_v17 (i : Fin 256) (j : Fin 1024) :
    val_main_v17 (F := Ideal) x0 x1 x2 x5 (ix2 i j) = newV (val_main_v6 (F := Ideal) x0 x1 x2 (ix2 i j)) (x5 (ix2 i j)) := by
  pointwise [val_main_v17, val_main_v16, val_main_v15, val_main_cst_3, val_main_v14, val_main_v13, val_main_v12, val_main_cst_2]
  rfl

theorem main_v30 (i : Fin 256) (j : Fin 1024) :
    val_main_v30 (F := Ideal) x0 x1 x2 x3 x4 x5 (ix2 i j)
      = delta (val_main_v6 (F := Ideal) x0 x1 x2 (ix2 i j)) (x3 (ix2 i j)) (x4 (ix2 i j)) (x5 (ix2 i j)) := by
  pointwise [val_main_v30, val_main_v29, val_main_cst_8, val_main_v28, val_main_v27, val_main_v26, val_main_cst_7, val_main_v25, val_main_v24,
    val_main_v23, val_main_cst_6, val_main_v22, val_main_v21, val_main_v20, val_main_cst_5, val_main_v19, val_main_v18, val_main_cst_4]
  simp only [main_v11, main_v17]
  rfl

end Cert.AdamOutRefIdeal.Val

namespace Cert.AdamOutEqual

open Cert.AdamOutIdeal.Arrays Cert.AdamOutIdeal.Gen

/-- The reference's frame: it ends, its arguments and every counter as they were. -/
theorem ref_frame : Cert.quiescent_AdamOutRefIdeal := fun m ρ _ => by
  refine (θ_run Cert.AdamOutRefIdeal.defs _ _).mono (fun r h => ⟨fun c => ?_, sem_eq_zero_of_no_sems (by decide) r.2⟩)
    (Cert.AdamOutRefIdeal.Value.run (F := Ideal) m ρ)
  obtain ⟨-, -, -, -, hk⟩ := h c
  exact hk

section Run

open Cert.AdamOutIdeal

variable (m : (ℓ : Loc nD τ sig) → Buf (Elt Ideal) ℓ) (ρ : Dev nD → PrngReg)

/-- The kernel's run: the four results are what the windows write back, the arguments unchanged. -/
theorem run_blocks (hO : Ok m) : θ_run defs (onTc (τ := τ) (main (F := Ideal))) ⟨m, fun _ => 0, ρ⟩ fun r => ∀ c : Dev nD,
      r.2.mem ((c.tc : Thread nD τ).loc main_v2_0) = (dats m hO 0 c).arrAt 5 (cfgM m hO).N
      ∧ r.2.mem ((c.tc : Thread nD τ).loc main_v2_1) = (dats m hO 0 c).arrAt 6 (cfgM m hO).N
      ∧ r.2.mem ((c.tc : Thread nD τ).loc main_v2_2) = (dats m hO 0 c).arrAt 7 (cfgM m hO).N
      ∧ r.2.mem ((c.tc : Thread nD τ).loc main_v2_3) = (dats m hO 0 c).arrAt 8 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.2 c).1 5, (h.2 c).1 6, (h.2 c).1 7, (h.2 c).1 8, h.1 c⟩)
    (θ_run_and (unchanged m ρ hO) (run_main m ρ hO))

end Run

section Same

variable (m : (ℓ : Loc Cert.AdamOutIdeal.nD Cert.AdamOutIdeal.τ Cert.AdamOutIdeal.sig) → Buf (Elt Ideal) ℓ) (hO : Ok m) (c : Dev Cert.AdamOutIdeal.nD)
  (h : (argD m c (ix1 0)).toNat < 8)
include h

theorem g_same : (dats m hO 0 c).arrAt 5 (cfgM m hO).N
    = Cert.AdamOutRefIdeal.Read.val_main_v6 (F := Ideal) (argL m c) (argS m c) (argD m c) := by
  refine (arr_g m hO c h).trans (funext fun y : Cert.AdamOutIdeal.S256x1024.Idx => ?_)
  rw [eq_ix2 y]
  exact (Cert.AdamOutRefIdeal.Val.main_v6 _ _ _ h (y 0) (y 1)).symm

theorem step_same : (dats m hO 0 c).arrAt 6 (cfgM m hO).N
    = Cert.AdamOutRefIdeal.Read.val_main_v30 (F := Ideal) (argL m c) (argS m c) (argD m c) (argW m c) (argM m c) (argV m c) := by
  refine (arr_step m hO c h).trans (funext fun y : Cert.AdamOutIdeal.S256x1024.Idx => ?_)
  rw [eq_ix2 y]
  refine Eq.trans ?_ (Cert.AdamOutRefIdeal.Val.main_v30 _ _ _ _ _ _ (y 0) (y 1)).symm
  rw [Cert.AdamOutRefIdeal.Val.main_v6 _ _ _ h (y 0) (y 1)]
  rfl

theorem m_same : (dats m hO 0 c).arrAt 7 (cfgM m hO).N
    = Cert.AdamOutRefIdeal.Read.val_main_v11 (F := Ideal) (argL m c) (argS m c) (argD m c) (argM m c) := by
  refine (arr_m m hO c h).trans (funext fun y : Cert.AdamOutIdeal.S256x1024.Idx => ?_)
  rw [eq_ix2 y]
  refine Eq.trans ?_ (Cert.AdamOutRefIdeal.Val.main_v11 _ _ _ _ (y 0) (y 1)).symm
  rw [Cert.AdamOutRefIdeal.Val.main_v6 _ _ _ h (y 0) (y 1)]
  rfl

theorem v_same : (dats m hO 0 c).arrAt 8 (cfgM m hO).N
    = Cert.AdamOutRefIdeal.Read.val_main_v17 (F := Ideal) (argL m c) (argS m c) (argD m c) (argV m c) := by
  refine (arr_v m hO c h).trans (funext fun y : Cert.AdamOutIdeal.S256x1024.Idx => ?_)
  rw [eq_ix2 y]
  refine Eq.trans ?_ (Cert.AdamOutRefIdeal.Val.main_v17 _ _ _ _ (y 0) (y 1)).symm
  rw [Cert.AdamOutRefIdeal.Val.main_v6 _ _ _ h (y 0) (y 1)]
  rfl

end Same

/-- The claim: the kernel's run and the reference's end with equal arrays, the arguments unchanged. -/
theorem algebraic : Cert.algebraic_AdamOutIdeal_AdamOutRefIdeal := by
  pair_intro
  · run_from run_blocks m g (ok_ideal m hpre)
  · refine (θ_run _ _ _).mono (fun r h c => ?_) (Cert.AdamOutRefIdeal.Value.run (F := Ideal) m' g')
    have hs : (argD m c (ix1 0)).toNat < 8 := Cert.Pre_place_out.Read.small _ _ _ _ _ _ (hpre c)
    obtain ⟨e0, e1, e2, e3, e4, e5⟩ := hagree c
    obtain ⟨h0, h1, h2, h3, hk⟩ := h c
    refine ⟨?_, ?_, ?_, ?_, hk⟩
    · rw [h0, Cert.AdamOutRefIdeal.Read.val_main_v6_eq, e0, e1, e2]
      exact (g_same m (ok_ideal m hpre) c hs).symm
    · rw [h1, Cert.AdamOutRefIdeal.Read.val_main_v30_eq, e0, e1, e2, e3, e4, e5]
      exact (step_same m (ok_ideal m hpre) c hs).symm
    · rw [h2, Cert.AdamOutRefIdeal.Read.val_main_v11_eq, e0, e1, e2, e4]
      exact (m_same m (ok_ideal m hpre) c hs).symm
    · rw [h3, Cert.AdamOutRefIdeal.Read.val_main_v17_eq, e0, e1, e2, e5]
      exact (v_same m (ok_ideal m hpre) c hs).symm

end Cert.AdamOutEqual
-- ==== Proof.AdamFf.Point.lean ====
/-
  What a grid point of the sharded optimiser kernel leaves, at an index.
-/
module

public import proofs.«01_k».proof.Proof.Gen.AdamFfIdeal.Frame
public import proofs.«01_k».proof.Proof.Adam.Form
public import Idealize.ShloMosaic.Lib.Pipeline.ValueKit
public import Idealize.ShloMosaic.Lib.Pipeline.Value
public import Idealize.ShloMosaic.Lib.WordCmp

@[expose] public section

set_option maxRecDepth 16384

noncomputable section

namespace Cert.AdamFfIdeal.Point

open Cert.AdamFfIdeal Cert.AdamFfIdeal.Gen Cert.AdamForm
open Idealize.ShloMosaic Idealize.ShloMosaic.TcCoe Idealize.SL.Sem

/-- One device's part of the block that landed. -/
def part {k : ℕ} (inb : ∀ a, (![k, 0, 0] : Fin 3 → ℕ) a + (![1, 256, 352] : Fin 3 → ℕ) a ≤ S8x256x352.size a)
    (x0 : Vec Ideal S8x256x352 .bf16) : Vec Ideal S1x256x352 .bf16 :=
  View.ld x0 (Rect.unit (s := S8x256x352) ![k, 0, 0] ![1, 256, 352] inb)

theorem part_eq {k : ℕ} (inb) (hk : k < 8) (x0 : FVec Ideal S8x256x352 .bf16) (i : Fin 256) (j : Fin 352) :
    part (k := k) inb x0 (ix3 0 i j) = x0 (ix3 ⟨k, hk⟩ i j) :=
  congrArg x0 (funext fun a => match a with
    | ⟨0, _⟩ => Fin.ext (by show k + 1 * 0 = k; omega)
    | ⟨1, _⟩ => Fin.ext (by show 0 + 1 * i.val = i.val; omega)
    | ⟨2, _⟩ => Fin.ext (by show 0 + 1 * j.val = j.val; omega))

theorem select_cmpi {α : Type} (w k : BitVec 32) (a b : α) : Scalar.select (Scalar.cmpi .eq w k) a b = if w = k then a else b := by
  by_cases h : w = k
  · subst h; simp [Scalar.select, Scalar.cmpi, WordCmp.cmpi_eq_eq]
  · simp [Scalar.select, Scalar.cmpi, WordCmp.cmpi_eq_eq, h]

section Payloads

variable (w : BitVec 32) (x0 : FVec Ideal S8x256x352 .bf16) (x1 : FVec Ideal S1x256x352 .bf16) (x2 x3 x4 : FVec Ideal S256x352 .f32)

/-- The sum of the first seven parts, the own one in the place of its device; and the last part. -/
def seven : FVec Ideal S256x352 .f32 :=
  k0_pay4 (F := Ideal)
    (k0_pay2 w x1 (part inb_S8x256x352_S1x256x352_0_0_0 x0) w x1 (part inb_S8x256x352_S1x256x352_1_0_0 x0)
      w x1 (part inb_S8x256x352_S1x256x352_2_0_0 x0))
    (Scalar.cmpi .eq w 3#32) (k0_pay3 x1) (part inb_S8x256x352_S1x256x352_3_0_0 x0) w x1 (part inb_S8x256x352_S1x256x352_4_0_0 x0)
    w x1 (part inb_S8x256x352_S1x256x352_5_0_0 x0) w x1 (part inb_S8x256x352_S1x256x352_6_0_0 x0)
def eighth : Vec Ideal S1x256x352 .bf16 := part inb_S8x256x352_S1x256x352_7_0_0 x0

/-- The block's gradient at an index. -/
def gB (i : Fin 256) (j : Fin 352) : EReal := grad w (x1 (ix3 0 i j)) fun k => x0 (ix3 k i j)

theorem pay5_eq (i : Fin 256) (j : Fin 352) : k0_pay5 (F := Ideal) (seven w x0 x1) w x1 (eighth x0) (ix2 i j) = gB w x0 x1 i j := by
  unfold gB grad
  rw [Fin.sum_univ_eight]
  pointwise [k0_pay5, seven, k0_pay4, k0_pay2, k0_pay3, eighth]
  simp only [select_cmpi]
  rw [part_eq _ (by norm_num), part_eq _ (by norm_num), part_eq _ (by norm_num), part_eq _ (by norm_num), part_eq _ (by norm_num),
    part_eq _ (by norm_num), part_eq _ (by norm_num), part_eq _ (by norm_num)]
  rfl

theorem pay6_eq (i : Fin 256) (j : Fin 352) :
    k0_pay6 (F := Ideal) (seven w x0 x1) w x1 (eighth x0) x3 (ix2 i j) = newM (gB w x0 x1 i j) (x3 (ix2 i j)) := by
  pointwise [k0_pay6]
  simp only [pay5_eq]
  rfl

theorem pay7_eq (i : Fin 256) (j : Fin 352) :
    k0_pay7 (F := Ideal) (seven w x0 x1) w x1 (eighth x0) x4 (ix2 i j) = newV (gB w x0 x1 i j) (x4 (ix2 i j)) := by
  pointwise [k0_pay7]
  simp only [pay5_eq]
  rfl

/-- The step of the weight as the kernel works it out. -/
def stepB : FVec Ideal S256x352 .f32 :=
  k0_pay1 (F := Ideal) (k0_pay8 (seven w x0 x1) w x1 (eighth x0) x2 x3 x4) (FloatOps.ofBits FTy.f32 0xBA83126F#32)

theorem stepB_eq (i : Fin 256) (j : Fin 352) :
    stepB w x0 x1 x2 x3 x4 (ix2 i j) = delta (gB w x0 x1 i j) (x2 (ix2 i j)) (x3 (ix2 i j)) (x4 (ix2 i j)) := by
  pointwise [stepB, k0_pay1, k0_pay8]
  simp only [pay6_eq, pay7_eq]
  rfl

end Payloads

section Pieces

variable (c : Dev nD) (i : grid0.Coords)
  (arg2 : Memref sig .tc .vmem S8x256x352 .bf16) (harg2 : arg2.IsWhole)  (arg3 : Memref sig .tc .vmem S1x256x352 .bf16) (harg3 : arg3.IsWhole)
  (arg4 : Memref sig .tc .vmem S256x352 .f32) (harg4 : arg4.IsWhole)
  (arg5 : Memref sig .tc .vmem S256x352 .f32) (harg5 : arg5.IsWhole)
  (arg6 : Memref sig .tc .vmem S256x352 .f32) (harg6 : arg6.IsWhole)
  (arg7 : Memref sig .tc .vmem S256x352 .f32) (harg7 : arg7.IsWhole)
  (arg8 : Memref sig .tc .vmem S256x352 .f32) (harg8 : arg8.IsWhole)
  (arg9 : Memref sig .tc .vmem S256x352 .f32) (harg9 : arg9.IsWhole)
  (arg10 : Memref sig .tc .vmem S256x352 .f32) (harg10 : arg10.IsWhole)
  (x0 : Vec Ideal S8x256x352 .bf16) (x1 : Vec Ideal S1x256x352 .bf16) (x2 x3 x4 : Vec Ideal S256x352 .f32)
  (xt : TbBuf0 (F := Ideal) c tbM0_0)

/-- The device's place as the kernel reads it off its table. -/
def wordOf : BitVec 32 := View.read (Elt Ideal) (View.whole main_arg2) xt (Shape.Idx.first (by decide))

theorem wordOf_eq : wordOf c xt = (xt : IVec S1 32) (ix1 0) :=
  congrArg (xt : IVec S1 32) (funext fun a => match a with | ⟨0, _⟩ => Subsingleton.elim (α := Fin 1) _ _)

theorem piece5 : out0_A_5 (F := Ideal) c i arg2 harg2 arg3 harg3 arg4 harg4 arg5 harg5 arg6 harg6 arg7 harg7 arg8 harg8 arg9 harg9 arg10 harg10 x0 x1 x2 x3 x4 xt
    = k0_pay5 (F := Ideal) (seven (wordOf c xt) x0 x1) (wordOf c xt) x1 (eighth x0) := by
  unfold out0_A_5
  frame_out
  rfl

theorem piece6 : out0_A_6 (F := Ideal) c i arg2 harg2 arg3 harg3 arg4 harg4 arg5 harg5 arg6 harg6 arg7 harg7 arg8 harg8 arg9 harg9 arg10 harg10 x0 x1 x2 x3 x4 xt
    = stepB (wordOf c xt) x0 x1 x2 x3 x4 := by
  unfold out0_A_6
  frame_out
  rfl

theorem piece7 : out0_A_7 (F := Ideal) c i arg2 harg2 arg3 harg3 arg4 harg4 arg5 harg5 arg6 harg6 arg7 harg7 arg8 harg8 arg9 harg9 arg10 harg10 x0 x1 x2 x3 x4 xt
    = k0_pay6 (F := Ideal) (seven (wordOf c xt) x0 x1) (wordOf c xt) x1 (eighth x0) x3 := by
  unfold out0_A_7
  frame_out
  rfl

theorem piece8 : out0_A_8 (F := Ideal) c i arg2 harg2 arg3 harg3 arg4 harg4 arg5 harg5 arg6 harg6 arg7 harg7 arg8 harg8 arg9 harg9 arg10 harg10 x0 x1 x2 x3 x4 xt
    = k0_pay7 (F := Ideal) (seven (wordOf c xt) x0 x1) (wordOf c xt) x1 (eighth x0) x4 := by
  unfold out0_A_8
  frame_out
  rfl

end Pieces

variable (m : (ℓ : Loc nD τ sig) → Buf (Elt Ideal) ℓ) (hO : Ok m) (c : Dev nD) (t : Fin (cfgM m hO).N)

/-- The device's place as the kernel reads it. -/
abbrev word : BitVec 32 := wordOf c (tbl m 0)

/-- The blocks of a point: what landed, the own slab, the weight and its moments. -/
abbrev b0 : FVec Ideal S8x256x352 .bf16 := iblk m hO c 0 t
abbrev b1 : FVec Ideal S1x256x352 .bf16 := iblk m hO c 1 t
abbrev b2 : FVec Ideal S256x352 .f32 := iblk m hO c 2 t
abbrev b3 : FVec Ideal S256x352 .f32 := iblk m hO c 3 t
abbrev b4 : FVec Ideal S256x352 .f32 := iblk m hO c 4 t

theorem out5 : (outsAt0 m hO c t).1
    = k0_pay5 (F := Ideal) (seven (word m c) (b0 m hO c t) (b1 m hO c t)) (word m c) (b1 m hO c t) (eighth (b0 m hO c t)) := by
  unfold outsAt0
  dsimp only
  exact piece5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (b0 m hO c t) (b1 m hO c t) (b2 m hO c t) (b3 m hO c t) (b4 m hO c t) (tbl m 0)

theorem out6 : (outsAt0 m hO c t).2.1
    = stepB (word m c) (b0 m hO c t) (b1 m hO c t) (b2 m hO c t) (b3 m hO c t) (b4 m hO c t) := by
  unfold outsAt0
  dsimp only
  exact piece6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (b0 m hO c t) (b1 m hO c t) (b2 m hO c t) (b3 m hO c t) (b4 m hO c t) (tbl m 0)

theorem out7 : (outsAt0 m hO c t).2.2.1
    = k0_pay6 (F := Ideal) (seven (word m c) (b0 m hO c t) (b1 m hO c t)) (word m c) (b1 m hO c t) (eighth (b0 m hO c t)) (b3 m hO c t) := by
  unfold outsAt0
  dsimp only
  exact piece7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (b0 m hO c t) (b1 m hO c t) (b2 m hO c t) (b3 m hO c t) (b4 m hO c t) (tbl m 0)

theorem out8 : (outsAt0 m hO c t).2.2.2
    = k0_pay7 (F := Ideal) (seven (word m c) (b0 m hO c t) (b1 m hO c t)) (word m c) (b1 m hO c t) (eighth (b0 m hO c t)) (b4 m hO c t) := by
  unfold outsAt0
  dsimp only
  exact piece8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (b0 m hO c t) (b1 m hO c t) (b2 m hO c t) (b3 m hO c t) (b4 m hO c t) (tbl m 0)

end Cert.AdamFfIdeal.Point
-- ==== Proof.AdamFf.Place.lean ====
/-
  The precondition of the sharded optimiser kernel: the device's place is one of the eight, and so the block the
  table names lies inside its array.
-/
module

public import proofs.«01_k».proof.Defs
public import proofs.«01_k».proof.Proof.Gen.AdamFf.Frame
public import proofs.«01_k».proof.Proof.Gen.AdamFfIdeal.Frame
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Pre_place_ff.Read

open Cert.Pre_place_ff

instance facts : Cert.Pre_place_ff.Facts where
  shapeCasts_S1_S_ := by decide

/-- A number between zero and seven, as a signed word, is one of the eight as an unsigned word. -/
theorem small_of {v : BitVec 32} (h0 : IntOp.cmpi .sge v 0#32 = 1#1) (h1 : IntOp.cmpi .slt v 8#32 = 1#1) : v.toNat < 8 := by
  have h0' : (0#32).toInt ≤ v.toInt := by
    by_contra h
    rw [WordCmp.cmpi_sge_eq, decide_eq_false h] at h0
    exact absurd h0 (by decide)
  have h1' : v.toInt < (8#32).toInt := by
    by_contra h
    rw [WordCmp.cmpi_slt_eq, decide_eq_false h] at h1
    exact absurd h1 (by decide)
  have e0 : (0#32).toInt = 0 := by decide
  have e8 : (8#32).toInt = 8 := by decide
  have := v.isLt
  rw [e0] at h0'
  rw [e8] at h1'
  rw [BitVec.toInt_eq_toNat_cond] at h0' h1'
  split at h0' <;> omega

theorem small {F : FTy → Type} [FloatOps F] (x0 x1 : FVec F S8x1024x352 .f32) (x2 : IVec S1 32) (x3 x4 x5 : FVec F S1024x352 .f32)
    (h : fn (F := F) x0 x1 x2 x3 x4 x5 = fun _ => 1#1) : (x2 (ix1 0)).toNat < 8 := by
  have h' := congrFun h ix0
  dsimp only [fn] at h'
  simp only [andi, IntOp.andi_eq_one] at h'
  have e : shapeCast S_ x2 Facts.shapeCasts_S1_S_ ix0 = x2 (ix1 0) := by pointwise
  exact small_of (e ▸ h'.1) (e ▸ h'.2)

end Cert.Pre_place_ff.Read

namespace Cert.AdamFf.Place

open Cert.AdamFf Cert.AdamFf.Gen

theorem inside : ∀ (k : Fin 8) (i : grid0.Coords),
    ∃ h : (∀ a, ((![k.val, (i 0).val, 0] : Fin 3 → ℕ) a + 1) * S1x256x352.size a ≤ S8x1024x352.size a),
      EltTy.bits .bf16 = 32 ∨ (Rect.block (s := S8x1024x352) S1x256x352.size ![k.val, (i 0).val, 0] h).WholeWords (EltTy.packing .bf16) := by
  decide +kernel

theorem map_eq {F : FTy → Type} [FloatOps F] (pf : pre0.Contents (Elt F)) (i : grid0.Coords) :
    cc0_transform_1 inb_S1_S1_0 numel1_S1 pf i = ![((pf 0 : IVec S1 32) (ix1 0)).toNat, (i 0).val, 0] := by
  have e : (BitVec.ofNat 32 (i 0).val).toNat = (i 0).val := by
    have : (i 0).val < 4 := (i 0).isLt
    rw [BitVec.toNat_ofNat]
    omega
  have a : (pf.at 0 (Rect.unit (s := S1) ![0] S1.size inb_S1_S1_0) numel1_S1 : BitVec 32) = (pf 0 : IVec S1 32) (ix1 0) :=
    congrArg (pf 0 : IVec S1 32) (funext fun a => match a with | ⟨0, _⟩ => Subsingleton.elim (α := Fin 1) _ _)
  exact congrArg₂ (fun k n : ℕ => ![k, n, 0]) (congrArg BitVec.toNat a) e

theorem ok_of {F : FTy → Type} [FloatOps F] (m : (ℓ : Loc nD τ sig) → Buf (Elt F) ℓ)
    (h : ((m (((0 : Dev nD).tc : Thread nD τ).loc main_arg2) : IVec S1 32) (ix1 0)).toNat < 8) : Ok m := by
  intro i
  have e : tbl m 0 = m (((0 : Dev nD).tc : Thread nD τ).loc main_arg2) := V_main_arg2 m 0
  rw [map_eq, e]
  exact inside ⟨_, h⟩ i

end Cert.AdamFf.Place

namespace Cert.AdamFfIdeal.Place

open Cert.AdamFfIdeal Cert.AdamFfIdeal.Gen

theorem map_eq {F : FTy → Type} [FloatOps F] (pf : pre0.Contents (Elt F)) (i : grid0.Coords) :
    cc0_transform_1 inb_S1_S1_0 numel1_S1 pf i = ![((pf 0 : IVec S1 32) (ix1 0)).toNat, (i 0).val, 0] := Cert.AdamFf.Place.map_eq pf i

theorem ok_of {F : FTy → Type} [FloatOps F] (m : (ℓ : Loc nD τ sig) → Buf (Elt F) ℓ)
    (h : ((m (((0 : Dev nD).tc : Thread nD τ).loc main_arg2) : IVec S1 32) (ix1 0)).toNat < 8) : Ok m := by
  intro i
  have e : tbl m 0 = m (((0 : Dev nD).tc : Thread nD τ).loc main_arg2) := V_main_arg2 m 0
  rw [map_eq, e]
  exact Cert.AdamFf.Place.inside ⟨_, h⟩ i

end Cert.AdamFfIdeal.Place

namespace Cert.AdamFfEqual

theorem small (m : (ℓ : Loc Cert.AdamFfIdeal.nD Cert.AdamFfIdeal.τ Cert.AdamFfIdeal.sig) → Buf (Elt Ideal) ℓ) (h : Cert.Pre_AdamFfIdeal m) :
    ((m (((0 : Dev Cert.AdamFfIdeal.nD).tc : Thread Cert.AdamFfIdeal.nD Cert.AdamFfIdeal.τ).loc Cert.AdamFfIdeal.main_arg2) : IVec Cert.AdamFfIdeal.S1 32) (ix1 0)).toNat < 8 :=
  Cert.Pre_place_ff.Read.small _ _ _ _ _ _ (h 0)

theorem ok_bits (m : (ℓ : Loc Cert.AdamFf.nD Cert.AdamFf.τ Cert.AdamFf.sig) → Buf (Elt Bits) ℓ) (h : Cert.Pre_AdamFf m) : Cert.AdamFf.Gen.Ok m :=
  Cert.AdamFf.Place.ok_of m (Cert.Pre_place_ff.Read.small _ _ _ _ _ _ (h 0))

theorem ok_ideal (m : (ℓ : Loc Cert.AdamFfIdeal.nD Cert.AdamFfIdeal.τ Cert.AdamFfIdeal.sig) → Buf (Elt Ideal) ℓ) (h : Cert.Pre_AdamFfIdeal m) : Cert.AdamFfIdeal.Gen.Ok m :=
  Cert.AdamFfIdeal.Place.ok_of m (small m h)

/-- The two frames, under the precondition. -/
theorem frame : Cert.quiescent_AdamFf := fun m ρ h => Cert.AdamFf.Gen.frame m ρ (ok_bits m h)
theorem frame_ideal : Cert.quiescent_AdamFfIdeal := fun m ρ h => Cert.AdamFfIdeal.Gen.frame m ρ (ok_ideal m h)

end Cert.AdamFfEqual
-- ==== Proof.AdamFf.Arrays.lean ====
/-
  The arrays the sharded optimiser kernel ends with: the gradient, the step of the weight and the new moments at every
  element, of the arguments.
-/
module

public import proofs.«01_k».proof.Proof.AdamFf.Point
public import proofs.«01_k».proof.Proof.AdamFf.Place
public import Idealize.ShloMosaic.Lib.Pipeline.Covers
public import Idealize.ShloMosaic.Lib.Claim

@[expose] public section

set_option maxRecDepth 16384

noncomputable section

namespace Cert.AdamFfIdeal.Arrays

open Cert.AdamFfIdeal Cert.AdamFfIdeal.Gen Cert.AdamFfIdeal.Point Cert.AdamForm
open Idealize.ShloMosaic Idealize.ShloMosaic.TcCoe Idealize.SL.Sem

variable (m : (ℓ : Loc nD τ sig) → Buf (Elt Ideal) ℓ) (hO : Ok m) (c : Dev nD)

/-- The arguments of device `c`. -/
abbrev argL : FVec Ideal S8x1024x352 .f32 := m ((c : Thread nD τ).loc main_arg0)
abbrev argS : FVec Ideal S8x1024x352 .f32 := m ((c : Thread nD τ).loc main_arg1)
abbrev argD : IVec S1 32 := m ((c : Thread nD τ).loc main_arg2)
abbrev argW : FVec Ideal S1024x352 .f32 := m ((c : Thread nD τ).loc main_arg3)
abbrev argM : FVec Ideal S1024x352 .f32 := m ((c : Thread nD τ).loc main_arg4)
abbrev argV : FVec Ideal S1024x352 .f32 := m ((c : Thread nD τ).loc main_arg5)

theorem l_val (k : Fin 8) (i : Fin 1024) (j : Fin 352) : (V m c main_v0 : FVec Ideal S8x1024x352 .bf16) (ix3 k i j) = argL m c (ix3 k i j) := by
  entry_read; pointwise
theorem s_val (k : Fin 8) (i : Fin 1024) (j : Fin 352) : (V m c main_v1 : FVec Ideal S8x1024x352 .bf16) (ix3 k i j) = argS m c (ix3 k i j) := by
  entry_read; pointwise

theorem word_eq : word m c = argD m c (ix1 0) := by
  have e : tbl m 0 = m ((c : Thread nD τ).loc main_arg2) := (V_pre m c 0).symm.trans (V_main_arg2 m c)
  exact (wordOf_eq c (tbl m 0)).trans (congrFun e (ix1 0))

/-- The row of the arrays that row `i` of point `n`'s tiles is. -/
def row (n : ℕ) (i : Fin 256) : Fin 1024 := ⟨(256 * n + i.val) % 1024, Nat.mod_lt _ (by norm_num)⟩

theorem row_val (t : Fin (cfgM m hO).N) (i : Fin 256) : (row t.val i).val = t.val * 256 + i.val := by
  have : t.val < 4 := t.isLt
  unfold row
  show (256 * t.val + i.val) % 1024 = _
  omega

/-- The index maps: the tiles go along the rows; the own slab's is the device's. -/
theorem maps : ∀ t : Fin grid0.N, cc0_transform_0 (grid0.coords t) = ![0, t.val, 0] ∧ (grid0.coords t 0).val = t.val
    ∧ cc0_transform_2 (grid0.coords t) = ![t.val, 0] ∧ cc0_transform_3 (grid0.coords t) = ![t.val, 0] ∧ cc0_transform_4 (grid0.coords t) = ![t.val, 0]
    ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0] := by
  decide +kernel

section Blocks

variable (t : Fin (cfgM m hO).N)

theorem idx0 : ((cfgM m hO).win 0).index t = ![0, t.val, 0] := (maps t).1
theorem idx1 : ((cfgM m hO).win 1).index t = ![(argD m c (ix1 0)).toNat, t.val, 0] := by
  have e : tbl m 0 = m ((c : Thread nD τ).loc main_arg2) := (V_pre m c 0).symm.trans (V_main_arg2 m c)
  refine (Place.map_eq (tbl m) (grid0.coords t)).trans ?_
  rw [e, (maps t).2.1]
theorem idx2 : ((cfgM m hO).win 2).index t = ![t.val, 0] := (maps t).2.2.1
theorem idx3 : ((cfgM m hO).win 3).index t = ![t.val, 0] := (maps t).2.2.2.1
theorem idx4 : ((cfgM m hO).win 4).index t = ![t.val, 0] := (maps t).2.2.2.2.1
theorem idx5 : ((cfgM m hO).win 5).index t = ![t.val, 0] := (maps t).2.2.2.2.2.1
theorem idx6 : ((cfgM m hO).win 6).index t = ![t.val, 0] := (maps t).2.2.2.2.2.2.1
theorem idx7 : ((cfgM m hO).win 7).index t = ![t.val, 0] := (maps t).2.2.2.2.2.2.2.1
theorem idx8 : ((cfgM m hO).win 8).index t = ![t.val, 0] := (maps t).2.2.2.2.2.2.2.2

theorem l_blk (k : Fin 8) (i : Fin 256) (j : Fin 352) : b0 m hO c t (ix3 k i j) = argL m c (ix3 k (row t.val i) j) := by
  refine Eq.trans ?_ (l_val m c k (row t.val i) j)
  have := row_val m hO t i
  blk_ext [b0, iblk, idx0 m hO t]

theorem s_blk (h : (argD m c (ix1 0)).toNat < 8) (i : Fin 256) (j : Fin 352) :
    b1 m hO c t (ix3 0 i j) = argS m c (ix3 ⟨_, h⟩ (row t.val i) j) := by
  refine Eq.trans ?_ (s_val m c ⟨_, h⟩ (row t.val i) j)
  have := row_val m hO t i
  blk_ext [b1, iblk, idx1 m hO c t]

theorem w_blk (i : Fin 256) (j : Fin 352) : b2 m hO c t (ix2 i j) = argW m c (ix2 (row t.val i) j) := by
  have := row_val m hO t i
  unfold argW
  rw [← V_main_arg3 m c]
  blk_ext [b2, iblk, idx2 m hO t]

theorem m_blk (i : Fin 256) (j : Fin 352) : b3 m hO c t (ix2 i j) = argM m c (ix2 (row t.val i) j) := by
  have := row_val m hO t i
  unfold argM
  rw [← V_main_arg4 m c]
  blk_ext [b3, iblk, idx3 m hO t]

theorem v_blk (i : Fin 256) (j : Fin 352) : b4 m hO c t (ix2 i j) = argV m c (ix2 (row t.val i) j) := by
  have := row_val m hO t i
  unfold argV
  rw [← V_main_arg5 m c]
  blk_ext [b4, iblk, idx4 m hO t]

end Blocks

/-- The gradient at an element, of the arguments. -/
def gA (h : (argD m c (ix1 0)).toNat < 8) (i : Fin 1024) (j : Fin 352) : EReal :=
  grad (argD m c (ix1 0)) (argS m c (ix3 ⟨_, h⟩ i j)) fun k => argL m c (ix3 k i j)

theorem g_blk (h : (argD m c (ix1 0)).toNat < 8) (t : Fin (cfgM m hO).N) (i : Fin 256) (j : Fin 352) :
    gB (word m c) (b0 m hO c t) (b1 m hO c t) i j = gA m c h (row t.val i) j := by
  unfold gB gA
  rw [word_eq, s_blk m hO c t h i j]
  exact congrArg (grad _ _) (funext fun k => l_blk m hO c t k i j)

theorem step_blk (h : (argD m c (ix1 0)).toNat < 8) (t : Fin (cfgM m hO).N) (i : Fin 256) (j : Fin 352) :
    delta (gB (word m c) (b0 m hO c t) (b1 m hO c t) i j) (b2 m hO c t (ix2 i j)) (b3 m hO c t (ix2 i j)) (b4 m hO c t (ix2 i j))
      = delta (gA m c h (row t.val i) j) (argW m c (ix2 (row t.val i) j)) (argM m c (ix2 (row t.val i) j)) (argV m c (ix2 (row t.val i) j)) := by
  rw [g_blk m hO c h t i j, w_blk m hO c t i j, m_blk m hO c t i j, v_blk m hO c t i j]

theorem nm_blk (h : (argD m c (ix1 0)).toNat < 8) (t : Fin (cfgM m hO).N) (i : Fin 256) (j : Fin 352) :
    newM (gB (word m c) (b0 m hO c t) (b1 m hO c t) i j) (b3 m hO c t (ix2 i j)) = newM (gA m c h (row t.val i) j) (argM m c (ix2 (row t.val i) j)) := by
  rw [g_blk m hO c h t i j, m_blk m hO c t i j]

theorem nv_blk (h : (argD m c (ix1 0)).toNat < 8) (t : Fin (cfgM m hO).N) (i : Fin 256) (j : Fin 352) :
    newV (gB (word m c) (b0 m hO c t) (b1 m hO c t) i j) (b4 m hO c t (ix2 i j)) = newV (gA m c h (row t.val i) j) (argV m c (ix2 (row t.val i) j)) := by
  rw [g_blk m hO c h t i j, v_blk m hO c t i j]

/-! ## The arrays -/

theorem surj5 : ∀ (p : Fin 4) (q : Fin 1), ∃ i : grid0.Coords, cc0_transform_5 i = ![p.val, q.val] := by decide +kernel
theorem covers5 : ((cfgM m hO).win 5).Covers := by
  refine Pipeline.Window.covers_of_indexMap_surj _ rfl (fun a => (by decide : ∀ a : Fin 2, 0 < S256x352.size a) a) (fun β => ?_)
  have h0 : ((cfgM m hO).win 5).nblk (0 : Fin 2) = 4 := by
    show (1024 + 256 - 1) / 256 = 4
    norm_num
  have h1 : ((cfgM m hO).win 5).nblk (1 : Fin 2) = 1 := by
    show (352 + 352 - 1) / 352 = 1
    norm_num
  obtain ⟨i, hi⟩ := surj5 ((β (0 : Fin 2)).cast h0) ((β (1 : Fin 2)).cast h1)
  exact ⟨i, fun a => (congrFun hi a).trans (match a with | ⟨0, _⟩ => rfl | ⟨1, _⟩ => rfl)⟩

theorem surj6 : ∀ (p : Fin 4) (q : Fin 1), ∃ i : grid0.Coords, cc0_transform_6 i = ![p.val, q.val] := by decide +kernel
theorem covers6 : ((cfgM m hO).win 6).Covers := by
  refine Pipeline.Window.covers_of_indexMap_surj _ rfl (fun a => (by decide : ∀ a : Fin 2, 0 < S256x352.size a) a) (fun β => ?_)
  have h0 : ((cfgM m hO).win 6).nblk (0 : Fin 2) = 4 := by
    show (1024 + 256 - 1) / 256 = 4
    norm_num
  have h1 : ((cfgM m hO).win 6).nblk (1 : Fin 2) = 1 := by
    show (352 + 352 - 1) / 352 = 1
    norm_num
  obtain ⟨i, hi⟩ := surj6 ((β (0 : Fin 2)).cast h0) ((β (1 : Fin 2)).cast h1)
  exact ⟨i, fun a => (congrFun hi a).trans (match a with | ⟨0, _⟩ => rfl | ⟨1, _⟩ => rfl)⟩

theorem surj7 : ∀ (p : Fin 4) (q : Fin 1), ∃ i : grid0.Coords, cc0_transform_7 i = ![p.val, q.val] := by decide +kernel
theorem covers7 : ((cfgM m hO).win 7).Covers := by
  refine Pipeline.Window.covers_of_indexMap_surj _ rfl (fun a => (by decide : ∀ a : Fin 2, 0 < S256x352.size a) a) (fun β => ?_)
  have h0 : ((cfgM m hO).win 7).nblk (0 : Fin 2) = 4 := by
    show (1024 + 256 - 1) / 256 = 4
    norm_num
  have h1 : ((cfgM m hO).win 7).nblk (1 : Fin 2) = 1 := by
    show (352 + 352 - 1) / 352 = 1
    norm_num
  obtain ⟨i, hi⟩ := surj7 ((β (0 : Fin 2)).cast h0) ((β (1 : Fin 2)).cast h1)
  exact ⟨i, fun a => (congrFun hi a).trans (match a with | ⟨0, _⟩ => rfl | ⟨1, _⟩ => rfl)⟩

theorem surj8 : ∀ (p : Fin 4) (q : Fin 1), ∃ i : grid0.Coords, cc0_transform_8 i = ![p.val, q.val] := by decide +kernel
theorem covers8 : ((cfgM m hO).win 8).Covers := by
  refine Pipeline.Window.covers_of_indexMap_surj _ rfl (fun a => (by decide : ∀ a : Fin 2, 0 < S256x352.size a) a) (fun β => ?_)
  have h0 : ((cfgM m hO).win 8).nblk (0 : Fin 2) = 4 := by
    show (1024 + 256 - 1) / 256 = 4
    norm_num
  have h1 : ((cfgM m hO).win 8).nblk (1 : Fin 2) = 1 := by
    show (352 + 352 - 1) / 352 = 1
    norm_num
  obtain ⟨i, hi⟩ := surj8 ((β (0 : Fin 2)).cast h0) ((β (1 : Fin 2)).cast h1)
  exact ⟨i, fun a => (congrFun hi a).trans (match a with | ⟨0, _⟩ => rfl | ⟨1, _⟩ => rfl)⟩

theorem arr_g (h : (argD m c (ix1 0)).toNat < 8) : ((dats m hO 0 c).arrAt 5 (cfgM m hO).N : FVec Ideal S1024x352 .f32)
    = fun y : S1024x352.Idx => gA m c h (y 0) (y 1) := by
  refine (dats m hO 0 c).arrAt_eq_of_covers 5 (fun y : S1024x352.Idx => gA m c h (y 0) (y 1)) (covers5 m hO) fun t hf (y : S256x352.Idx) => ?_
  have hr := row_val m hO t (y 0)
  have e : (((cfgM m hO).win 5).blk t).view.emb y = ix2 (row t.val (y 0)) (y 1) := by blk_ext [idx5 m hO t]
  blk_simp
  rw [after0_5, e, out5]
  refine ((congrArg _ (eq_ix2 y)).trans (pay5_eq _ _ _ (y 0) (y 1))).trans ?_
  exact g_blk m hO c h t (y 0) (y 1)

theorem arr_step (h : (argD m c (ix1 0)).toNat < 8) : ((dats m hO 0 c).arrAt 6 (cfgM m hO).N : FVec Ideal S1024x352 .f32)
    = fun y : S1024x352.Idx => delta (gA m c h (y 0) (y 1)) (argW m c (ix2 (y 0) (y 1))) (argM m c (ix2 (y 0) (y 1))) (argV m c (ix2 (y 0) (y 1))) := by
  refine (dats m hO 0 c).arrAt_eq_of_covers 6 (fun y : S1024x352.Idx => delta (gA m c h (y 0) (y 1)) (argW m c (ix2 (y 0) (y 1))) (argM m c (ix2 (y 0) (y 1))) (argV m c (ix2 (y 0) (y 1)))) (covers6 m hO) fun t hf (y : S256x352.Idx) => ?_
  have hr := row_val m hO t (y 0)
  have e : (((cfgM m hO).win 6).blk t).view.emb y = ix2 (row t.val (y 0)) (y 1) := by blk_ext [idx6 m hO t]
  blk_simp
  rw [after0_6, e, out6]
  refine ((congrArg _ (eq_ix2 y)).trans (stepB_eq _ _ _ _ _ _ (y 0) (y 1))).trans ?_
  exact step_blk m hO c h t (y 0) (y 1)

theorem arr_m (h : (argD m c (ix1 0)).toNat < 8) : ((dats m hO 0 c).arrAt 7 (cfgM m hO).N : FVec Ideal S1024x352 .f32)
    = fun y : S1024x352.Idx => newM (gA m c h (y 0) (y 1)) (argM m c (ix2 (y 0) (y 1))) := by
  refine (dats m hO 0 c).arrAt_eq_of_covers 7 (fun y : S1024x352.Idx => newM (gA m c h (y 0) (y 1)) (argM m c (ix2 (y 0) (y 1)))) (covers7 m hO) fun t hf (y : S256x352.Idx) => ?_
  have hr := row_val m hO t (y 0)
  have e : (((cfgM m hO).win 7).blk t).view.emb y = ix2 (row t.val (y 0)) (y 1) := by blk_ext [idx7 m hO t]
  blk_simp
  rw [after0_7, e, out7]
  refine ((congrArg _ (eq_ix2 y)).trans (pay6_eq _ _ _ _ (y 0) (y 1))).trans ?_
  exact nm_blk m hO c h t (y 0) (y 1)

theorem arr_v (h : (argD m c (ix1 0)).toNat < 8) : ((dats m hO 0 c).arrAt 8 (cfgM m hO).N : FVec Ideal S1024x352 .f32)
    = fun y : S1024x352.Idx => newV (gA m c h (y 0) (y 1)) (argV m c (ix2 (y 0) (y 1))) := by
  refine (dats m hO 0 c).arrAt_eq_of_covers 8 (fun y : S1024x352.Idx => newV (gA m c h (y 0) (y 1)) (argV m c (ix2 (y 0) (y 1)))) (covers8 m hO) fun t hf (y : S256x352.Idx) => ?_
  have hr := row_val m hO t (y 0)
  have e : (((cfgM m hO).win 8).blk t).view.emb y = ix2 (row t.val (y 0)) (y 1) := by blk_ext [idx8 m hO t]
  blk_simp
  rw [after0_8, e, out8]
  refine ((congrArg _ (eq_ix2 y)).trans (pay7_eq _ _ _ _ (y 0) (y 1))).trans ?_
  exact nv_blk m hO c h t (y 0) (y 1)

end Cert.AdamFfIdeal.Arrays
-- ==== Proof.AdamFf.Equal.lean ====
/-
  The sharded optimiser kernel and its reference end with the same arrays, whatever the arguments, the device's place
  being one of the eight.
-/
module

public import proofs.«01_k».proof.Defs
public import proofs.«01_k».proof.Proof.AdamFf.Arrays
public import proofs.«01_k».proof.Proof.Gen.AdamFfRefIdeal.Read
public import Idealize.ShloMosaic.Lib.Claim

@[expose] public section

set_option maxRecDepth 16384

noncomputable section

open Idealize.ShloMosaic Idealize.ShloMosaic.TcCoe Idealize.SL.Sem

namespace Cert.AdamFfRefIdeal.Val

open Cert.AdamFfRefIdeal Cert.AdamFfRefIdeal.Read Cert.AdamForm

variable (x0 x1 : FVec Ideal S8x1024x352 .f32) (x2 : IVec S1 32) (x3 x4 x5 : FVec Ideal S1024x352 .f32)

/-- One part of the reference's sum: the own one in the device's place. -/
theorem main_v5 (k : Fin 8) (i : Fin 1024) (j : Fin 352) :
    val_main_v5 (F := Ideal) x0 x1 x2 (ix3 k i j) = if x2 (ix1 0) = BitVec.ofNat 32 k.val then x1 (ix3 k i j) else x0 (ix3 k i j) := by
  have e : val_main_call0_v0 (F := Ideal) x2 (ix3 k i j) = IntOp.cmpi .eq (BitVec.ofNat 32 k.val) (x2 (ix1 0)) := by
    pointwise [val_main_call0_v0, val_main_v4, val_main_v3, val_main_v2, val_main_v1, val_main_v0]
  rw [val_main_v5_apply, e, WordCmp.cmpi_eq_eq]
  by_cases h : x2 (ix1 0) = BitVec.ofNat 32 k.val
  · simp [Scalar.select, h]
  · simp [Scalar.select, h, Ne.symm h]

theorem main_v6 (h : (x2 (ix1 0)).toNat < 8) (i : Fin 1024) (j : Fin 352) :
    val_main_v6 (F := Ideal) x0 x1 x2 (ix2 i j) = grad (x2 (ix1 0)) (x1 (ix3 ⟨_, h⟩ i j)) fun k => x0 (ix3 k i j) := by
  pointwise [val_main_v6, val_main_cst]
  unfold grad
  simp only [main_v5]
  refine Finset.sum_congr rfl fun k _ => ?_
  by_cases e : x2 (ix1 0) = BitVec.ofNat 32 k.val
  · have hk : (⟨(x2 (ix1 0)).toNat, h⟩ : Fin 8) = k := Fin.ext (by
      show (x2 (ix1 0)).toNat = k.val
      rw [e, BitVec.toNat_ofNat]
      exact Nat.mod_eq_of_lt (by omega))
    rw [if_pos e, if_pos e, hk]
  · rw [if_neg e, if_neg e]

theorem main_v11 (i : Fin 1024) (j : Fin 352) :
    val_main_v11 (F := Ideal) x0 x1 x2 x4 (ix2 i j) = newM (val_main_v6 (F := Ideal) x0 x1 x2 (ix2 i j)) (x4 (ix2 i j)) := by
  pointwise [val_main_v11, val_main_v10, val_main_v9, val_main_cst_1, val_main_v8, val_main_v7, val_main_cst_0]
  rfl

theorem main_v17 (i : Fin 1024) (j : Fin 352) :
    val_main_v17 (F := Ideal) x0 x1 x2 x5 (ix2 i j) = newV (val_main_v6 (F := Ideal) x0 x1 x2 (ix2 i j)) (x5 (ix2 i j)) := by
  pointwise [val_main_v17, val_main_v16, val_main_v15, val_main_cst_3, val_main_v14, val_main_v13, val_main_v12, val_main_cst_2]
  rfl

theorem main_v30 (i : Fin 1024) (j : Fin 352) :
    val_main_v30 (F := Ideal) x0 x1 x2 x3 x4 x5 (ix2 i j)
      = delta (val_main_v6 (F := Ideal) x0 x1 x2 (ix2 i j)) (x3 (ix2 i j)) (x4 (ix2 i j)) (x5 (ix2 i j)) := by
  pointwise [val_main_v30, val_main_v29, val_main_cst_8, val_main_v28, val_main_v27, val_main_v26, val_main_cst_7, val_main_v25, val_main_v24,
    val_main_v23, val_main_cst_6, val_main_v22, val_main_v21, val_main_v20, val_main_cst_5, val_main_v19, val_main_v18, val_main_cst_4]
  simp only [main_v11, main_v17]
  rfl

end Cert.AdamFfRefIdeal.Val

namespace Cert.AdamFfEqual

open Cert.AdamFfIdeal.Arrays Cert.AdamFfIdeal.Gen

/-- The reference's frame: it ends, its arguments and every counter as they were. -/
theorem ref_frame : Cert.quiescent_AdamFfRefIdeal := fun m ρ _ => by
  refine (θ_run Cert.AdamFfRefIdeal.defs _ _).mono (fun r h => ⟨fun c => ?_, sem_eq_zero_of_no_sems (by decide) r.2⟩)
    (Cert.AdamFfRefIdeal.Value.run (F := Ideal) m ρ)
  obtain ⟨-, -, -, -, hk⟩ := h c
  exact hk

section Run

open Cert.AdamFfIdeal

variable (m : (ℓ : Loc nD τ sig) → Buf (Elt Ideal) ℓ) (ρ : Dev nD → PrngReg)

/-- The kernel's run: the four results are what the windows write back, the arguments unchanged. -/
theorem run_blocks (hO : Ok m) : θ_run defs (onTc (τ := τ) (main (F := Ideal))) ⟨m, fun _ => 0, ρ⟩ fun r => ∀ c : Dev nD,
      r.2.mem ((c.tc : Thread nD τ).loc main_v2_0) = (dats m hO 0 c).arrAt 5 (cfgM m hO).N
      ∧ r.2.mem ((c.tc : Thread nD τ).loc main_v2_1) = (dats m hO 0 c).arrAt 6 (cfgM m hO).N
      ∧ r.2.mem ((c.tc : Thread nD τ).loc main_v2_2) = (dats m hO 0 c).arrAt 7 (cfgM m hO).N
      ∧ r.2.mem ((c.tc : Thread nD τ).loc main_v2_3) = (dats m hO 0 c).arrAt 8 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.2 c).1 5, (h.2 c).1 6, (h.2 c).1 7, (h.2 c).1 8, h.1 c⟩)
    (θ_run_and (unchanged m ρ hO) (run_main m ρ hO))

end Run

section Same

variable (m : (ℓ : Loc Cert.AdamFfIdeal.nD Cert.AdamFfIdeal.τ Cert.AdamFfIdeal.sig) → Buf (Elt Ideal) ℓ) (hO : Ok m) (c : Dev Cert.AdamFfIdeal.nD)
  (h : (argD m c (ix1 0)).toNat < 8)
include h

theorem g_same : (dats m hO 0 c).arrAt 5 (cfgM m hO).N
    = Cert.AdamFfRefIdeal.Read.val_main_v6 (F := Ideal) (argL m c) (argS m c) (argD m c) := by
  refine (arr_g m hO c h).trans (funext fun y : Cert.AdamFfIdeal.S1024x352.Idx => ?_)
  rw [eq_ix2 y]
  exact (Cert.AdamFfRefIdeal.Val.main_v6 _ _ _ h (y 0) (y 1)).symm

theorem step_same : (dats m hO 0 c).arrAt 6 (cfgM m hO).N
    = Cert.AdamFfRefIdeal.Read.val_main_v30 (F := Ideal) (argL m c) (argS m c) (argD m c) (argW m c) (argM m c) (argV m c) := by
  refine (arr_step m hO c h).trans (funext fun y : Cert.AdamFfIdeal.S1024x352.Idx => ?_)
  rw [eq_ix2 y]
  refine Eq.trans ?_ (Cert.AdamFfRefIdeal.Val.main_v30 _ _ _ _ _ _ (y 0) (y 1)).symm
  rw [Cert.AdamFfRefIdeal.Val.main_v6 _ _ _ h (y 0) (y 1)]
  rfl

theorem m_same : (dats m hO 0 c).arrAt 7 (cfgM m hO).N
    = Cert.AdamFfRefIdeal.Read.val_main_v11 (F := Ideal) (argL m c) (argS m c) (argD m c) (argM m c) := by
  refine (arr_m m hO c h).trans (funext fun y : Cert.AdamFfIdeal.S1024x352.Idx => ?_)
  rw [eq_ix2 y]
  refine Eq.trans ?_ (Cert.AdamFfRefIdeal.Val.main_v11 _ _ _ _ (y 0) (y 1)).symm
  rw [Cert.AdamFfRefIdeal.Val.main_v6 _ _ _ h (y 0) (y 1)]
  rfl

theorem v_same : (dats m hO 0 c).arrAt 8 (cfgM m hO).N
    = Cert.AdamFfRefIdeal.Read.val_main_v17 (F := Ideal) (argL m c) (argS m c) (argD m c) (argV m c) := by
  refine (arr_v m hO c h).trans (funext fun y : Cert.AdamFfIdeal.S1024x352.Idx => ?_)
  rw [eq_ix2 y]
  refine Eq.trans ?_ (Cert.AdamFfRefIdeal.Val.main_v17 _ _ _ _ (y 0) (y 1)).symm
  rw [Cert.AdamFfRefIdeal.Val.main_v6 _ _ _ h (y 0) (y 1)]
  rfl

end Same

/-- The claim: the kernel's run and the reference's end with equal arrays, the arguments unchanged. -/
theorem algebraic : Cert.algebraic_AdamFfIdeal_AdamFfRefIdeal := by
  pair_intro
  · run_from run_blocks m g (ok_ideal m hpre)
  · refine (θ_run _ _ _).mono (fun r h c => ?_) (Cert.AdamFfRefIdeal.Value.run (F := Ideal) m' g')
    have hs : (argD m c (ix1 0)).toNat < 8 := Cert.Pre_place_ff.Read.small _ _ _ _ _ _ (hpre c)
    obtain ⟨e0, e1, e2, e3, e4, e5⟩ := hagree c
    obtain ⟨h0, h1, h2, h3, hk⟩ := h c
    refine ⟨?_, ?_, ?_, ?_, hk⟩
    · rw [h0, Cert.AdamFfRefIdeal.Read.val_main_v6_eq, e0, e1, e2]
      exact (g_same m (ok_ideal m hpre) c hs).symm
    · rw [h1, Cert.AdamFfRefIdeal.Read.val_main_v30_eq, e0, e1, e2, e3, e4, e5]
      exact (step_same m (ok_ideal m hpre) c hs).symm
    · rw [h2, Cert.AdamFfRefIdeal.Read.val_main_v11_eq, e0, e1, e2, e4]
      exact (m_same m (ok_ideal m hpre) c hs).symm
    · rw [h3, Cert.AdamFfRefIdeal.Read.val_main_v17_eq, e0, e1, e2, e5]
      exact (v_same m (ok_ideal m hpre) c hs).symm

end Cert.AdamFfEqual
-- ==== Proof.AdamDown.Point.lean ====
/-
  What a grid point of the sharded optimiser kernel leaves, at an index.
-/
module

public import proofs.«01_k».proof.Proof.Gen.AdamDownIdeal.Frame
public import proofs.«01_k».proof.Proof.Adam.Form
public import Idealize.ShloMosaic.Lib.Pipeline.ValueKit
public import Idealize.ShloMosaic.Lib.Pipeline.Value
public import Idealize.ShloMosaic.Lib.WordCmp

@[expose] public section

set_option maxRecDepth 16384

noncomputable section

namespace Cert.AdamDownIdeal.Point

open Cert.AdamDownIdeal Cert.AdamDownIdeal.Gen Cert.AdamForm
open Idealize.ShloMosaic Idealize.ShloMosaic.TcCoe Idealize.SL.Sem

/-- One device's part of the block that landed. -/
def part {k : ℕ} (inb : ∀ a, (![k, 0, 0] : Fin 3 → ℕ) a + (![1, 176, 1024] : Fin 3 → ℕ) a ≤ S8x176x1024.size a)
    (x0 : Vec Ideal S8x176x1024 .bf16) : Vec Ideal S1x176x1024 .bf16 :=
  View.ld x0 (Rect.unit (s := S8x176x1024) ![k, 0, 0] ![1, 176, 1024] inb)

theorem part_eq {k : ℕ} (inb) (hk : k < 8) (x0 : FVec Ideal S8x176x1024 .bf16) (i : Fin 176) (j : Fin 1024) :
    part (k := k) inb x0 (ix3 0 i j) = x0 (ix3 ⟨k, hk⟩ i j) :=
  congrArg x0 (funext fun a => match a with
    | ⟨0, _⟩ => Fin.ext (by show k + 1 * 0 = k; omega)
    | ⟨1, _⟩ => Fin.ext (by show 0 + 1 * i.val = i.val; omega)
    | ⟨2, _⟩ => Fin.ext (by show 0 + 1 * j.val = j.val; omega))

theorem select_cmpi {α : Type} (w k : BitVec 32) (a b : α) : Scalar.select (Scalar.cmpi .eq w k) a b = if w = k then a else b := by
  by_cases h : w = k
  · subst h; simp [Scalar.select, Scalar.cmpi, WordCmp.cmpi_eq_eq]
  · simp [Scalar.select, Scalar.cmpi, WordCmp.cmpi_eq_eq, h]

section Payloads

variable (w : BitVec 32) (x0 : FVec Ideal S8x176x1024 .bf16) (x1 : FVec Ideal S1x176x1024 .bf16) (x2 x3 x4 : FVec Ideal S176x1024 .f32)

/-- The sum of the first seven parts, the own one in the place of its device; and the last part. -/
def seven : FVec Ideal S176x1024 .f32 :=
  k0_pay4 (F := Ideal)
    (k0_pay2 w x1 (part inb_S8x176x1024_S1x176x1024_0_0_0 x0) w x1 (part inb_S8x176x1024_S1x176x1024_1_0_0 x0)
      w x1 (part inb_S8x176x1024_S1x176x1024_2_0_0 x0))
    (Scalar.cmpi .eq w 3#32) (k0_pay3 x1) (part inb_S8x176x1024_S1x176x1024_3_0_0 x0) w x1 (part inb_S8x176x1024_S1x176x1024_4_0_0 x0)
    w x1 (part inb_S8x176x1024_S1x176x1024_5_0_0 x0) w x1 (part inb_S8x176x1024_S1x176x1024_6_0_0 x0)
def eighth : Vec Ideal S1x176x1024 .bf16 := part inb_S8x176x1024_S1x176x1024_7_0_0 x0

/-- The block's gradient at an index. -/
def gB (i : Fin 176) (j : Fin 1024) : EReal := grad w (x1 (ix3 0 i j)) fun k => x0 (ix3 k i j)

theorem pay5_eq (i : Fin 176) (j : Fin 1024) : k0_pay5 (F := Ideal) (seven w x0 x1) w x1 (eighth x0) (ix2 i j) = gB w x0 x1 i j := by
  unfold gB grad
  rw [Fin.sum_univ_eight]
  pointwise [k0_pay5, seven, k0_pay4, k0_pay2, k0_pay3, eighth]
  simp only [select_cmpi]
  rw [part_eq _ (by norm_num), part_eq _ (by norm_num), part_eq _ (by norm_num), part_eq _ (by norm_num), part_eq _ (by norm_num),
    part_eq _ (by norm_num), part_eq _ (by norm_num), part_eq _ (by norm_num)]
  rfl

theorem pay6_eq (i : Fin 176) (j : Fin 1024) :
    k0_pay6 (F := Ideal) (seven w x0 x1) w x1 (eighth x0) x3 (ix2 i j) = newM (gB w x0 x1 i j) (x3 (ix2 i j)) := by
  pointwise [k0_pay6]
  simp only [pay5_eq]
  rfl

theorem pay7_eq (i : Fin 176) (j : Fin 1024) :
    k0_pay7 (F := Ideal) (seven w x0 x1) w x1 (eighth x0) x4 (ix2 i j) = newV (gB w x0 x1 i j) (x4 (ix2 i j)) := by
  pointwise [k0_pay7]
  simp only [pay5_eq]
  rfl

/-- The step of the weight as the kernel works it out. -/
def stepB : FVec Ideal S176x1024 .f32 :=
  k0_pay1 (F := Ideal) (k0_pay8 (seven w x0 x1) w x1 (eighth x0) x2 x3 x4) (FloatOps.ofBits FTy.f32 0xBA83126F#32)

theorem stepB_eq (i : Fin 176) (j : Fin 1024) :
    stepB w x0 x1 x2 x3 x4 (ix2 i j) = delta (gB w x0 x1 i j) (x2 (ix2 i j)) (x3 (ix2 i j)) (x4 (ix2 i j)) := by
  pointwise [stepB, k0_pay1, k0_pay8]
  simp only [pay6_eq, pay7_eq]
  rfl

end Payloads

section Pieces

variable (c : Dev nD) (i : grid0.Coords)
  (arg2 : Memref sig .tc .vmem S8x176x1024 .bf16) (harg2 : arg2.IsWhole)  (arg3 : Memref sig .tc .vmem S1x176x1024 .bf16) (harg3 : arg3.IsWhole)
  (arg4 : Memref sig .tc .vmem S176x1024 .f32) (harg4 : arg4.IsWhole)
  (arg5 : Memref sig .tc .vmem S176x1024 .f32) (harg5 : arg5.IsWhole)
  (arg6 : Memref sig .tc .vmem S176x1024 .f32) (harg6 : arg6.IsWhole)
  (arg7 : Memref sig .tc .vmem S176x1024 .f32) (harg7 : arg7.IsWhole)
  (arg8 : Memref sig .tc .vmem S176x1024 .f32) (harg8 : arg8.IsWhole)
  (arg9 : Memref sig .tc .vmem S176x1024 .f32) (harg9 : arg9.IsWhole)
  (arg10 : Memref sig .tc .vmem S176x1024 .f32) (harg10 : arg10.IsWhole)
  (x0 : Vec Ideal S8x176x1024 .bf16) (x1 : Vec Ideal S1x176x1024 .bf16) (x2 x3 x4 : Vec Ideal S176x1024 .f32)
  (xt : TbBuf0 (F := Ideal) c tbM0_0)

/-- The device's place as the kernel reads it off its table. -/
def wordOf : BitVec 32 := View.read (Elt Ideal) (View.whole main_arg2) xt (Shape.Idx.first (by decide))

theorem wordOf_eq : wordOf c xt = (xt : IVec S1 32) (ix1 0) :=
  congrArg (xt : IVec S1 32) (funext fun a => match a with | ⟨0, _⟩ => Subsingleton.elim (α := Fin 1) _ _)

theorem piece5 : out0_A_5 (F := Ideal) c i arg2 harg2 arg3 harg3 arg4 harg4 arg5 harg5 arg6 harg6 arg7 harg7 arg8 harg8 arg9 harg9 arg10 harg10 x0 x1 x2 x3 x4 xt
    = k0_pay5 (F := Ideal) (seven (wordOf c xt) x0 x1) (wordOf c xt) x1 (eighth x0) := by
  unfold out0_A_5
  frame_out
  rfl

theorem piece6 : out0_A_6 (F := Ideal) c i arg2 harg2 arg3 harg3 arg4 harg4 arg5 harg5 arg6 harg6 arg7 harg7 arg8 harg8 arg9 harg9 arg10 harg10 x0 x1 x2 x3 x4 xt
    = stepB (wordOf c xt) x0 x1 x2 x3 x4 := by
  unfold out0_A_6
  frame_out
  rfl

theorem piece7 : out0_A_7 (F := Ideal) c i arg2 harg2 arg3 harg3 arg4 harg4 arg5 harg5 arg6 harg6 arg7 harg7 arg8 harg8 arg9 harg9 arg10 harg10 x0 x1 x2 x3 x4 xt
    = k0_pay6 (F := Ideal) (seven (wordOf c xt) x0 x1) (wordOf c xt) x1 (eighth x0) x3 := by
  unfold out0_A_7
  frame_out
  rfl

theorem piece8 : out0_A_8 (F := Ideal) c i arg2 harg2 arg3 harg3 arg4 harg4 arg5 harg5 arg6 harg6 arg7 harg7 arg8 harg8 arg9 harg9 arg10 harg10 x0 x1 x2 x3 x4 xt
    = k0_pay7 (F := Ideal) (seven (wordOf c xt) x0 x1) (wordOf c xt) x1 (eighth x0) x4 := by
  unfold out0_A_8
  frame_out
  rfl

end Pieces

variable (m : (ℓ : Loc nD τ sig) → Buf (Elt Ideal) ℓ) (hO : Ok m) (c : Dev nD) (t : Fin (cfgM m hO).N)

/-- The device's place as the kernel reads it. -/
abbrev word : BitVec 32 := wordOf c (tbl m 0)

/-- The blocks of a point: what landed, the own slab, the weight and its moments. -/
abbrev b0 : FVec Ideal S8x176x1024 .bf16 := iblk m hO c 0 t
abbrev b1 : FVec Ideal S1x176x1024 .bf16 := iblk m hO c 1 t
abbrev b2 : FVec Ideal S176x1024 .f32 := iblk m hO c 2 t
abbrev b3 : FVec Ideal S176x1024 .f32 := iblk m hO c 3 t
abbrev b4 : FVec Ideal S176x1024 .f32 := iblk m hO c 4 t

theorem out5 : (outsAt0 m hO c t).1
    = k0_pay5 (F := Ideal) (seven (word m c) (b0 m hO c t) (b1 m hO c t)) (word m c) (b1 m hO c t) (eighth (b0 m hO c t)) := by
  unfold outsAt0
  dsimp only
  exact piece5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (b0 m hO c t) (b1 m hO c t) (b2 m hO c t) (b3 m hO c t) (b4 m hO c t) (tbl m 0)

theorem out6 : (outsAt0 m hO c t).2.1
    = stepB (word m c) (b0 m hO c t) (b1 m hO c t) (b2 m hO c t) (b3 m hO c t) (b4 m hO c t) := by
  unfold outsAt0
  dsimp only
  exact piece6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (b0 m hO c t) (b1 m hO c t) (b2 m hO c t) (b3 m hO c t) (b4 m hO c t) (tbl m 0)

theorem out7 : (outsAt0 m hO c t).2.2.1
    = k0_pay6 (F := Ideal) (seven (word m c) (b0 m hO c t) (b1 m hO c t)) (word m c) (b1 m hO c t) (eighth (b0 m hO c t)) (b3 m hO c t) := by
  unfold outsAt0
  dsimp only
  exact piece7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (b0 m hO c t) (b1 m hO c t) (b2 m hO c t) (b3 m hO c t) (b4 m hO c t) (tbl m 0)

theorem out8 : (outsAt0 m hO c t).2.2.2
    = k0_pay7 (F := Ideal) (seven (word m c) (b0 m hO c t) (b1 m hO c t)) (word m c) (b1 m hO c t) (eighth (b0 m hO c t)) (b4 m hO c t) := by
  unfold outsAt0
  dsimp only
  exact piece8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
    (b0 m hO c t) (b1 m hO c t) (b2 m hO c t) (b3 m hO c t) (b4 m hO c t) (tbl m 0)

end Cert.AdamDownIdeal.Point
-- ==== Proof.AdamDown.Place.lean ====
/-
  The precondition of the sharded optimiser kernel: the device's place is one of the eight, and so the block the
  table names lies inside its array.
-/
module

public import proofs.«01_k».proof.Defs
public import proofs.«01_k».proof.Proof.Gen.AdamDown.Frame
public import proofs.«01_k».proof.Proof.Gen.AdamDownIdeal.Frame
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Pre_place_down.Read

open Cert.Pre_place_down

instance facts : Cert.Pre_place_down.Facts where
  shapeCasts_S1_S_ := by decide

/-- A number between zero and seven, as a signed word, is one of the eight as an unsigned word. -/
theorem small_of {v : BitVec 32} (h0 : IntOp.cmpi .sge v 0#32 = 1#1) (h1 : IntOp.cmpi .slt v 8#32 = 1#1) : v.toNat < 8 := by
  have h0' : (0#32).toInt ≤ v.toInt := by
    by_contra h
    rw [WordCmp.cmpi_sge_eq, decide_eq_false h] at h0
    exact absurd h0 (by decide)
  have h1' : v.toInt < (8#32).toInt := by
    by_contra h
    rw [WordCmp.cmpi_slt_eq, decide_eq_false h] at h1
    exact absurd h1 (by decide)
  have e0 : (0#32).toInt = 0 := by decide
  have e8 : (8#32).toInt = 8 := by decide
  have := v.isLt
  rw [e0] at h0'
  rw [e8] at h1'
  rw [BitVec.toInt_eq_toNat_cond] at h0' h1'
  split at h0' <;> omega

theorem small {F : FTy → Type} [FloatOps F] (x0 x1 : FVec F S8x352x1024 .f32) (x2 : IVec S1 32) (x3 x4 x5 : FVec F S352x1024 .f32)
    (h : fn (F := F) x0 x1 x2 x3 x4 x5 = fun _ => 1#1) : (x2 (ix1 0)).toNat < 8 := by
  have h' := congrFun h ix0
  dsimp only [fn] at h'
  simp only [andi, IntOp.andi_eq_one] at h'
  have e : shapeCast S_ x2 Facts.shapeCasts_S1_S_ ix0 = x2 (ix1 0) := by pointwise
  exact small_of (e ▸ h'.1) (e ▸ h'.2)

end Cert.Pre_place_down.Read

namespace Cert.AdamDown.Place

open Cert.AdamDown Cert.AdamDown.Gen

theorem inside : ∀ (k : Fin 8) (i : grid0.Coords),
    ∃ h : (∀ a, ((![k.val, (i 0).val, 0] : Fin 3 → ℕ) a + 1) * S1x176x1024.size a ≤ S8x352x1024.size a),
      EltTy.bits .bf16 = 32 ∨ (Rect.block (s := S8x352x1024) S1x176x1024.size ![k.val, (i 0).val, 0] h).WholeWords (EltTy.packing .bf16) := by
  decide +kernel

theorem map_eq {F : FTy → Type} [FloatOps F] (pf : pre0.Contents (Elt F)) (i : grid0.Coords) :
    cc0_transform_1 inb_S1_S1_0 numel1_S1 pf i = ![((pf 0 : IVec S1 32) (ix1 0)).toNat, (i 0).val, 0] := by
  have e : (BitVec.ofNat 32 (i 0).val).toNat = (i 0).val := by
    have : (i 0).val < 2 := (i 0).isLt
    rw [BitVec.toNat_ofNat]
    omega
  have a : (pf.at 0 (Rect.unit (s := S1) ![0] S1.size inb_S1_S1_0) numel1_S1 : BitVec 32) = (pf 0 : IVec S1 32) (ix1 0) :=
    congrArg (pf 0 : IVec S1 32) (funext fun a => match a with | ⟨0, _⟩ => Subsingleton.elim (α := Fin 1) _ _)
  exact congrArg₂ (fun k n : ℕ => ![k, n, 0]) (congrArg BitVec.toNat a) e

theorem ok_of {F : FTy → Type} [FloatOps F] (m : (ℓ : Loc nD τ sig) → Buf (Elt F) ℓ)
    (h : ((m (((0 : Dev nD).tc : Thread nD τ).loc main_arg2) : IVec S1 32) (ix1 0)).toNat < 8) : Ok m := by
  intro i
  have e : tbl m 0 = m (((0 : Dev nD).tc : Thread nD τ).loc main_arg2) := V_main_arg2 m 0
  rw [map_eq, e]
  exact inside ⟨_, h⟩ i

end Cert.AdamDown.Place

namespace Cert.AdamDownIdeal.Place

open Cert.AdamDownIdeal Cert.AdamDownIdeal.Gen

theorem map_eq {F : FTy → Type} [FloatOps F] (pf : pre0.Contents (Elt F)) (i : grid0.Coords) :
    cc0_transform_1 inb_S1_S1_0 numel1_S1 pf i = ![((pf 0 : IVec S1 32) (ix1 0)).toNat, (i 0).val, 0] := Cert.AdamDown.Place.map_eq pf i

theorem ok_of {F : FTy → Type} [FloatOps F] (m : (ℓ : Loc nD τ sig) → Buf (Elt F) ℓ)
    (h : ((m (((0 : Dev nD).tc : Thread nD τ).loc main_arg2) : IVec S1 32) (ix1 0)).toNat < 8) : Ok m := by
  intro i
  have e : tbl m 0 = m (((0 : Dev nD).tc : Thread nD τ).loc main_arg2) := V_main_arg2 m 0
  rw [map_eq, e]
  exact Cert.AdamDown.Place.inside ⟨_, h⟩ i

end Cert.AdamDownIdeal.Place

namespace Cert.AdamDownEqual

theorem small (m : (ℓ : Loc Cert.AdamDownIdeal.nD Cert.AdamDownIdeal.τ Cert.AdamDownIdeal.sig) → Buf (Elt Ideal) ℓ) (h : Cert.Pre_AdamDownIdeal m) :
    ((m (((0 : Dev Cert.AdamDownIdeal.nD).tc : Thread Cert.AdamDownIdeal.nD Cert.AdamDownIdeal.τ).loc Cert.AdamDownIdeal.main_arg2) : IVec Cert.AdamDownIdeal.S1 32) (ix1 0)).toNat < 8 :=
  Cert.Pre_place_down.Read.small _ _ _ _ _ _ (h 0)

theorem ok_bits (m : (ℓ : Loc Cert.AdamDown.nD Cert.AdamDown.τ Cert.AdamDown.sig) → Buf (Elt Bits) ℓ) (h : Cert.Pre_AdamDown m) : Cert.AdamDown.Gen.Ok m :=
  Cert.AdamDown.Place.ok_of m (Cert.Pre_place_down.Read.small _ _ _ _ _ _ (h 0))

theorem ok_ideal (m : (ℓ : Loc Cert.AdamDownIdeal.nD Cert.AdamDownIdeal.τ Cert.AdamDownIdeal.sig) → Buf (Elt Ideal) ℓ) (h : Cert.Pre_AdamDownIdeal m) : Cert.AdamDownIdeal.Gen.Ok m :=
  Cert.AdamDownIdeal.Place.ok_of m (small m h)

/-- The two frames, under the precondition. -/
theorem frame : Cert.quiescent_AdamDown := fun m ρ h => Cert.AdamDown.Gen.frame m ρ (ok_bits m h)
theorem frame_ideal : Cert.quiescent_AdamDownIdeal := fun m ρ h => Cert.AdamDownIdeal.Gen.frame m ρ (ok_ideal m h)

end Cert.AdamDownEqual
-- ==== Proof.AdamDown.Arrays.lean ====
/-
  The arrays the sharded optimiser kernel ends with: the gradient, the step of the weight and the new moments at every
  element, of the arguments.
-/
module

public import proofs.«01_k».proof.Proof.AdamDown.Point
public import proofs.«01_k».proof.Proof.AdamDown.Place
public import Idealize.ShloMosaic.Lib.Pipeline.Covers
public import Idealize.ShloMosaic.Lib.Claim

@[expose] public section

set_option maxRecDepth 16384

noncomputable section

namespace Cert.AdamDownIdeal.Arrays

open Cert.AdamDownIdeal Cert.AdamDownIdeal.Gen Cert.AdamDownIdeal.Point Cert.AdamForm
open Idealize.ShloMosaic Idealize.ShloMosaic.TcCoe Idealize.SL.Sem

variable (m : (ℓ : Loc nD τ sig) → Buf (Elt Ideal) ℓ) (hO : Ok m) (c : Dev nD)

/-- The arguments of device `c`. -/
abbrev argL : FVec Ideal S8x352x1024 .f32 := m ((c : Thread nD τ).loc main_arg0)
abbrev argS : FVec Ideal S8x352x1024 .f32 := m ((c : Thread nD τ).loc main_arg1)
abbrev argD : IVec S1 32 := m ((c : Thread nD τ).loc main_arg2)
abbrev argW : FVec Ideal S352x1024 .f32 := m ((c : Thread nD τ).loc main_arg3)
abbrev argM : FVec Ideal S352x1024 .f32 := m ((c : Thread nD τ).loc main_arg4)
abbrev argV : FVec Ideal S352x1024 .f32 := m ((c : Thread nD τ).loc main_arg5)

theorem l_val (k : Fin 8) (i : Fin 352) (j : Fin 1024) : (V m c main_v0 : FVec Ideal S8x352x1024 .bf16) (ix3 k i j) = argL m c (ix3 k i j) := by
  entry_read; pointwise
theorem s_val (k : Fin 8) (i : Fin 352) (j : Fin 1024) : (V m c main_v1 : FVec Ideal S8x352x1024 .bf16) (ix3 k i j) = argS m c (ix3 k i j) := by
  entry_read; pointwise

theorem word_eq : word m c = argD m c (ix1 0) := by
  have e : tbl m 0 = m ((c : Thread nD τ).loc main_arg2) := (V_pre m c 0).symm.trans (V_main_arg2 m c)
  exact (wordOf_eq c (tbl m 0)).trans (congrFun e (ix1 0))

/-- The row of the arrays that row `i` of point `n`'s tiles is. -/
def row (n : ℕ) (i : Fin 176) : Fin 352 := ⟨(176 * n + i.val) % 352, Nat.mod_lt _ (by norm_num)⟩

theorem row_val (t : Fin (cfgM m hO).N) (i : Fin 176) : (row t.val i).val = t.val * 176 + i.val := by
  have : t.val < 2 := t.isLt
  unfold row
  show (176 * t.val + i.val) % 352 = _
  omega

/-- The index maps: the tiles go along the rows; the own slab's is the device's. -/
theorem maps : ∀ t : Fin grid0.N, cc0_transform_0 (grid0.coords t) = ![0, t.val, 0] ∧ (grid0.coords t 0).val = t.val
    ∧ cc0_transform_2 (grid0.coords t) = ![t.val, 0] ∧ cc0_transform_3 (grid0.coords t) = ![t.val, 0] ∧ cc0_transform_4 (grid0.coords t) = ![t.val, 0]
    ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0] := by
  decide +kernel

section Blocks

variable (t : Fin (cfgM m hO).N)

theorem idx0 : ((cfgM m hO).win 0).index t = ![0, t.val, 0] := (maps t).1
theorem idx1 : ((cfgM m hO).win 1).index t = ![(argD m c (ix1 0)).toNat, t.val, 0] := by
  have e : tbl m 0 = m ((c : Thread nD τ).loc main_arg2) := (V_pre m c 0).symm.trans (V_main_arg2 m c)
  refine (Place.map_eq (tbl m) (grid0.coords t)).trans ?_
  rw [e, (maps t).2.1]
theorem idx2 : ((cfgM m hO).win 2).index t = ![t.val, 0] := (maps t).2.2.1
theorem idx3 : ((cfgM m hO).win 3).index t = ![t.val, 0] := (maps t).2.2.2.1
theorem idx4 : ((cfgM m hO).win 4).index t = ![t.val, 0] := (maps t).2.2.2.2.1
theorem idx5 : ((cfgM m hO).win 5).index t = ![t.val, 0] := (maps t).2.2.2.2.2.1
theorem idx6 : ((cfgM m hO).win 6).index t = ![t.val, 0] := (maps t).2.2.2.2.2.2.1
theorem idx7 : ((cfgM m hO).win 7).index t = ![t.val, 0] := (maps t).2.2.2.2.2.2.2.1
theorem idx8 : ((cfgM m hO).win 8).index t = ![t.val, 0] := (maps t).2.2.2.2.2.2.2.2

theorem l_blk (k : Fin 8) (i : Fin 176) (j : Fin 1024) : b0 m hO c t (ix3 k i j) = argL m c (ix3 k (row t.val i) j) := by
  refine Eq.trans ?_ (l_val m c k (row t.val i) j)
  have := row_val m hO t i
  blk_ext [b0, iblk, idx0 m hO t]

theorem s_blk (h : (argD m c (ix1 0)).toNat < 8) (i : Fin 176) (j : Fin 1024) :
    b1 m hO c t (ix3 0 i j) = argS m c (ix3 ⟨_, h⟩ (row t.val i) j) := by
  refine Eq.trans ?_ (s_val m c ⟨_, h⟩ (row t.val i) j)
  have := row_val m hO t i
  blk_ext [b1, iblk, idx1 m hO c t]

theorem w_blk (i : Fin 176) (j : Fin 1024) : b2 m hO c t (ix2 i j) = argW m c (ix2 (row t.val i) j) := by
  have := row_val m hO t i
  unfold argW
  rw [← V_main_arg3 m c]
  blk_ext [b2, iblk, idx2 m hO t]

theorem m_blk (i : Fin 176) (j : Fin 1024) : b3 m hO c t (ix2 i j) = argM m c (ix2 (row t.val i) j) := by
  have := row_val m hO t i
  unfold argM
  rw [← V_main_arg4 m c]
  blk_ext [b3, iblk, idx3 m hO t]

theorem v_blk (i : Fin 176) (j : Fin 1024) : b4 m hO c t (ix2 i j) = argV m c (ix2 (row t.val i) j) := by
  have := row_val m hO t i
  unfold argV
  rw [← V_main_arg5 m c]
  blk_ext [b4, iblk, idx4 m hO t]

end Blocks

/-- The gradient at an element, of the arguments. -/
def gA (h : (argD m c (ix1 0)).toNat < 8) (i : Fin 352) (j : Fin 1024) : EReal :=
  grad (argD m c (ix1 0)) (argS m c (ix3 ⟨_, h⟩ i j)) fun k => argL m c (ix3 k i j)

theorem g_blk (h : (argD m c (ix1 0)).toNat < 8) (t : Fin (cfgM m hO).N) (i : Fin 176) (j : Fin 1024) :
    gB (word m c) (b0 m hO c t) (b1 m hO c t) i j = gA m c h (row t.val i) j := by
  unfold gB gA
  rw [word_eq, s_blk m hO c t h i j]
  exact congrArg (grad _ _) (funext fun k => l_blk m hO c t k i j)

theorem step_blk (h : (argD m c (ix1 0)).toNat < 8) (t : Fin (cfgM m hO).N) (i : Fin 176) (j : Fin 1024) :
    delta (gB (word m c) (b0 m hO c t) (b1 m hO c t) i j) (b2 m hO c t (ix2 i j)) (b3 m hO c t (ix2 i j)) (b4 m hO c t (ix2 i j))
      = delta (gA m c h (row t.val i) j) (argW m c (ix2 (row t.val i) j)) (argM m c (ix2 (row t.val i) j)) (argV m c (ix2 (row t.val i) j)) := by
  rw [g_blk m hO c h t i j, w_blk m hO c t i j, m_blk m hO c t i j, v_blk m hO c t i j]

theorem nm_blk (h : (argD m c (ix1 0)).toNat < 8) (t : Fin (cfgM m hO).N) (i : Fin 176) (j : Fin 1024) :
    newM (gB (word m c) (b0 m hO c t) (b1 m hO c t) i j) (b3 m hO c t (ix2 i j)) = newM (gA m c h (row t.val i) j) (argM m c (ix2 (row t.val i) j)) := by
  rw [g_blk m hO c h t i j, m_blk m hO c t i j]

theorem nv_blk (h : (argD m c (ix1 0)).toNat < 8) (t : Fin (cfgM m hO).N) (i : Fin 176) (j : Fin 1024) :
    newV (gB (word m c) (b0 m hO c t) (b1 m hO c t) i j) (b4 m hO c t (ix2 i j)) = newV (gA m c h (row t.val i) j) (argV m c (ix2 (row t.val i) j)) := by
  rw [g_blk m hO c h t i j, v_blk m hO c t i j]

/-! ## The arrays -/

theorem surj5 : ∀ (p : Fin 2) (q : Fin 1), ∃ i : grid0.Coords, cc0_transform_5 i = ![p.val, q.val] := by decide +kernel
theorem covers5 : ((cfgM m hO).win 5).Covers := by
  refine Pipeline.Window.covers_of_indexMap_surj _ rfl (fun a => (by decide : ∀ a : Fin 2, 0 < S176x1024.size a) a) (fun β => ?_)
  have h0 : ((cfgM m hO).win 5).nblk (0 : Fin 2) = 2 := by
    show (352 + 176 - 1) / 176 = 2
    norm_num
  have h1 : ((cfgM m hO).win 5).nblk (1 : Fin 2) = 1 := by
    show (1024 + 1024 - 1) / 1024 = 1
    norm_num
  obtain ⟨i, hi⟩ := surj5 ((β (0 : Fin 2)).cast h0) ((β (1 : Fin 2)).cast h1)
  exact ⟨i, fun a => (congrFun hi a).trans (match a with | ⟨0, _⟩ => rfl | ⟨1, _⟩ => rfl)⟩

theorem surj6 : ∀ (p : Fin 2) (q : Fin 1), ∃ i : grid0.Coords, cc0_transform_6 i = ![p.val, q.val] := by decide +kernel
theorem covers6 : ((cfgM m hO).win 6).Covers := by
  refine Pipeline.Window.covers_of_indexMap_surj _ rfl (fun a => (by decide : ∀ a : Fin 2, 0 < S176x1024.size a) a) (fun β => ?_)
  have h0 : ((cfgM m hO).win 6).nblk (0 : Fin 2) = 2 := by
    show (352 + 176 - 1) / 176 = 2
    norm_num
  have h1 : ((cfgM m hO).win 6).nblk (1 : Fin 2) = 1 := by
    show (1024 + 1024 - 1) / 1024 = 1
    norm_num
  obtain ⟨i, hi⟩ := surj6 ((β (0 : Fin 2)).cast h0) ((β (1 : Fin 2)).cast h1)
  exact ⟨i, fun a => (congrFun hi a).trans (match a with | ⟨0, _⟩ => rfl | ⟨1, _⟩ => rfl)⟩

theorem surj7 : ∀ (p : Fin 2) (q : Fin 1), ∃ i : grid0.Coords, cc0_transform_7 i = ![p.val, q.val] := by decide +kernel
theorem covers7 : ((cfgM m hO).win 7).Covers := by
  refine Pipeline.Window.covers_of_indexMap_surj _ rfl (fun a => (by decide : ∀ a : Fin 2, 0 < S176x1024.size a) a) (fun β => ?_)
  have h0 : ((cfgM m hO).win 7).nblk (0 : Fin 2) = 2 := by
    show (352 + 176 - 1) / 176 = 2
    norm_num
  have h1 : ((cfgM m hO).win 7).nblk (1 : Fin 2) = 1 := by
    show (1024 + 1024 - 1) / 1024 = 1
    norm_num
  obtain ⟨i, hi⟩ := surj7 ((β (0 : Fin 2)).cast h0) ((β (1 : Fin 2)).cast h1)
  exact ⟨i, fun a => (congrFun hi a).trans (match a with | ⟨0, _⟩ => rfl | ⟨1, _⟩ => rfl)⟩

theorem surj8 : ∀ (p : Fin 2) (q : Fin 1), ∃ i : grid0.Coords, cc0_transform_8 i = ![p.val, q.val] := by decide +kernel
theorem covers8 : ((cfgM m hO).win 8).Covers := by
  refine Pipeline.Window.covers_of_indexMap_surj _ rfl (fun a => (by decide : ∀ a : Fin 2, 0 < S176x1024.size a) a) (fun β => ?_)
  have h0 : ((cfgM m hO).win 8).nblk (0 : Fin 2) = 2 := by
    show (352 + 176 - 1) / 176 = 2
    norm_num
  have h1 : ((cfgM m hO).win 8).nblk (1 : Fin 2) = 1 := by
    show (1024 + 1024 - 1) / 1024 = 1
    norm_num
  obtain ⟨i, hi⟩ := surj8 ((β (0 : Fin 2)).cast h0) ((β (1 : Fin 2)).cast h1)
  exact ⟨i, fun a => (congrFun hi a).trans (match a with | ⟨0, _⟩ => rfl | ⟨1, _⟩ => rfl)⟩

theorem arr_g (h : (argD m c (ix1 0)).toNat < 8) : ((dats m hO 0 c).arrAt 5 (cfgM m hO).N : FVec Ideal S352x1024 .f32)
    = fun y : S352x1024.Idx => gA m c h (y 0) (y 1) := by
  refine (dats m hO 0 c).arrAt_eq_of_covers 5 (fun y : S352x1024.Idx => gA m c h (y 0) (y 1)) (covers5 m hO) fun t hf (y : S176x1024.Idx) => ?_
  have hr := row_val m hO t (y 0)
  have e : (((cfgM m hO).win 5).blk t).view.emb y = ix2 (row t.val (y 0)) (y 1) := by blk_ext [idx5 m hO t]
  blk_simp
  rw [after0_5, e, out5]
  refine ((congrArg _ (eq_ix2 y)).trans (pay5_eq _ _ _ (y 0) (y 1))).trans ?_
  exact g_blk m hO c h t (y 0) (y 1)

theorem arr_step (h : (argD m c (ix1 0)).toNat < 8) : ((dats m hO 0 c).arrAt 6 (cfgM m hO).N : FVec Ideal S352x1024 .f32)
    = fun y : S352x1024.Idx => delta (gA m c h (y 0) (y 1)) (argW m c (ix2 (y 0) (y 1))) (argM m c (ix2 (y 0) (y 1))) (argV m c (ix2 (y 0) (y 1))) := by
  refine (dats m hO 0 c).arrAt_eq_of_covers 6 (fun y : S352x1024.Idx => delta (gA m c h (y 0) (y 1)) (argW m c (ix2 (y 0) (y 1))) (argM m c (ix2 (y 0) (y 1))) (argV m c (ix2 (y 0) (y 1)))) (covers6 m hO) fun t hf (y : S176x1024.Idx) => ?_
  have hr := row_val m hO t (y 0)
  have e : (((cfgM m hO).win 6).blk t).view.emb y = ix2 (row t.val (y 0)) (y 1) := by blk_ext [idx6 m hO t]
  blk_simp
  rw [after0_6, e, out6]
  refine ((congrArg _ (eq_ix2 y)).trans (stepB_eq _ _ _ _ _ _ (y 0) (y 1))).trans ?_
  exact step_blk m hO c h t (y 0) (y 1)

theorem arr_m (h : (argD m c (ix1 0)).toNat < 8) : ((dats m hO 0 c).arrAt 7 (cfgM m hO).N : FVec Ideal S352x1024 .f32)
    = fun y : S352x1024.Idx => newM (gA m c h (y 0) (y 1)) (argM m c (ix2 (y 0) (y 1))) := by
  refine (dats m hO 0 c).arrAt_eq_of_covers 7 (fun y : S352x1024.Idx => newM (gA m c h (y 0) (y 1)) (argM m c (ix2 (y 0) (y 1)))) (covers7 m hO) fun t hf (y : S176x1024.Idx) => ?_
  have hr := row_val m hO t (y 0)
  have e : (((cfgM m hO).win 7).blk t).view.emb y = ix2 (row t.val (y 0)) (y 1) := by blk_ext [idx7 m hO t]
  blk_simp
  rw [after0_7, e, out7]
  refine ((congrArg _ (eq_ix2 y)).trans (pay6_eq _ _ _ _ (y 0) (y 1))).trans ?_
  exact nm_blk m hO c h t (y 0) (y 1)

theorem arr_v (h : (argD m c (ix1 0)).toNat < 8) : ((dats m hO 0 c).arrAt 8 (cfgM m hO).N : FVec Ideal S352x1024 .f32)
    = fun y : S352x1024.Idx => newV (gA m c h (y 0) (y 1)) (argV m c (ix2 (y 0) (y 1))) := by
  refine (dats m hO 0 c).arrAt_eq_of_covers 8 (fun y : S352x1024.Idx => newV (gA m c h (y 0) (y 1)) (argV m c (ix2 (y 0) (y 1)))) (covers8 m hO) fun t hf (y : S176x1024.Idx) => ?_
  have hr := row_val m hO t (y 0)
  have e : (((cfgM m hO).win 8).blk t).view.emb y = ix2 (row t.val (y 0)) (y 1) := by blk_ext [idx8 m hO t]
  blk_simp
  rw [after0_8, e, out8]
  refine ((congrArg _ (eq_ix2 y)).trans (pay7_eq _ _ _ _ (y 0) (y 1))).trans ?_
  exact nv_blk m hO c h t (y 0) (y 1)

end Cert.AdamDownIdeal.Arrays
-- ==== Proof.AdamDown.Equal.lean ====
/-
  The sharded optimiser kernel and its reference end with the same arrays, whatever the arguments, the device's place
  being one of the eight.
-/
module

public import proofs.«01_k».proof.Defs
public import proofs.«01_k».proof.Proof.AdamDown.Arrays
public import proofs.«01_k».proof.Proof.Gen.AdamDownRefIdeal.Read
public import Idealize.ShloMosaic.Lib.Claim

@[expose] public section

set_option maxRecDepth 16384

noncomputable section

open Idealize.ShloMosaic Idealize.ShloMosaic.TcCoe Idealize.SL.Sem

namespace Cert.AdamDownRefIdeal.Val

open Cert.AdamDownRefIdeal Cert.AdamDownRefIdeal.Read Cert.AdamForm

variable (x0 x1 : FVec Ideal S8x352x1024 .f32) (x2 : IVec S1 32) (x3 x4 x5 : FVec Ideal S352x1024 .f32)

/-- One part of the reference's sum: the own one in the device's place. -/
theorem main_v5 (k : Fin 8) (i : Fin 352) (j : Fin 1024) :
    val_main_v5 (F := Ideal) x0 x1 x2 (ix3 k i j) = if x2 (ix1 0) = BitVec.ofNat 32 k.val then x1 (ix3 k i j) else x0 (ix3 k i j) := by
  have e : val_main_call0_v0 (F := Ideal) x2 (ix3 k i j) = IntOp.cmpi .eq (BitVec.ofNat 32 k.val) (x2 (ix1 0)) := by
    pointwise [val_main_call0_v0, val_main_v4, val_main_v3, val_main_v2, val_main_v1, val_main_v0]
  rw [val_main_v5_apply, e, WordCmp.cmpi_eq_eq]
  by_cases h : x2 (ix1 0) = BitVec.ofNat 32 k.val
  · simp [Scalar.select, h]
  · simp [Scalar.select, h, Ne.symm h]

theorem main_v6 (h : (x2 (ix1 0)).toNat < 8) (i : Fin 352) (j : Fin 1024) :
    val_main_v6 (F := Ideal) x0 x1 x2 (ix2 i j) = grad (x2 (ix1 0)) (x1 (ix3 ⟨_, h⟩ i j)) fun k => x0 (ix3 k i j) := by
  pointwise [val_main_v6, val_main_cst]
  unfold grad
  simp only [main_v5]
  refine Finset.sum_congr rfl fun k _ => ?_
  by_cases e : x2 (ix1 0) = BitVec.ofNat 32 k.val
  · have hk : (⟨(x2 (ix1 0)).toNat, h⟩ : Fin 8) = k := Fin.ext (by
      show (x2 (ix1 0)).toNat = k.val
      rw [e, BitVec.toNat_ofNat]
      exact Nat.mod_eq_of_lt (by omega))
    rw [if_pos e, if_pos e, hk]
  · rw [if_neg e, if_neg e]

theorem main_v11 (i : Fin 352) (j : Fin 1024) :
    val_main_v11 (F := Ideal) x0 x1 x2 x4 (ix2 i j) = newM (val_main_v6 (F := Ideal) x0 x1 x2 (ix2 i j)) (x4 (ix2 i j)) := by
  pointwise [val_main_v11, val_main_v10, val_main_v9, val_main_cst_1, val_main_v8, val_main_v7, val_main_cst_0]
  rfl

theorem main_v17 (i : Fin 352) (j : Fin 1024) :
    val_main_v17 (F := Ideal) x0 x1 x2 x5 (ix2 i j) = newV (val_main_v6 (F := Ideal) x0 x1 x2 (ix2 i j)) (x5 (ix2 i j)) := by
  pointwise [val_main_v17, val_main_v16, val_main_v15, val_main_cst_3, val_main_v14, val_main_v13, val_main_v12, val_main_cst_2]
  rfl

theorem main_v30 (i : Fin 352) (j : Fin 1024) :
    val_main_v30 (F := Ideal) x0 x1 x2 x3 x4 x5 (ix2 i j)
      = delta (val_main_v6 (F := Ideal) x0 x1 x2 (ix2 i j)) (x3 (ix2 i j)) (x4 (ix2 i j)) (x5 (ix2 i j)) := by
  pointwise [val_main_v30, val_main_v29, val_main_cst_8, val_main_v28, val_main_v27, val_main_v26, val_main_cst_7, val_main_v25, val_main_v24,
    val_main_v23, val_main_cst_6, val_main_v22, val_main_v21, val_main_v20, val_main_cst_5, val_main_v19, val_main_v18, val_main_cst_4]
  simp only [main_v11, main_v17]
  rfl

end Cert.AdamDownRefIdeal.Val

namespace Cert.AdamDownEqual

open Cert.AdamDownIdeal.Arrays Cert.AdamDownIdeal.Gen

/-- The reference's frame: it ends, its arguments and every counter as they were. -/
theorem ref_frame : Cert.quiescent_AdamDownRefIdeal := fun m ρ _ => by
  refine (θ_run Cert.AdamDownRefIdeal.defs _ _).mono (fun r h => ⟨fun c => ?_, sem_eq_zero_of_no_sems (by decide) r.2⟩)
    (Cert.AdamDownRefIdeal.Value.run (F := Ideal) m ρ)
  obtain ⟨-, -, -, -, hk⟩ := h c
  exact hk

section Run

open Cert.AdamDownIdeal

variable (m : (ℓ : Loc nD τ sig) → Buf (Elt Ideal) ℓ) (ρ : Dev nD → PrngReg)

/-- The kernel's run: the four results are what the windows write back, the arguments unchanged. -/
theorem run_blocks (hO : Ok m) : θ_run defs (onTc (τ := τ) (main (F := Ideal))) ⟨m, fun _ => 0, ρ⟩ fun r => ∀ c : Dev nD,
      r.2.mem ((c.tc : Thread nD τ).loc main_v2_0) = (dats m hO 0 c).arrAt 5 (cfgM m hO).N
      ∧ r.2.mem ((c.tc : Thread nD τ).loc main_v2_1) = (dats m hO 0 c).arrAt 6 (cfgM m hO).N
      ∧ r.2.mem ((c.tc : Thread nD τ).loc main_v2_2) = (dats m hO 0 c).arrAt 7 (cfgM m hO).N
      ∧ r.2.mem ((c.tc : Thread nD τ).loc main_v2_3) = (dats m hO 0 c).arrAt 8 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.2 c).1 5, (h.2 c).1 6, (h.2 c).1 7, (h.2 c).1 8, h.1 c⟩)
    (θ_run_and (unchanged m ρ hO) (run_main m ρ hO))

end Run

section Same

variable (m : (ℓ : Loc Cert.AdamDownIdeal.nD Cert.AdamDownIdeal.τ Cert.AdamDownIdeal.sig) → Buf (Elt Ideal) ℓ) (hO : Ok m) (c : Dev Cert.AdamDownIdeal.nD)
  (h : (argD m c (ix1 0)).toNat < 8)
include h

theorem g_same : (dats m hO 0 c).arrAt 5 (cfgM m hO).N
    = Cert.AdamDownRefIdeal.Read.val_main_v6 (F := Ideal) (argL m c) (argS m c) (argD m c) := by
  refine (arr_g m hO c h).trans (funext fun y : Cert.AdamDownIdeal.S352x1024.Idx => ?_)
  rw [eq_ix2 y]
  exact (Cert.AdamDownRefIdeal.Val.main_v6 _ _ _ h (y 0) (y 1)).symm

theorem step_same : (dats m hO 0 c).arrAt 6 (cfgM m hO).N
    = Cert.AdamDownRefIdeal.Read.val_main_v30 (F := Ideal) (argL m c) (argS m c) (argD m c) (argW m c) (argM m c) (argV m c) := by
  refine (arr_step m hO c h).trans (funext fun y : Cert.AdamDownIdeal.S352x1024.Idx => ?_)
  rw [eq_ix2 y]
  refine Eq.trans ?_ (Cert.AdamDownRefIdeal.Val.main_v30 _ _ _ _ _ _ (y 0) (y 1)).symm
  rw [Cert.AdamDownRefIdeal.Val.main_v6 _ _ _ h (y 0) (y 1)]
  rfl

theorem m_same : (dats m hO 0 c).arrAt 7 (cfgM m hO).N
    = Cert.AdamDownRefIdeal.Read.val_main_v11 (F := Ideal) (argL m c) (argS m c) (argD m c) (argM m c) := by
  refine (arr_m m hO c h).trans (funext fun y : Cert.AdamDownIdeal.S352x1024.Idx => ?_)
  rw [eq_ix2 y]
  refine Eq.trans ?_ (Cert.AdamDownRefIdeal.Val.main_v11 _ _ _ _ (y 0) (y 1)).symm
  rw [Cert.AdamDownRefIdeal.Val.main_v6 _ _ _ h (y 0) (y 1)]
  rfl

theorem v_same : (dats m hO 0 c).arrAt 8 (cfgM m hO).N
    = Cert.AdamDownRefIdeal.Read.val_main_v17 (F := Ideal) (argL m c) (argS m c) (argD m c) (argV m c) := by
  refine (arr_v m hO c h).trans (funext fun y : Cert.AdamDownIdeal.S352x1024.Idx => ?_)
  rw [eq_ix2 y]
  refine Eq.trans ?_ (Cert.AdamDownRefIdeal.Val.main_v17 _ _ _ _ (y 0) (y 1)).symm
  rw [Cert.AdamDownRefIdeal.Val.main_v6 _ _ _ h (y 0) (y 1)]
  rfl

end Same

/-- The claim: the kernel's run and the reference's end with equal arrays, the arguments unchanged. -/
theorem algebraic : Cert.algebraic_AdamDownIdeal_AdamDownRefIdeal := by
  pair_intro
  · run_from run_blocks m g (ok_ideal m hpre)
  · refine (θ_run _ _ _).mono (fun r h c => ?_) (Cert.AdamDownRefIdeal.Value.run (F := Ideal) m' g')
    have hs : (argD m c (ix1 0)).toNat < 8 := Cert.Pre_place_down.Read.small _ _ _ _ _ _ (hpre c)
    obtain ⟨e0, e1, e2, e3, e4, e5⟩ := hagree c
    obtain ⟨h0, h1, h2, h3, hk⟩ := h c
    refine ⟨?_, ?_, ?_, ?_, hk⟩
    · rw [h0, Cert.AdamDownRefIdeal.Read.val_main_v6_eq, e0, e1, e2]
      exact (g_same m (ok_ideal m hpre) c hs).symm
    · rw [h1, Cert.AdamDownRefIdeal.Read.val_main_v30_eq, e0, e1, e2, e3, e4, e5]
      exact (step_same m (ok_ideal m hpre) c hs).symm
    · rw [h2, Cert.AdamDownRefIdeal.Read.val_main_v11_eq, e0, e1, e2, e4]
      exact (m_same m (ok_ideal m hpre) c hs).symm
    · rw [h3, Cert.AdamDownRefIdeal.Read.val_main_v17_eq, e0, e1, e2, e5]
      exact (v_same m (ok_ideal m hpre) c hs).symm

end Cert.AdamDownEqual
-- ==== Proof.ConvAdam.Arrays.lean ====
/-
  What the optimiser kernel of the two convolutions' weights leaves in its four arrays, and what the host's cuts of them give,
  at one element: the step of AdamW from the elements of the arguments.
-/
module

public import proofs.«01_k».proof.Defs
public import proofs.«01_k».proof.Proof.Adam.Form
public import proofs.«01_k».proof.Proof.Gen.ConvAdamIdeal.Frame
public import Idealize.ShloMosaic.Lib.Pointwise
public import Idealize.ShloMosaic.Lib.Pipeline.Covers
public import Idealize.ShloMosaic.Lib.StableHlo.RunRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvAdamIdeal.Arrays

open Cert.ConvAdamIdeal Cert.ConvAdamIdeal.Gen Cert.AdamForm

/-! ## The body at an element -/

section Body

variable (x0 : FVec Ideal S1x8x384 .f32) (x1 x2 x3 : FVec Ideal S8x384 .f32) (i : Fin 8) (j : Fin 384)

theorem pay1 : k0_pay1 (F := Ideal) x0 (ix2 i j) = x0 (ix3 0 i j) := by
  pointwise [k0_pay1]

theorem pay2 : k0_pay2 (F := Ideal) x0 x2 (ix2 i j) = newM (x0 (ix3 0 i j)) (x2 (ix2 i j)) := by
  pointwise [k0_pay2]
  rw [pay1]
  rfl

theorem pay3 : k0_pay3 (F := Ideal) x0 x3 (ix2 i j) = newV (x0 (ix3 0 i j)) (x3 (ix2 i j)) := by
  pointwise [k0_pay3]
  rw [pay1]
  rfl

theorem pay4 : k0_pay4 (F := Ideal) x0 x1 x2 x3 (ix2 i j) = delta (x0 (ix3 0 i j)) (x1 (ix2 i j)) (x2 (ix2 i j)) (x3 (ix2 i j)) := by
  pointwise [k0_pay4]
  rw [pay2, pay3]
  rfl

end Body

variable (m : (ℓ : Loc nD τ sig) → Buf (Elt Ideal) ℓ) (c : Dev nD)

/-! ## The arrays the region finds -/

/-- The four arrays of the call: gradient, weight, first and second moment, side by side and padded. -/
abbrev argG : FVec Ideal S1x8x384 .f32 := V m c main_v2
abbrev argW : FVec Ideal S8x384 .f32 := V m c main_v4
abbrev argM : FVec Ideal S8x384 .f32 := V m c main_v6
abbrev argV : FVec Ideal S8x384 .f32 := V m c main_v8

/-- The arguments of the program. -/
abbrev in0 : FVec Ideal S4x128 .f32 := m ((c.tc : Thread nD τ).loc main_arg0)
abbrev in1 : FVec Ideal S4x192 .f32 := m ((c.tc : Thread nD τ).loc main_arg1)
abbrev in2 : FVec Ideal S4x128 .f32 := m ((c.tc : Thread nD τ).loc main_arg2)
abbrev in3 : FVec Ideal S4x192 .f32 := m ((c.tc : Thread nD τ).loc main_arg3)
abbrev in4 : FVec Ideal S4x128 .f32 := m ((c.tc : Thread nD τ).loc main_arg4)
abbrev in5 : FVec Ideal S4x192 .f32 := m ((c.tc : Thread nD τ).loc main_arg5)
abbrev in6 : FVec Ideal S4x128 .f32 := m ((c.tc : Thread nD τ).loc main_arg6)
abbrev in7 : FVec Ideal S4x192 .f32 := m ((c.tc : Thread nD τ).loc main_arg7)

/-- The place of an element of the first (the second) weight among the rows and lanes of the call's arrays. -/
abbrev r (i : Fin 4) : Fin 8 := ⟨i.val, by omega⟩
abbrev l (j : Fin 128) : Fin 384 := ⟨j.val, by omega⟩
abbrev l' (j : Fin 192) : Fin 384 := ⟨128 + j.val, by omega⟩

/-- Two arrays side by side, padded. -/
abbrev both (a : FVec Ideal S4x128 .f32) (b : FVec Ideal S4x192 .f32) : FVec Ideal S8x384 .f32 :=
  pad S8x384 ![0, 0] ![4, 64] ![0, 0] (concatenate S4x320 1 [⟨_, a⟩, ⟨_, b⟩] concatenates_S4x128_S4x192_S4x320_d1) (sitofp .f32 (constantI S_ 32 0#32))
    pads_S4x320_S8x384_040_0640 h_S_

theorem both_left (a : FVec Ideal S4x128 .f32) (b : FVec Ideal S4x192 .f32) (i : Fin 4) (j : Fin 128) : both a b (ix2 (r i) (l j)) = a (ix2 i j) := by
  have hi := i.isLt
  have hj := j.isLt
  unfold both
  pointwise
  exact dif_pos (by omega)

theorem both_right (a : FVec Ideal S4x128 .f32) (b : FVec Ideal S4x192 .f32) (i : Fin 4) (j : Fin 192) : both a b (ix2 (r i) (l' j)) = b (ix2 i j) := by
  have hi := i.isLt
  have hj := j.isLt
  unfold both
  pointwise
  exact dif_pos (by omega)

theorem g_eq : argG m c = broadcastInDim S1x8x384 ![1, 2] bcast_S8x384_S1x8x384_1_2 (both (in0 m c) (in1 m c)) := by
  show StableHlo.after _ _ _ = _
  after_reads_simp
  rfl
theorem w_eq : argW m c = both (in2 m c) (in3 m c) := by
  show StableHlo.after _ _ _ = _
  after_reads_simp
  rfl
theorem m_eq : argM m c = both (in4 m c) (in5 m c) := by
  show StableHlo.after _ _ _ = _
  after_reads_simp
  rfl
theorem v_eq : argV m c = both (in6 m c) (in7 m c) := by
  show StableHlo.after _ _ _ = _
  after_reads_simp
  rfl

theorem g_at (i : Fin 8) (j : Fin 384) : argG m c (ix3 0 i j) = both (in0 m c) (in1 m c) (ix2 i j) := by
  rw [g_eq]
  generalize both (in0 m c) (in1 m c) = z
  pointwise

/-! ## The blocks -/

theorem idx : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] := by
  decide +kernel

variable (t : Fin cfg0.N) (i : Fin 8) (j : Fin 384)

theorem b_g : (iblk m c 0 t : FVec Ideal S1x8x384 .f32) (ix3 0 i j) = argG m c (ix3 0 i j) := by
  blk_ext [iblk, idx t]
theorem b_w : (iblk m c 1 t : FVec Ideal S8x384 .f32) (ix2 i j) = argW m c (ix2 i j) := by
  blk_ext [iblk, idx t]
theorem b_m : (iblk m c 2 t : FVec Ideal S8x384 .f32) (ix2 i j) = argM m c (ix2 i j) := by
  blk_ext [iblk, idx t]
theorem b_v : (iblk m c 3 t : FVec Ideal S8x384 .f32) (ix2 i j) = argV m c (ix2 i j) := by
  blk_ext [iblk, idx t]

theorem m_blk : newM ((iblk m c 0 t : FVec Ideal S1x8x384 .f32) (ix3 0 i j)) ((iblk m c 2 t : FVec Ideal S8x384 .f32) (ix2 i j))
    = newM (argG m c (ix3 0 i j)) (argM m c (ix2 i j)) := by
  rw [b_g, b_m]
theorem v_blk : newV ((iblk m c 0 t : FVec Ideal S1x8x384 .f32) (ix3 0 i j)) ((iblk m c 3 t : FVec Ideal S8x384 .f32) (ix2 i j))
    = newV (argG m c (ix3 0 i j)) (argV m c (ix2 i j)) := by
  rw [b_g, b_v]
theorem step_blk : delta ((iblk m c 0 t : FVec Ideal S1x8x384 .f32) (ix3 0 i j)) ((iblk m c 1 t : FVec Ideal S8x384 .f32) (ix2 i j))
      ((iblk m c 2 t : FVec Ideal S8x384 .f32) (ix2 i j)) ((iblk m c 3 t : FVec Ideal S8x384 .f32) (ix2 i j))
    = delta (argG m c (ix3 0 i j)) (argW m c (ix2 i j)) (argM m c (ix2 i j)) (argV m c (ix2 i j)) := by
  rw [b_g, b_w, b_m, b_v]

/-! ## What the body leaves -/

theorem piece4 (x0 : Vec Ideal S1x8x384 .f32) (x1 x2 x3 : Vec Ideal S8x384 .f32) : out0_4 (F := Ideal) x0 x1 x2 x3 = k0_pay1 x0 := by
  unfold out0_4
  frame_out
theorem piece5 (x0 : Vec Ideal S1x8x384 .f32) (x1 x2 x3 : Vec Ideal S8x384 .f32) : out0_5 (F := Ideal) x0 x1 x2 x3 = k0_pay4 x0 x1 x2 x3 := by
  unfold out0_5
  frame_out
theorem piece6 (x0 : Vec Ideal S1x8x384 .f32) (x1 x2 x3 : Vec Ideal S8x384 .f32) : out0_6 (F := Ideal) x0 x1 x2 x3 = k0_pay2 x0 x2 := by
  unfold out0_6
  frame_out
theorem piece7 (x0 : Vec Ideal S1x8x384 .f32) (x1 x2 x3 : Vec Ideal S8x384 .f32) : out0_7 (F := Ideal) x0 x1 x2 x3 = k0_pay3 x0 x3 := by
  unfold out0_7
  frame_out

/-! ## The arrays and the cuts of them -/

theorem arr_g : ((dats m 0 c).arrAt 4 cfg0.N : FVec Ideal S8x384 .f32) = fun y => argG m c (ix3 0 (y 0) (y 1)) := by
  refine (dats m 0 c).arrAt_eq_of_covers 4 _ (by decide +kernel) fun t hf y => ?_
  have e : (win0_4.blk t).view.emb y = ix2 (y 0) (y 1) := by blk_ext [idx t]
  blk_simp
  rw [after0_4, e, piece4]
  exact ((congrArg _ (eq_ix2 y)).trans (pay1 _ (y 0) (y 1))).trans (b_g m c t (y 0) (y 1))
theorem arr_step : ((dats m 0 c).arrAt 5 cfg0.N : FVec Ideal S8x384 .f32) = fun y => delta (argG m c (ix3 0 (y 0) (y 1))) (argW m c (ix2 (y 0) (y 1))) (argM m c (ix2 (y 0) (y 1))) (argV m c (ix2 (y 0) (y 1))) := by
  refine (dats m 0 c).arrAt_eq_of_covers 5 _ (by decide +kernel) fun t hf y => ?_
  have e : (win0_5.blk t).view.emb y = ix2 (y 0) (y 1) := by blk_ext [idx t]
  blk_simp
  rw [after0_5, e, piece5]
  exact ((congrArg _ (eq_ix2 y)).trans (pay4 _ _ _ _ (y 0) (y 1))).trans (step_blk m c t (y 0) (y 1))
theorem arr_m : ((dats m 0 c).arrAt 6 cfg0.N : FVec Ideal S8x384 .f32) = fun y => newM (argG m c (ix3 0 (y 0) (y 1))) (argM m c (ix2 (y 0) (y 1))) := by
  refine (dats m 0 c).arrAt_eq_of_covers 6 _ (by decide +kernel) fun t hf y => ?_
  have e : (win0_6.blk t).view.emb y = ix2 (y 0) (y 1) := by blk_ext [idx t]
  blk_simp
  rw [after0_6, e, piece6]
  exact ((congrArg _ (eq_ix2 y)).trans (pay2 _ _ (y 0) (y 1))).trans (m_blk m c t (y 0) (y 1))
theorem arr_v : ((dats m 0 c).arrAt 7 cfg0.N : FVec Ideal S8x384 .f32) = fun y => newV (argG m c (ix3 0 (y 0) (y 1))) (argV m c (ix2 (y 0) (y 1))) := by
  refine (dats m 0 c).arrAt_eq_of_covers 7 _ (by decide +kernel) fun t hf y => ?_
  have e : (win0_7.blk t).view.emb y = ix2 (y 0) (y 1) := by blk_ext [idx t]
  blk_simp
  rw [after0_7, e, piece7]
  exact ((congrArg _ (eq_ix2 y)).trans (pay3 _ _ (y 0) (y 1))).trans (v_blk m c t (y 0) (y 1))

theorem arr_inj : Function.Injective (Pipeline.arrRef spec0) := by decide

theorem cut4_left : Pipeline.afterTail₀ cfgs (dats m) 0 (V0 m) [hostOps1] c main_v10
    = extractStridedSlice S4x128 ![0, 0] ((dats m 0 c).arrAt 4 cfg0.N : FVec Ideal S8x384 .f32) slices_S8x384_S4x128_0_0 := by
  unfold Pipeline.afterTail₀
  after_reads_simp
  refine congrArg (fun a : FVec Ideal S8x384 .f32 => extractStridedSlice S4x128 ![0, 0] a slices_S8x384_S4x128_0_0) ?_
  exact Pipeline.withArrays_arr spec0 arr_inj c _ _ 4
theorem cut4_right : Pipeline.afterTail₀ cfgs (dats m) 0 (V0 m) [hostOps1] c main_v14
    = extractStridedSlice S4x192 ![0, 128] ((dats m 0 c).arrAt 4 cfg0.N : FVec Ideal S8x384 .f32) slices_S8x384_S4x192_0_128 := by
  unfold Pipeline.afterTail₀
  after_reads_simp
  refine congrArg (fun a : FVec Ideal S8x384 .f32 => extractStridedSlice S4x192 ![0, 128] a slices_S8x384_S4x192_0_128) ?_
  exact Pipeline.withArrays_arr spec0 arr_inj c _ _ 4
theorem cut5_left : Pipeline.afterTail₀ cfgs (dats m) 0 (V0 m) [hostOps1] c main_v11
    = extractStridedSlice S4x128 ![0, 0] ((dats m 0 c).arrAt 5 cfg0.N : FVec Ideal S8x384 .f32) slices_S8x384_S4x128_0_0 := by
  unfold Pipeline.afterTail₀
  after_reads_simp
  refine congrArg (fun a : FVec Ideal S8x384 .f32 => extractStridedSlice S4x128 ![0, 0] a slices_S8x384_S4x128_0_0) ?_
  exact Pipeline.withArrays_arr spec0 arr_inj c _ _ 5
theorem cut5_right : Pipeline.afterTail₀ cfgs (dats m) 0 (V0 m) [hostOps1] c main_v15
    = extractStridedSlice S4x192 ![0, 128] ((dats m 0 c).arrAt 5 cfg0.N : FVec Ideal S8x384 .f32) slices_S8x384_S4x192_0_128 := by
  unfold Pipeline.afterTail₀
  after_reads_simp
  refine congrArg (fun a : FVec Ideal S8x384 .f32 => extractStridedSlice S4x192 ![0, 128] a slices_S8x384_S4x192_0_128) ?_
  exact Pipeline.withArrays_arr spec0 arr_inj c _ _ 5
theorem cut6_left : Pipeline.afterTail₀ cfgs (dats m) 0 (V0 m) [hostOps1] c main_v12
    = extractStridedSlice S4x128 ![0, 0] ((dats m 0 c).arrAt 6 cfg0.N : FVec Ideal S8x384 .f32) slices_S8x384_S4x128_0_0 := by
  unfold Pipeline.afterTail₀
  after_reads_simp
  refine congrArg (fun a : FVec Ideal S8x384 .f32 => extractStridedSlice S4x128 ![0, 0] a slices_S8x384_S4x128_0_0) ?_
  exact Pipeline.withArrays_arr spec0 arr_inj c _ _ 6
theorem cut6_right : Pipeline.afterTail₀ cfgs (dats m) 0 (V0 m) [hostOps1] c main_v16
    = extractStridedSlice S4x192 ![0, 128] ((dats m 0 c).arrAt 6 cfg0.N : FVec Ideal S8x384 .f32) slices_S8x384_S4x192_0_128 := by
  unfold Pipeline.afterTail₀
  after_reads_simp
  refine congrArg (fun a : FVec Ideal S8x384 .f32 => extractStridedSlice S4x192 ![0, 128] a slices_S8x384_S4x192_0_128) ?_
  exact Pipeline.withArrays_arr spec0 arr_inj c _ _ 6
theorem cut7_left : Pipeline.afterTail₀ cfgs (dats m) 0 (V0 m) [hostOps1] c main_v13
    = extractStridedSlice S4x128 ![0, 0] ((dats m 0 c).arrAt 7 cfg0.N : FVec Ideal S8x384 .f32) slices_S8x384_S4x128_0_0 := by
  unfold Pipeline.afterTail₀
  after_reads_simp
  refine congrArg (fun a : FVec Ideal S8x384 .f32 => extractStridedSlice S4x128 ![0, 0] a slices_S8x384_S4x128_0_0) ?_
  exact Pipeline.withArrays_arr spec0 arr_inj c _ _ 7
theorem cut7_right : Pipeline.afterTail₀ cfgs (dats m) 0 (V0 m) [hostOps1] c main_v17
    = extractStridedSlice S4x192 ![0, 128] ((dats m 0 c).arrAt 7 cfg0.N : FVec Ideal S8x384 .f32) slices_S8x384_S4x192_0_128 := by
  unfold Pipeline.afterTail₀
  after_reads_simp
  refine congrArg (fun a : FVec Ideal S8x384 .f32 => extractStridedSlice S4x192 ![0, 128] a slices_S8x384_S4x192_0_128) ?_
  exact Pipeline.withArrays_arr spec0 arr_inj c _ _ 7

end Cert.ConvAdamIdeal.Arrays
-- ==== Proof.ConvAdam.Equal.lean ====
/-
  The optimiser kernel of the two convolutions' weights and its reference end with the same arrays, whatever the arguments.
-/
module

public import proofs.«01_k».proof.Defs
public import proofs.«01_k».proof.Proof.ConvAdam.Arrays
public import proofs.«01_k».proof.Proof.Gen.ConvAdamRefIdeal.Read
public import Idealize.ShloMosaic.Lib.Claim

@[expose] public section

set_option maxRecDepth 16384

noncomputable section

open Idealize.ShloMosaic Idealize.ShloMosaic.TcCoe Idealize.SL.Sem

namespace Cert.ConvAdamRefIdeal.Val

open Cert.ConvAdamRefIdeal Cert.ConvAdamRefIdeal.Read Cert.AdamForm

variable (x0 x2 x4 x6 : FVec Ideal S4x128 .f32) (x1 x3 x5 x7 : FVec Ideal S4x192 .f32) (i : Fin 4)

theorem main_v4 (j : Fin 128) : val_main_v4 (F := Ideal) x0 x4 (ix2 i j) = newM (x0 (ix2 i j)) (x4 (ix2 i j)) := by
  pointwise [val_main_v4, val_main_v3, val_main_v2, val_main_cst_0, val_main_v1, val_main_v0, val_main_cst]
  rfl

theorem main_v10 (j : Fin 128) : val_main_v10 (F := Ideal) x0 x6 (ix2 i j) = newV (x0 (ix2 i j)) (x6 (ix2 i j)) := by
  pointwise [val_main_v10, val_main_v9, val_main_v8, val_main_cst_2, val_main_v7, val_main_v6, val_main_v5, val_main_cst_1]
  rfl

theorem main_v23 (j : Fin 128) :
    val_main_v23 (F := Ideal) x0 x2 x4 x6 (ix2 i j) = delta (x0 (ix2 i j)) (x2 (ix2 i j)) (x4 (ix2 i j)) (x6 (ix2 i j)) := by
  pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3]
  simp only [main_v4, main_v10]
  rfl

theorem main_v28 (j : Fin 192) : val_main_v28 (F := Ideal) x1 x5 (ix2 i j) = newM (x1 (ix2 i j)) (x5 (ix2 i j)) := by
  pointwise [val_main_v28, val_main_v27, val_main_v26, val_main_cst_9, val_main_v25, val_main_v24, val_main_cst_8]
  rfl

theorem main_v34 (j : Fin 192) : val_main_v34 (F := Ideal) x1 x7 (ix2 i j) = newV (x1 (ix2 i j)) (x7 (ix2 i j)) := by
  pointwise [val_main_v34, val_main_v33, val_main_v32, val_main_cst_11, val_main_v31, val_main_v30, val_main_v29, val_main_cst_10]
  rfl

theorem main_v47 (j : Fin 192) :
    val_main_v47 (F := Ideal) x1 x3 x5 x7 (ix2 i j) = delta (x1 (ix2 i j)) (x3 (ix2 i j)) (x5 (ix2 i j)) (x7 (ix2 i j)) := by
  pointwise [val_main_v47, val_main_v46, val_main_cst_16, val_main_v45, val_main_v44, val_main_v43, val_main_cst_15, val_main_v42, val_main_v41, val_main_v40, val_main_cst_14, val_main_v39, val_main_v38, val_main_v37, val_main_cst_13, val_main_v36, val_main_v35, val_main_cst_12]
  simp only [main_v28, main_v34]
  rfl

end Cert.ConvAdamRefIdeal.Val

namespace Cert.ConvAdamEqual

open Cert.ConvAdamIdeal.Arrays Cert.ConvAdamIdeal.Gen Cert.AdamForm

/-- The reference's frame: it ends, its arguments and every counter as they were. -/
theorem ref_frame : Cert.quiescent_ConvAdamRefIdeal := fun m ρ _ => by
  refine (θ_run Cert.ConvAdamRefIdeal.defs _ _).mono (fun r h => ⟨fun c => ?_, sem_eq_zero_of_no_sems (by decide) r.2⟩)
    (Cert.ConvAdamRefIdeal.Value.run (F := Ideal) m ρ)
  obtain ⟨-, -, -, -, -, -, -, -, hk⟩ := h c
  exact hk

section Run

open Cert.ConvAdamIdeal

variable (m : (ℓ : Loc nD τ sig) → Buf (Elt Ideal) ℓ) (ρ : Dev nD → PrngReg)

/-- What the host's lines after the call leave in an array. -/
abbrev tail (c : Dev nD) (b : Ref sig .tc) : Buf (Elt Ideal) ((c.tc : Thread nD τ).loc b) := Pipeline.afterTail₀ cfgs (dats m) 0 (V0 m) [hostOps1] c b

/-- The kernel's run: the eight results are the cuts of the call's arrays, the arguments unchanged. -/
theorem run_cuts : θ_run defs (onTc (τ := τ) (main (F := Ideal))) ⟨m, fun _ => 0, ρ⟩ fun r => ∀ c : Dev nD,
      r.2.mem ((c.tc : Thread nD τ).loc main_v10) = tail m c main_v10
      ∧ r.2.mem ((c.tc : Thread nD τ).loc main_v11) = tail m c main_v11
      ∧ r.2.mem ((c.tc : Thread nD τ).loc main_v12) = tail m c main_v12
      ∧ r.2.mem ((c.tc : Thread nD τ).loc main_v13) = tail m c main_v13
      ∧ r.2.mem ((c.tc : Thread nD τ).loc main_v14) = tail m c main_v14
      ∧ r.2.mem ((c.tc : Thread nD τ).loc main_v15) = tail m c main_v15
      ∧ r.2.mem ((c.tc : Thread nD τ).loc main_v16) = tail m c main_v16
      ∧ r.2.mem ((c.tc : Thread nD τ).loc main_v17) = tail m c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h.2 c).2 main_v10 (Pipeline.mem_restRefs_of main_v10 (by decide) (by decide)),
      (h.2 c).2 main_v11 (Pipeline.mem_restRefs_of main_v11 (by decide) (by decide)),
      (h.2 c).2 main_v12 (Pipeline.mem_restRefs_of main_v12 (by decide) (by decide)),
      (h.2 c).2 main_v13 (Pipeline.mem_restRefs_of main_v13 (by decide) (by decide)),
      (h.2 c).2 main_v14 (Pipeline.mem_restRefs_of main_v14 (by decide) (by decide)),
      (h.2 c).2 main_v15 (Pipeline.mem_restRefs_of main_v15 (by decide) (by decide)),
      (h.2 c).2 main_v16 (Pipeline.mem_restRefs_of main_v16 (by decide) (by decide)),
      (h.2 c).2 main_v17 (Pipeline.mem_restRefs_of main_v17 (by decide) (by decide)), h.1 c⟩)
    (θ_run_and (unchanged m ρ) (run_main m ρ))

end Run

section Same

variable (m : (ℓ : Loc Cert.ConvAdamIdeal.nD Cert.ConvAdamIdeal.τ Cert.ConvAdamIdeal.sig) → Buf (Elt Ideal) ℓ) (c : Dev Cert.ConvAdamIdeal.nD)

theorem g_left : tail m c Cert.ConvAdamIdeal.main_v10 = in0 m c := by
  have H : ∀ (i : Fin 4) (j : Fin 128), extractStridedSlice Cert.ConvAdamIdeal.S4x128 ![0, 0] ((dats m 0 c).arrAt 4 Cert.ConvAdamIdeal.cfg0.N : FVec Ideal Cert.ConvAdamIdeal.S8x384 .f32)
      slices_S8x384_S4x128_0_0 (ix2 i j) = (in0 m c) (ix2 i j) := fun i j => by
    have e : ∀ z : FVec Ideal Cert.ConvAdamIdeal.S8x384 .f32, extractStridedSlice Cert.ConvAdamIdeal.S4x128 ![0, 0] z slices_S8x384_S4x128_0_0 (ix2 i j) = z (ix2 (r i) (l j)) := fun z => by
      pointwise
    refine (e _).trans ?_
    rw [arr_g]
    exact (g_at m c (r i) (l j)).trans (both_left _ _ i j)
  exact (cut4_left m c).trans (funext fun y => (congrArg _ (eq_ix2 y)).trans ((H (y 0) (y 1)).trans (congrArg _ (eq_ix2 y).symm)))

theorem step_left : tail m c Cert.ConvAdamIdeal.main_v11 = Cert.ConvAdamRefIdeal.Read.val_main_v23 (F := Ideal) (in0 m c) (in2 m c) (in4 m c) (in6 m c) := by
  have H : ∀ (i : Fin 4) (j : Fin 128), extractStridedSlice Cert.ConvAdamIdeal.S4x128 ![0, 0] ((dats m 0 c).arrAt 5 Cert.ConvAdamIdeal.cfg0.N : FVec Ideal Cert.ConvAdamIdeal.S8x384 .f32)
      slices_S8x384_S4x128_0_0 (ix2 i j) = (Cert.ConvAdamRefIdeal.Read.val_main_v23 (F := Ideal) (in0 m c) (in2 m c) (in4 m c) (in6 m c)) (ix2 i j) := fun i j => by
    have e : ∀ z : FVec Ideal Cert.ConvAdamIdeal.S8x384 .f32, extractStridedSlice Cert.ConvAdamIdeal.S4x128 ![0, 0] z slices_S8x384_S4x128_0_0 (ix2 i j) = z (ix2 (r i) (l j)) := fun z => by
      pointwise
    refine (e _).trans ?_
    rw [arr_step]
    refine Eq.trans ?_ (Cert.ConvAdamRefIdeal.Val.main_v23 (in0 m c) (in2 m c) (in4 m c) (in6 m c) i j).symm
    show delta (argG m c (ix3 0 (r i) (l j))) (argW m c (ix2 (r i) (l j))) (argM m c (ix2 (r i) (l j))) (argV m c (ix2 (r i) (l j))) = _
    rw [g_at, w_eq, m_eq, v_eq, both_left, both_left, both_left, both_left]
  exact (cut5_left m c).trans (funext fun y => (congrArg _ (eq_ix2 y)).trans ((H (y 0) (y 1)).trans (congrArg _ (eq_ix2 y).symm)))

theorem m_left : tail m c Cert.ConvAdamIdeal.main_v12 = Cert.ConvAdamRefIdeal.Read.val_main_v4 (F := Ideal) (in0 m c) (in4 m c) := by
  have H : ∀ (i : Fin 4) (j : Fin 128), extractStridedSlice Cert.ConvAdamIdeal.S4x128 ![0, 0] ((dats m 0 c).arrAt 6 Cert.ConvAdamIdeal.cfg0.N : FVec Ideal Cert.ConvAdamIdeal.S8x384 .f32)
      slices_S8x384_S4x128_0_0 (ix2 i j) = (Cert.ConvAdamRefIdeal.Read.val_main_v4 (F := Ideal) (in0 m c) (in4 m c)) (ix2 i j) := fun i j => by
    have e : ∀ z : FVec Ideal Cert.ConvAdamIdeal.S8x384 .f32, extractStridedSlice Cert.ConvAdamIdeal.S4x128 ![0, 0] z slices_S8x384_S4x128_0_0 (ix2 i j) = z (ix2 (r i) (l j)) := fun z => by
      pointwise
    refine (e _).trans ?_
    rw [arr_m]
    refine Eq.trans ?_ (Cert.ConvAdamRefIdeal.Val.main_v4 (in0 m c) (in4 m c) i j).symm
    show newM (argG m c (ix3 0 (r i) (l j))) (argM m c (ix2 (r i) (l j))) = _
    rw [g_at, m_eq, both_left, both_left]
  exact (cut6_left m c).trans (funext fun y => (congrArg _ (eq_ix2 y)).trans ((H (y 0) (y 1)).trans (congrArg _ (eq_ix2 y).symm)))

theorem v_left : tail m c Cert.ConvAdamIdeal.main_v13 = Cert.ConvAdamRefIdeal.Read.val_main_v10 (F := Ideal) (in0 m c) (in6 m c) := by
  have H : ∀ (i : Fin 4) (j : Fin 128), extractStridedSlice Cert.ConvAdamIdeal.S4x128 ![0, 0] ((dats m 0 c).arrAt 7 Cert.ConvAdamIdeal.cfg0.N : FVec Ideal Cert.ConvAdamIdeal.S8x384 .f32)
      slices_S8x384_S4x128_0_0 (ix2 i j) = (Cert.ConvAdamRefIdeal.Read.val_main_v10 (F := Ideal) (in0 m c) (in6 m c)) (ix2 i j) := fun i j => by
    have e : ∀ z : FVec Ideal Cert.ConvAdamIdeal.S8x384 .f32, extractStridedSlice Cert.ConvAdamIdeal.S4x128 ![0, 0] z slices_S8x384_S4x128_0_0 (ix2 i j) = z (ix2 (r i) (l j)) := fun z => by
      pointwise
    refine (e _).trans ?_
    rw [arr_v]
    refine Eq.trans ?_ (Cert.ConvAdamRefIdeal.Val.main_v10 (in0 m c) (in6 m c) i j).symm
    show newV (argG m c (ix3 0 (r i) (l j))) (argV m c (ix2 (r i) (l j))) = _
    rw [g_at, v_eq, both_left, both_left]
  exact (cut7_left m c).trans (funext fun y => (congrArg _ (eq_ix2 y)).trans ((H (y 0) (y 1)).trans (congrArg _ (eq_ix2 y).symm)))

theorem g_right : tail m c Cert.ConvAdamIdeal.main_v14 = in1 m c := by
  have H : ∀ (i : Fin 4) (j : Fin 192), extractStridedSlice Cert.ConvAdamIdeal.S4x192 ![0, 128] ((dats m 0 c).arrAt 4 Cert.ConvAdamIdeal.cfg0.N : FVec Ideal Cert.ConvAdamIdeal.S8x384 .f32)
      slices_S8x384_S4x192_0_128 (ix2 i j) = (in1 m c) (ix2 i j) := fun i j => by
    have e : ∀ z : FVec Ideal Cert.ConvAdamIdeal.S8x384 .f32, extractStridedSlice Cert.ConvAdamIdeal.S4x192 ![0, 128] z slices_S8x384_S4x192_0_128 (ix2 i j) = z (ix2 (r i) (l' j)) := fun z => by
      pointwise
    refine (e _).trans ?_
    rw [arr_g]
    exact (g_at m c (r i) (l' j)).trans (both_right _ _ i j)
  exact (cut4_right m c).trans (funext fun y => (congrArg _ (eq_ix2 y)).trans ((H (y 0) (y 1)).trans (congrArg _ (eq_ix2 y).symm)))

theorem step_right : tail m c Cert.ConvAdamIdeal.main_v15 = Cert.ConvAdamRefIdeal.Read.val_main_v47 (F := Ideal) (in1 m c) (in3 m c) (in5 m c) (in7 m c) := by
  have H : ∀ (i : Fin 4) (j : Fin 192), extractStridedSlice Cert.ConvAdamIdeal.S4x192 ![0, 128] ((dats m 0 c).arrAt 5 Cert.ConvAdamIdeal.cfg0.N : FVec Ideal Cert.ConvAdamIdeal.S8x384 .f32)
      slices_S8x384_S4x192_0_128 (ix2 i j) = (Cert.ConvAdamRefIdeal.Read.val_main_v47 (F := Ideal) (in1 m c) (in3 m c) (in5 m c) (in7 m c)) (ix2 i j) := fun i j => by
    have e : ∀ z : FVec Ideal Cert.ConvAdamIdeal.S8x384 .f32, extractStridedSlice Cert.ConvAdamIdeal.S4x192 ![0, 128] z slices_S8x384_S4x192_0_128 (ix2 i j) = z (ix2 (r i) (l' j)) := fun z => by
      pointwise
    refine (e _).trans ?_
    rw [arr_step]
    refine Eq.trans ?_ (Cert.ConvAdamRefIdeal.Val.main_v47 (in1 m c) (in3 m c) (in5 m c) (in7 m c) i j).symm
    show delta (argG m c (ix3 0 (r i) (l' j))) (argW m c (ix2 (r i) (l' j))) (argM m c (ix2 (r i) (l' j))) (argV m c (ix2 (r i) (l' j))) = _
    rw [g_at, w_eq, m_eq, v_eq, both_right, both_right, both_right, both_right]
  exact (cut5_right m c).trans (funext fun y => (congrArg _ (eq_ix2 y)).trans ((H (y 0) (y 1)).trans (congrArg _ (eq_ix2 y).symm)))

theorem m_right : tail m c Cert.ConvAdamIdeal.main_v16 = Cert.ConvAdamRefIdeal.Read.val_main_v28 (F := Ideal) (in1 m c) (in5 m c) := by
  have H : ∀ (i : Fin 4) (j : Fin 192), extractStridedSlice Cert.ConvAdamIdeal.S4x192 ![0, 128] ((dats m 0 c).arrAt 6 Cert.ConvAdamIdeal.cfg0.N : FVec Ideal Cert.ConvAdamIdeal.S8x384 .f32)
      slices_S8x384_S4x192_0_128 (ix2 i j) = (Cert.ConvAdamRefIdeal.Read.val_main_v28 (F := Ideal) (in1 m c) (in5 m c)) (ix2 i j) := fun i j => by
    have e : ∀ z : FVec Ideal Cert.ConvAdamIdeal.S8x384 .f32, extractStridedSlice Cert.ConvAdamIdeal.S4x192 ![0, 128] z slices_S8x384_S4x192_0_128 (ix2 i j) = z (ix2 (r i) (l' j)) := fun z => by
      pointwise
    refine (e _).trans ?_
    rw [arr_m]
    refine Eq.trans ?_ (Cert.ConvAdamRefIdeal.Val.main_v28 (in1 m c) (in5 m c) i j).symm
    show newM (argG m c (ix3 0 (r i) (l' j))) (argM m c (ix2 (r i) (l' j))) = _
    rw [g_at, m_eq, both_right, both_right]
  exact (cut6_right m c).trans (funext fun y => (congrArg _ (eq_ix2 y)).trans ((H (y 0) (y 1)).trans (congrArg _ (eq_ix2 y).symm)))

theorem v_right : tail m c Cert.ConvAdamIdeal.main_v17 = Cert.ConvAdamRefIdeal.Read.val_main_v34 (F := Ideal) (in1 m c) (in7 m c) := by
  have H : ∀ (i : Fin 4) (j : Fin 192), extractStridedSlice Cert.ConvAdamIdeal.S4x192 ![0, 128] ((dats m 0 c).arrAt 7 Cert.ConvAdamIdeal.cfg0.N : FVec Ideal Cert.ConvAdamIdeal.S8x384 .f32)
      slices_S8x384_S4x192_0_128 (ix2 i j) = (Cert.ConvAdamRefIdeal.Read.val_main_v34 (F := Ideal) (in1 m c) (in7 m c)) (ix2 i j) := fun i j => by
    have e : ∀ z : FVec Ideal Cert.ConvAdamIdeal.S8x384 .f32, extractStridedSlice Cert.ConvAdamIdeal.S4x192 ![0, 128] z slices_S8x384_S4x192_0_128 (ix2 i j) = z (ix2 (r i) (l' j)) := fun z => by
      pointwise
    refine (e _).trans ?_
    rw [arr_v]
    refine Eq.trans ?_ (Cert.ConvAdamRefIdeal.Val.main_v34 (in1 m c) (in7 m c) i j).symm
    show newV (argG m c (ix3 0 (r i) (l' j))) (argV m c (ix2 (r i) (l' j))) = _
    rw [g_at, v_eq, both_right, both_right]
  exact (cut7_right m c).trans (funext fun y => (congrArg _ (eq_ix2 y)).trans ((H (y 0) (y 1)).trans (congrArg _ (eq_ix2 y).symm)))

end Same

/-- The claim: the kernel's run and the reference's end with equal arrays, the arguments unchanged. -/
theorem algebraic : Cert.algebraic_ConvAdamIdeal_ConvAdamRefIdeal := by
  pair_intro
  · run_from run_cuts m g
  · refine (θ_run _ _ _).mono (fun r h c => ?_) (Cert.ConvAdamRefIdeal.Value.run (F := Ideal) m' g')
    obtain ⟨e0, e1, e2, e3, e4, e5, e6, e7⟩ := hagree c
    obtain ⟨h0, h1, h2, h3, h4, h5, h6, h7, hk⟩ := h c
    refine ⟨?_, ?_, ?_, ?_, ?_, ?_, ?_, ?_, hk⟩
    · rw [h0, e0]
      exact (g_left m c).symm
    · rw [h1, Cert.ConvAdamRefIdeal.Read.val_main_v23_eq, e0, e2, e4, e6]
      exact (step_left m c).symm
    · rw [h2, Cert.ConvAdamRefIdeal.Read.val_main_v4_eq, e0, e4]
      exact (m_left m c).symm
    · rw [h3, Cert.ConvAdamRefIdeal.Read.val_main_v10_eq, e0, e6]
      exact (v_left m c).symm
    · rw [h4, e1]
      exact (g_right m c).symm
    · rw [h5, Cert.ConvAdamRefIdeal.Read.val_main_v47_eq, e1, e3, e5, e7]
      exact (step_right m c).symm
    · rw [h6, Cert.ConvAdamRefIdeal.Read.val_main_v28_eq, e1, e5]
      exact (m_right m c).symm
    · rw [h7, Cert.ConvAdamRefIdeal.Read.val_main_v34_eq, e1, e7]
      exact (v_right m c).symm

end Cert.ConvAdamEqual
-- ==== Proof.lean ====
/-
  The claims of this proof, together: of each of the step's calls taken, the frames at the device's floats and over the
  reals, its reference's frame, and that over the reals the kernel and the reference end with equal results.
-/
module

public import proofs.«01_k».proof.Defs
public import proofs.«01_k».proof.Proof.Ffn.BitsFrame
public import proofs.«01_k».proof.Proof.Ffn.Frame
public import proofs.«01_k».proof.Proof.Ffn.RefFrame
public import proofs.«01_k».proof.Proof.Ffn.Equal
public import proofs.«01_k».proof.Proof.Gen.InBwd.Frame
public import proofs.«01_k».proof.Proof.Gen.InBwdIdeal.Frame
public import proofs.«01_k».proof.Proof.InBwd.Equal
public import proofs.«01_k».proof.Proof.Gen.DwIn.Frame
public import proofs.«01_k».proof.Proof.Gen.DwInIdeal.Frame
public import proofs.«01_k».proof.Proof.Dw.In
public import proofs.«01_k».proof.Proof.Gen.DwFf.Frame
public import proofs.«01_k».proof.Proof.Gen.DwFfIdeal.Frame
public import proofs.«01_k».proof.Proof.Dw.Ff
public import proofs.«01_k».proof.Proof.Gen.DwDown.Frame
public import proofs.«01_k».proof.Proof.Gen.DwDownIdeal.Frame
public import proofs.«01_k».proof.Proof.Dw.Down
public import proofs.«01_k».proof.Proof.Gen.DwOut.Frame
public import proofs.«01_k».proof.Proof.Gen.DwOutIdeal.Frame
public import proofs.«01_k».proof.Proof.Dw.Out
public import proofs.«01_k».proof.Proof.Gen.InFwd.Frame
public import proofs.«01_k».proof.Proof.Gen.InFwdIdeal.Frame
public import proofs.«01_k».proof.Proof.InFwd.Equal
public import proofs.«01_k».proof.Proof.Gen.OutFwd.Frame
public import proofs.«01_k».proof.Proof.Gen.OutFwdIdeal.Frame
public import proofs.«01_k».proof.Proof.OutFwd.Equal
public import proofs.«01_k».proof.Proof.Gen.OutBwd.Frame
public import proofs.«01_k».proof.Proof.Gen.OutBwdIdeal.Frame
public import proofs.«01_k».proof.Proof.OutBwd.Equal
public import proofs.«01_k».proof.Proof.Gen.AdamIn.Frame
public import proofs.«01_k».proof.Proof.Gen.AdamInIdeal.Frame
public import proofs.«01_k».proof.Proof.AdamIn.Equal
public import proofs.«01_k».proof.Proof.Gen.AdamOut.Frame
public import proofs.«01_k».proof.Proof.Gen.AdamOutIdeal.Frame
public import proofs.«01_k».proof.Proof.AdamOut.Equal
public import proofs.«01_k».proof.Proof.Gen.AdamFf.Frame
public import proofs.«01_k».proof.Proof.Gen.AdamFfIdeal.Frame
public import proofs.«01_k».proof.Proof.AdamFf.Equal
public import proofs.«01_k».proof.Proof.Gen.AdamDown.Frame
public import proofs.«01_k».proof.Proof.Gen.AdamDownIdeal.Frame
public import proofs.«01_k».proof.Proof.AdamDown.Equal
public import proofs.«01_k».proof.Proof.Gen.ConvAdam.Frame
public import proofs.«01_k».proof.Proof.Gen.ConvAdamIdeal.Frame
public import proofs.«01_k».proof.Proof.ConvAdam.Equal

@[expose] public section

noncomputable section

namespace Cert.Proof

open Idealize.ShloMosaic Idealize.SL.Sem

/-- All the claims. -/
theorem claim : Cert.Claim :=
  ⟨Cert.Ffn.Gen.facts,
    Cert.FfnIdeal.Gen.facts,
    Cert.FfnRefIdeal.Gen.facts,
    Cert.InBwd.Gen.facts,
    Cert.InBwdIdeal.Gen.facts,
    Cert.InBwdRefIdeal.Gen.facts,
    Cert.DwIn.Gen.facts,
    Cert.DwInIdeal.Gen.facts,
    Cert.DwInRefIdeal.Gen.facts,
    Cert.DwFf.Gen.facts,
    Cert.DwFfIdeal.Gen.facts,
    Cert.DwFfRefIdeal.Gen.facts,
    Cert.DwDown.Gen.facts,
    Cert.DwDownIdeal.Gen.facts,
    Cert.DwDownRefIdeal.Gen.facts,
    Cert.DwOut.Gen.facts,
    Cert.DwOutIdeal.Gen.facts,
    Cert.DwOutRefIdeal.Gen.facts,
    Cert.InFwd.Gen.facts,
    Cert.InFwdIdeal.Gen.facts,
    Cert.InFwdRefIdeal.Gen.facts,
    Cert.OutFwd.Gen.facts,
    Cert.OutFwdIdeal.Gen.facts,
    Cert.OutFwdRefIdeal.Gen.facts,
    Cert.OutBwd.Gen.facts,
    Cert.OutBwdIdeal.Gen.facts,
    Cert.OutBwdRefIdeal.Gen.facts,
    Cert.AdamIn.Gen.facts,
    Cert.AdamInIdeal.Gen.facts,
    Cert.AdamInRefIdeal.Gen.facts,
    Cert.AdamOut.Gen.facts,
    Cert.AdamOutIdeal.Gen.facts,
    Cert.AdamOutRefIdeal.Gen.facts,
    Cert.AdamFf.Gen.facts,
    Cert.AdamFfIdeal.Gen.facts,
    Cert.AdamFfRefIdeal.Gen.facts,
    Cert.AdamDown.Gen.facts,
    Cert.AdamDownIdeal.Gen.facts,
    Cert.AdamDownRefIdeal.Gen.facts,
    Cert.ConvAdam.Gen.facts,
    Cert.ConvAdamIdeal.Gen.facts,
    Cert.ConvAdamRefIdeal.Gen.facts,
    Cert.Pre_ffn_finite.Read.facts,
    Cert.Pre_in_finite.Read.facts,
    Cert.Pre_out_finite.Read.facts,
    Cert.Pre_place_in.Read.facts,
    Cert.Pre_place_out.Read.facts,
    Cert.Pre_place_ff.Read.facts,
    Cert.Pre_place_down.Read.facts,
    fun m ρ _ => Cert.Ffn.Gen.frame m ρ,
    fun m ρ _ => Cert.FfnIdeal.Gen.frame m ρ,
    fun m ρ _ => Cert.FfnIdeal.Gen.frame m ρ,
    Cert.FfnEqual.ref_frame,
    fun m ρ _ => Cert.FfnEqual.ref_frame m ρ trivial,
    fun m ρ _ => Cert.InBwd.Gen.frame m ρ,
    fun m ρ _ => Cert.InBwdIdeal.Gen.frame m ρ,
    fun m ρ _ => Cert.InBwdIdeal.Gen.frame m ρ,
    Cert.InBwdEqual.ref_frame,
    fun m ρ _ => Cert.InBwdEqual.ref_frame m ρ trivial,
    fun m ρ _ => Cert.DwIn.Gen.frame m ρ,
    fun m ρ _ => Cert.DwInIdeal.Gen.frame m ρ,
    Cert.DwInEqual.ref_frame,
    fun m ρ _ => Cert.DwFf.Gen.frame m ρ,
    fun m ρ _ => Cert.DwFfIdeal.Gen.frame m ρ,
    Cert.DwFfEqual.ref_frame,
    fun m ρ _ => Cert.DwDown.Gen.frame m ρ,
    fun m ρ _ => Cert.DwDownIdeal.Gen.frame m ρ,
    Cert.DwDownEqual.ref_frame,
    fun m ρ _ => Cert.DwOut.Gen.frame m ρ,
    fun m ρ _ => Cert.DwOutIdeal.Gen.frame m ρ,
    Cert.DwOutEqual.ref_frame,
    fun m ρ _ => Cert.InFwd.Gen.frame m ρ,
    fun m ρ _ => Cert.InFwdIdeal.Gen.frame m ρ,
    Cert.InFwdEqual.ref_frame,
    fun m ρ _ => Cert.OutFwd.Gen.frame m ρ,
    fun m ρ _ => Cert.OutFwdIdeal.Gen.frame m ρ,
    Cert.OutFwdEqual.ref_frame,
    fun m ρ _ => Cert.OutBwd.Gen.frame m ρ,
    fun m ρ _ => Cert.OutBwdIdeal.Gen.frame m ρ,
    fun m ρ _ => Cert.OutBwdIdeal.Gen.frame m ρ,
    Cert.OutBwdEqual.ref_frame,
    fun m ρ _ => Cert.OutBwdEqual.ref_frame m ρ trivial,
    Cert.AdamInEqual.frame,
    Cert.AdamInEqual.frame_ideal,
    Cert.AdamInEqual.ref_frame,
    fun m ρ _ => Cert.AdamInEqual.ref_frame m ρ trivial,
    Cert.AdamOutEqual.frame,
    Cert.AdamOutEqual.frame_ideal,
    Cert.AdamOutEqual.ref_frame,
    fun m ρ _ => Cert.AdamOutEqual.ref_frame m ρ trivial,
    Cert.AdamFfEqual.frame,
    Cert.AdamFfEqual.frame_ideal,
    Cert.AdamFfEqual.ref_frame,
    fun m ρ _ => Cert.AdamFfEqual.ref_frame m ρ trivial,
    Cert.AdamDownEqual.frame,
    Cert.AdamDownEqual.frame_ideal,
    Cert.AdamDownEqual.ref_frame,
    fun m ρ _ => Cert.AdamDownEqual.ref_frame m ρ trivial,
    fun m ρ _ => Cert.ConvAdam.Gen.frame m ρ,
    fun m ρ _ => Cert.ConvAdamIdeal.Gen.frame m ρ,
    Cert.ConvAdamEqual.ref_frame,
    trivial,
    Cert.FfnEqual.algebraic,
    trivial,
    Cert.InBwdEqual.algebraic,
    trivial,
    Cert.DwInEqual.algebraic,
    trivial,
    Cert.DwFfEqual.algebraic,
    trivial,
    Cert.DwDownEqual.algebraic,
    trivial,
    Cert.DwOutEqual.algebraic,
    trivial,
    Cert.InFwdEqual.algebraic,
    trivial,
    Cert.OutFwdEqual.algebraic,
    trivial,
    Cert.OutBwdEqual.algebraic,
    trivial,
    Cert.AdamInEqual.algebraic,
    trivial,
    Cert.AdamOutEqual.algebraic,
    trivial,
    Cert.AdamFfEqual.algebraic,
    trivial,
    Cert.AdamDownEqual.algebraic,
    trivial,
    Cert.ConvAdamEqual.algebraic⟩

end Cert.Proof

end
